-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_finite_plain [hPre_finite_plain : Cert.Pre_finite_plain.Facts] (m : (ℓ : Loc Cert.KernelIdeal.nD Cert.KernelIdeal.τ Cert.KernelIdeal.sig) → Buf (Elt Ideal) ℓ) : Prop :=
  ∀ c : Dev Cert.KernelIdeal.nD,
    (Cert.Pre_finite_plain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_plain [hPre_finite_plain : Cert.Pre_finite_plain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_plain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_plain [hKernelIdeal : Cert.KernelIdeal.Facts] [hPre_finite_plain : Cert.Pre_finite_plain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_plain m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_plain [hReferenceIdeal : Cert.ReferenceIdeal.Facts] [hPre_finite_plain : Cert.Pre_finite_plain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_plain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_plain [hKernelIdeal : Cert.KernelIdeal.Facts] [hReferenceIdeal : Cert.ReferenceIdeal.Facts] [hPre_finite_plain : Cert.Pre_finite_plain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_plain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_plain : Cert.Pre_finite_plain.Facts),
    quiescent_Kernel (hKernel := hKernel) (hPre_in_range := hPre_in_range)
    ∧ quiescent_KernelIdeal (hKernelIdeal := hKernelIdeal) (hPre_in_range := hPre_in_range)
    ∧ quiescent_KernelIdeal_pre_finite_plain (hKernelIdeal := hKernelIdeal) (hPre_finite_plain := hPre_finite_plain)
    ∧ quiescent_ReferenceIdeal (hReferenceIdeal := hReferenceIdeal)
    ∧ quiescent_ReferenceIdeal_pre_finite_plain (hReferenceIdeal := hReferenceIdeal) (hPre_finite_plain := hPre_finite_plain)
    ∧ preserves_Kernel_KernelIdeal
    ∧ algebraic_KernelIdeal_ReferenceIdeal_pre_finite_plain (hKernelIdeal := hKernelIdeal) (hReferenceIdeal := hReferenceIdeal) (hPre_finite_plain := hPre_finite_plain)
-- ==== Pre_finite_plain.lean ====
abbrev S22x100000x16 : Shape := ⟨3, ![22, 100000, 16]⟩
abbrev S231x4x2x16 : Shape := ⟨4, ![231, 4, 2, 16]⟩
abbrev S231x2x32 : Shape := ⟨3, ![231, 2, 32]⟩
abbrev S5 : Shape := ⟨1, ![5]⟩
abbrev S22x16384 : Shape := ⟨2, ![22, 16384]⟩
abbrev S3000000 : Shape := ⟨1, ![3000000]⟩
abbrev S_ : Shape := ⟨0, ![]⟩
abbrev S1 : Shape := ⟨1, ![1]⟩

class Facts : Prop where
  bcast_S_S22x16384 : S_.BroadcastsInDim S22x16384 (![] : Fin 0 → Fin S22x16384.rank)
  reducesTo_S22x16384_S_d0_1 : S22x16384.ReducesTo [0, 1] S_
  h_S_ : 0 < S_.numel
  bcast_S_S22x100000x16 : S_.BroadcastsInDim S22x100000x16 (![] : Fin 0 → Fin S22x100000x16.rank)
  reducesTo_S22x100000x16_S_d0_1_2 : S22x100000x16.ReducesTo [0, 1, 2] S_
  bcast_S_S231x4x2x16 : S_.BroadcastsInDim S231x4x2x16 (![] : Fin 0 → Fin S231x4x2x16.rank)
  reducesTo_S231x4x2x16_S_d0_1_2_3 : S231x4x2x16.ReducesTo [0, 1, 2, 3] S_
  bcast_S_S231x2x32 : S_.BroadcastsInDim S231x2x32 (![] : Fin 0 → Fin S231x2x32.rank)
  reducesTo_S231x2x32_S_d0_1_2 : S231x2x32.ReducesTo [0, 1, 2] S_
  bcast_S_S5 : S_.BroadcastsInDim S5 (![] : Fin 0 → Fin S5.rank)
  reducesTo_S5_S_d0 : S5.ReducesTo [0] S_
  bcast_S_S3000000 : S_.BroadcastsInDim S3000000 (![] : Fin 0 → Fin S3000000.rank)
  reducesTo_S3000000_S_d0 : S3000000.ReducesTo [0] S_
  slices_S5_S1_2 : S5.Slices ![2] S1
  shapeCasts_S1_S_ : S1.ShapeCasts S_
  slices_S5_S1_3 : S5.Slices ![3] S1

variable [Facts]

def fn_part2 {F : FTy → Type} [FloatOps F] (main_arg4 : FVec F S5 .f32) (main_v30 : IVec S_ 1) (main_v33 : IVec S3000000 1) : IVec S_ 1 :=
  let main_c_12 : IVec S_ 1 := constantI S_ 1 1#1
  let main_v34 : IVec S_ 1 := (fun x v => Host.reduce IntOp.andi x v reducesTo_S3000000_S_d0 h_S_) main_v33 main_c_12
  let main_v35 : IVec S_ 1 := andi main_v30 main_v34
  let main_v36 : FVec F S1 .f32 := (extractStridedSlice S1 ![2] · slices_S5_S1_2) main_arg4
  let main_v37 : FVec F S_ .f32 := shapeCast S_ main_v36 shapeCasts_S1_S_
  let main_cst_13 : FVec F S_ .f32 := constant S_ .f32 0x00000000#32
  let main_v38 : IVec S_ 1 := cmpf .oeq main_v37 main_cst_13
  let main_v39 : IVec S_ 1 := andi main_v35 main_v38
  let main_v40 : FVec F S1 .f32 := (extractStridedSlice S1 ![3] · slices_S5_S1_3) main_arg4
  let main_v41 : FVec F S_ .f32 := shapeCast S_ main_v40 shapeCasts_S1_S_
  let main_cst_14 : FVec F S_ .f32 := constant S_ .f32 0x00000000#32
  let main_v42 : IVec S_ 1 := cmpf .oeq main_v41 main_cst_14
  let main_v43 : IVec S_ 1 := andi main_v39 main_v42
  main_v43

def fn_part1 {F : FTy → Type} [FloatOps F] (main_arg3 : FVec F S231x2x32 .f32) (main_arg4 : FVec F S5 .f32) (main_arg6 : FVec F S3000000 .f32) (main_v15 : IVec S_ 1) (main_v16 : FVec F S231x4x2x16 .f32) : IVec S_ 1 :=
  let main_cst_5 : FVec F S_ .f32 := constant S_ .f32 0x7F800000#32
  let main_v17 : FVec F S231x4x2x16 .f32 := broadcastInDim S231x4x2x16 ![] bcast_S_S231x4x2x16 main_cst_5
  let main_v18 : IVec S231x4x2x16 1 := cmpf .olt main_v16 main_v17
  let main_c_6 : IVec S_ 1 := constantI S_ 1 1#1
  let main_v19 : IVec S_ 1 := (fun x v => Host.reduce IntOp.andi x v reducesTo_S231x4x2x16_S_d0_1_2_3 h_S_) main_v18 main_c_6
  let main_v20 : IVec S_ 1 := andi main_v15 main_v19
  let main_v21 : FVec F S231x2x32 .f32 := Host.absf main_arg3
  let main_cst_7 : FVec F S_ .f32 := constant S_ .f32 0x7F800000#32
  let main_v22 : FVec F S231x2x32 .f32 := broadcastInDim S231x2x32 ![] bcast_S_S231x2x32 main_cst_7
  let main_v23 : IVec S231x2x32 1 := cmpf .olt main_v21 main_v22
  let main_c_8 : IVec S_ 1 := constantI S_ 1 1#1
  let main_v24 : IVec S_ 1 := (fun x v => Host.reduce IntOp.andi x v reducesTo_S231x2x32_S_d0_1_2 h_S_) main_v23 main_c_8
  let main_v25 : IVec S_ 1 := andi main_v20 main_v24
  let main_v26 : FVec F S5 .f32 := Host.absf main_arg4
  let main_cst_9 : FVec F S_ .f32 := constant S_ .f32 0x7F800000#32
  let main_v27 : FVec F S5 .f32 := broadcastInDim S5 ![] bcast_S_S5 main_cst_9
  let main_v28 : IVec S5 1 := cmpf .olt main_v26 main_v27
  let main_c_10 : IVec S_ 1 := constantI S_ 1 1#1
  let main_v29 : IVec S_ 1 := (fun x v => Host.reduce IntOp.andi x v reducesTo_S5_S_d0 h_S_) main_v28 main_c_10
  let main_v30 : IVec S_ 1 := andi main_v25 main_v29
  let main_v31 : FVec F S3000000 .f32 := Host.absf main_arg6
  let main_cst_11 : FVec F S_ .f32 := constant S_ .f32 0x7F800000#32
  let main_v32 : FVec F S3000000 .f32 := broadcastInDim S3000000 ![] bcast_S_S3000000 main_cst_11
  let main_v33 : IVec S3000000 1 := cmpf .olt main_v31 main_v32
  fn_part2 (F := F) main_arg4 main_v30 main_v33

def fn {F : FTy → Type} [FloatOps F] (main_arg0 : FVec F S22x100000x16 .f32) (main_arg1 : FVec F S22x100000x16 .f32) (main_arg2 : FVec F S231x4x2x16 .f32) (main_arg3 : FVec F S231x2x32 .f32) (main_arg4 : FVec F S5 .f32) (main_arg5 : IVec S22x16384 32) (main_arg6 : FVec F S3000000 .f32) : IVec S_ 1 :=
  let main_c : IVec S_ 32 := constantI S_ 32 0#32
  let main_v0 : IVec S22x16384 32 := broadcastInDim S22x16384 ![] bcast_S_S22x16384 main_c
  let main_v1 : IVec S22x16384 1 := cmpi .sge main_arg5 main_v0
  let main_c_0 : IVec S_ 32 := constantI S_ 32 100000#32
  let main_v2 : IVec S22x16384 32 := broadcastInDim S22x16384 ![] bcast_S_S22x16384 main_c_0
  let main_v3 : IVec S22x16384 1 := cmpi .slt main_arg5 main_v2
  let main_v4 : IVec S22x16384 1 := andi main_v1 main_v3
  let main_c_1 : IVec S_ 1 := constantI S_ 1 1#1
  let main_v5 : IVec S_ 1 := (fun x v => Host.reduce IntOp.andi x v reducesTo_S22x16384_S_d0_1 h_S_) main_v4 main_c_1
  let main_v6 : FVec F S22x100000x16 .f32 := Host.absf main_arg0
  let main_cst : FVec F S_ .f32 := constant S_ .f32 0x7F800000#32
  let main_v7 : FVec F S22x100000x16 .f32 := broadcastInDim S22x100000x16 ![] bcast_S_S22x100000x16 main_cst
  let main_v8 : IVec S22x100000x16 1 := cmpf .olt main_v6 main_v7
  let main_c_2 : IVec S_ 1 := constantI S_ 1 1#1
  let main_v9 : IVec S_ 1 := (fun x v => Host.reduce IntOp.andi x v reducesTo_S22x100000x16_S_d0_1_2 h_S_) main_v8 main_c_2
  let main_v10 : IVec S_ 1 := andi main_v5 main_v9
  let main_v11 : FVec F S22x100000x16 .f32 := Host.absf main_arg1
  let main_cst_3 : FVec F S_ .f32 := constant S_ .f32 0x7F800000#32
  let main_v12 : FVec F S22x100000x16 .f32 := broadcastInDim S22x100000x16 ![] bcast_S_S22x100000x16 main_cst_3
  let main_v13 : IVec S22x100000x16 1 := cmpf .olt main_v11 main_v12
  let main_c_4 : IVec S_ 1 := constantI S_ 1 1#1
  let main_v14 : IVec S_ 1 := (fun x v => Host.reduce IntOp.andi x v reducesTo_S22x100000x16_S_d0_1_2 h_S_) main_v13 main_c_4
  let main_v15 : IVec S_ 1 := andi main_v10 main_v14
  let main_v16 : FVec F S231x4x2x16 .f32 := Host.absf main_arg2
  fn_part1 (F := F) main_arg3 main_arg4 main_arg6 main_v15 main_v16
-- ==== Pre_in_range.lean ====
abbrev S22x100000x16 : Shape := ⟨3, ![22, 100000, 16]⟩
abbrev S231x4x2x16 : Shape := ⟨4, ![231, 4, 2, 16]⟩
abbrev S231x2x32 : Shape := ⟨3, ![231, 2, 32]⟩
abbrev S5 : Shape := ⟨1, ![5]⟩
abbrev S22x16384 : Shape := ⟨2, ![22, 16384]⟩
abbrev S3000000 : Shape := ⟨1, ![3000000]⟩
abbrev S_ : Shape := ⟨0, ![]⟩

class Facts : Prop where
  bcast_S_S22x16384 : S_.BroadcastsInDim S22x16384 (![] : Fin 0 → Fin S22x16384.rank)
  reducesTo_S22x16384_S_d0_1 : S22x16384.ReducesTo [0, 1] S_
  h_S_ : 0 < S_.numel

variable [Facts]

def fn {F : FTy → Type} [FloatOps F] (main_arg0 : FVec F S22x100000x16 .f32) (main_arg1 : FVec F S22x100000x16 .f32) (main_arg2 : FVec F S231x4x2x16 .f32) (main_arg3 : FVec F S231x2x32 .f32) (main_arg4 : FVec F S5 .f32) (main_arg5 : IVec S22x16384 32) (main_arg6 : FVec F S3000000 .f32) : IVec S_ 1 :=
  let main_c : IVec S_ 32 := constantI S_ 32 0#32
  let main_v0 : IVec S22x16384 32 := broadcastInDim S22x16384 ![] bcast_S_S22x16384 main_c
  let main_v1 : IVec S22x16384 1 := cmpi .sge main_arg5 main_v0
  let main_c_0 : IVec S_ 32 := constantI S_ 32 100000#32
  let main_v2 : IVec S22x16384 32 := broadcastInDim S22x16384 ![] bcast_S_S22x16384 main_c_0
  let main_v3 : IVec S22x16384 1 := cmpi .slt main_arg5 main_v2
  let main_v4 : IVec S22x16384 1 := andi main_v1 main_v3
  let main_c_1 : IVec S_ 1 := constantI S_ 1 1#1
  let main_v5 : IVec S_ 1 := (fun x v => Host.reduce IntOp.andi x v reducesTo_S22x16384_S_d0_1 h_S_) main_v4 main_c_1
  main_v5
-- ==== Kernel.lean ====
abbrev S22x100000x16 : Shape := ⟨3, ![22, 100000, 16]⟩
abbrev S231x4x2x16 : Shape := ⟨4, ![231, 4, 2, 16]⟩
abbrev S231x2x32 : Shape := ⟨3, ![231, 2, 32]⟩
abbrev S5 : Shape := ⟨1, ![5]⟩
abbrev S22x16384 : Shape := ⟨2, ![22, 16384]⟩
abbrev S3000000 : Shape := ⟨1, ![3000000]⟩
abbrev S231 : Shape := ⟨1, ![231]⟩
abbrev S22x16x100000 : Shape := ⟨3, ![22, 16, 100000]⟩
abbrev S352x100000 : Shape := ⟨2, ![352, 100000]⟩
abbrev S352x160 : Shape := ⟨2, ![352, 160]⟩
abbrev S_ : Shape := ⟨0, ![]⟩
abbrev S352x256 : Shape := ⟨2, ![352, 256]⟩
abbrev S360448 : Shape := ⟨1, ![360448]⟩
abbrev S352x16384 : Shape := ⟨2, ![352, 16384]⟩
abbrev S100096 : Shape := ⟨1, ![100096]⟩
abbrev S8x2048 : Shape := ⟨2, ![8, 2048]⟩
abbrev S4x2048 : Shape := ⟨2, ![4, 2048]⟩
abbrev S1x2048 : Shape := ⟨2, ![1, 2048]⟩
abbrev S2048 : Shape := ⟨1, ![2048]⟩
abbrev S33280 : Shape := ⟨1, ![33280]⟩
abbrev S1x33280 : Shape := ⟨2, ![1, 33280]⟩
abbrev S256 : Shape := ⟨1, ![256]⟩
abbrev S1x256 : Shape := ⟨2, ![1, 256]⟩
abbrev S16 : Shape := ⟨1, ![16]⟩
abbrev S1x16 : Shape := ⟨2, ![1, 16]⟩
abbrev S231x1 : Shape := ⟨2, ![231, 1]⟩
abbrev S1x22 : Shape := ⟨2, ![1, 22]⟩
abbrev S231x22 : Shape := ⟨2, ![231, 22]⟩
abbrev S16x16 : Shape := ⟨2, ![16, 16]⟩
abbrev S231x1x2x16 : Shape := ⟨4, ![231, 1, 2, 16]⟩
abbrev S231x2x16 : Shape := ⟨3, ![231, 2, 16]⟩
abbrev S1 : Shape := ⟨1, ![1]⟩
abbrev S231x22x1 : Shape := ⟨3, ![231, 22, 1]⟩
abbrev S231x1x22 : Shape := ⟨3, ![231, 1, 22]⟩
abbrev S231x22x22 : Shape := ⟨3, ![231, 22, 22]⟩
abbrev S231x22x1x1x22 : Shape := ⟨5, ![231, 22, 1, 1, 22]⟩
abbrev S231x16x2 : Shape := ⟨3, ![231, 16, 2]⟩
abbrev S231x1x16x2x1 : Shape := ⟨5, ![231, 1, 16, 2, 1]⟩
abbrev S231x22x16x2x22 : Shape := ⟨5, ![231, 22, 16, 2, 22]⟩
abbrev S22x16x2x22 : Shape := ⟨4, ![22, 16, 2, 22]⟩
abbrev S22x16x2x22x1 : Shape := ⟨5, ![22, 16, 2, 22, 1]⟩
abbrev S1x16x1x1x16 : Shape := ⟨5, ![1, 16, 1, 1, 16]⟩
abbrev S22x16x2x22x16 : Shape := ⟨5, ![22, 16, 2, 22, 16]⟩
abbrev S352x704 : Shape := ⟨2, ![352, 704]⟩
abbrev S231x22x1x1 : Shape := ⟨4, ![231, 22, 1, 1]⟩
abbrev S231x1x16x2 : Shape := ⟨4, ![231, 1, 16, 2]⟩
abbrev S231x22x16x2 : Shape := ⟨4, ![231, 22, 16, 2]⟩
abbrev S22x16x2 : Shape := ⟨3, ![22, 16, 2]⟩
abbrev S352x2 : Shape := ⟨2, ![352, 2]⟩
abbrev S262144 : Shape := ⟨1, ![262144]⟩
abbrev S16384x16 : Shape := ⟨2, ![16384, 16]⟩
abbrev S16x16384 : Shape := ⟨2, ![16, 16384]⟩
abbrev S2x16384 : Shape := ⟨2, ![2, 16384]⟩
abbrev S352x4096 : Shape := ⟨2, ![352, 4096]⟩
abbrev S16x4096 : Shape := ⟨2, ![16, 4096]⟩
abbrev S2x4096 : Shape := ⟨2, ![2, 4096]⟩
abbrev S704x4096 : Shape := ⟨2, ![704, 4096]⟩
abbrev S4096 : Shape := ⟨1, ![4096]⟩
abbrev S1x4096 : Shape := ⟨2, ![1, 4096]⟩
abbrev S16384x2 : Shape := ⟨2, ![16384, 2]⟩

abbrev nBuf : Table → Nat
  | .hbm => 113
  | .local .tc .vmem => 10
  | .local .scVector .vmem => 3
  | _ => 0

abbrev bufTy : (tb : Table) → Fin (nBuf tb) → BufTy
  | .hbm, ⟨0, _⟩ => ⟨S22x100000x16, .f32⟩
  | .hbm, ⟨1, _⟩ => ⟨S22x100000x16, .f32⟩
  | .hbm, ⟨2, _⟩ => ⟨S231x4x2x16, .f32⟩
  | .hbm, ⟨3, _⟩ => ⟨S231x2x32, .f32⟩
  | .hbm, ⟨4, _⟩ => ⟨S5, .f32⟩
  | .hbm, ⟨5, _⟩ => ⟨S22x16384, .i32⟩
  | .hbm, ⟨6, _⟩ => ⟨S3000000, .f32⟩
  | .hbm, ⟨7, _⟩ => ⟨S231, .i32⟩
  | .hbm, ⟨8, _⟩ => ⟨S231, .i32⟩
  | .hbm, ⟨9, _⟩ => ⟨S22x16x100000, .f32⟩
  | .hbm, ⟨10, _⟩ => ⟨S352x100000, .f32⟩
  | .hbm, ⟨11, _⟩ => ⟨S22x16x100000, .f32⟩
  | .hbm, ⟨12, _⟩ => ⟨S352x100000, .f32⟩
  | .hbm, ⟨13, _⟩ => ⟨S352x160, .f32⟩
  | .hbm, ⟨14, _⟩ => ⟨S_, .i32⟩
  | .hbm, ⟨15, _⟩ => ⟨S_, .f32⟩
  | .hbm, ⟨16, _⟩ => ⟨S352x256, .f32⟩
  | .hbm, ⟨17, _⟩ => ⟨S352x160, .f32⟩
  | .hbm, ⟨18, _⟩ => ⟨S_, .i32⟩
  | .hbm, ⟨19, _⟩ => ⟨S_, .f32⟩
  | .hbm, ⟨20, _⟩ => ⟨S352x256, .f32⟩
  | .hbm, ⟨21, _⟩ => ⟨S360448, .i32⟩
  | .hbm, ⟨22, _⟩ => ⟨S352x16384, .f32⟩
  | .hbm, ⟨23, _⟩ => ⟨S352x16384, .f32⟩
  | .hbm, ⟨24, _⟩ => ⟨S231x1, .i32⟩
  | .hbm, ⟨25, _⟩ => ⟨S1x22, .i32⟩
  | .hbm, ⟨26, _⟩ => ⟨S231x22, .i32⟩
  | .hbm, ⟨27, _⟩ => ⟨S231x22, .i32⟩
  | .hbm, ⟨28, _⟩ => ⟨S231x22, .i1⟩
  | .hbm, ⟨29, _⟩ => ⟨S231x22, .f32⟩
  | .hbm, ⟨30, _⟩ => ⟨S231x1, .i32⟩
  | .hbm, ⟨31, _⟩ => ⟨S1x22, .i32⟩
  | .hbm, ⟨32, _⟩ => ⟨S231x22, .i32⟩
  | .hbm, ⟨33, _⟩ => ⟨S231x22, .i32⟩
  | .hbm, ⟨34, _⟩ => ⟨S231x22, .i1⟩
  | .hbm, ⟨35, _⟩ => ⟨S231x22, .f32⟩
  | .hbm, ⟨36, _⟩ => ⟨S16x16, .i32⟩
  | .hbm, ⟨37, _⟩ => ⟨S16x16, .i32⟩
  | .hbm, ⟨38, _⟩ => ⟨S_, .i32⟩
  | .hbm, ⟨39, _⟩ => ⟨S16x16, .i32⟩
  | .hbm, ⟨40, _⟩ => ⟨S16x16, .i32⟩
  | .hbm, ⟨41, _⟩ => ⟨S16x16, .i1⟩
  | .hbm, ⟨42, _⟩ => ⟨S16x16, .f32⟩
  | .hbm, ⟨43, _⟩ => ⟨S231x1x2x16, .f32⟩
  | .hbm, ⟨44, _⟩ => ⟨S231x2x16, .f32⟩
  | .hbm, ⟨45, _⟩ => ⟨S1, .f32⟩
  | .hbm, ⟨46, _⟩ => ⟨S_, .f32⟩
  | .hbm, ⟨47, _⟩ => ⟨S231x2x16, .f32⟩
  | .hbm, ⟨48, _⟩ => ⟨S231x2x16, .f32⟩
  | .hbm, ⟨49, _⟩ => ⟨S231x22x1, .f32⟩
  | .hbm, ⟨50, _⟩ => ⟨S231x1x22, .f32⟩
  | .hbm, ⟨51, _⟩ => ⟨S231x22x22, .f32⟩
  | .hbm, ⟨52, _⟩ => ⟨S231x22x22, .f32⟩
  | .hbm, ⟨53, _⟩ => ⟨S231x22x22, .f32⟩
  | .hbm, ⟨54, _⟩ => ⟨S231x22x1x1x22, .f32⟩
  | .hbm, ⟨55, _⟩ => ⟨S231x16x2, .f32⟩
  | .hbm, ⟨56, _⟩ => ⟨S231x1x16x2x1, .f32⟩
  | .hbm, ⟨57, _⟩ => ⟨S231x22x16x2x22, .f32⟩
  | .hbm, ⟨58, _⟩ => ⟨S231x22x16x2x22, .f32⟩
  | .hbm, ⟨59, _⟩ => ⟨S231x22x16x2x22, .f32⟩
  | .hbm, ⟨60, _⟩ => ⟨S_, .f32⟩
  | .hbm, ⟨61, _⟩ => ⟨S22x16x2x22, .f32⟩
  | .hbm, ⟨62, _⟩ => ⟨S22x16x2x22x1, .f32⟩
  | .hbm, ⟨63, _⟩ => ⟨S1x16x1x1x16, .f32⟩
  | .hbm, ⟨64, _⟩ => ⟨S22x16x2x22x16, .f32⟩
  | .hbm, ⟨65, _⟩ => ⟨S22x16x2x22x16, .f32⟩
  | .hbm, ⟨66, _⟩ => ⟨S22x16x2x22x16, .f32⟩
  | .hbm, ⟨67, _⟩ => ⟨S352x704, .f32⟩
  | .hbm, ⟨68, _⟩ => ⟨S231x1x2x16, .f32⟩
  | .hbm, ⟨69, _⟩ => ⟨S231x2x16, .f32⟩
  | .hbm, ⟨70, _⟩ => ⟨S1, .f32⟩
  | .hbm, ⟨71, _⟩ => ⟨S_, .f32⟩
  | .hbm, ⟨72, _⟩ => ⟨S231x2x16, .f32⟩
  | .hbm, ⟨73, _⟩ => ⟨S231x2x16, .f32⟩
  | .hbm, ⟨74, _⟩ => ⟨S1, .f32⟩
  | .hbm, ⟨75, _⟩ => ⟨S_, .f32⟩
  | .hbm, ⟨76, _⟩ => ⟨S231x2x32, .f32⟩
  | .hbm, ⟨77, _⟩ => ⟨S231x2x32, .f32⟩
  | .hbm, ⟨78, _⟩ => ⟨S231x22, .f32⟩
  | .hbm, ⟨79, _⟩ => ⟨S231x22x1x1, .f32⟩
  | .hbm, ⟨80, _⟩ => ⟨S231x16x2, .f32⟩
  | .hbm, ⟨81, _⟩ => ⟨S231x1x16x2, .f32⟩
  | .hbm, ⟨82, _⟩ => ⟨S231x22x16x2, .f32⟩
  | .hbm, ⟨83, _⟩ => ⟨S231x22x16x2, .f32⟩
  | .hbm, ⟨84, _⟩ => ⟨S231x22x16x2, .f32⟩
  | .hbm, ⟨85, _⟩ => ⟨S_, .f32⟩
  | .hbm, ⟨86, _⟩ => ⟨S22x16x2, .f32⟩
  | .hbm, ⟨87, _⟩ => ⟨S231x2x16, .f32⟩
  | .hbm, ⟨88, _⟩ => ⟨S231x22x1x1, .f32⟩
  | .hbm, ⟨89, _⟩ => ⟨S231x16x2, .f32⟩
  | .hbm, ⟨90, _⟩ => ⟨S231x1x16x2, .f32⟩
  | .hbm, ⟨91, _⟩ => ⟨S231x22x16x2, .f32⟩
  | .hbm, ⟨92, _⟩ => ⟨S231x22x16x2, .f32⟩
  | .hbm, ⟨93, _⟩ => ⟨S231x22x16x2, .f32⟩
  | .hbm, ⟨94, _⟩ => ⟨S_, .f32⟩
  | .hbm, ⟨95, _⟩ => ⟨S22x16x2, .f32⟩
  | .hbm, ⟨96, _⟩ => ⟨S22x16x2, .f32⟩
  | .hbm, ⟨97, _⟩ => ⟨S231x2x16, .f32⟩
  | .hbm, ⟨98, _⟩ => ⟨S231x22x1x1, .f32⟩
  | .hbm, ⟨99, _⟩ => ⟨S231x16x2, .f32⟩
  | .hbm, ⟨100, _⟩ => ⟨S231x1x16x2, .f32⟩
  | .hbm, ⟨101, _⟩ => ⟨S231x22x16x2, .f32⟩
  | .hbm, ⟨102, _⟩ => ⟨S231x22x16x2, .f32⟩
  | .hbm, ⟨103, _⟩ => ⟨S231x22x16x2, .f32⟩
  | .hbm, ⟨104, _⟩ => ⟨S_, .f32⟩
  | .hbm, ⟨105, _⟩ => ⟨S22x16x2, .f32⟩
  | .hbm, ⟨106, _⟩ => ⟨S22x16x2, .f32⟩
  | .hbm, ⟨107, _⟩ => ⟨S352x2, .f32⟩
  | .hbm, ⟨108, _⟩ => ⟨S262144, .f32⟩
  | .hbm, ⟨109, _⟩ => ⟨S16384x16, .f32⟩
  | .hbm, ⟨110, _⟩ => ⟨S16x16384, .f32⟩
  | .hbm, ⟨111, _⟩ => ⟨S2x16384, .f32⟩
  | .hbm, ⟨112, _⟩ => ⟨S16384x2, .f32⟩
  | .local .tc .vmem, ⟨0, _⟩ => ⟨S352x4096, .f32⟩
  | .local .tc .vmem, ⟨1, _⟩ => ⟨S352x4096, .f32⟩
  | .local .tc .vmem, ⟨2, _⟩ => ⟨S352x4096, .f32⟩
  | .local .tc .vmem, ⟨3, _⟩ => ⟨S352x4096, .f32⟩
  | .local .tc .vmem, ⟨4, _⟩ => ⟨S16x4096, .f32⟩
  | .local .tc .vmem, ⟨5, _⟩ => ⟨S16x4096, .f32⟩
  | .local .tc .vmem, ⟨6, _⟩ => ⟨S352x704, .f32⟩
  | .local .tc .vmem, ⟨7, _⟩ => ⟨S352x2, .f32⟩
  | .local .tc .vmem, ⟨8, _⟩ => ⟨S2x4096, .f32⟩
  | .local .tc .vmem, ⟨9, _⟩ => ⟨S2x4096, .f32⟩
  | .local .scVector .vmem, ⟨0, _⟩ => ⟨S100096, .f32⟩
  | .local .scVector .vmem, ⟨1, _⟩ => ⟨S8x2048, .i32⟩
  | .local .scVector .vmem, ⟨2, _⟩ => ⟨S4x2048, .f32⟩
  | _, _ => ⟨S22x100000x16, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v10 : Ref sig .tc := ⟨.hbm, 29, rfl⟩
abbrev main_call3_v0 : Ref sig .tc := ⟨.hbm, 30, rfl⟩
abbrev main_call3_v1 : Ref sig .tc := ⟨.hbm, 31, rfl⟩
abbrev main_call3_v2 : Ref sig .tc := ⟨.hbm, 32, rfl⟩
abbrev main_call3_v3 : Ref sig .tc := ⟨.hbm, 33, rfl⟩
abbrev main_call3_v4 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_4 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_5 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_6 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v1_scv : Ref sig .scVector := ⟨.hbm, 10, rfl⟩
abbrev main_v3_scv : Ref sig .scVector := ⟨.hbm, 12, rfl⟩
abbrev main_v8_scv : Ref sig .scVector := ⟨.hbm, 21, rfl⟩
abbrev main_v5_scv : Ref sig .scVector := ⟨.hbm, 16, rfl⟩
abbrev main_v7_scv : Ref sig .scVector := ⟨.hbm, 20, rfl⟩
abbrev main_v9_0_scv : Ref sig .scVector := ⟨.hbm, 22, rfl⟩
abbrev main_v9_1_scv : Ref sig .scVector := ⟨.hbm, 23, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg5_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_5 : BitVec 32 := 16#32
  let v15 : BitVec 1 := Scalar.cmpi .slt v1 c16_i32_5
  let v16 : BitVec 32 := Scalar.extui v15
  let c0_i32_6 : BitVec 32 := 0#32
  let v17 : BitVec 1 := Scalar.cmpi .ne v16 c0_i32_6
  v17

@[reducible] def k0_t1_loop (i : grid0.Coords) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_27 : BitVec 32 := 1#32
  ⟨v37, v61, c1_i32_27⟩
def k0_off1 (i : grid0.Coords) (k0_t1 : Fin (k0_t1_loop i).trips) (c0_i32_52 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16384_i32 : BitVec 32 := 16384#32
  let v98 : BitVec 32 := Scalar.muli arg19 c16384_i32
  let v99 : BitVec 32 := Scalar.addi v98 c0_i32_52
  ![v99.toNat]
@[reducible] def k0_t2_loop (i : grid0.Coords) (k0_t1 : Fin (k0_t1_loop i).trips) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_109 : BitVec 32 := 1#32
  ⟨v211, v219, c1_i32_109⟩
def k0_off2 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c0_i32_112 : BitVec 32 := 0#32
  ![arg20.toNat, 0]
def k0_off3 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c33280_i32_115 : BitVec 32 := 33280#32
  ![arg20.toNat, 33280]
def k0_off4 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c66560_i32_118 : BitVec 32 := 66560#32
  ![arg20.toNat, 66560]
def k0_off5 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c0_i32_121 : BitVec 32 := 0#32
  ![arg20.toNat, 0]
def k0_cond2 (i : grid0.Coords) (k0_t1 : Fin (k0_t1_loop i).trips) (k0_t2 : Fin (k0_t2_loop i k0_t1).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let v268 : BitVec 1 := Scalar.cmpi .sgt arg20 v12
  let v269 : BitVec 32 := Scalar.extui v268
  let c0_i32_140 : BitVec 32 := 0#32
  let v270 : BitVec 1 := Scalar.cmpi .ne v269 c0_i32_140
  v270

def k0_off6 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c0_i32_245 : BitVec 32 := 0#32
  ![arg20.toNat, 0]
@[reducible] def k0_t3_loop : Scf.Loop 32 :=
  let c0_i32_142 : BitVec 32 := 0#32
  let c128_i32 : BitVec 32 := 128#32
  let v271 : BitVec 32 := Scalar.addi c0_i32_142 c128_i32
  let c1_i32_143 : BitVec 32 := 1#32
  ⟨c0_i32_142, v271, c1_i32_143⟩
def k0_off7 (k0_t3 : Fin k0_t3_loop.trips) : Fin 2 → Nat :=
  let c0_i32_244 : BitVec 32 := 0#32
  let v385 : Index := Scalar.indexCast c0_i32_244
  let c0_i32_142 : BitVec 32 := 0#32
  let c1_i32_143 : BitVec 32 := 1#32
  let arg21 : BitVec 32 := Scf.iv c0_i32_142 c1_i32_143 k0_t3
  let c16_i32_243 : BitVec 32 := 16#32
  let v384 : BitVec 32 := Scalar.muli arg21 c16_i32_243
  let v386 : Index := Scalar.indexCast v384
  ![0, v386.toNat]

def k0_chk1 (i : grid0.Coords) (v387 : IVec S16 32) : Prop :=
  (∀ (k0_h1 : k0_cond1 i = 1#1), ∀ a x, ((![v387] : Fin 1 → IVec S16 32) a x).toNat < S100096.size a)
theorem k0_idx1_inb : ∀ (i : grid0.Coords) (v387 : IVec S16 32) (k0_hw1 : k0_chk1 i v387), ∀ (k0_h1 : k0_cond1 i = 1#1), ∀ a x, ((![v387] : Fin 1 → IVec S16 32) a x).toNat < S100096.size a := fun i v387 k0_hw1 k0_h1 => k0_hw1 k0_h1
def k0_off8 (k0_t3 : Fin k0_t3_loop.trips) : Fin 2 → Nat :=
  let c0_i32_246 : BitVec 32 := 0#32
  let v390 : Index := Scalar.indexCast c0_i32_246
  let c0_i32_142 : BitVec 32 := 0#32
  let c1_i32_143 : BitVec 32 := 1#32
  let arg21 : BitVec 32 := Scf.iv c0_i32_142 c1_i32_143 k0_t3
  let c16_i32_245 : BitVec 32 := 16#32
  let v389 : BitVec 32 := Scalar.muli arg21 c16_i32_245
  let v391 : Index := Scalar.indexCast v389
  ![0, v391.toNat]
def k0_off9 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c0_i32_147 : BitVec 32 := 0#32
  ![arg20.toNat, 0]
def k0_cond3 (i : grid0.Coords) (k0_t1 : Fin (k0_t1_loop i).trips) (k0_t2 : Fin (k0_t2_loop i k0_t1).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let v280 : BitVec 1 := Scalar.cmpi .sgt arg20 v12
  let v281 : BitVec 32 := Scalar.extui v280
  let c0_i32_150 : BitVec 32 := 0#32
  let v282 : BitVec 1 := Scalar.cmpi .ne v281 c0_i32_150
  v282

def k0_off10 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c0_i32_245 : BitVec 32 := 0#32
  ![arg20.toNat, 0]
@[reducible] def k0_t4_loop : Scf.Loop 32 :=
  let c0_i32_152 : BitVec 32 := 0#32
  let c128_i32_153 : BitVec 32 := 128#32
  let v283 : BitVec 32 := Scalar.addi c0_i32_152 c128_i32_153
  let c1_i32_154 : BitVec 32 := 1#32
  ⟨c0_i32_152, v283, c1_i32_154⟩
def k0_off11 (k0_t4 : Fin k0_t4_loop.trips) : Fin 2 → Nat :=
  let c1_i32_244 : BitVec 32 := 1#32
  let v385 : Index := Scalar.indexCast c1_i32_244
  let c0_i32_152 : BitVec 32 := 0#32
  let c1_i32_154 : BitVec 32 := 1#32
  let arg21 : BitVec 32 := Scf.iv c0_i32_152 c1_i32_154 k0_t4
  let c16_i32_243 : BitVec 32 := 16#32
  let v384 : BitVec 32 := Scalar.muli arg21 c16_i32_243
  let v386 : Index := Scalar.indexCast v384
  ![1, v386.toNat]

def k0_chk2 (i : grid0.Coords) (v387 : IVec S16 32) : Prop :=
  (∀ (k0_h1 : k0_cond1 i = 1#1), ∀ a x, ((![v387] : Fin 1 → IVec S16 32) a x).toNat < S100096.size a)
theorem k0_idx2_inb : ∀ (i : grid0.Coords) (v387 : IVec S16 32) (k0_hw2 : k0_chk2 i v387), ∀ (k0_h1 : k0_cond1 i = 1#1), ∀ a x, ((![v387] : Fin 1 → IVec S16 32) a x).toNat < S100096.size a := fun i v387 k0_hw2 k0_h1 => k0_hw2 k0_h1
def k0_off12 (k0_t4 : Fin k0_t4_loop.trips) : Fin 2 → Nat :=
  let c1_i32_246 : BitVec 32 := 1#32
  let v390 : Index := Scalar.indexCast c1_i32_246
  let c0_i32_152 : BitVec 32 := 0#32
  let c1_i32_154 : BitVec 32 := 1#32
  let arg21 : BitVec 32 := Scf.iv c0_i32_152 c1_i32_154 k0_t4
  let c16_i32_245 : BitVec 32 := 16#32
  let v389 : BitVec 32 := Scalar.muli arg21 c16_i32_245
  let v391 : Index := Scalar.indexCast v389
  ![1, v391.toNat]
def k0_off13 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c2048_i32_158 : BitVec 32 := 2048#32
  ![arg20.toNat, 2048]
def k0_cond4 (i : grid0.Coords) (k0_t1 : Fin (k0_t1_loop i).trips) (k0_t2 : Fin (k0_t2_loop i k0_t1).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let v292 : BitVec 1 := Scalar.cmpi .sgt arg20 v12
  let v293 : BitVec 32 := Scalar.extui v292
  let c0_i32_161 : BitVec 32 := 0#32
  let v294 : BitVec 1 := Scalar.cmpi .ne v293 c0_i32_161
  v294

def k0_off14 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c0_i32_245 : BitVec 32 := 0#32
  ![arg20.toNat, 0]
@[reducible] def k0_t5_loop : Scf.Loop 32 :=
  let c0_i32_163 : BitVec 32 := 0#32
  let c128_i32_164 : BitVec 32 := 128#32
  let v295 : BitVec 32 := Scalar.addi c0_i32_163 c128_i32_164
  let c1_i32_165 : BitVec 32 := 1#32
  ⟨c0_i32_163, v295, c1_i32_165⟩
def k0_off15 (k0_t5 : Fin k0_t5_loop.trips) : Fin 2 → Nat :=
  let c2_i32_244 : BitVec 32 := 2#32
  let v385 : Index := Scalar.indexCast c2_i32_244
  let c0_i32_163 : BitVec 32 := 0#32
  let c1_i32_165 : BitVec 32 := 1#32
  let arg21 : BitVec 32 := Scf.iv c0_i32_163 c1_i32_165 k0_t5
  let c16_i32_243 : BitVec 32 := 16#32
  let v384 : BitVec 32 := Scalar.muli arg21 c16_i32_243
  let v386 : Index := Scalar.indexCast v384
  ![2, v386.toNat]

def k0_chk3 (i : grid0.Coords) (v387 : IVec S16 32) : Prop :=
  (∀ (k0_h1 : k0_cond1 i = 1#1), ∀ a x, ((![v387] : Fin 1 → IVec S16 32) a x).toNat < S100096.size a)
theorem k0_idx3_inb : ∀ (i : grid0.Coords) (v387 : IVec S16 32) (k0_hw3 : k0_chk3 i v387), ∀ (k0_h1 : k0_cond1 i = 1#1), ∀ a x, ((![v387] : Fin 1 → IVec S16 32) a x).toNat < S100096.size a := fun i v387 k0_hw3 k0_h1 => k0_hw3 k0_h1
def k0_off16 (k0_t5 : Fin k0_t5_loop.trips) : Fin 2 → Nat :=
  let c2_i32_246 : BitVec 32 := 2#32
  let v390 : Index := Scalar.indexCast c2_i32_246
  let c0_i32_163 : BitVec 32 := 0#32
  let c1_i32_165 : BitVec 32 := 1#32
  let arg21 : BitVec 32 := Scf.iv c0_i32_163 c1_i32_165 k0_t5
  let c16_i32_245 : BitVec 32 := 16#32
  let v389 : BitVec 32 := Scalar.muli arg21 c16_i32_245
  let v391 : Index := Scalar.indexCast v389
  ![2, v391.toNat]
def k0_off17 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c4096_i32_169 : BitVec 32 := 4096#32
  ![arg20.toNat, 4096]
def k0_cond5 (i : grid0.Coords) (k0_t1 : Fin (k0_t1_loop i).trips) (k0_t2 : Fin (k0_t2_loop i k0_t1).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let v304 : BitVec 1 := Scalar.cmpi .sgt arg20 v12
  let v305 : BitVec 32 := Scalar.extui v304
  let c0_i32_172 : BitVec 32 := 0#32
  let v306 : BitVec 1 := Scalar.cmpi .ne v305 c0_i32_172
  v306

def k0_off18 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c0_i32_245 : BitVec 32 := 0#32
  ![arg20.toNat, 0]
@[reducible] def k0_t6_loop : Scf.Loop 32 :=
  let c0_i32_174 : BitVec 32 := 0#32
  let c128_i32_175 : BitVec 32 := 128#32
  let v307 : BitVec 32 := Scalar.addi c0_i32_174 c128_i32_175
  let c1_i32_176 : BitVec 32 := 1#32
  ⟨c0_i32_174, v307, c1_i32_176⟩
def k0_off19 (k0_t6 : Fin k0_t6_loop.trips) : Fin 2 → Nat :=
  let c3_i32_244 : BitVec 32 := 3#32
  let v385 : Index := Scalar.indexCast c3_i32_244
  let c0_i32_174 : BitVec 32 := 0#32
  let c1_i32_176 : BitVec 32 := 1#32
  let arg21 : BitVec 32 := Scf.iv c0_i32_174 c1_i32_176 k0_t6
  let c16_i32_243 : BitVec 32 := 16#32
  let v384 : BitVec 32 := Scalar.muli arg21 c16_i32_243
  let v386 : Index := Scalar.indexCast v384
  ![3, v386.toNat]

def k0_chk4 (i : grid0.Coords) (v387 : IVec S16 32) : Prop :=
  (∀ (k0_h1 : k0_cond1 i = 1#1), ∀ a x, ((![v387] : Fin 1 → IVec S16 32) a x).toNat < S100096.size a)
theorem k0_idx4_inb : ∀ (i : grid0.Coords) (v387 : IVec S16 32) (k0_hw4 : k0_chk4 i v387), ∀ (k0_h1 : k0_cond1 i = 1#1), ∀ a x, ((![v387] : Fin 1 → IVec S16 32) a x).toNat < S100096.size a := fun i v387 k0_hw4 k0_h1 => k0_hw4 k0_h1
def k0_off20 (k0_t6 : Fin k0_t6_loop.trips) : Fin 2 → Nat :=
  let c3_i32_246 : BitVec 32 := 3#32
  let v390 : Index := Scalar.indexCast c3_i32_246
  let c0_i32_174 : BitVec 32 := 0#32
  let c1_i32_176 : BitVec 32 := 1#32
  let arg21 : BitVec 32 := Scf.iv c0_i32_174 c1_i32_176 k0_t6
  let c16_i32_245 : BitVec 32 := 16#32
  let v389 : BitVec 32 := Scalar.muli arg21 c16_i32_245
  let v391 : Index := Scalar.indexCast v389
  ![3, v391.toNat]
def k0_off21 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c6144_i32_180 : BitVec 32 := 6144#32
  ![arg20.toNat, 6144]
@[reducible] def k0_t7_loop : Scf.Loop 32 :=
  let c0_i32_189 : BitVec 32 := 0#32
  let c128_i32_190 : BitVec 32 := 128#32
  let v324 : BitVec 32 := Scalar.addi c0_i32_189 c128_i32_190
  let c1_i32_191 : BitVec 32 := 1#32
  ⟨c0_i32_189, v324, c1_i32_191⟩
def k0_off22 (k0_t7 : Fin k0_t7_loop.trips) : Fin 2 → Nat :=
  let c4_i32_244 : BitVec 32 := 4#32
  let v385 : Index := Scalar.indexCast c4_i32_244
  let c0_i32_189 : BitVec 32 := 0#32
  let c1_i32_191 : BitVec 32 := 1#32
  let arg21 : BitVec 32 := Scf.iv c0_i32_189 c1_i32_191 k0_t7
  let c16_i32_243 : BitVec 32 := 16#32
  let v384 : BitVec 32 := Scalar.muli arg21 c16_i32_243
  let v386 : Index := Scalar.indexCast v384
  ![4, v386.toNat]

def k0_chk5 (i : grid0.Coords) (v387 : IVec S16 32) : Prop :=
  (∀ (k0_h1 : k0_cond1 i = 1#1), ∀ a x, ((![v387] : Fin 1 → IVec S16 32) a x).toNat < S100096.size a)
theorem k0_idx5_inb : ∀ (i : grid0.Coords) (v387 : IVec S16 32) (k0_hw5 : k0_chk5 i v387), ∀ (k0_h1 : k0_cond1 i = 1#1), ∀ a x, ((![v387] : Fin 1 → IVec S16 32) a x).toNat < S100096.size a := fun i v387 k0_hw5 k0_h1 => k0_hw5 k0_h1
def k0_off23 (k0_t7 : Fin k0_t7_loop.trips) : Fin 2 → Nat :=
  let c0_i32_246 : BitVec 32 := 0#32
  let v390 : Index := Scalar.indexCast c0_i32_246
  let c0_i32_189 : BitVec 32 := 0#32
  let c1_i32_191 : BitVec 32 := 1#32
  let arg21 : BitVec 32 := Scf.iv c0_i32_189 c1_i32_191 k0_t7
  let c16_i32_245 : BitVec 32 := 16#32
  let v389 : BitVec 32 := Scalar.muli arg21 c16_i32_245
  let v391 : Index := Scalar.indexCast v389
  ![0, v391.toNat]
def k0_off24 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c8192_i32_195 : BitVec 32 := 8192#32
  ![arg20.toNat, 8192]
@[reducible] def k0_t8_loop : Scf.Loop 32 :=
  let c0_i32_204 : BitVec 32 := 0#32
  let c128_i32_205 : BitVec 32 := 128#32
  let v341 : BitVec 32 := Scalar.addi c0_i32_204 c128_i32_205
  let c1_i32_206 : BitVec 32 := 1#32
  ⟨c0_i32_204, v341, c1_i32_206⟩
def k0_off25 (k0_t8 : Fin k0_t8_loop.trips) : Fin 2 → Nat :=
  let c5_i32_244 : BitVec 32 := 5#32
  let v385 : Index := Scalar.indexCast c5_i32_244
  let c0_i32_204 : BitVec 32 := 0#32
  let c1_i32_206 : BitVec 32 := 1#32
  let arg21 : BitVec 32 := Scf.iv c0_i32_204 c1_i32_206 k0_t8
  let c16_i32_243 : BitVec 32 := 16#32
  let v384 : BitVec 32 := Scalar.muli arg21 c16_i32_243
  let v386 : Index := Scalar.indexCast v384
  ![5, v386.toNat]

def k0_chk6 (i : grid0.Coords) (v387 : IVec S16 32) : Prop :=
  (∀ (k0_h1 : k0_cond1 i = 1#1), ∀ a x, ((![v387] : Fin 1 → IVec S16 32) a x).toNat < S100096.size a)
theorem k0_idx6_inb : ∀ (i : grid0.Coords) (v387 : IVec S16 32) (k0_hw6 : k0_chk6 i v387), ∀ (k0_h1 : k0_cond1 i = 1#1), ∀ a x, ((![v387] : Fin 1 → IVec S16 32) a x).toNat < S100096.size a := fun i v387 k0_hw6 k0_h1 => k0_hw6 k0_h1
def k0_off26 (k0_t8 : Fin k0_t8_loop.trips) : Fin 2 → Nat :=
  let c1_i32_246 : BitVec 32 := 1#32
  let v390 : Index := Scalar.indexCast c1_i32_246
  let c0_i32_204 : BitVec 32 := 0#32
  let c1_i32_206 : BitVec 32 := 1#32
  let arg21 : BitVec 32 := Scf.iv c0_i32_204 c1_i32_206 k0_t8
  let c16_i32_245 : BitVec 32 := 16#32
  let v389 : BitVec 32 := Scalar.muli arg21 c16_i32_245
  let v391 : Index := Scalar.indexCast v389
  ![1, v391.toNat]
def k0_off27 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c10240_i32_210 : BitVec 32 := 10240#32
  ![arg20.toNat, 10240]
@[reducible] def k0_t9_loop : Scf.Loop 32 :=
  let c0_i32_219 : BitVec 32 := 0#32
  let c128_i32_220 : BitVec 32 := 128#32
  let v358 : BitVec 32 := Scalar.addi c0_i32_219 c128_i32_220
  let c1_i32_221 : BitVec 32 := 1#32
  ⟨c0_i32_219, v358, c1_i32_221⟩
def k0_off28 (k0_t9 : Fin k0_t9_loop.trips) : Fin 2 → Nat :=
  let c6_i32_244 : BitVec 32 := 6#32
  let v385 : Index := Scalar.indexCast c6_i32_244
  let c0_i32_219 : BitVec 32 := 0#32
  let c1_i32_221 : BitVec 32 := 1#32
  let arg21 : BitVec 32 := Scf.iv c0_i32_219 c1_i32_221 k0_t9
  let c16_i32_243 : BitVec 32 := 16#32
  let v384 : BitVec 32 := Scalar.muli arg21 c16_i32_243
  let v386 : Index := Scalar.indexCast v384
  ![6, v386.toNat]

def k0_chk7 (i : grid0.Coords) (v387 : IVec S16 32) : Prop :=
  (∀ (k0_h1 : k0_cond1 i = 1#1), ∀ a x, ((![v387] : Fin 1 → IVec S16 32) a x).toNat < S100096.size a)
theorem k0_idx7_inb : ∀ (i : grid0.Coords) (v387 : IVec S16 32) (k0_hw7 : k0_chk7 i v387), ∀ (k0_h1 : k0_cond1 i = 1#1), ∀ a x, ((![v387] : Fin 1 → IVec S16 32) a x).toNat < S100096.size a := fun i v387 k0_hw7 k0_h1 => k0_hw7 k0_h1
def k0_off29 (k0_t9 : Fin k0_t9_loop.trips) : Fin 2 → Nat :=
  let c2_i32_246 : BitVec 32 := 2#32
  let v390 : Index := Scalar.indexCast c2_i32_246
  let c0_i32_219 : BitVec 32 := 0#32
  let c1_i32_221 : BitVec 32 := 1#32
  let arg21 : BitVec 32 := Scf.iv c0_i32_219 c1_i32_221 k0_t9
  let c16_i32_245 : BitVec 32 := 16#32
  let v389 : BitVec 32 := Scalar.muli arg21 c16_i32_245
  let v391 : Index := Scalar.indexCast v389
  ![2, v391.toNat]
def k0_off30 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c12288_i32_225 : BitVec 32 := 12288#32
  ![arg20.toNat, 12288]
@[reducible] def k0_t10_loop : Scf.Loop 32 :=
  let c0_i32_234 : BitVec 32 := 0#32
  let c128_i32_235 : BitVec 32 := 128#32
  let v375 : BitVec 32 := Scalar.addi c0_i32_234 c128_i32_235
  let c1_i32_236 : BitVec 32 := 1#32
  ⟨c0_i32_234, v375, c1_i32_236⟩
def k0_off31 (k0_t10 : Fin k0_t10_loop.trips) : Fin 2 → Nat :=
  let c7_i32_244 : BitVec 32 := 7#32
  let v385 : Index := Scalar.indexCast c7_i32_244
  let c0_i32_234 : BitVec 32 := 0#32
  let c1_i32_236 : BitVec 32 := 1#32
  let arg21 : BitVec 32 := Scf.iv c0_i32_234 c1_i32_236 k0_t10
  let c16_i32_243 : BitVec 32 := 16#32
  let v384 : BitVec 32 := Scalar.muli arg21 c16_i32_243
  let v386 : Index := Scalar.indexCast v384
  ![7, v386.toNat]

def k0_chk8 (i : grid0.Coords) (v387 : IVec S16 32) : Prop :=
  (∀ (k0_h1 : k0_cond1 i = 1#1), ∀ a x, ((![v387] : Fin 1 → IVec S16 32) a x).toNat < S100096.size a)
theorem k0_idx8_inb : ∀ (i : grid0.Coords) (v387 : IVec S16 32) (k0_hw8 : k0_chk8 i v387), ∀ (k0_h1 : k0_cond1 i = 1#1), ∀ a x, ((![v387] : Fin 1 → IVec S16 32) a x).toNat < S100096.size a := fun i v387 k0_hw8 k0_h1 => k0_hw8 k0_h1
def k0_off32 (k0_t10 : Fin k0_t10_loop.trips) : Fin 2 → Nat :=
  let c3_i32_246 : BitVec 32 := 3#32
  let v390 : Index := Scalar.indexCast c3_i32_246
  let c0_i32_234 : BitVec 32 := 0#32
  let c1_i32_236 : BitVec 32 := 1#32
  let arg21 : BitVec 32 := Scf.iv c0_i32_234 c1_i32_236 k0_t10
  let c16_i32_245 : BitVec 32 := 16#32
  let v389 : BitVec 32 := Scalar.muli arg21 c16_i32_245
  let v391 : Index := Scalar.indexCast v389
  ![3, v391.toNat]
def k0_off33 (i : grid0.Coords) (k0_t1 : Fin (k0_t1_loop i).trips) (k0_t2 : Fin (k0_t2_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t2
  let c14336_i32_240 : BitVec 32 := 14336#32
  ![arg20.toNat, 14336]
@[reducible] def k0_t11_loop (i : grid0.Coords) (k0_t1 : Fin (k0_t1_loop i).trips) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let v216 : BitVec 32 := Scalar.addi v211 v215
  let c1_i32_110 : BitVec 32 := 1#32
  ⟨v219, v216, c1_i32_110⟩
def k0_off34 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c0_i32_112 : BitVec 32 := 0#32
  ![arg20.toNat, 0]
def k0_off35 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c33280_i32_115 : BitVec 32 := 33280#32
  ![arg20.toNat, 33280]
def k0_off36 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c66560_i32_118 : BitVec 32 := 66560#32
  ![arg20.toNat, 66560]
def k0_off37 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c0_i32_121 : BitVec 32 := 0#32
  ![arg20.toNat, 0]
def k0_cond6 (i : grid0.Coords) (k0_t1 : Fin (k0_t1_loop i).trips) (k0_t11 : Fin (k0_t11_loop i k0_t1).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let v268 : BitVec 1 := Scalar.cmpi .sgt arg20 v12
  let v269 : BitVec 32 := Scalar.extui v268
  let c0_i32_140 : BitVec 32 := 0#32
  let v270 : BitVec 1 := Scalar.cmpi .ne v269 c0_i32_140
  v270

def k0_off38 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c0_i32_245 : BitVec 32 := 0#32
  ![arg20.toNat, 0]
@[reducible] def k0_t12_loop : Scf.Loop 32 :=
  let c0_i32_142 : BitVec 32 := 0#32
  let c128_i32 : BitVec 32 := 128#32
  let v271 : BitVec 32 := Scalar.addi c0_i32_142 c128_i32
  let c1_i32_143 : BitVec 32 := 1#32
  ⟨c0_i32_142, v271, c1_i32_143⟩
def k0_off39 (k0_t12 : Fin k0_t12_loop.trips) : Fin 2 → Nat :=
  let c0_i32_244 : BitVec 32 := 0#32
  let v385 : Index := Scalar.indexCast c0_i32_244
  let c0_i32_142 : BitVec 32 := 0#32
  let c1_i32_143 : BitVec 32 := 1#32
  let arg21 : BitVec 32 := Scf.iv c0_i32_142 c1_i32_143 k0_t12
  let c16_i32_243 : BitVec 32 := 16#32
  let v384 : BitVec 32 := Scalar.muli arg21 c16_i32_243
  let v386 : Index := Scalar.indexCast v384
  ![0, v386.toNat]

def k0_chk9 (i : grid0.Coords) (k0_t1 : Fin (k0_t1_loop i).trips) (k0_t11 : Fin (k0_t11_loop i k0_t1).trips) (v387 : IVec S16 32) : Prop :=
  (∀ (k0_h1 : k0_cond1 i = 1#1), ∀ a x, ((![v387] : Fin 1 → IVec S16 32) a x).toNat < S100096.size a)
theorem k0_idx9_inb : ∀ (i : grid0.Coords) (k0_t1 : Fin (k0_t1_loop i).trips) (k0_t11 : Fin (k0_t11_loop i k0_t1).trips) (v387 : IVec S16 32) (k0_hw9 : k0_chk9 i k0_t1 k0_t11 v387), ∀ (k0_h1 : k0_cond1 i = 1#1), ∀ a x, ((![v387] : Fin 1 → IVec S16 32) a x).toNat < S100096.size a := fun i k0_t1 k0_t11 v387 k0_hw9 k0_h1 => k0_hw9 k0_h1
def k0_off40 (k0_t12 : Fin k0_t12_loop.trips) : Fin 2 → Nat :=
  let c0_i32_246 : BitVec 32 := 0#32
  let v390 : Index := Scalar.indexCast c0_i32_246
  let c0_i32_142 : BitVec 32 := 0#32
  let c1_i32_143 : BitVec 32 := 1#32
  let arg21 : BitVec 32 := Scf.iv c0_i32_142 c1_i32_143 k0_t12
  let c16_i32_245 : BitVec 32 := 16#32
  let v389 : BitVec 32 := Scalar.muli arg21 c16_i32_245
  let v391 : Index := Scalar.indexCast v389
  ![0, v391.toNat]
def k0_off41 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c0_i32_147 : BitVec 32 := 0#32
  ![arg20.toNat, 0]
def k0_cond7 (i : grid0.Coords) (k0_t1 : Fin (k0_t1_loop i).trips) (k0_t11 : Fin (k0_t11_loop i k0_t1).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let v280 : BitVec 1 := Scalar.cmpi .sgt arg20 v12
  let v281 : BitVec 32 := Scalar.extui v280
  let c0_i32_150 : BitVec 32 := 0#32
  let v282 : BitVec 1 := Scalar.cmpi .ne v281 c0_i32_150
  v282

def k0_off42 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c0_i32_245 : BitVec 32 := 0#32
  ![arg20.toNat, 0]
@[reducible] def k0_t13_loop : Scf.Loop 32 :=
  let c0_i32_152 : BitVec 32 := 0#32
  let c128_i32_153 : BitVec 32 := 128#32
  let v283 : BitVec 32 := Scalar.addi c0_i32_152 c128_i32_153
  let c1_i32_154 : BitVec 32 := 1#32
  ⟨c0_i32_152, v283, c1_i32_154⟩
def k0_off43 (k0_t13 : Fin k0_t13_loop.trips) : Fin 2 → Nat :=
  let c1_i32_244 : BitVec 32 := 1#32
  let v385 : Index := Scalar.indexCast c1_i32_244
  let c0_i32_152 : BitVec 32 := 0#32
  let c1_i32_154 : BitVec 32 := 1#32
  let arg21 : BitVec 32 := Scf.iv c0_i32_152 c1_i32_154 k0_t13
  let c16_i32_243 : BitVec 32 := 16#32
  let v384 : BitVec 32 := Scalar.muli arg21 c16_i32_243
  let v386 : Index := Scalar.indexCast v384
  ![1, v386.toNat]

def k0_chk10 (i : grid0.Coords) (k0_t1 : Fin (k0_t1_loop i).trips) (k0_t11 : Fin (k0_t11_loop i k0_t1).trips) (v387 : IVec S16 32) : Prop :=
  (∀ (k0_h1 : k0_cond1 i = 1#1), ∀ a x, ((![v387] : Fin 1 → IVec S16 32) a x).toNat < S100096.size a)
theorem k0_idx10_inb : ∀ (i : grid0.Coords) (k0_t1 : Fin (k0_t1_loop i).trips) (k0_t11 : Fin (k0_t11_loop i k0_t1).trips) (v387 : IVec S16 32) (k0_hw10 : k0_chk10 i k0_t1 k0_t11 v387), ∀ (k0_h1 : k0_cond1 i = 1#1), ∀ a x, ((![v387] : Fin 1 → IVec S16 32) a x).toNat < S100096.size a := fun i k0_t1 k0_t11 v387 k0_hw10 k0_h1 => k0_hw10 k0_h1
def k0_off44 (k0_t13 : Fin k0_t13_loop.trips) : Fin 2 → Nat :=
  let c1_i32_246 : BitVec 32 := 1#32
  let v390 : Index := Scalar.indexCast c1_i32_246
  let c0_i32_152 : BitVec 32 := 0#32
  let c1_i32_154 : BitVec 32 := 1#32
  let arg21 : BitVec 32 := Scf.iv c0_i32_152 c1_i32_154 k0_t13
  let c16_i32_245 : BitVec 32 := 16#32
  let v389 : BitVec 32 := Scalar.muli arg21 c16_i32_245
  let v391 : Index := Scalar.indexCast v389
  ![1, v391.toNat]
def k0_off45 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c2048_i32_158 : BitVec 32 := 2048#32
  ![arg20.toNat, 2048]
def k0_cond8 (i : grid0.Coords) (k0_t1 : Fin (k0_t1_loop i).trips) (k0_t11 : Fin (k0_t11_loop i k0_t1).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let v292 : BitVec 1 := Scalar.cmpi .sgt arg20 v12
  let v293 : BitVec 32 := Scalar.extui v292
  let c0_i32_161 : BitVec 32 := 0#32
  let v294 : BitVec 1 := Scalar.cmpi .ne v293 c0_i32_161
  v294

def k0_off46 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c0_i32_245 : BitVec 32 := 0#32
  ![arg20.toNat, 0]
@[reducible] def k0_t14_loop : Scf.Loop 32 :=
  let c0_i32_163 : BitVec 32 := 0#32
  let c128_i32_164 : BitVec 32 := 128#32
  let v295 : BitVec 32 := Scalar.addi c0_i32_163 c128_i32_164
  let c1_i32_165 : BitVec 32 := 1#32
  ⟨c0_i32_163, v295, c1_i32_165⟩
def k0_off47 (k0_t14 : Fin k0_t14_loop.trips) : Fin 2 → Nat :=
  let c2_i32_244 : BitVec 32 := 2#32
  let v385 : Index := Scalar.indexCast c2_i32_244
  let c0_i32_163 : BitVec 32 := 0#32
  let c1_i32_165 : BitVec 32 := 1#32
  let arg21 : BitVec 32 := Scf.iv c0_i32_163 c1_i32_165 k0_t14
  let c16_i32_243 : BitVec 32 := 16#32
  let v384 : BitVec 32 := Scalar.muli arg21 c16_i32_243
  let v386 : Index := Scalar.indexCast v384
  ![2, v386.toNat]

def k0_chk11 (i : grid0.Coords) (k0_t1 : Fin (k0_t1_loop i).trips) (k0_t11 : Fin (k0_t11_loop i k0_t1).trips) (v387 : IVec S16 32) : Prop :=
  (∀ (k0_h1 : k0_cond1 i = 1#1), ∀ a x, ((![v387] : Fin 1 → IVec S16 32) a x).toNat < S100096.size a)
theorem k0_idx11_inb : ∀ (i : grid0.Coords) (k0_t1 : Fin (k0_t1_loop i).trips) (k0_t11 : Fin (k0_t11_loop i k0_t1).trips) (v387 : IVec S16 32) (k0_hw11 : k0_chk11 i k0_t1 k0_t11 v387), ∀ (k0_h1 : k0_cond1 i = 1#1), ∀ a x, ((![v387] : Fin 1 → IVec S16 32) a x).toNat < S100096.size a := fun i k0_t1 k0_t11 v387 k0_hw11 k0_h1 => k0_hw11 k0_h1
def k0_off48 (k0_t14 : Fin k0_t14_loop.trips) : Fin 2 → Nat :=
  let c2_i32_246 : BitVec 32 := 2#32
  let v390 : Index := Scalar.indexCast c2_i32_246
  let c0_i32_163 : BitVec 32 := 0#32
  let c1_i32_165 : BitVec 32 := 1#32
  let arg21 : BitVec 32 := Scf.iv c0_i32_163 c1_i32_165 k0_t14
  let c16_i32_245 : BitVec 32 := 16#32
  let v389 : BitVec 32 := Scalar.muli arg21 c16_i32_245
  let v391 : Index := Scalar.indexCast v389
  ![2, v391.toNat]
def k0_off49 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c4096_i32_169 : BitVec 32 := 4096#32
  ![arg20.toNat, 4096]
def k0_cond9 (i : grid0.Coords) (k0_t1 : Fin (k0_t1_loop i).trips) (k0_t11 : Fin (k0_t11_loop i k0_t1).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let v304 : BitVec 1 := Scalar.cmpi .sgt arg20 v12
  let v305 : BitVec 32 := Scalar.extui v304
  let c0_i32_172 : BitVec 32 := 0#32
  let v306 : BitVec 1 := Scalar.cmpi .ne v305 c0_i32_172
  v306

def k0_off50 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c0_i32_245 : BitVec 32 := 0#32
  ![arg20.toNat, 0]
@[reducible] def k0_t15_loop : Scf.Loop 32 :=
  let c0_i32_174 : BitVec 32 := 0#32
  let c128_i32_175 : BitVec 32 := 128#32
  let v307 : BitVec 32 := Scalar.addi c0_i32_174 c128_i32_175
  let c1_i32_176 : BitVec 32 := 1#32
  ⟨c0_i32_174, v307, c1_i32_176⟩
def k0_off51 (k0_t15 : Fin k0_t15_loop.trips) : Fin 2 → Nat :=
  let c3_i32_244 : BitVec 32 := 3#32
  let v385 : Index := Scalar.indexCast c3_i32_244
  let c0_i32_174 : BitVec 32 := 0#32
  let c1_i32_176 : BitVec 32 := 1#32
  let arg21 : BitVec 32 := Scf.iv c0_i32_174 c1_i32_176 k0_t15
  let c16_i32_243 : BitVec 32 := 16#32
  let v384 : BitVec 32 := Scalar.muli arg21 c16_i32_243
  let v386 : Index := Scalar.indexCast v384
  ![3, v386.toNat]

def k0_chk12 (i : grid0.Coords) (k0_t1 : Fin (k0_t1_loop i).trips) (k0_t11 : Fin (k0_t11_loop i k0_t1).trips) (v387 : IVec S16 32) : Prop :=
  (∀ (k0_h1 : k0_cond1 i = 1#1), ∀ a x, ((![v387] : Fin 1 → IVec S16 32) a x).toNat < S100096.size a)
theorem k0_idx12_inb : ∀ (i : grid0.Coords) (k0_t1 : Fin (k0_t1_loop i).trips) (k0_t11 : Fin (k0_t11_loop i k0_t1).trips) (v387 : IVec S16 32) (k0_hw12 : k0_chk12 i k0_t1 k0_t11 v387), ∀ (k0_h1 : k0_cond1 i = 1#1), ∀ a x, ((![v387] : Fin 1 → IVec S16 32) a x).toNat < S100096.size a := fun i k0_t1 k0_t11 v387 k0_hw12 k0_h1 => k0_hw12 k0_h1
def k0_off52 (k0_t15 : Fin k0_t15_loop.trips) : Fin 2 → Nat :=
  let c3_i32_246 : BitVec 32 := 3#32
  let v390 : Index := Scalar.indexCast c3_i32_246
  let c0_i32_174 : BitVec 32 := 0#32
  let c1_i32_176 : BitVec 32 := 1#32
  let arg21 : BitVec 32 := Scf.iv c0_i32_174 c1_i32_176 k0_t15
  let c16_i32_245 : BitVec 32 := 16#32
  let v389 : BitVec 32 := Scalar.muli arg21 c16_i32_245
  let v391 : Index := Scalar.indexCast v389
  ![3, v391.toNat]
def k0_off53 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c6144_i32_180 : BitVec 32 := 6144#32
  ![arg20.toNat, 6144]
@[reducible] def k0_t16_loop : Scf.Loop 32 :=
  let c0_i32_189 : BitVec 32 := 0#32
  let c128_i32_190 : BitVec 32 := 128#32
  let v324 : BitVec 32 := Scalar.addi c0_i32_189 c128_i32_190
  let c1_i32_191 : BitVec 32 := 1#32
  ⟨c0_i32_189, v324, c1_i32_191⟩
def k0_off54 (k0_t16 : Fin k0_t16_loop.trips) : Fin 2 → Nat :=
  let c4_i32_244 : BitVec 32 := 4#32
  let v385 : Index := Scalar.indexCast c4_i32_244
  let c0_i32_189 : BitVec 32 := 0#32
  let c1_i32_191 : BitVec 32 := 1#32
  let arg21 : BitVec 32 := Scf.iv c0_i32_189 c1_i32_191 k0_t16
  let c16_i32_243 : BitVec 32 := 16#32
  let v384 : BitVec 32 := Scalar.muli arg21 c16_i32_243
  let v386 : Index := Scalar.indexCast v384
  ![4, v386.toNat]

def k0_chk13 (i : grid0.Coords) (k0_t1 : Fin (k0_t1_loop i).trips) (k0_t11 : Fin (k0_t11_loop i k0_t1).trips) (v387 : IVec S16 32) : Prop :=
  (∀ (k0_h1 : k0_cond1 i = 1#1), ∀ a x, ((![v387] : Fin 1 → IVec S16 32) a x).toNat < S100096.size a)
theorem k0_idx13_inb : ∀ (i : grid0.Coords) (k0_t1 : Fin (k0_t1_loop i).trips) (k0_t11 : Fin (k0_t11_loop i k0_t1).trips) (v387 : IVec S16 32) (k0_hw13 : k0_chk13 i k0_t1 k0_t11 v387), ∀ (k0_h1 : k0_cond1 i = 1#1), ∀ a x, ((![v387] : Fin 1 → IVec S16 32) a x).toNat < S100096.size a := fun i k0_t1 k0_t11 v387 k0_hw13 k0_h1 => k0_hw13 k0_h1
def k0_off55 (k0_t16 : Fin k0_t16_loop.trips) : Fin 2 → Nat :=
  let c0_i32_246 : BitVec 32 := 0#32
  let v390 : Index := Scalar.indexCast c0_i32_246
  let c0_i32_189 : BitVec 32 := 0#32
  let c1_i32_191 : BitVec 32 := 1#32
  let arg21 : BitVec 32 := Scf.iv c0_i32_189 c1_i32_191 k0_t16
  let c16_i32_245 : BitVec 32 := 16#32
  let v389 : BitVec 32 := Scalar.muli arg21 c16_i32_245
  let v391 : Index := Scalar.indexCast v389
  ![0, v391.toNat]
def k0_off56 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c8192_i32_195 : BitVec 32 := 8192#32
  ![arg20.toNat, 8192]
@[reducible] def k0_t17_loop : Scf.Loop 32 :=
  let c0_i32_204 : BitVec 32 := 0#32
  let c128_i32_205 : BitVec 32 := 128#32
  let v341 : BitVec 32 := Scalar.addi c0_i32_204 c128_i32_205
  let c1_i32_206 : BitVec 32 := 1#32
  ⟨c0_i32_204, v341, c1_i32_206⟩
def k0_off57 (k0_t17 : Fin k0_t17_loop.trips) : Fin 2 → Nat :=
  let c5_i32_244 : BitVec 32 := 5#32
  let v385 : Index := Scalar.indexCast c5_i32_244
  let c0_i32_204 : BitVec 32 := 0#32
  let c1_i32_206 : BitVec 32 := 1#32
  let arg21 : BitVec 32 := Scf.iv c0_i32_204 c1_i32_206 k0_t17
  let c16_i32_243 : BitVec 32 := 16#32
  let v384 : BitVec 32 := Scalar.muli arg21 c16_i32_243
  let v386 : Index := Scalar.indexCast v384
  ![5, v386.toNat]

def k0_chk14 (i : grid0.Coords) (k0_t1 : Fin (k0_t1_loop i).trips) (k0_t11 : Fin (k0_t11_loop i k0_t1).trips) (v387 : IVec S16 32) : Prop :=
  (∀ (k0_h1 : k0_cond1 i = 1#1), ∀ a x, ((![v387] : Fin 1 → IVec S16 32) a x).toNat < S100096.size a)
theorem k0_idx14_inb : ∀ (i : grid0.Coords) (k0_t1 : Fin (k0_t1_loop i).trips) (k0_t11 : Fin (k0_t11_loop i k0_t1).trips) (v387 : IVec S16 32) (k0_hw14 : k0_chk14 i k0_t1 k0_t11 v387), ∀ (k0_h1 : k0_cond1 i = 1#1), ∀ a x, ((![v387] : Fin 1 → IVec S16 32) a x).toNat < S100096.size a := fun i k0_t1 k0_t11 v387 k0_hw14 k0_h1 => k0_hw14 k0_h1
def k0_off58 (k0_t17 : Fin k0_t17_loop.trips) : Fin 2 → Nat :=
  let c1_i32_246 : BitVec 32 := 1#32
  let v390 : Index := Scalar.indexCast c1_i32_246
  let c0_i32_204 : BitVec 32 := 0#32
  let c1_i32_206 : BitVec 32 := 1#32
  let arg21 : BitVec 32 := Scf.iv c0_i32_204 c1_i32_206 k0_t17
  let c16_i32_245 : BitVec 32 := 16#32
  let v389 : BitVec 32 := Scalar.muli arg21 c16_i32_245
  let v391 : Index := Scalar.indexCast v389
  ![1, v391.toNat]
def k0_off59 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c10240_i32_210 : BitVec 32 := 10240#32
  ![arg20.toNat, 10240]
@[reducible] def k0_t18_loop : Scf.Loop 32 :=
  let c0_i32_219 : BitVec 32 := 0#32
  let c128_i32_220 : BitVec 32 := 128#32
  let v358 : BitVec 32 := Scalar.addi c0_i32_219 c128_i32_220
  let c1_i32_221 : BitVec 32 := 1#32
  ⟨c0_i32_219, v358, c1_i32_221⟩
def k0_off60 (k0_t18 : Fin k0_t18_loop.trips) : Fin 2 → Nat :=
  let c6_i32_244 : BitVec 32 := 6#32
  let v385 : Index := Scalar.indexCast c6_i32_244
  let c0_i32_219 : BitVec 32 := 0#32
  let c1_i32_221 : BitVec 32 := 1#32
  let arg21 : BitVec 32 := Scf.iv c0_i32_219 c1_i32_221 k0_t18
  let c16_i32_243 : BitVec 32 := 16#32
  let v384 : BitVec 32 := Scalar.muli arg21 c16_i32_243
  let v386 : Index := Scalar.indexCast v384
  ![6, v386.toNat]

def k0_chk15 (i : grid0.Coords) (k0_t1 : Fin (k0_t1_loop i).trips) (k0_t11 : Fin (k0_t11_loop i k0_t1).trips) (v387 : IVec S16 32) : Prop :=
  (∀ (k0_h1 : k0_cond1 i = 1#1), ∀ a x, ((![v387] : Fin 1 → IVec S16 32) a x).toNat < S100096.size a)
theorem k0_idx15_inb : ∀ (i : grid0.Coords) (k0_t1 : Fin (k0_t1_loop i).trips) (k0_t11 : Fin (k0_t11_loop i k0_t1).trips) (v387 : IVec S16 32) (k0_hw15 : k0_chk15 i k0_t1 k0_t11 v387), ∀ (k0_h1 : k0_cond1 i = 1#1), ∀ a x, ((![v387] : Fin 1 → IVec S16 32) a x).toNat < S100096.size a := fun i k0_t1 k0_t11 v387 k0_hw15 k0_h1 => k0_hw15 k0_h1
def k0_off61 (k0_t18 : Fin k0_t18_loop.trips) : Fin 2 → Nat :=
  let c2_i32_246 : BitVec 32 := 2#32
  let v390 : Index := Scalar.indexCast c2_i32_246
  let c0_i32_219 : BitVec 32 := 0#32
  let c1_i32_221 : BitVec 32 := 1#32
  let arg21 : BitVec 32 := Scf.iv c0_i32_219 c1_i32_221 k0_t18
  let c16_i32_245 : BitVec 32 := 16#32
  let v389 : BitVec 32 := Scalar.muli arg21 c16_i32_245
  let v391 : Index := Scalar.indexCast v389
  ![2, v391.toNat]
def k0_off62 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c12288_i32_225 : BitVec 32 := 12288#32
  ![arg20.toNat, 12288]
@[reducible] def k0_t19_loop : Scf.Loop 32 :=
  let c0_i32_234 : BitVec 32 := 0#32
  let c128_i32_235 : BitVec 32 := 128#32
  let v375 : BitVec 32 := Scalar.addi c0_i32_234 c128_i32_235
  let c1_i32_236 : BitVec 32 := 1#32
  ⟨c0_i32_234, v375, c1_i32_236⟩
def k0_off63 (k0_t19 : Fin k0_t19_loop.trips) : Fin 2 → Nat :=
  let c7_i32_244 : BitVec 32 := 7#32
  let v385 : Index := Scalar.indexCast c7_i32_244
  let c0_i32_234 : BitVec 32 := 0#32
  let c1_i32_236 : BitVec 32 := 1#32
  let arg21 : BitVec 32 := Scf.iv c0_i32_234 c1_i32_236 k0_t19
  let c16_i32_243 : BitVec 32 := 16#32
  let v384 : BitVec 32 := Scalar.muli arg21 c16_i32_243
  let v386 : Index := Scalar.indexCast v384
  ![7, v386.toNat]

def k0_chk16 (i : grid0.Coords) (k0_t1 : Fin (k0_t1_loop i).trips) (k0_t11 : Fin (k0_t11_loop i k0_t1).trips) (v387 : IVec S16 32) : Prop :=
  (∀ (k0_h1 : k0_cond1 i = 1#1), ∀ a x, ((![v387] : Fin 1 → IVec S16 32) a x).toNat < S100096.size a)
theorem k0_idx16_inb : ∀ (i : grid0.Coords) (k0_t1 : Fin (k0_t1_loop i).trips) (k0_t11 : Fin (k0_t11_loop i k0_t1).trips) (v387 : IVec S16 32) (k0_hw16 : k0_chk16 i k0_t1 k0_t11 v387), ∀ (k0_h1 : k0_cond1 i = 1#1), ∀ a x, ((![v387] : Fin 1 → IVec S16 32) a x).toNat < S100096.size a := fun i k0_t1 k0_t11 v387 k0_hw16 k0_h1 => k0_hw16 k0_h1
def k0_off64 (k0_t19 : Fin k0_t19_loop.trips) : Fin 2 → Nat :=
  let c3_i32_246 : BitVec 32 := 3#32
  let v390 : Index := Scalar.indexCast c3_i32_246
  let c0_i32_234 : BitVec 32 := 0#32
  let c1_i32_236 : BitVec 32 := 1#32
  let arg21 : BitVec 32 := Scf.iv c0_i32_234 c1_i32_236 k0_t19
  let c16_i32_245 : BitVec 32 := 16#32
  let v389 : BitVec 32 := Scalar.muli arg21 c16_i32_245
  let v391 : Index := Scalar.indexCast v389
  ![3, v391.toNat]
def k0_off65 (i : grid0.Coords) (k0_t1 : Fin (k0_t1_loop i).trips) (k0_t11 : Fin (k0_t11_loop i k0_t1).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t1
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t11
  let c14336_i32_240 : BitVec 32 := 14336#32
  ![arg20.toNat, 14336]
@[reducible] def k0_t20_loop (i : grid0.Coords) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let v58 : BitVec 32 := Scalar.addi v37 v57
  let c1_i32_28 : BitVec 32 := 1#32
  ⟨v61, v58, c1_i32_28⟩
def k0_off66 (i : grid0.Coords) (k0_t20 : Fin (k0_t20_loop i).trips) (c0_i32_52 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16384_i32 : BitVec 32 := 16384#32
  let v98 : BitVec 32 := Scalar.muli arg19 c16384_i32
  let v99 : BitVec 32 := Scalar.addi v98 c0_i32_52
  ![v99.toNat]
@[reducible] def k0_t21_loop (i : grid0.Coords) (k0_t20 : Fin (k0_t20_loop i).trips) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_109 : BitVec 32 := 1#32
  ⟨v211, v219, c1_i32_109⟩
def k0_off67 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c0_i32_112 : BitVec 32 := 0#32
  ![arg20.toNat, 0]
def k0_off68 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c33280_i32_115 : BitVec 32 := 33280#32
  ![arg20.toNat, 33280]
def k0_off69 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c66560_i32_118 : BitVec 32 := 66560#32
  ![arg20.toNat, 66560]
def k0_off70 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c0_i32_121 : BitVec 32 := 0#32
  ![arg20.toNat, 0]
def k0_cond10 (i : grid0.Coords) (k0_t20 : Fin (k0_t20_loop i).trips) (k0_t21 : Fin (k0_t21_loop i k0_t20).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let v268 : BitVec 1 := Scalar.cmpi .sgt arg20 v12
  let v269 : BitVec 32 := Scalar.extui v268
  let c0_i32_140 : BitVec 32 := 0#32
  let v270 : BitVec 1 := Scalar.cmpi .ne v269 c0_i32_140
  v270

def k0_off71 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c0_i32_245 : BitVec 32 := 0#32
  ![arg20.toNat, 0]
@[reducible] def k0_t22_loop : Scf.Loop 32 :=
  let c0_i32_142 : BitVec 32 := 0#32
  let c128_i32 : BitVec 32 := 128#32
  let v271 : BitVec 32 := Scalar.addi c0_i32_142 c128_i32
  let c1_i32_143 : BitVec 32 := 1#32
  ⟨c0_i32_142, v271, c1_i32_143⟩
def k0_off72 (k0_t22 : Fin k0_t22_loop.trips) : Fin 2 → Nat :=
  let c0_i32_244 : BitVec 32 := 0#32
  let v385 : Index := Scalar.indexCast c0_i32_244
  let c0_i32_142 : BitVec 32 := 0#32
  let c1_i32_143 : BitVec 32 := 1#32
  let arg21 : BitVec 32 := Scf.iv c0_i32_142 c1_i32_143 k0_t22
  let c16_i32_243 : BitVec 32 := 16#32
  let v384 : BitVec 32 := Scalar.muli arg21 c16_i32_243
  let v386 : Index := Scalar.indexCast v384
  ![0, v386.toNat]

def k0_chk17 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx17_inb : ∀ (i : grid0.Coords) (k0_t20 : Fin (k0_t20_loop i).trips) (v387 : IVec S16 32) (k0_hw17 : k0_chk17 i k0_t20 v387), ∀ (k0_h1 : k0_cond1 i = 1#1), ∀ a x, ((![v387] : Fin 1 → IVec S16 32) a x).toNat < S100096.size a := fun i k0_t20 v387 k0_hw17 k0_h1 => k0_hw17 k0_h1
def k0_off73 (k0_t22 : Fin k0_t22_loop.trips) : Fin 2 → Nat :=
  let c0_i32_246 : BitVec 32 := 0#32
  let v390 : Index := Scalar.indexCast c0_i32_246
  let c0_i32_142 : BitVec 32 := 0#32
  let c1_i32_143 : BitVec 32 := 1#32
  let arg21 : BitVec 32 := Scf.iv c0_i32_142 c1_i32_143 k0_t22
  let c16_i32_245 : BitVec 32 := 16#32
  let v389 : BitVec 32 := Scalar.muli arg21 c16_i32_245
  let v391 : Index := Scalar.indexCast v389
  ![0, v391.toNat]
def k0_off74 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c0_i32_147 : BitVec 32 := 0#32
  ![arg20.toNat, 0]
def k0_cond11 (i : grid0.Coords) (k0_t20 : Fin (k0_t20_loop i).trips) (k0_t21 : Fin (k0_t21_loop i k0_t20).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let v280 : BitVec 1 := Scalar.cmpi .sgt arg20 v12
  let v281 : BitVec 32 := Scalar.extui v280
  let c0_i32_150 : BitVec 32 := 0#32
  let v282 : BitVec 1 := Scalar.cmpi .ne v281 c0_i32_150
  v282

def k0_off75 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c0_i32_245 : BitVec 32 := 0#32
  ![arg20.toNat, 0]
@[reducible] def k0_t23_loop : Scf.Loop 32 :=
  let c0_i32_152 : BitVec 32 := 0#32
  let c128_i32_153 : BitVec 32 := 128#32
  let v283 : BitVec 32 := Scalar.addi c0_i32_152 c128_i32_153
  let c1_i32_154 : BitVec 32 := 1#32
  ⟨c0_i32_152, v283, c1_i32_154⟩
def k0_off76 (k0_t23 : Fin k0_t23_loop.trips) : Fin 2 → Nat :=
  let c1_i32_244 : BitVec 32 := 1#32
  let v385 : Index := Scalar.indexCast c1_i32_244
  let c0_i32_152 : BitVec 32 := 0#32
  let c1_i32_154 : BitVec 32 := 1#32
  let arg21 : BitVec 32 := Scf.iv c0_i32_152 c1_i32_154 k0_t23
  let c16_i32_243 : BitVec 32 := 16#32
  let v384 : BitVec 32 := Scalar.muli arg21 c16_i32_243
  let v386 : Index := Scalar.indexCast v384
  ![1, v386.toNat]

def k0_chk18 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx18_inb : ∀ (i : grid0.Coords) (k0_t20 : Fin (k0_t20_loop i).trips) (v387 : IVec S16 32) (k0_hw18 : k0_chk18 i k0_t20 v387), ∀ (k0_h1 : k0_cond1 i = 1#1), ∀ a x, ((![v387] : Fin 1 → IVec S16 32) a x).toNat < S100096.size a := fun i k0_t20 v387 k0_hw18 k0_h1 => k0_hw18 k0_h1
def k0_off77 (k0_t23 : Fin k0_t23_loop.trips) : Fin 2 → Nat :=
  let c1_i32_246 : BitVec 32 := 1#32
  let v390 : Index := Scalar.indexCast c1_i32_246
  let c0_i32_152 : BitVec 32 := 0#32
  let c1_i32_154 : BitVec 32 := 1#32
  let arg21 : BitVec 32 := Scf.iv c0_i32_152 c1_i32_154 k0_t23
  let c16_i32_245 : BitVec 32 := 16#32
  let v389 : BitVec 32 := Scalar.muli arg21 c16_i32_245
  let v391 : Index := Scalar.indexCast v389
  ![1, v391.toNat]
def k0_off78 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c2048_i32_158 : BitVec 32 := 2048#32
  ![arg20.toNat, 2048]
def k0_cond12 (i : grid0.Coords) (k0_t20 : Fin (k0_t20_loop i).trips) (k0_t21 : Fin (k0_t21_loop i k0_t20).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let v292 : BitVec 1 := Scalar.cmpi .sgt arg20 v12
  let v293 : BitVec 32 := Scalar.extui v292
  let c0_i32_161 : BitVec 32 := 0#32
  let v294 : BitVec 1 := Scalar.cmpi .ne v293 c0_i32_161
  v294

def k0_off79 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c0_i32_245 : BitVec 32 := 0#32
  ![arg20.toNat, 0]
@[reducible] def k0_t24_loop : Scf.Loop 32 :=
  let c0_i32_163 : BitVec 32 := 0#32
  let c128_i32_164 : BitVec 32 := 128#32
  let v295 : BitVec 32 := Scalar.addi c0_i32_163 c128_i32_164
  let c1_i32_165 : BitVec 32 := 1#32
  ⟨c0_i32_163, v295, c1_i32_165⟩
def k0_off80 (k0_t24 : Fin k0_t24_loop.trips) : Fin 2 → Nat :=
  let c2_i32_244 : BitVec 32 := 2#32
  let v385 : Index := Scalar.indexCast c2_i32_244
  let c0_i32_163 : BitVec 32 := 0#32
  let c1_i32_165 : BitVec 32 := 1#32
  let arg21 : BitVec 32 := Scf.iv c0_i32_163 c1_i32_165 k0_t24
  let c16_i32_243 : BitVec 32 := 16#32
  let v384 : BitVec 32 := Scalar.muli arg21 c16_i32_243
  let v386 : Index := Scalar.indexCast v384
  ![2, v386.toNat]

def k0_chk19 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx19_inb : ∀ (i : grid0.Coords) (k0_t20 : Fin (k0_t20_loop i).trips) (v387 : IVec S16 32) (k0_hw19 : k0_chk19 i k0_t20 v387), ∀ (k0_h1 : k0_cond1 i = 1#1), ∀ a x, ((![v387] : Fin 1 → IVec S16 32) a x).toNat < S100096.size a := fun i k0_t20 v387 k0_hw19 k0_h1 => k0_hw19 k0_h1
def k0_off81 (k0_t24 : Fin k0_t24_loop.trips) : Fin 2 → Nat :=
  let c2_i32_246 : BitVec 32 := 2#32
  let v390 : Index := Scalar.indexCast c2_i32_246
  let c0_i32_163 : BitVec 32 := 0#32
  let c1_i32_165 : BitVec 32 := 1#32
  let arg21 : BitVec 32 := Scf.iv c0_i32_163 c1_i32_165 k0_t24
  let c16_i32_245 : BitVec 32 := 16#32
  let v389 : BitVec 32 := Scalar.muli arg21 c16_i32_245
  let v391 : Index := Scalar.indexCast v389
  ![2, v391.toNat]
def k0_off82 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c4096_i32_169 : BitVec 32 := 4096#32
  ![arg20.toNat, 4096]
def k0_cond13 (i : grid0.Coords) (k0_t20 : Fin (k0_t20_loop i).trips) (k0_t21 : Fin (k0_t21_loop i k0_t20).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let v304 : BitVec 1 := Scalar.cmpi .sgt arg20 v12
  let v305 : BitVec 32 := Scalar.extui v304
  let c0_i32_172 : BitVec 32 := 0#32
  let v306 : BitVec 1 := Scalar.cmpi .ne v305 c0_i32_172
  v306

def k0_off83 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c0_i32_245 : BitVec 32 := 0#32
  ![arg20.toNat, 0]
@[reducible] def k0_t25_loop : Scf.Loop 32 :=
  let c0_i32_174 : BitVec 32 := 0#32
  let c128_i32_175 : BitVec 32 := 128#32
  let v307 : BitVec 32 := Scalar.addi c0_i32_174 c128_i32_175
  let c1_i32_176 : BitVec 32 := 1#32
  ⟨c0_i32_174, v307, c1_i32_176⟩
def k0_off84 (k0_t25 : Fin k0_t25_loop.trips) : Fin 2 → Nat :=
  let c3_i32_244 : BitVec 32 := 3#32
  let v385 : Index := Scalar.indexCast c3_i32_244
  let c0_i32_174 : BitVec 32 := 0#32
  let c1_i32_176 : BitVec 32 := 1#32
  let arg21 : BitVec 32 := Scf.iv c0_i32_174 c1_i32_176 k0_t25
  let c16_i32_243 : BitVec 32 := 16#32
  let v384 : BitVec 32 := Scalar.muli arg21 c16_i32_243
  let v386 : Index := Scalar.indexCast v384
  ![3, v386.toNat]

def k0_chk20 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx20_inb : ∀ (i : grid0.Coords) (k0_t20 : Fin (k0_t20_loop i).trips) (v387 : IVec S16 32) (k0_hw20 : k0_chk20 i k0_t20 v387), ∀ (k0_h1 : k0_cond1 i = 1#1), ∀ a x, ((![v387] : Fin 1 → IVec S16 32) a x).toNat < S100096.size a := fun i k0_t20 v387 k0_hw20 k0_h1 => k0_hw20 k0_h1
def k0_off85 (k0_t25 : Fin k0_t25_loop.trips) : Fin 2 → Nat :=
  let c3_i32_246 : BitVec 32 := 3#32
  let v390 : Index := Scalar.indexCast c3_i32_246
  let c0_i32_174 : BitVec 32 := 0#32
  let c1_i32_176 : BitVec 32 := 1#32
  let arg21 : BitVec 32 := Scf.iv c0_i32_174 c1_i32_176 k0_t25
  let c16_i32_245 : BitVec 32 := 16#32
  let v389 : BitVec 32 := Scalar.muli arg21 c16_i32_245
  let v391 : Index := Scalar.indexCast v389
  ![3, v391.toNat]
def k0_off86 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c6144_i32_180 : BitVec 32 := 6144#32
  ![arg20.toNat, 6144]
@[reducible] def k0_t26_loop : Scf.Loop 32 :=
  let c0_i32_189 : BitVec 32 := 0#32
  let c128_i32_190 : BitVec 32 := 128#32
  let v324 : BitVec 32 := Scalar.addi c0_i32_189 c128_i32_190
  let c1_i32_191 : BitVec 32 := 1#32
  ⟨c0_i32_189, v324, c1_i32_191⟩
def k0_off87 (k0_t26 : Fin k0_t26_loop.trips) : Fin 2 → Nat :=
  let c4_i32_244 : BitVec 32 := 4#32
  let v385 : Index := Scalar.indexCast c4_i32_244
  let c0_i32_189 : BitVec 32 := 0#32
  let c1_i32_191 : BitVec 32 := 1#32
  let arg21 : BitVec 32 := Scf.iv c0_i32_189 c1_i32_191 k0_t26
  let c16_i32_243 : BitVec 32 := 16#32
  let v384 : BitVec 32 := Scalar.muli arg21 c16_i32_243
  let v386 : Index := Scalar.indexCast v384
  ![4, v386.toNat]

def k0_chk21 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx21_inb : ∀ (i : grid0.Coords) (k0_t20 : Fin (k0_t20_loop i).trips) (v387 : IVec S16 32) (k0_hw21 : k0_chk21 i k0_t20 v387), ∀ (k0_h1 : k0_cond1 i = 1#1), ∀ a x, ((![v387] : Fin 1 → IVec S16 32) a x).toNat < S100096.size a := fun i k0_t20 v387 k0_hw21 k0_h1 => k0_hw21 k0_h1
def k0_off88 (k0_t26 : Fin k0_t26_loop.trips) : Fin 2 → Nat :=
  let c0_i32_246 : BitVec 32 := 0#32
  let v390 : Index := Scalar.indexCast c0_i32_246
  let c0_i32_189 : BitVec 32 := 0#32
  let c1_i32_191 : BitVec 32 := 1#32
  let arg21 : BitVec 32 := Scf.iv c0_i32_189 c1_i32_191 k0_t26
  let c16_i32_245 : BitVec 32 := 16#32
  let v389 : BitVec 32 := Scalar.muli arg21 c16_i32_245
  let v391 : Index := Scalar.indexCast v389
  ![0, v391.toNat]
def k0_off89 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c8192_i32_195 : BitVec 32 := 8192#32
  ![arg20.toNat, 8192]
@[reducible] def k0_t27_loop : Scf.Loop 32 :=
  let c0_i32_204 : BitVec 32 := 0#32
  let c128_i32_205 : BitVec 32 := 128#32
  let v341 : BitVec 32 := Scalar.addi c0_i32_204 c128_i32_205
  let c1_i32_206 : BitVec 32 := 1#32
  ⟨c0_i32_204, v341, c1_i32_206⟩
def k0_off90 (k0_t27 : Fin k0_t27_loop.trips) : Fin 2 → Nat :=
  let c5_i32_244 : BitVec 32 := 5#32
  let v385 : Index := Scalar.indexCast c5_i32_244
  let c0_i32_204 : BitVec 32 := 0#32
  let c1_i32_206 : BitVec 32 := 1#32
  let arg21 : BitVec 32 := Scf.iv c0_i32_204 c1_i32_206 k0_t27
  let c16_i32_243 : BitVec 32 := 16#32
  let v384 : BitVec 32 := Scalar.muli arg21 c16_i32_243
  let v386 : Index := Scalar.indexCast v384
  ![5, v386.toNat]

def k0_chk22 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx22_inb : ∀ (i : grid0.Coords) (k0_t20 : Fin (k0_t20_loop i).trips) (v387 : IVec S16 32) (k0_hw22 : k0_chk22 i k0_t20 v387), ∀ (k0_h1 : k0_cond1 i = 1#1), ∀ a x, ((![v387] : Fin 1 → IVec S16 32) a x).toNat < S100096.size a := fun i k0_t20 v387 k0_hw22 k0_h1 => k0_hw22 k0_h1
def k0_off91 (k0_t27 : Fin k0_t27_loop.trips) : Fin 2 → Nat :=
  let c1_i32_246 : BitVec 32 := 1#32
  let v390 : Index := Scalar.indexCast c1_i32_246
  let c0_i32_204 : BitVec 32 := 0#32
  let c1_i32_206 : BitVec 32 := 1#32
  let arg21 : BitVec 32 := Scf.iv c0_i32_204 c1_i32_206 k0_t27
  let c16_i32_245 : BitVec 32 := 16#32
  let v389 : BitVec 32 := Scalar.muli arg21 c16_i32_245
  let v391 : Index := Scalar.indexCast v389
  ![1, v391.toNat]
def k0_off92 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c10240_i32_210 : BitVec 32 := 10240#32
  ![arg20.toNat, 10240]
@[reducible] def k0_t28_loop : Scf.Loop 32 :=
  let c0_i32_219 : BitVec 32 := 0#32
  let c128_i32_220 : BitVec 32 := 128#32
  let v358 : BitVec 32 := Scalar.addi c0_i32_219 c128_i32_220
  let c1_i32_221 : BitVec 32 := 1#32
  ⟨c0_i32_219, v358, c1_i32_221⟩
def k0_off93 (k0_t28 : Fin k0_t28_loop.trips) : Fin 2 → Nat :=
  let c6_i32_244 : BitVec 32 := 6#32
  let v385 : Index := Scalar.indexCast c6_i32_244
  let c0_i32_219 : BitVec 32 := 0#32
  let c1_i32_221 : BitVec 32 := 1#32
  let arg21 : BitVec 32 := Scf.iv c0_i32_219 c1_i32_221 k0_t28
  let c16_i32_243 : BitVec 32 := 16#32
  let v384 : BitVec 32 := Scalar.muli arg21 c16_i32_243
  let v386 : Index := Scalar.indexCast v384
  ![6, v386.toNat]

def k0_chk23 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx23_inb : ∀ (i : grid0.Coords) (k0_t20 : Fin (k0_t20_loop i).trips) (v387 : IVec S16 32) (k0_hw23 : k0_chk23 i k0_t20 v387), ∀ (k0_h1 : k0_cond1 i = 1#1), ∀ a x, ((![v387] : Fin 1 → IVec S16 32) a x).toNat < S100096.size a := fun i k0_t20 v387 k0_hw23 k0_h1 => k0_hw23 k0_h1
def k0_off94 (k0_t28 : Fin k0_t28_loop.trips) : Fin 2 → Nat :=
  let c2_i32_246 : BitVec 32 := 2#32
  let v390 : Index := Scalar.indexCast c2_i32_246
  let c0_i32_219 : BitVec 32 := 0#32
  let c1_i32_221 : BitVec 32 := 1#32
  let arg21 : BitVec 32 := Scf.iv c0_i32_219 c1_i32_221 k0_t28
  let c16_i32_245 : BitVec 32 := 16#32
  let v389 : BitVec 32 := Scalar.muli arg21 c16_i32_245
  let v391 : Index := Scalar.indexCast v389
  ![2, v391.toNat]
def k0_off95 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c12288_i32_225 : BitVec 32 := 12288#32
  ![arg20.toNat, 12288]
@[reducible] def k0_t29_loop : Scf.Loop 32 :=
  let c0_i32_234 : BitVec 32 := 0#32
  let c128_i32_235 : BitVec 32 := 128#32
  let v375 : BitVec 32 := Scalar.addi c0_i32_234 c128_i32_235
  let c1_i32_236 : BitVec 32 := 1#32
  ⟨c0_i32_234, v375, c1_i32_236⟩
def k0_off96 (k0_t29 : Fin k0_t29_loop.trips) : Fin 2 → Nat :=
  let c7_i32_244 : BitVec 32 := 7#32
  let v385 : Index := Scalar.indexCast c7_i32_244
  let c0_i32_234 : BitVec 32 := 0#32
  let c1_i32_236 : BitVec 32 := 1#32
  let arg21 : BitVec 32 := Scf.iv c0_i32_234 c1_i32_236 k0_t29
  let c16_i32_243 : BitVec 32 := 16#32
  let v384 : BitVec 32 := Scalar.muli arg21 c16_i32_243
  let v386 : Index := Scalar.indexCast v384
  ![7, v386.toNat]

def k0_chk24 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx24_inb : ∀ (i : grid0.Coords) (k0_t20 : Fin (k0_t20_loop i).trips) (v387 : IVec S16 32) (k0_hw24 : k0_chk24 i k0_t20 v387), ∀ (k0_h1 : k0_cond1 i = 1#1), ∀ a x, ((![v387] : Fin 1 → IVec S16 32) a x).toNat < S100096.size a := fun i k0_t20 v387 k0_hw24 k0_h1 => k0_hw24 k0_h1
def k0_off97 (k0_t29 : Fin k0_t29_loop.trips) : Fin 2 → Nat :=
  let c3_i32_246 : BitVec 32 := 3#32
  let v390 : Index := Scalar.indexCast c3_i32_246
  let c0_i32_234 : BitVec 32 := 0#32
  let c1_i32_236 : BitVec 32 := 1#32
  let arg21 : BitVec 32 := Scf.iv c0_i32_234 c1_i32_236 k0_t29
  let c16_i32_245 : BitVec 32 := 16#32
  let v389 : BitVec 32 := Scalar.muli arg21 c16_i32_245
  let v391 : Index := Scalar.indexCast v389
  ![3, v391.toNat]
def k0_off98 (i : grid0.Coords) (k0_t20 : Fin (k0_t20_loop i).trips) (k0_t21 : Fin (k0_t21_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t21
  let c14336_i32_240 : BitVec 32 := 14336#32
  ![arg20.toNat, 14336]
@[reducible] def k0_t30_loop (i : grid0.Coords) (k0_t20 : Fin (k0_t20_loop i).trips) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let v216 : BitVec 32 := Scalar.addi v211 v215
  let c1_i32_110 : BitVec 32 := 1#32
  ⟨v219, v216, c1_i32_110⟩
def k0_off99 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c0_i32_112 : BitVec 32 := 0#32
  ![arg20.toNat, 0]
def k0_off100 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c33280_i32_115 : BitVec 32 := 33280#32
  ![arg20.toNat, 33280]
def k0_off101 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c66560_i32_118 : BitVec 32 := 66560#32
  ![arg20.toNat, 66560]
def k0_off102 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c0_i32_121 : BitVec 32 := 0#32
  ![arg20.toNat, 0]
def k0_cond14 (i : grid0.Coords) (k0_t20 : Fin (k0_t20_loop i).trips) (k0_t30 : Fin (k0_t30_loop i k0_t20).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let v268 : BitVec 1 := Scalar.cmpi .sgt arg20 v12
  let v269 : BitVec 32 := Scalar.extui v268
  let c0_i32_140 : BitVec 32 := 0#32
  let v270 : BitVec 1 := Scalar.cmpi .ne v269 c0_i32_140
  v270

def k0_off103 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c0_i32_245 : BitVec 32 := 0#32
  ![arg20.toNat, 0]
@[reducible] def k0_t31_loop : Scf.Loop 32 :=
  let c0_i32_142 : BitVec 32 := 0#32
  let c128_i32 : BitVec 32 := 128#32
  let v271 : BitVec 32 := Scalar.addi c0_i32_142 c128_i32
  let c1_i32_143 : BitVec 32 := 1#32
  ⟨c0_i32_142, v271, c1_i32_143⟩
def k0_off104 (k0_t31 : Fin k0_t31_loop.trips) : Fin 2 → Nat :=
  let c0_i32_244 : BitVec 32 := 0#32
  let v385 : Index := Scalar.indexCast c0_i32_244
  let c0_i32_142 : BitVec 32 := 0#32
  let c1_i32_143 : BitVec 32 := 1#32
  let arg21 : BitVec 32 := Scf.iv c0_i32_142 c1_i32_143 k0_t31
  let c16_i32_243 : BitVec 32 := 16#32
  let v384 : BitVec 32 := Scalar.muli arg21 c16_i32_243
  let v386 : Index := Scalar.indexCast v384
  ![0, v386.toNat]

def k0_chk25 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx25_inb : ∀ (i : grid0.Coords) (k0_t20 : Fin (k0_t20_loop i).trips) (v387 : IVec S16 32) (k0_hw25 : k0_chk25 i k0_t20 v387), ∀ (k0_h1 : k0_cond1 i = 1#1), ∀ a x, ((![v387] : Fin 1 → IVec S16 32) a x).toNat < S100096.size a := fun i k0_t20 v387 k0_hw25 k0_h1 => k0_hw25 k0_h1
def k0_off105 (k0_t31 : Fin k0_t31_loop.trips) : Fin 2 → Nat :=
  let c0_i32_246 : BitVec 32 := 0#32
  let v390 : Index := Scalar.indexCast c0_i32_246
  let c0_i32_142 : BitVec 32 := 0#32
  let c1_i32_143 : BitVec 32 := 1#32
  let arg21 : BitVec 32 := Scf.iv c0_i32_142 c1_i32_143 k0_t31
  let c16_i32_245 : BitVec 32 := 16#32
  let v389 : BitVec 32 := Scalar.muli arg21 c16_i32_245
  let v391 : Index := Scalar.indexCast v389
  ![0, v391.toNat]
def k0_off106 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c0_i32_147 : BitVec 32 := 0#32
  ![arg20.toNat, 0]
def k0_cond15 (i : grid0.Coords) (k0_t20 : Fin (k0_t20_loop i).trips) (k0_t30 : Fin (k0_t30_loop i k0_t20).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let v280 : BitVec 1 := Scalar.cmpi .sgt arg20 v12
  let v281 : BitVec 32 := Scalar.extui v280
  let c0_i32_150 : BitVec 32 := 0#32
  let v282 : BitVec 1 := Scalar.cmpi .ne v281 c0_i32_150
  v282

def k0_off107 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c0_i32_245 : BitVec 32 := 0#32
  ![arg20.toNat, 0]
@[reducible] def k0_t32_loop : Scf.Loop 32 :=
  let c0_i32_152 : BitVec 32 := 0#32
  let c128_i32_153 : BitVec 32 := 128#32
  let v283 : BitVec 32 := Scalar.addi c0_i32_152 c128_i32_153
  let c1_i32_154 : BitVec 32 := 1#32
  ⟨c0_i32_152, v283, c1_i32_154⟩
def k0_off108 (k0_t32 : Fin k0_t32_loop.trips) : Fin 2 → Nat :=
  let c1_i32_244 : BitVec 32 := 1#32
  let v385 : Index := Scalar.indexCast c1_i32_244
  let c0_i32_152 : BitVec 32 := 0#32
  let c1_i32_154 : BitVec 32 := 1#32
  let arg21 : BitVec 32 := Scf.iv c0_i32_152 c1_i32_154 k0_t32
  let c16_i32_243 : BitVec 32 := 16#32
  let v384 : BitVec 32 := Scalar.muli arg21 c16_i32_243
  let v386 : Index := Scalar.indexCast v384
  ![1, v386.toNat]

def k0_chk26 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx26_inb : ∀ (i : grid0.Coords) (k0_t20 : Fin (k0_t20_loop i).trips) (v387 : IVec S16 32) (k0_hw26 : k0_chk26 i k0_t20 v387), ∀ (k0_h1 : k0_cond1 i = 1#1), ∀ a x, ((![v387] : Fin 1 → IVec S16 32) a x).toNat < S100096.size a := fun i k0_t20 v387 k0_hw26 k0_h1 => k0_hw26 k0_h1
def k0_off109 (k0_t32 : Fin k0_t32_loop.trips) : Fin 2 → Nat :=
  let c1_i32_246 : BitVec 32 := 1#32
  let v390 : Index := Scalar.indexCast c1_i32_246
  let c0_i32_152 : BitVec 32 := 0#32
  let c1_i32_154 : BitVec 32 := 1#32
  let arg21 : BitVec 32 := Scf.iv c0_i32_152 c1_i32_154 k0_t32
  let c16_i32_245 : BitVec 32 := 16#32
  let v389 : BitVec 32 := Scalar.muli arg21 c16_i32_245
  let v391 : Index := Scalar.indexCast v389
  ![1, v391.toNat]
def k0_off110 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c2048_i32_158 : BitVec 32 := 2048#32
  ![arg20.toNat, 2048]
def k0_cond16 (i : grid0.Coords) (k0_t20 : Fin (k0_t20_loop i).trips) (k0_t30 : Fin (k0_t30_loop i k0_t20).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let v292 : BitVec 1 := Scalar.cmpi .sgt arg20 v12
  let v293 : BitVec 32 := Scalar.extui v292
  let c0_i32_161 : BitVec 32 := 0#32
  let v294 : BitVec 1 := Scalar.cmpi .ne v293 c0_i32_161
  v294

def k0_off111 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c0_i32_245 : BitVec 32 := 0#32
  ![arg20.toNat, 0]
@[reducible] def k0_t33_loop : Scf.Loop 32 :=
  let c0_i32_163 : BitVec 32 := 0#32
  let c128_i32_164 : BitVec 32 := 128#32
  let v295 : BitVec 32 := Scalar.addi c0_i32_163 c128_i32_164
  let c1_i32_165 : BitVec 32 := 1#32
  ⟨c0_i32_163, v295, c1_i32_165⟩
def k0_off112 (k0_t33 : Fin k0_t33_loop.trips) : Fin 2 → Nat :=
  let c2_i32_244 : BitVec 32 := 2#32
  let v385 : Index := Scalar.indexCast c2_i32_244
  let c0_i32_163 : BitVec 32 := 0#32
  let c1_i32_165 : BitVec 32 := 1#32
  let arg21 : BitVec 32 := Scf.iv c0_i32_163 c1_i32_165 k0_t33
  let c16_i32_243 : BitVec 32 := 16#32
  let v384 : BitVec 32 := Scalar.muli arg21 c16_i32_243
  let v386 : Index := Scalar.indexCast v384
  ![2, v386.toNat]

def k0_chk27 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx27_inb : ∀ (i : grid0.Coords) (k0_t20 : Fin (k0_t20_loop i).trips) (v387 : IVec S16 32) (k0_hw27 : k0_chk27 i k0_t20 v387), ∀ (k0_h1 : k0_cond1 i = 1#1), ∀ a x, ((![v387] : Fin 1 → IVec S16 32) a x).toNat < S100096.size a := fun i k0_t20 v387 k0_hw27 k0_h1 => k0_hw27 k0_h1
def k0_off113 (k0_t33 : Fin k0_t33_loop.trips) : Fin 2 → Nat :=
  let c2_i32_246 : BitVec 32 := 2#32
  let v390 : Index := Scalar.indexCast c2_i32_246
  let c0_i32_163 : BitVec 32 := 0#32
  let c1_i32_165 : BitVec 32 := 1#32
  let arg21 : BitVec 32 := Scf.iv c0_i32_163 c1_i32_165 k0_t33
  let c16_i32_245 : BitVec 32 := 16#32
  let v389 : BitVec 32 := Scalar.muli arg21 c16_i32_245
  let v391 : Index := Scalar.indexCast v389
  ![2, v391.toNat]
def k0_off114 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c4096_i32_169 : BitVec 32 := 4096#32
  ![arg20.toNat, 4096]
def k0_cond17 (i : grid0.Coords) (k0_t20 : Fin (k0_t20_loop i).trips) (k0_t30 : Fin (k0_t30_loop i k0_t20).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let v304 : BitVec 1 := Scalar.cmpi .sgt arg20 v12
  let v305 : BitVec 32 := Scalar.extui v304
  let c0_i32_172 : BitVec 32 := 0#32
  let v306 : BitVec 1 := Scalar.cmpi .ne v305 c0_i32_172
  v306

def k0_off115 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c0_i32_245 : BitVec 32 := 0#32
  ![arg20.toNat, 0]
@[reducible] def k0_t34_loop : Scf.Loop 32 :=
  let c0_i32_174 : BitVec 32 := 0#32
  let c128_i32_175 : BitVec 32 := 128#32
  let v307 : BitVec 32 := Scalar.addi c0_i32_174 c128_i32_175
  let c1_i32_176 : BitVec 32 := 1#32
  ⟨c0_i32_174, v307, c1_i32_176⟩
def k0_off116 (k0_t34 : Fin k0_t34_loop.trips) : Fin 2 → Nat :=
  let c3_i32_244 : BitVec 32 := 3#32
  let v385 : Index := Scalar.indexCast c3_i32_244
  let c0_i32_174 : BitVec 32 := 0#32
  let c1_i32_176 : BitVec 32 := 1#32
  let arg21 : BitVec 32 := Scf.iv c0_i32_174 c1_i32_176 k0_t34
  let c16_i32_243 : BitVec 32 := 16#32
  let v384 : BitVec 32 := Scalar.muli arg21 c16_i32_243
  let v386 : Index := Scalar.indexCast v384
  ![3, v386.toNat]

def k0_chk28 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx28_inb : ∀ (i : grid0.Coords) (k0_t20 : Fin (k0_t20_loop i).trips) (v387 : IVec S16 32) (k0_hw28 : k0_chk28 i k0_t20 v387), ∀ (k0_h1 : k0_cond1 i = 1#1), ∀ a x, ((![v387] : Fin 1 → IVec S16 32) a x).toNat < S100096.size a := fun i k0_t20 v387 k0_hw28 k0_h1 => k0_hw28 k0_h1
def k0_off117 (k0_t34 : Fin k0_t34_loop.trips) : Fin 2 → Nat :=
  let c3_i32_246 : BitVec 32 := 3#32
  let v390 : Index := Scalar.indexCast c3_i32_246
  let c0_i32_174 : BitVec 32 := 0#32
  let c1_i32_176 : BitVec 32 := 1#32
  let arg21 : BitVec 32 := Scf.iv c0_i32_174 c1_i32_176 k0_t34
  let c16_i32_245 : BitVec 32 := 16#32
  let v389 : BitVec 32 := Scalar.muli arg21 c16_i32_245
  let v391 : Index := Scalar.indexCast v389
  ![3, v391.toNat]
def k0_off118 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c6144_i32_180 : BitVec 32 := 6144#32
  ![arg20.toNat, 6144]
@[reducible] def k0_t35_loop : Scf.Loop 32 :=
  let c0_i32_189 : BitVec 32 := 0#32
  let c128_i32_190 : BitVec 32 := 128#32
  let v324 : BitVec 32 := Scalar.addi c0_i32_189 c128_i32_190
  let c1_i32_191 : BitVec 32 := 1#32
  ⟨c0_i32_189, v324, c1_i32_191⟩
def k0_off119 (k0_t35 : Fin k0_t35_loop.trips) : Fin 2 → Nat :=
  let c4_i32_244 : BitVec 32 := 4#32
  let v385 : Index := Scalar.indexCast c4_i32_244
  let c0_i32_189 : BitVec 32 := 0#32
  let c1_i32_191 : BitVec 32 := 1#32
  let arg21 : BitVec 32 := Scf.iv c0_i32_189 c1_i32_191 k0_t35
  let c16_i32_243 : BitVec 32 := 16#32
  let v384 : BitVec 32 := Scalar.muli arg21 c16_i32_243
  let v386 : Index := Scalar.indexCast v384
  ![4, v386.toNat]

def k0_chk29 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx29_inb : ∀ (i : grid0.Coords) (k0_t20 : Fin (k0_t20_loop i).trips) (v387 : IVec S16 32) (k0_hw29 : k0_chk29 i k0_t20 v387), ∀ (k0_h1 : k0_cond1 i = 1#1), ∀ a x, ((![v387] : Fin 1 → IVec S16 32) a x).toNat < S100096.size a := fun i k0_t20 v387 k0_hw29 k0_h1 => k0_hw29 k0_h1
def k0_off120 (k0_t35 : Fin k0_t35_loop.trips) : Fin 2 → Nat :=
  let c0_i32_246 : BitVec 32 := 0#32
  let v390 : Index := Scalar.indexCast c0_i32_246
  let c0_i32_189 : BitVec 32 := 0#32
  let c1_i32_191 : BitVec 32 := 1#32
  let arg21 : BitVec 32 := Scf.iv c0_i32_189 c1_i32_191 k0_t35
  let c16_i32_245 : BitVec 32 := 16#32
  let v389 : BitVec 32 := Scalar.muli arg21 c16_i32_245
  let v391 : Index := Scalar.indexCast v389
  ![0, v391.toNat]
def k0_off121 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c8192_i32_195 : BitVec 32 := 8192#32
  ![arg20.toNat, 8192]
@[reducible] def k0_t36_loop : Scf.Loop 32 :=
  let c0_i32_204 : BitVec 32 := 0#32
  let c128_i32_205 : BitVec 32 := 128#32
  let v341 : BitVec 32 := Scalar.addi c0_i32_204 c128_i32_205
  let c1_i32_206 : BitVec 32 := 1#32
  ⟨c0_i32_204, v341, c1_i32_206⟩
def k0_off122 (k0_t36 : Fin k0_t36_loop.trips) : Fin 2 → Nat :=
  let c5_i32_244 : BitVec 32 := 5#32
  let v385 : Index := Scalar.indexCast c5_i32_244
  let c0_i32_204 : BitVec 32 := 0#32
  let c1_i32_206 : BitVec 32 := 1#32
  let arg21 : BitVec 32 := Scf.iv c0_i32_204 c1_i32_206 k0_t36
  let c16_i32_243 : BitVec 32 := 16#32
  let v384 : BitVec 32 := Scalar.muli arg21 c16_i32_243
  let v386 : Index := Scalar.indexCast v384
  ![5, v386.toNat]

def k0_chk30 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx30_inb : ∀ (i : grid0.Coords) (k0_t20 : Fin (k0_t20_loop i).trips) (v387 : IVec S16 32) (k0_hw30 : k0_chk30 i k0_t20 v387), ∀ (k0_h1 : k0_cond1 i = 1#1), ∀ a x, ((![v387] : Fin 1 → IVec S16 32) a x).toNat < S100096.size a := fun i k0_t20 v387 k0_hw30 k0_h1 => k0_hw30 k0_h1
def k0_off123 (k0_t36 : Fin k0_t36_loop.trips) : Fin 2 → Nat :=
  let c1_i32_246 : BitVec 32 := 1#32
  let v390 : Index := Scalar.indexCast c1_i32_246
  let c0_i32_204 : BitVec 32 := 0#32
  let c1_i32_206 : BitVec 32 := 1#32
  let arg21 : BitVec 32 := Scf.iv c0_i32_204 c1_i32_206 k0_t36
  let c16_i32_245 : BitVec 32 := 16#32
  let v389 : BitVec 32 := Scalar.muli arg21 c16_i32_245
  let v391 : Index := Scalar.indexCast v389
  ![1, v391.toNat]
def k0_off124 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c10240_i32_210 : BitVec 32 := 10240#32
  ![arg20.toNat, 10240]
@[reducible] def k0_t37_loop : Scf.Loop 32 :=
  let c0_i32_219 : BitVec 32 := 0#32
  let c128_i32_220 : BitVec 32 := 128#32
  let v358 : BitVec 32 := Scalar.addi c0_i32_219 c128_i32_220
  let c1_i32_221 : BitVec 32 := 1#32
  ⟨c0_i32_219, v358, c1_i32_221⟩
def k0_off125 (k0_t37 : Fin k0_t37_loop.trips) : Fin 2 → Nat :=
  let c6_i32_244 : BitVec 32 := 6#32
  let v385 : Index := Scalar.indexCast c6_i32_244
  let c0_i32_219 : BitVec 32 := 0#32
  let c1_i32_221 : BitVec 32 := 1#32
  let arg21 : BitVec 32 := Scf.iv c0_i32_219 c1_i32_221 k0_t37
  let c16_i32_243 : BitVec 32 := 16#32
  let v384 : BitVec 32 := Scalar.muli arg21 c16_i32_243
  let v386 : Index := Scalar.indexCast v384
  ![6, v386.toNat]

def k0_chk31 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx31_inb : ∀ (i : grid0.Coords) (k0_t20 : Fin (k0_t20_loop i).trips) (v387 : IVec S16 32) (k0_hw31 : k0_chk31 i k0_t20 v387), ∀ (k0_h1 : k0_cond1 i = 1#1), ∀ a x, ((![v387] : Fin 1 → IVec S16 32) a x).toNat < S100096.size a := fun i k0_t20 v387 k0_hw31 k0_h1 => k0_hw31 k0_h1
def k0_off126 (k0_t37 : Fin k0_t37_loop.trips) : Fin 2 → Nat :=
  let c2_i32_246 : BitVec 32 := 2#32
  let v390 : Index := Scalar.indexCast c2_i32_246
  let c0_i32_219 : BitVec 32 := 0#32
  let c1_i32_221 : BitVec 32 := 1#32
  let arg21 : BitVec 32 := Scf.iv c0_i32_219 c1_i32_221 k0_t37
  let c16_i32_245 : BitVec 32 := 16#32
  let v389 : BitVec 32 := Scalar.muli arg21 c16_i32_245
  let v391 : Index := Scalar.indexCast v389
  ![2, v391.toNat]
def k0_off127 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c12288_i32_225 : BitVec 32 := 12288#32
  ![arg20.toNat, 12288]
@[reducible] def k0_t38_loop : Scf.Loop 32 :=
  let c0_i32_234 : BitVec 32 := 0#32
  let c128_i32_235 : BitVec 32 := 128#32
  let v375 : BitVec 32 := Scalar.addi c0_i32_234 c128_i32_235
  let c1_i32_236 : BitVec 32 := 1#32
  ⟨c0_i32_234, v375, c1_i32_236⟩
def k0_off128 (k0_t38 : Fin k0_t38_loop.trips) : Fin 2 → Nat :=
  let c7_i32_244 : BitVec 32 := 7#32
  let v385 : Index := Scalar.indexCast c7_i32_244
  let c0_i32_234 : BitVec 32 := 0#32
  let c1_i32_236 : BitVec 32 := 1#32
  let arg21 : BitVec 32 := Scf.iv c0_i32_234 c1_i32_236 k0_t38
  let c16_i32_243 : BitVec 32 := 16#32
  let v384 : BitVec 32 := Scalar.muli arg21 c16_i32_243
  let v386 : Index := Scalar.indexCast v384
  ![7, v386.toNat]

def k0_chk32 (i : grid0.Coords) (k0_t20 : Fin (k0_t20_loop i).trips) (v387 : IVec S16 32) : Prop :=
  (∀ (k0_h1 : k0_cond1 i = 1#1), ∀ a x, ((![v387] : Fin 1 → IVec S16 32) a x).toNat < S100096.size a)
theorem k0_idx32_inb : ∀ (i : grid0.Coords) (k0_t20 : Fin (k0_t20_loop i).trips) (v387 : IVec S16 32) (k0_hw32 : k0_chk32 i k0_t20 v387), ∀ (k0_h1 : k0_cond1 i = 1#1), ∀ a x, ((![v387] : Fin 1 → IVec S16 32) a x).toNat < S100096.size a := fun i k0_t20 v387 k0_hw32 k0_h1 => k0_hw32 k0_h1
def k0_off129 (k0_t38 : Fin k0_t38_loop.trips) : Fin 2 → Nat :=
  let c3_i32_246 : BitVec 32 := 3#32
  let v390 : Index := Scalar.indexCast c3_i32_246
  let c0_i32_234 : BitVec 32 := 0#32
  let c1_i32_236 : BitVec 32 := 1#32
  let arg21 : BitVec 32 := Scf.iv c0_i32_234 c1_i32_236 k0_t38
  let c16_i32_245 : BitVec 32 := 16#32
  let v389 : BitVec 32 := Scalar.muli arg21 c16_i32_245
  let v391 : Index := Scalar.indexCast v389
  ![3, v391.toNat]
def k0_off130 (i : grid0.Coords) (k0_t20 : Fin (k0_t20_loop i).trips) (k0_t30 : Fin (k0_t30_loop i k0_t20).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t20
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t30
  let c14336_i32_240 : BitVec 32 := 14336#32
  ![arg20.toNat, 14336]
def k0_off131 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_3 : BitVec 32 := 1#32
  let v13 : BitVec 32 := Scalar.addi v11 c1_i32_3
  let c22_i32_4 : BitVec 32 := 22#32
  let v14 : BitVec 32 := Scalar.muli v13 c22_i32_4
  let c1_i32_29 : BitVec 32 := 1#32
  let v62 : BitVec 32 := Scalar.subi v14 c1_i32_29
  let c0_i32_32 : BitVec 32 := 0#32
  ![v62.toNat, 0]
def k0_cond18 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_7 : BitVec 32 := 16#32
  let v18 : BitVec 1 := Scalar.cmpi .sge v1 c16_i32_7
  let v19 : BitVec 32 := Scalar.extui v18
  let c0_i32_8 : BitVec 32 := 0#32
  let v20 : BitVec 1 := Scalar.cmpi .ne v19 c0_i32_8
  v20

@[reducible] def k0_t39_loop (i : grid0.Coords) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_27 : BitVec 32 := 1#32
  ⟨v37, v61, c1_i32_27⟩
def k0_off132 (i : grid0.Coords) (k0_t39 : Fin (k0_t39_loop i).trips) (c0_i32_52 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16384_i32 : BitVec 32 := 16384#32
  let v98 : BitVec 32 := Scalar.muli arg19 c16384_i32
  let v99 : BitVec 32 := Scalar.addi v98 c0_i32_52
  ![v99.toNat]
@[reducible] def k0_t40_loop (i : grid0.Coords) (k0_t39 : Fin (k0_t39_loop i).trips) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_109 : BitVec 32 := 1#32
  ⟨v211, v219, c1_i32_109⟩
def k0_off133 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c0_i32_112 : BitVec 32 := 0#32
  ![arg20.toNat, 0]
def k0_off134 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c33280_i32_115 : BitVec 32 := 33280#32
  ![arg20.toNat, 33280]
def k0_off135 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c66560_i32_118 : BitVec 32 := 66560#32
  ![arg20.toNat, 66560]
def k0_off136 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c0_i32_121 : BitVec 32 := 0#32
  ![arg20.toNat, 0]
def k0_cond19 (i : grid0.Coords) (k0_t39 : Fin (k0_t39_loop i).trips) (k0_t40 : Fin (k0_t40_loop i k0_t39).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let v268 : BitVec 1 := Scalar.cmpi .sgt arg20 v12
  let v269 : BitVec 32 := Scalar.extui v268
  let c0_i32_140 : BitVec 32 := 0#32
  let v270 : BitVec 1 := Scalar.cmpi .ne v269 c0_i32_140
  v270

def k0_off137 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c0_i32_245 : BitVec 32 := 0#32
  ![arg20.toNat, 0]
@[reducible] def k0_t41_loop : Scf.Loop 32 :=
  let c0_i32_142 : BitVec 32 := 0#32
  let c128_i32 : BitVec 32 := 128#32
  let v271 : BitVec 32 := Scalar.addi c0_i32_142 c128_i32
  let c1_i32_143 : BitVec 32 := 1#32
  ⟨c0_i32_142, v271, c1_i32_143⟩
def k0_off138 (k0_t41 : Fin k0_t41_loop.trips) : Fin 2 → Nat :=
  let c0_i32_244 : BitVec 32 := 0#32
  let v385 : Index := Scalar.indexCast c0_i32_244
  let c0_i32_142 : BitVec 32 := 0#32
  let c1_i32_143 : BitVec 32 := 1#32
  let arg21 : BitVec 32 := Scf.iv c0_i32_142 c1_i32_143 k0_t41
  let c16_i32_243 : BitVec 32 := 16#32
  let v384 : BitVec 32 := Scalar.muli arg21 c16_i32_243
  let v386 : Index := Scalar.indexCast v384
  ![0, v386.toNat]

def k0_chk33 (i : grid0.Coords) (v387 : IVec S16 32) : Prop :=
  (∀ (k0_h18 : k0_cond18 i = 1#1), ∀ a x, ((![v387] : Fin 1 → IVec S16 32) a x).toNat < S100096.size a)
theorem k0_idx33_inb : ∀ (i : grid0.Coords) (v387 : IVec S16 32) (k0_hw33 : k0_chk33 i v387), ∀ (k0_h18 : k0_cond18 i = 1#1), ∀ a x, ((![v387] : Fin 1 → IVec S16 32) a x).toNat < S100096.size a := fun i v387 k0_hw33 k0_h18 => k0_hw33 k0_h18
def k0_off139 (k0_t41 : Fin k0_t41_loop.trips) : Fin 2 → Nat :=
  let c0_i32_246 : BitVec 32 := 0#32
  let v390 : Index := Scalar.indexCast c0_i32_246
  let c0_i32_142 : BitVec 32 := 0#32
  let c1_i32_143 : BitVec 32 := 1#32
  let arg21 : BitVec 32 := Scf.iv c0_i32_142 c1_i32_143 k0_t41
  let c16_i32_245 : BitVec 32 := 16#32
  let v389 : BitVec 32 := Scalar.muli arg21 c16_i32_245
  let v391 : Index := Scalar.indexCast v389
  ![0, v391.toNat]
def k0_off140 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c0_i32_147 : BitVec 32 := 0#32
  ![arg20.toNat, 0]
def k0_cond20 (i : grid0.Coords) (k0_t39 : Fin (k0_t39_loop i).trips) (k0_t40 : Fin (k0_t40_loop i k0_t39).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let v280 : BitVec 1 := Scalar.cmpi .sgt arg20 v12
  let v281 : BitVec 32 := Scalar.extui v280
  let c0_i32_150 : BitVec 32 := 0#32
  let v282 : BitVec 1 := Scalar.cmpi .ne v281 c0_i32_150
  v282

def k0_off141 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c0_i32_245 : BitVec 32 := 0#32
  ![arg20.toNat, 0]
@[reducible] def k0_t42_loop : Scf.Loop 32 :=
  let c0_i32_152 : BitVec 32 := 0#32
  let c128_i32_153 : BitVec 32 := 128#32
  let v283 : BitVec 32 := Scalar.addi c0_i32_152 c128_i32_153
  let c1_i32_154 : BitVec 32 := 1#32
  ⟨c0_i32_152, v283, c1_i32_154⟩
def k0_off142 (k0_t42 : Fin k0_t42_loop.trips) : Fin 2 → Nat :=
  let c1_i32_244 : BitVec 32 := 1#32
  let v385 : Index := Scalar.indexCast c1_i32_244
  let c0_i32_152 : BitVec 32 := 0#32
  let c1_i32_154 : BitVec 32 := 1#32
  let arg21 : BitVec 32 := Scf.iv c0_i32_152 c1_i32_154 k0_t42
  let c16_i32_243 : BitVec 32 := 16#32
  let v384 : BitVec 32 := Scalar.muli arg21 c16_i32_243
  let v386 : Index := Scalar.indexCast v384
  ![1, v386.toNat]

def k0_chk34 (i : grid0.Coords) (v387 : IVec S16 32) : Prop :=
  (∀ (k0_h18 : k0_cond18 i = 1#1), ∀ a x, ((![v387] : Fin 1 → IVec S16 32) a x).toNat < S100096.size a)
theorem k0_idx34_inb : ∀ (i : grid0.Coords) (v387 : IVec S16 32) (k0_hw34 : k0_chk34 i v387), ∀ (k0_h18 : k0_cond18 i = 1#1), ∀ a x, ((![v387] : Fin 1 → IVec S16 32) a x).toNat < S100096.size a := fun i v387 k0_hw34 k0_h18 => k0_hw34 k0_h18
def k0_off143 (k0_t42 : Fin k0_t42_loop.trips) : Fin 2 → Nat :=
  let c1_i32_246 : BitVec 32 := 1#32
  let v390 : Index := Scalar.indexCast c1_i32_246
  let c0_i32_152 : BitVec 32 := 0#32
  let c1_i32_154 : BitVec 32 := 1#32
  let arg21 : BitVec 32 := Scf.iv c0_i32_152 c1_i32_154 k0_t42
  let c16_i32_245 : BitVec 32 := 16#32
  let v389 : BitVec 32 := Scalar.muli arg21 c16_i32_245
  let v391 : Index := Scalar.indexCast v389
  ![1, v391.toNat]
def k0_off144 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c2048_i32_158 : BitVec 32 := 2048#32
  ![arg20.toNat, 2048]
def k0_cond21 (i : grid0.Coords) (k0_t39 : Fin (k0_t39_loop i).trips) (k0_t40 : Fin (k0_t40_loop i k0_t39).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let v292 : BitVec 1 := Scalar.cmpi .sgt arg20 v12
  let v293 : BitVec 32 := Scalar.extui v292
  let c0_i32_161 : BitVec 32 := 0#32
  let v294 : BitVec 1 := Scalar.cmpi .ne v293 c0_i32_161
  v294

def k0_off145 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c0_i32_245 : BitVec 32 := 0#32
  ![arg20.toNat, 0]
@[reducible] def k0_t43_loop : Scf.Loop 32 :=
  let c0_i32_163 : BitVec 32 := 0#32
  let c128_i32_164 : BitVec 32 := 128#32
  let v295 : BitVec 32 := Scalar.addi c0_i32_163 c128_i32_164
  let c1_i32_165 : BitVec 32 := 1#32
  ⟨c0_i32_163, v295, c1_i32_165⟩
def k0_off146 (k0_t43 : Fin k0_t43_loop.trips) : Fin 2 → Nat :=
  let c2_i32_244 : BitVec 32 := 2#32
  let v385 : Index := Scalar.indexCast c2_i32_244
  let c0_i32_163 : BitVec 32 := 0#32
  let c1_i32_165 : BitVec 32 := 1#32
  let arg21 : BitVec 32 := Scf.iv c0_i32_163 c1_i32_165 k0_t43
  let c16_i32_243 : BitVec 32 := 16#32
  let v384 : BitVec 32 := Scalar.muli arg21 c16_i32_243
  let v386 : Index := Scalar.indexCast v384
  ![2, v386.toNat]

def k0_chk35 (i : grid0.Coords) (v387 : IVec S16 32) : Prop :=
  (∀ (k0_h18 : k0_cond18 i = 1#1), ∀ a x, ((![v387] : Fin 1 → IVec S16 32) a x).toNat < S100096.size a)
theorem k0_idx35_inb : ∀ (i : grid0.Coords) (v387 : IVec S16 32) (k0_hw35 : k0_chk35 i v387), ∀ (k0_h18 : k0_cond18 i = 1#1), ∀ a x, ((![v387] : Fin 1 → IVec S16 32) a x).toNat < S100096.size a := fun i v387 k0_hw35 k0_h18 => k0_hw35 k0_h18
def k0_off147 (k0_t43 : Fin k0_t43_loop.trips) : Fin 2 → Nat :=
  let c2_i32_246 : BitVec 32 := 2#32
  let v390 : Index := Scalar.indexCast c2_i32_246
  let c0_i32_163 : BitVec 32 := 0#32
  let c1_i32_165 : BitVec 32 := 1#32
  let arg21 : BitVec 32 := Scf.iv c0_i32_163 c1_i32_165 k0_t43
  let c16_i32_245 : BitVec 32 := 16#32
  let v389 : BitVec 32 := Scalar.muli arg21 c16_i32_245
  let v391 : Index := Scalar.indexCast v389
  ![2, v391.toNat]
def k0_off148 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c4096_i32_169 : BitVec 32 := 4096#32
  ![arg20.toNat, 4096]
def k0_cond22 (i : grid0.Coords) (k0_t39 : Fin (k0_t39_loop i).trips) (k0_t40 : Fin (k0_t40_loop i k0_t39).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let v304 : BitVec 1 := Scalar.cmpi .sgt arg20 v12
  let v305 : BitVec 32 := Scalar.extui v304
  let c0_i32_172 : BitVec 32 := 0#32
  let v306 : BitVec 1 := Scalar.cmpi .ne v305 c0_i32_172
  v306

def k0_off149 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c0_i32_245 : BitVec 32 := 0#32
  ![arg20.toNat, 0]
@[reducible] def k0_t44_loop : Scf.Loop 32 :=
  let c0_i32_174 : BitVec 32 := 0#32
  let c128_i32_175 : BitVec 32 := 128#32
  let v307 : BitVec 32 := Scalar.addi c0_i32_174 c128_i32_175
  let c1_i32_176 : BitVec 32 := 1#32
  ⟨c0_i32_174, v307, c1_i32_176⟩
def k0_off150 (k0_t44 : Fin k0_t44_loop.trips) : Fin 2 → Nat :=
  let c3_i32_244 : BitVec 32 := 3#32
  let v385 : Index := Scalar.indexCast c3_i32_244
  let c0_i32_174 : BitVec 32 := 0#32
  let c1_i32_176 : BitVec 32 := 1#32
  let arg21 : BitVec 32 := Scf.iv c0_i32_174 c1_i32_176 k0_t44
  let c16_i32_243 : BitVec 32 := 16#32
  let v384 : BitVec 32 := Scalar.muli arg21 c16_i32_243
  let v386 : Index := Scalar.indexCast v384
  ![3, v386.toNat]

def k0_chk36 (i : grid0.Coords) (v387 : IVec S16 32) : Prop :=
  (∀ (k0_h18 : k0_cond18 i = 1#1), ∀ a x, ((![v387] : Fin 1 → IVec S16 32) a x).toNat < S100096.size a)
theorem k0_idx36_inb : ∀ (i : grid0.Coords) (v387 : IVec S16 32) (k0_hw36 : k0_chk36 i v387), ∀ (k0_h18 : k0_cond18 i = 1#1), ∀ a x, ((![v387] : Fin 1 → IVec S16 32) a x).toNat < S100096.size a := fun i v387 k0_hw36 k0_h18 => k0_hw36 k0_h18
def k0_off151 (k0_t44 : Fin k0_t44_loop.trips) : Fin 2 → Nat :=
  let c3_i32_246 : BitVec 32 := 3#32
  let v390 : Index := Scalar.indexCast c3_i32_246
  let c0_i32_174 : BitVec 32 := 0#32
  let c1_i32_176 : BitVec 32 := 1#32
  let arg21 : BitVec 32 := Scf.iv c0_i32_174 c1_i32_176 k0_t44
  let c16_i32_245 : BitVec 32 := 16#32
  let v389 : BitVec 32 := Scalar.muli arg21 c16_i32_245
  let v391 : Index := Scalar.indexCast v389
  ![3, v391.toNat]
def k0_off152 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c6144_i32_180 : BitVec 32 := 6144#32
  ![arg20.toNat, 6144]
@[reducible] def k0_t45_loop : Scf.Loop 32 :=
  let c0_i32_189 : BitVec 32 := 0#32
  let c128_i32_190 : BitVec 32 := 128#32
  let v324 : BitVec 32 := Scalar.addi c0_i32_189 c128_i32_190
  let c1_i32_191 : BitVec 32 := 1#32
  ⟨c0_i32_189, v324, c1_i32_191⟩
def k0_off153 (k0_t45 : Fin k0_t45_loop.trips) : Fin 2 → Nat :=
  let c4_i32_244 : BitVec 32 := 4#32
  let v385 : Index := Scalar.indexCast c4_i32_244
  let c0_i32_189 : BitVec 32 := 0#32
  let c1_i32_191 : BitVec 32 := 1#32
  let arg21 : BitVec 32 := Scf.iv c0_i32_189 c1_i32_191 k0_t45
  let c16_i32_243 : BitVec 32 := 16#32
  let v384 : BitVec 32 := Scalar.muli arg21 c16_i32_243
  let v386 : Index := Scalar.indexCast v384
  ![4, v386.toNat]

def k0_chk37 (i : grid0.Coords) (v387 : IVec S16 32) : Prop :=
  (∀ (k0_h18 : k0_cond18 i = 1#1), ∀ a x, ((![v387] : Fin 1 → IVec S16 32) a x).toNat < S100096.size a)
theorem k0_idx37_inb : ∀ (i : grid0.Coords) (v387 : IVec S16 32) (k0_hw37 : k0_chk37 i v387), ∀ (k0_h18 : k0_cond18 i = 1#1), ∀ a x, ((![v387] : Fin 1 → IVec S16 32) a x).toNat < S100096.size a := fun i v387 k0_hw37 k0_h18 => k0_hw37 k0_h18
def k0_off154 (k0_t45 : Fin k0_t45_loop.trips) : Fin 2 → Nat :=
  let c0_i32_246 : BitVec 32 := 0#32
  let v390 : Index := Scalar.indexCast c0_i32_246
  let c0_i32_189 : BitVec 32 := 0#32
  let c1_i32_191 : BitVec 32 := 1#32
  let arg21 : BitVec 32 := Scf.iv c0_i32_189 c1_i32_191 k0_t45
  let c16_i32_245 : BitVec 32 := 16#32
  let v389 : BitVec 32 := Scalar.muli arg21 c16_i32_245
  let v391 : Index := Scalar.indexCast v389
  ![0, v391.toNat]
def k0_off155 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c8192_i32_195 : BitVec 32 := 8192#32
  ![arg20.toNat, 8192]
@[reducible] def k0_t46_loop : Scf.Loop 32 :=
  let c0_i32_204 : BitVec 32 := 0#32
  let c128_i32_205 : BitVec 32 := 128#32
  let v341 : BitVec 32 := Scalar.addi c0_i32_204 c128_i32_205
  let c1_i32_206 : BitVec 32 := 1#32
  ⟨c0_i32_204, v341, c1_i32_206⟩
def k0_off156 (k0_t46 : Fin k0_t46_loop.trips) : Fin 2 → Nat :=
  let c5_i32_244 : BitVec 32 := 5#32
  let v385 : Index := Scalar.indexCast c5_i32_244
  let c0_i32_204 : BitVec 32 := 0#32
  let c1_i32_206 : BitVec 32 := 1#32
  let arg21 : BitVec 32 := Scf.iv c0_i32_204 c1_i32_206 k0_t46
  let c16_i32_243 : BitVec 32 := 16#32
  let v384 : BitVec 32 := Scalar.muli arg21 c16_i32_243
  let v386 : Index := Scalar.indexCast v384
  ![5, v386.toNat]

def k0_chk38 (i : grid0.Coords) (v387 : IVec S16 32) : Prop :=
  (∀ (k0_h18 : k0_cond18 i = 1#1), ∀ a x, ((![v387] : Fin 1 → IVec S16 32) a x).toNat < S100096.size a)
theorem k0_idx38_inb : ∀ (i : grid0.Coords) (v387 : IVec S16 32) (k0_hw38 : k0_chk38 i v387), ∀ (k0_h18 : k0_cond18 i = 1#1), ∀ a x, ((![v387] : Fin 1 → IVec S16 32) a x).toNat < S100096.size a := fun i v387 k0_hw38 k0_h18 => k0_hw38 k0_h18
def k0_off157 (k0_t46 : Fin k0_t46_loop.trips) : Fin 2 → Nat :=
  let c1_i32_246 : BitVec 32 := 1#32
  let v390 : Index := Scalar.indexCast c1_i32_246
  let c0_i32_204 : BitVec 32 := 0#32
  let c1_i32_206 : BitVec 32 := 1#32
  let arg21 : BitVec 32 := Scf.iv c0_i32_204 c1_i32_206 k0_t46
  let c16_i32_245 : BitVec 32 := 16#32
  let v389 : BitVec 32 := Scalar.muli arg21 c16_i32_245
  let v391 : Index := Scalar.indexCast v389
  ![1, v391.toNat]
def k0_off158 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c10240_i32_210 : BitVec 32 := 10240#32
  ![arg20.toNat, 10240]
@[reducible] def k0_t47_loop : Scf.Loop 32 :=
  let c0_i32_219 : BitVec 32 := 0#32
  let c128_i32_220 : BitVec 32 := 128#32
  let v358 : BitVec 32 := Scalar.addi c0_i32_219 c128_i32_220
  let c1_i32_221 : BitVec 32 := 1#32
  ⟨c0_i32_219, v358, c1_i32_221⟩
def k0_off159 (k0_t47 : Fin k0_t47_loop.trips) : Fin 2 → Nat :=
  let c6_i32_244 : BitVec 32 := 6#32
  let v385 : Index := Scalar.indexCast c6_i32_244
  let c0_i32_219 : BitVec 32 := 0#32
  let c1_i32_221 : BitVec 32 := 1#32
  let arg21 : BitVec 32 := Scf.iv c0_i32_219 c1_i32_221 k0_t47
  let c16_i32_243 : BitVec 32 := 16#32
  let v384 : BitVec 32 := Scalar.muli arg21 c16_i32_243
  let v386 : Index := Scalar.indexCast v384
  ![6, v386.toNat]

def k0_chk39 (i : grid0.Coords) (v387 : IVec S16 32) : Prop :=
  (∀ (k0_h18 : k0_cond18 i = 1#1), ∀ a x, ((![v387] : Fin 1 → IVec S16 32) a x).toNat < S100096.size a)
theorem k0_idx39_inb : ∀ (i : grid0.Coords) (v387 : IVec S16 32) (k0_hw39 : k0_chk39 i v387), ∀ (k0_h18 : k0_cond18 i = 1#1), ∀ a x, ((![v387] : Fin 1 → IVec S16 32) a x).toNat < S100096.size a := fun i v387 k0_hw39 k0_h18 => k0_hw39 k0_h18
def k0_off160 (k0_t47 : Fin k0_t47_loop.trips) : Fin 2 → Nat :=
  let c2_i32_246 : BitVec 32 := 2#32
  let v390 : Index := Scalar.indexCast c2_i32_246
  let c0_i32_219 : BitVec 32 := 0#32
  let c1_i32_221 : BitVec 32 := 1#32
  let arg21 : BitVec 32 := Scf.iv c0_i32_219 c1_i32_221 k0_t47
  let c16_i32_245 : BitVec 32 := 16#32
  let v389 : BitVec 32 := Scalar.muli arg21 c16_i32_245
  let v391 : Index := Scalar.indexCast v389
  ![2, v391.toNat]
def k0_off161 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c12288_i32_225 : BitVec 32 := 12288#32
  ![arg20.toNat, 12288]
@[reducible] def k0_t48_loop : Scf.Loop 32 :=
  let c0_i32_234 : BitVec 32 := 0#32
  let c128_i32_235 : BitVec 32 := 128#32
  let v375 : BitVec 32 := Scalar.addi c0_i32_234 c128_i32_235
  let c1_i32_236 : BitVec 32 := 1#32
  ⟨c0_i32_234, v375, c1_i32_236⟩
def k0_off162 (k0_t48 : Fin k0_t48_loop.trips) : Fin 2 → Nat :=
  let c7_i32_244 : BitVec 32 := 7#32
  let v385 : Index := Scalar.indexCast c7_i32_244
  let c0_i32_234 : BitVec 32 := 0#32
  let c1_i32_236 : BitVec 32 := 1#32
  let arg21 : BitVec 32 := Scf.iv c0_i32_234 c1_i32_236 k0_t48
  let c16_i32_243 : BitVec 32 := 16#32
  let v384 : BitVec 32 := Scalar.muli arg21 c16_i32_243
  let v386 : Index := Scalar.indexCast v384
  ![7, v386.toNat]

def k0_chk40 (i : grid0.Coords) (v387 : IVec S16 32) : Prop :=
  (∀ (k0_h18 : k0_cond18 i = 1#1), ∀ a x, ((![v387] : Fin 1 → IVec S16 32) a x).toNat < S100096.size a)
theorem k0_idx40_inb : ∀ (i : grid0.Coords) (v387 : IVec S16 32) (k0_hw40 : k0_chk40 i v387), ∀ (k0_h18 : k0_cond18 i = 1#1), ∀ a x, ((![v387] : Fin 1 → IVec S16 32) a x).toNat < S100096.size a := fun i v387 k0_hw40 k0_h18 => k0_hw40 k0_h18
def k0_off163 (k0_t48 : Fin k0_t48_loop.trips) : Fin 2 → Nat :=
  let c3_i32_246 : BitVec 32 := 3#32
  let v390 : Index := Scalar.indexCast c3_i32_246
  let c0_i32_234 : BitVec 32 := 0#32
  let c1_i32_236 : BitVec 32 := 1#32
  let arg21 : BitVec 32 := Scf.iv c0_i32_234 c1_i32_236 k0_t48
  let c16_i32_245 : BitVec 32 := 16#32
  let v389 : BitVec 32 := Scalar.muli arg21 c16_i32_245
  let v391 : Index := Scalar.indexCast v389
  ![3, v391.toNat]
def k0_off164 (i : grid0.Coords) (k0_t39 : Fin (k0_t39_loop i).trips) (k0_t40 : Fin (k0_t40_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t40
  let c14336_i32_240 : BitVec 32 := 14336#32
  ![arg20.toNat, 14336]
@[reducible] def k0_t49_loop (i : grid0.Coords) (k0_t39 : Fin (k0_t39_loop i).trips) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let v216 : BitVec 32 := Scalar.addi v211 v215
  let c1_i32_110 : BitVec 32 := 1#32
  ⟨v219, v216, c1_i32_110⟩
def k0_off165 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c0_i32_112 : BitVec 32 := 0#32
  ![arg20.toNat, 0]
def k0_off166 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c33280_i32_115 : BitVec 32 := 33280#32
  ![arg20.toNat, 33280]
def k0_off167 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c66560_i32_118 : BitVec 32 := 66560#32
  ![arg20.toNat, 66560]
def k0_off168 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c0_i32_121 : BitVec 32 := 0#32
  ![arg20.toNat, 0]
def k0_cond23 (i : grid0.Coords) (k0_t39 : Fin (k0_t39_loop i).trips) (k0_t49 : Fin (k0_t49_loop i k0_t39).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let v268 : BitVec 1 := Scalar.cmpi .sgt arg20 v12
  let v269 : BitVec 32 := Scalar.extui v268
  let c0_i32_140 : BitVec 32 := 0#32
  let v270 : BitVec 1 := Scalar.cmpi .ne v269 c0_i32_140
  v270

def k0_off169 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c0_i32_245 : BitVec 32 := 0#32
  ![arg20.toNat, 0]
@[reducible] def k0_t50_loop : Scf.Loop 32 :=
  let c0_i32_142 : BitVec 32 := 0#32
  let c128_i32 : BitVec 32 := 128#32
  let v271 : BitVec 32 := Scalar.addi c0_i32_142 c128_i32
  let c1_i32_143 : BitVec 32 := 1#32
  ⟨c0_i32_142, v271, c1_i32_143⟩
def k0_off170 (k0_t50 : Fin k0_t50_loop.trips) : Fin 2 → Nat :=
  let c0_i32_244 : BitVec 32 := 0#32
  let v385 : Index := Scalar.indexCast c0_i32_244
  let c0_i32_142 : BitVec 32 := 0#32
  let c1_i32_143 : BitVec 32 := 1#32
  let arg21 : BitVec 32 := Scf.iv c0_i32_142 c1_i32_143 k0_t50
  let c16_i32_243 : BitVec 32 := 16#32
  let v384 : BitVec 32 := Scalar.muli arg21 c16_i32_243
  let v386 : Index := Scalar.indexCast v384
  ![0, v386.toNat]

def k0_chk41 (i : grid0.Coords) (k0_t39 : Fin (k0_t39_loop i).trips) (k0_t49 : Fin (k0_t49_loop i k0_t39).trips) (v387 : IVec S16 32) : Prop :=
  (∀ (k0_h18 : k0_cond18 i = 1#1), ∀ a x, ((![v387] : Fin 1 → IVec S16 32) a x).toNat < S100096.size a)
theorem k0_idx41_inb : ∀ (i : grid0.Coords) (k0_t39 : Fin (k0_t39_loop i).trips) (k0_t49 : Fin (k0_t49_loop i k0_t39).trips) (v387 : IVec S16 32) (k0_hw41 : k0_chk41 i k0_t39 k0_t49 v387), ∀ (k0_h18 : k0_cond18 i = 1#1), ∀ a x, ((![v387] : Fin 1 → IVec S16 32) a x).toNat < S100096.size a := fun i k0_t39 k0_t49 v387 k0_hw41 k0_h18 => k0_hw41 k0_h18
def k0_off171 (k0_t50 : Fin k0_t50_loop.trips) : Fin 2 → Nat :=
  let c0_i32_246 : BitVec 32 := 0#32
  let v390 : Index := Scalar.indexCast c0_i32_246
  let c0_i32_142 : BitVec 32 := 0#32
  let c1_i32_143 : BitVec 32 := 1#32
  let arg21 : BitVec 32 := Scf.iv c0_i32_142 c1_i32_143 k0_t50
  let c16_i32_245 : BitVec 32 := 16#32
  let v389 : BitVec 32 := Scalar.muli arg21 c16_i32_245
  let v391 : Index := Scalar.indexCast v389
  ![0, v391.toNat]
def k0_off172 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c0_i32_147 : BitVec 32 := 0#32
  ![arg20.toNat, 0]
def k0_cond24 (i : grid0.Coords) (k0_t39 : Fin (k0_t39_loop i).trips) (k0_t49 : Fin (k0_t49_loop i k0_t39).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let v280 : BitVec 1 := Scalar.cmpi .sgt arg20 v12
  let v281 : BitVec 32 := Scalar.extui v280
  let c0_i32_150 : BitVec 32 := 0#32
  let v282 : BitVec 1 := Scalar.cmpi .ne v281 c0_i32_150
  v282

def k0_off173 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c0_i32_245 : BitVec 32 := 0#32
  ![arg20.toNat, 0]
@[reducible] def k0_t51_loop : Scf.Loop 32 :=
  let c0_i32_152 : BitVec 32 := 0#32
  let c128_i32_153 : BitVec 32 := 128#32
  let v283 : BitVec 32 := Scalar.addi c0_i32_152 c128_i32_153
  let c1_i32_154 : BitVec 32 := 1#32
  ⟨c0_i32_152, v283, c1_i32_154⟩
def k0_off174 (k0_t51 : Fin k0_t51_loop.trips) : Fin 2 → Nat :=
  let c1_i32_244 : BitVec 32 := 1#32
  let v385 : Index := Scalar.indexCast c1_i32_244
  let c0_i32_152 : BitVec 32 := 0#32
  let c1_i32_154 : BitVec 32 := 1#32
  let arg21 : BitVec 32 := Scf.iv c0_i32_152 c1_i32_154 k0_t51
  let c16_i32_243 : BitVec 32 := 16#32
  let v384 : BitVec 32 := Scalar.muli arg21 c16_i32_243
  let v386 : Index := Scalar.indexCast v384
  ![1, v386.toNat]

def k0_chk42 (i : grid0.Coords) (k0_t39 : Fin (k0_t39_loop i).trips) (k0_t49 : Fin (k0_t49_loop i k0_t39).trips) (v387 : IVec S16 32) : Prop :=
  (∀ (k0_h18 : k0_cond18 i = 1#1), ∀ a x, ((![v387] : Fin 1 → IVec S16 32) a x).toNat < S100096.size a)
theorem k0_idx42_inb : ∀ (i : grid0.Coords) (k0_t39 : Fin (k0_t39_loop i).trips) (k0_t49 : Fin (k0_t49_loop i k0_t39).trips) (v387 : IVec S16 32) (k0_hw42 : k0_chk42 i k0_t39 k0_t49 v387), ∀ (k0_h18 : k0_cond18 i = 1#1), ∀ a x, ((![v387] : Fin 1 → IVec S16 32) a x).toNat < S100096.size a := fun i k0_t39 k0_t49 v387 k0_hw42 k0_h18 => k0_hw42 k0_h18
def k0_off175 (k0_t51 : Fin k0_t51_loop.trips) : Fin 2 → Nat :=
  let c1_i32_246 : BitVec 32 := 1#32
  let v390 : Index := Scalar.indexCast c1_i32_246
  let c0_i32_152 : BitVec 32 := 0#32
  let c1_i32_154 : BitVec 32 := 1#32
  let arg21 : BitVec 32 := Scf.iv c0_i32_152 c1_i32_154 k0_t51
  let c16_i32_245 : BitVec 32 := 16#32
  let v389 : BitVec 32 := Scalar.muli arg21 c16_i32_245
  let v391 : Index := Scalar.indexCast v389
  ![1, v391.toNat]
def k0_off176 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c2048_i32_158 : BitVec 32 := 2048#32
  ![arg20.toNat, 2048]
def k0_cond25 (i : grid0.Coords) (k0_t39 : Fin (k0_t39_loop i).trips) (k0_t49 : Fin (k0_t49_loop i k0_t39).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let v292 : BitVec 1 := Scalar.cmpi .sgt arg20 v12
  let v293 : BitVec 32 := Scalar.extui v292
  let c0_i32_161 : BitVec 32 := 0#32
  let v294 : BitVec 1 := Scalar.cmpi .ne v293 c0_i32_161
  v294

def k0_off177 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c0_i32_245 : BitVec 32 := 0#32
  ![arg20.toNat, 0]
@[reducible] def k0_t52_loop : Scf.Loop 32 :=
  let c0_i32_163 : BitVec 32 := 0#32
  let c128_i32_164 : BitVec 32 := 128#32
  let v295 : BitVec 32 := Scalar.addi c0_i32_163 c128_i32_164
  let c1_i32_165 : BitVec 32 := 1#32
  ⟨c0_i32_163, v295, c1_i32_165⟩
def k0_off178 (k0_t52 : Fin k0_t52_loop.trips) : Fin 2 → Nat :=
  let c2_i32_244 : BitVec 32 := 2#32
  let v385 : Index := Scalar.indexCast c2_i32_244
  let c0_i32_163 : BitVec 32 := 0#32
  let c1_i32_165 : BitVec 32 := 1#32
  let arg21 : BitVec 32 := Scf.iv c0_i32_163 c1_i32_165 k0_t52
  let c16_i32_243 : BitVec 32 := 16#32
  let v384 : BitVec 32 := Scalar.muli arg21 c16_i32_243
  let v386 : Index := Scalar.indexCast v384
  ![2, v386.toNat]

def k0_chk43 (i : grid0.Coords) (k0_t39 : Fin (k0_t39_loop i).trips) (k0_t49 : Fin (k0_t49_loop i k0_t39).trips) (v387 : IVec S16 32) : Prop :=
  (∀ (k0_h18 : k0_cond18 i = 1#1), ∀ a x, ((![v387] : Fin 1 → IVec S16 32) a x).toNat < S100096.size a)
theorem k0_idx43_inb : ∀ (i : grid0.Coords) (k0_t39 : Fin (k0_t39_loop i).trips) (k0_t49 : Fin (k0_t49_loop i k0_t39).trips) (v387 : IVec S16 32) (k0_hw43 : k0_chk43 i k0_t39 k0_t49 v387), ∀ (k0_h18 : k0_cond18 i = 1#1), ∀ a x, ((![v387] : Fin 1 → IVec S16 32) a x).toNat < S100096.size a := fun i k0_t39 k0_t49 v387 k0_hw43 k0_h18 => k0_hw43 k0_h18
def k0_off179 (k0_t52 : Fin k0_t52_loop.trips) : Fin 2 → Nat :=
  let c2_i32_246 : BitVec 32 := 2#32
  let v390 : Index := Scalar.indexCast c2_i32_246
  let c0_i32_163 : BitVec 32 := 0#32
  let c1_i32_165 : BitVec 32 := 1#32
  let arg21 : BitVec 32 := Scf.iv c0_i32_163 c1_i32_165 k0_t52
  let c16_i32_245 : BitVec 32 := 16#32
  let v389 : BitVec 32 := Scalar.muli arg21 c16_i32_245
  let v391 : Index := Scalar.indexCast v389
  ![2, v391.toNat]
def k0_off180 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c4096_i32_169 : BitVec 32 := 4096#32
  ![arg20.toNat, 4096]
def k0_cond26 (i : grid0.Coords) (k0_t39 : Fin (k0_t39_loop i).trips) (k0_t49 : Fin (k0_t49_loop i k0_t39).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let v304 : BitVec 1 := Scalar.cmpi .sgt arg20 v12
  let v305 : BitVec 32 := Scalar.extui v304
  let c0_i32_172 : BitVec 32 := 0#32
  let v306 : BitVec 1 := Scalar.cmpi .ne v305 c0_i32_172
  v306

def k0_off181 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c0_i32_245 : BitVec 32 := 0#32
  ![arg20.toNat, 0]
@[reducible] def k0_t53_loop : Scf.Loop 32 :=
  let c0_i32_174 : BitVec 32 := 0#32
  let c128_i32_175 : BitVec 32 := 128#32
  let v307 : BitVec 32 := Scalar.addi c0_i32_174 c128_i32_175
  let c1_i32_176 : BitVec 32 := 1#32
  ⟨c0_i32_174, v307, c1_i32_176⟩
def k0_off182 (k0_t53 : Fin k0_t53_loop.trips) : Fin 2 → Nat :=
  let c3_i32_244 : BitVec 32 := 3#32
  let v385 : Index := Scalar.indexCast c3_i32_244
  let c0_i32_174 : BitVec 32 := 0#32
  let c1_i32_176 : BitVec 32 := 1#32
  let arg21 : BitVec 32 := Scf.iv c0_i32_174 c1_i32_176 k0_t53
  let c16_i32_243 : BitVec 32 := 16#32
  let v384 : BitVec 32 := Scalar.muli arg21 c16_i32_243
  let v386 : Index := Scalar.indexCast v384
  ![3, v386.toNat]

def k0_chk44 (i : grid0.Coords) (k0_t39 : Fin (k0_t39_loop i).trips) (k0_t49 : Fin (k0_t49_loop i k0_t39).trips) (v387 : IVec S16 32) : Prop :=
  (∀ (k0_h18 : k0_cond18 i = 1#1), ∀ a x, ((![v387] : Fin 1 → IVec S16 32) a x).toNat < S100096.size a)
theorem k0_idx44_inb : ∀ (i : grid0.Coords) (k0_t39 : Fin (k0_t39_loop i).trips) (k0_t49 : Fin (k0_t49_loop i k0_t39).trips) (v387 : IVec S16 32) (k0_hw44 : k0_chk44 i k0_t39 k0_t49 v387), ∀ (k0_h18 : k0_cond18 i = 1#1), ∀ a x, ((![v387] : Fin 1 → IVec S16 32) a x).toNat < S100096.size a := fun i k0_t39 k0_t49 v387 k0_hw44 k0_h18 => k0_hw44 k0_h18
def k0_off183 (k0_t53 : Fin k0_t53_loop.trips) : Fin 2 → Nat :=
  let c3_i32_246 : BitVec 32 := 3#32
  let v390 : Index := Scalar.indexCast c3_i32_246
  let c0_i32_174 : BitVec 32 := 0#32
  let c1_i32_176 : BitVec 32 := 1#32
  let arg21 : BitVec 32 := Scf.iv c0_i32_174 c1_i32_176 k0_t53
  let c16_i32_245 : BitVec 32 := 16#32
  let v389 : BitVec 32 := Scalar.muli arg21 c16_i32_245
  let v391 : Index := Scalar.indexCast v389
  ![3, v391.toNat]
def k0_off184 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c6144_i32_180 : BitVec 32 := 6144#32
  ![arg20.toNat, 6144]
@[reducible] def k0_t54_loop : Scf.Loop 32 :=
  let c0_i32_189 : BitVec 32 := 0#32
  let c128_i32_190 : BitVec 32 := 128#32
  let v324 : BitVec 32 := Scalar.addi c0_i32_189 c128_i32_190
  let c1_i32_191 : BitVec 32 := 1#32
  ⟨c0_i32_189, v324, c1_i32_191⟩
def k0_off185 (k0_t54 : Fin k0_t54_loop.trips) : Fin 2 → Nat :=
  let c4_i32_244 : BitVec 32 := 4#32
  let v385 : Index := Scalar.indexCast c4_i32_244
  let c0_i32_189 : BitVec 32 := 0#32
  let c1_i32_191 : BitVec 32 := 1#32
  let arg21 : BitVec 32 := Scf.iv c0_i32_189 c1_i32_191 k0_t54
  let c16_i32_243 : BitVec 32 := 16#32
  let v384 : BitVec 32 := Scalar.muli arg21 c16_i32_243
  let v386 : Index := Scalar.indexCast v384
  ![4, v386.toNat]

def k0_chk45 (i : grid0.Coords) (k0_t39 : Fin (k0_t39_loop i).trips) (k0_t49 : Fin (k0_t49_loop i k0_t39).trips) (v387 : IVec S16 32) : Prop :=
  (∀ (k0_h18 : k0_cond18 i = 1#1), ∀ a x, ((![v387] : Fin 1 → IVec S16 32) a x).toNat < S100096.size a)
theorem k0_idx45_inb : ∀ (i : grid0.Coords) (k0_t39 : Fin (k0_t39_loop i).trips) (k0_t49 : Fin (k0_t49_loop i k0_t39).trips) (v387 : IVec S16 32) (k0_hw45 : k0_chk45 i k0_t39 k0_t49 v387), ∀ (k0_h18 : k0_cond18 i = 1#1), ∀ a x, ((![v387] : Fin 1 → IVec S16 32) a x).toNat < S100096.size a := fun i k0_t39 k0_t49 v387 k0_hw45 k0_h18 => k0_hw45 k0_h18
def k0_off186 (k0_t54 : Fin k0_t54_loop.trips) : Fin 2 → Nat :=
  let c0_i32_246 : BitVec 32 := 0#32
  let v390 : Index := Scalar.indexCast c0_i32_246
  let c0_i32_189 : BitVec 32 := 0#32
  let c1_i32_191 : BitVec 32 := 1#32
  let arg21 : BitVec 32 := Scf.iv c0_i32_189 c1_i32_191 k0_t54
  let c16_i32_245 : BitVec 32 := 16#32
  let v389 : BitVec 32 := Scalar.muli arg21 c16_i32_245
  let v391 : Index := Scalar.indexCast v389
  ![0, v391.toNat]
def k0_off187 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c8192_i32_195 : BitVec 32 := 8192#32
  ![arg20.toNat, 8192]
@[reducible] def k0_t55_loop : Scf.Loop 32 :=
  let c0_i32_204 : BitVec 32 := 0#32
  let c128_i32_205 : BitVec 32 := 128#32
  let v341 : BitVec 32 := Scalar.addi c0_i32_204 c128_i32_205
  let c1_i32_206 : BitVec 32 := 1#32
  ⟨c0_i32_204, v341, c1_i32_206⟩
def k0_off188 (k0_t55 : Fin k0_t55_loop.trips) : Fin 2 → Nat :=
  let c5_i32_244 : BitVec 32 := 5#32
  let v385 : Index := Scalar.indexCast c5_i32_244
  let c0_i32_204 : BitVec 32 := 0#32
  let c1_i32_206 : BitVec 32 := 1#32
  let arg21 : BitVec 32 := Scf.iv c0_i32_204 c1_i32_206 k0_t55
  let c16_i32_243 : BitVec 32 := 16#32
  let v384 : BitVec 32 := Scalar.muli arg21 c16_i32_243
  let v386 : Index := Scalar.indexCast v384
  ![5, v386.toNat]

def k0_chk46 (i : grid0.Coords) (k0_t39 : Fin (k0_t39_loop i).trips) (k0_t49 : Fin (k0_t49_loop i k0_t39).trips) (v387 : IVec S16 32) : Prop :=
  (∀ (k0_h18 : k0_cond18 i = 1#1), ∀ a x, ((![v387] : Fin 1 → IVec S16 32) a x).toNat < S100096.size a)
theorem k0_idx46_inb : ∀ (i : grid0.Coords) (k0_t39 : Fin (k0_t39_loop i).trips) (k0_t49 : Fin (k0_t49_loop i k0_t39).trips) (v387 : IVec S16 32) (k0_hw46 : k0_chk46 i k0_t39 k0_t49 v387), ∀ (k0_h18 : k0_cond18 i = 1#1), ∀ a x, ((![v387] : Fin 1 → IVec S16 32) a x).toNat < S100096.size a := fun i k0_t39 k0_t49 v387 k0_hw46 k0_h18 => k0_hw46 k0_h18
def k0_off189 (k0_t55 : Fin k0_t55_loop.trips) : Fin 2 → Nat :=
  let c1_i32_246 : BitVec 32 := 1#32
  let v390 : Index := Scalar.indexCast c1_i32_246
  let c0_i32_204 : BitVec 32 := 0#32
  let c1_i32_206 : BitVec 32 := 1#32
  let arg21 : BitVec 32 := Scf.iv c0_i32_204 c1_i32_206 k0_t55
  let c16_i32_245 : BitVec 32 := 16#32
  let v389 : BitVec 32 := Scalar.muli arg21 c16_i32_245
  let v391 : Index := Scalar.indexCast v389
  ![1, v391.toNat]
def k0_off190 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c10240_i32_210 : BitVec 32 := 10240#32
  ![arg20.toNat, 10240]
@[reducible] def k0_t56_loop : Scf.Loop 32 :=
  let c0_i32_219 : BitVec 32 := 0#32
  let c128_i32_220 : BitVec 32 := 128#32
  let v358 : BitVec 32 := Scalar.addi c0_i32_219 c128_i32_220
  let c1_i32_221 : BitVec 32 := 1#32
  ⟨c0_i32_219, v358, c1_i32_221⟩
def k0_off191 (k0_t56 : Fin k0_t56_loop.trips) : Fin 2 → Nat :=
  let c6_i32_244 : BitVec 32 := 6#32
  let v385 : Index := Scalar.indexCast c6_i32_244
  let c0_i32_219 : BitVec 32 := 0#32
  let c1_i32_221 : BitVec 32 := 1#32
  let arg21 : BitVec 32 := Scf.iv c0_i32_219 c1_i32_221 k0_t56
  let c16_i32_243 : BitVec 32 := 16#32
  let v384 : BitVec 32 := Scalar.muli arg21 c16_i32_243
  let v386 : Index := Scalar.indexCast v384
  ![6, v386.toNat]

def k0_chk47 (i : grid0.Coords) (k0_t39 : Fin (k0_t39_loop i).trips) (k0_t49 : Fin (k0_t49_loop i k0_t39).trips) (v387 : IVec S16 32) : Prop :=
  (∀ (k0_h18 : k0_cond18 i = 1#1), ∀ a x, ((![v387] : Fin 1 → IVec S16 32) a x).toNat < S100096.size a)
theorem k0_idx47_inb : ∀ (i : grid0.Coords) (k0_t39 : Fin (k0_t39_loop i).trips) (k0_t49 : Fin (k0_t49_loop i k0_t39).trips) (v387 : IVec S16 32) (k0_hw47 : k0_chk47 i k0_t39 k0_t49 v387), ∀ (k0_h18 : k0_cond18 i = 1#1), ∀ a x, ((![v387] : Fin 1 → IVec S16 32) a x).toNat < S100096.size a := fun i k0_t39 k0_t49 v387 k0_hw47 k0_h18 => k0_hw47 k0_h18
def k0_off192 (k0_t56 : Fin k0_t56_loop.trips) : Fin 2 → Nat :=
  let c2_i32_246 : BitVec 32 := 2#32
  let v390 : Index := Scalar.indexCast c2_i32_246
  let c0_i32_219 : BitVec 32 := 0#32
  let c1_i32_221 : BitVec 32 := 1#32
  let arg21 : BitVec 32 := Scf.iv c0_i32_219 c1_i32_221 k0_t56
  let c16_i32_245 : BitVec 32 := 16#32
  let v389 : BitVec 32 := Scalar.muli arg21 c16_i32_245
  let v391 : Index := Scalar.indexCast v389
  ![2, v391.toNat]
def k0_off193 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c12288_i32_225 : BitVec 32 := 12288#32
  ![arg20.toNat, 12288]
@[reducible] def k0_t57_loop : Scf.Loop 32 :=
  let c0_i32_234 : BitVec 32 := 0#32
  let c128_i32_235 : BitVec 32 := 128#32
  let v375 : BitVec 32 := Scalar.addi c0_i32_234 c128_i32_235
  let c1_i32_236 : BitVec 32 := 1#32
  ⟨c0_i32_234, v375, c1_i32_236⟩
def k0_off194 (k0_t57 : Fin k0_t57_loop.trips) : Fin 2 → Nat :=
  let c7_i32_244 : BitVec 32 := 7#32
  let v385 : Index := Scalar.indexCast c7_i32_244
  let c0_i32_234 : BitVec 32 := 0#32
  let c1_i32_236 : BitVec 32 := 1#32
  let arg21 : BitVec 32 := Scf.iv c0_i32_234 c1_i32_236 k0_t57
  let c16_i32_243 : BitVec 32 := 16#32
  let v384 : BitVec 32 := Scalar.muli arg21 c16_i32_243
  let v386 : Index := Scalar.indexCast v384
  ![7, v386.toNat]

def k0_chk48 (i : grid0.Coords) (k0_t39 : Fin (k0_t39_loop i).trips) (k0_t49 : Fin (k0_t49_loop i k0_t39).trips) (v387 : IVec S16 32) : Prop :=
  (∀ (k0_h18 : k0_cond18 i = 1#1), ∀ a x, ((![v387] : Fin 1 → IVec S16 32) a x).toNat < S100096.size a)
theorem k0_idx48_inb : ∀ (i : grid0.Coords) (k0_t39 : Fin (k0_t39_loop i).trips) (k0_t49 : Fin (k0_t49_loop i k0_t39).trips) (v387 : IVec S16 32) (k0_hw48 : k0_chk48 i k0_t39 k0_t49 v387), ∀ (k0_h18 : k0_cond18 i = 1#1), ∀ a x, ((![v387] : Fin 1 → IVec S16 32) a x).toNat < S100096.size a := fun i k0_t39 k0_t49 v387 k0_hw48 k0_h18 => k0_hw48 k0_h18
def k0_off195 (k0_t57 : Fin k0_t57_loop.trips) : Fin 2 → Nat :=
  let c3_i32_246 : BitVec 32 := 3#32
  let v390 : Index := Scalar.indexCast c3_i32_246
  let c0_i32_234 : BitVec 32 := 0#32
  let c1_i32_236 : BitVec 32 := 1#32
  let arg21 : BitVec 32 := Scf.iv c0_i32_234 c1_i32_236 k0_t57
  let c16_i32_245 : BitVec 32 := 16#32
  let v389 : BitVec 32 := Scalar.muli arg21 c16_i32_245
  let v391 : Index := Scalar.indexCast v389
  ![3, v391.toNat]
def k0_off196 (i : grid0.Coords) (k0_t39 : Fin (k0_t39_loop i).trips) (k0_t49 : Fin (k0_t49_loop i k0_t39).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_27 : BitVec 32 := 1#32
  let arg19 : BitVec 32 := Scf.iv v37 c1_i32_27 k0_t39
  let c16_i32_104 : BitVec 32 := 16#32
  let v210 : BitVec 32 := Scalar.muli arg19 c16_i32_104
  let v211 : BitVec 32 := Scalar.maxsi v12 v210
  let c1_i32_3 : BitVec 32 := 1#32
  let v13 : BitVec 32 := Scalar.addi v11 c1_i32_3
  let c22_i32_4 : BitVec 32 := 22#32
  let v14 : BitVec 32 := Scalar.muli v13 c22_i32_4
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t49
  let c14336_i32_240 : BitVec 32 := 14336#32
  ![arg20.toNat, 14336]
@[reducible] def k0_t58_loop (i : grid0.Coords) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let v58 : BitVec 32 := Scalar.addi v37 v57
  let c1_i32_28 : BitVec 32 := 1#32
  ⟨v61, v58, c1_i32_28⟩
def k0_off197 (i : grid0.Coords) (k0_t58 : Fin (k0_t58_loop i).trips) (c0_i32_52 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16384_i32 : BitVec 32 := 16384#32
  let v98 : BitVec 32 := Scalar.muli arg19 c16384_i32
  let v99 : BitVec 32 := Scalar.addi v98 c0_i32_52
  ![v99.toNat]
@[reducible] def k0_t59_loop (i : grid0.Coords) (k0_t58 : Fin (k0_t58_loop i).trips) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_109 : BitVec 32 := 1#32
  ⟨v211, v219, c1_i32_109⟩
def k0_off198 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c0_i32_112 : BitVec 32 := 0#32
  ![arg20.toNat, 0]
def k0_off199 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c33280_i32_115 : BitVec 32 := 33280#32
  ![arg20.toNat, 33280]
def k0_off200 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c66560_i32_118 : BitVec 32 := 66560#32
  ![arg20.toNat, 66560]
def k0_off201 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c0_i32_121 : BitVec 32 := 0#32
  ![arg20.toNat, 0]
def k0_cond27 (i : grid0.Coords) (k0_t58 : Fin (k0_t58_loop i).trips) (k0_t59 : Fin (k0_t59_loop i k0_t58).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let v268 : BitVec 1 := Scalar.cmpi .sgt arg20 v12
  let v269 : BitVec 32 := Scalar.extui v268
  let c0_i32_140 : BitVec 32 := 0#32
  let v270 : BitVec 1 := Scalar.cmpi .ne v269 c0_i32_140
  v270

def k0_off202 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c0_i32_245 : BitVec 32 := 0#32
  ![arg20.toNat, 0]
@[reducible] def k0_t60_loop : Scf.Loop 32 :=
  let c0_i32_142 : BitVec 32 := 0#32
  let c128_i32 : BitVec 32 := 128#32
  let v271 : BitVec 32 := Scalar.addi c0_i32_142 c128_i32
  let c1_i32_143 : BitVec 32 := 1#32
  ⟨c0_i32_142, v271, c1_i32_143⟩
def k0_off203 (k0_t60 : Fin k0_t60_loop.trips) : Fin 2 → Nat :=
  let c0_i32_244 : BitVec 32 := 0#32
  let v385 : Index := Scalar.indexCast c0_i32_244
  let c0_i32_142 : BitVec 32 := 0#32
  let c1_i32_143 : BitVec 32 := 1#32
  let arg21 : BitVec 32 := Scf.iv c0_i32_142 c1_i32_143 k0_t60
  let c16_i32_243 : BitVec 32 := 16#32
  let v384 : BitVec 32 := Scalar.muli arg21 c16_i32_243
  let v386 : Index := Scalar.indexCast v384
  ![0, v386.toNat]

def k0_chk49 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx49_inb : ∀ (i : grid0.Coords) (k0_t58 : Fin (k0_t58_loop i).trips) (v387 : IVec S16 32) (k0_hw49 : k0_chk49 i k0_t58 v387), ∀ (k0_h18 : k0_cond18 i = 1#1), ∀ a x, ((![v387] : Fin 1 → IVec S16 32) a x).toNat < S100096.size a := fun i k0_t58 v387 k0_hw49 k0_h18 => k0_hw49 k0_h18
def k0_off204 (k0_t60 : Fin k0_t60_loop.trips) : Fin 2 → Nat :=
  let c0_i32_246 : BitVec 32 := 0#32
  let v390 : Index := Scalar.indexCast c0_i32_246
  let c0_i32_142 : BitVec 32 := 0#32
  let c1_i32_143 : BitVec 32 := 1#32
  let arg21 : BitVec 32 := Scf.iv c0_i32_142 c1_i32_143 k0_t60
  let c16_i32_245 : BitVec 32 := 16#32
  let v389 : BitVec 32 := Scalar.muli arg21 c16_i32_245
  let v391 : Index := Scalar.indexCast v389
  ![0, v391.toNat]
def k0_off205 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c0_i32_147 : BitVec 32 := 0#32
  ![arg20.toNat, 0]
def k0_cond28 (i : grid0.Coords) (k0_t58 : Fin (k0_t58_loop i).trips) (k0_t59 : Fin (k0_t59_loop i k0_t58).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let v280 : BitVec 1 := Scalar.cmpi .sgt arg20 v12
  let v281 : BitVec 32 := Scalar.extui v280
  let c0_i32_150 : BitVec 32 := 0#32
  let v282 : BitVec 1 := Scalar.cmpi .ne v281 c0_i32_150
  v282

def k0_off206 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c0_i32_245 : BitVec 32 := 0#32
  ![arg20.toNat, 0]
@[reducible] def k0_t61_loop : Scf.Loop 32 :=
  let c0_i32_152 : BitVec 32 := 0#32
  let c128_i32_153 : BitVec 32 := 128#32
  let v283 : BitVec 32 := Scalar.addi c0_i32_152 c128_i32_153
  let c1_i32_154 : BitVec 32 := 1#32
  ⟨c0_i32_152, v283, c1_i32_154⟩
def k0_off207 (k0_t61 : Fin k0_t61_loop.trips) : Fin 2 → Nat :=
  let c1_i32_244 : BitVec 32 := 1#32
  let v385 : Index := Scalar.indexCast c1_i32_244
  let c0_i32_152 : BitVec 32 := 0#32
  let c1_i32_154 : BitVec 32 := 1#32
  let arg21 : BitVec 32 := Scf.iv c0_i32_152 c1_i32_154 k0_t61
  let c16_i32_243 : BitVec 32 := 16#32
  let v384 : BitVec 32 := Scalar.muli arg21 c16_i32_243
  let v386 : Index := Scalar.indexCast v384
  ![1, v386.toNat]

def k0_chk50 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx50_inb : ∀ (i : grid0.Coords) (k0_t58 : Fin (k0_t58_loop i).trips) (v387 : IVec S16 32) (k0_hw50 : k0_chk50 i k0_t58 v387), ∀ (k0_h18 : k0_cond18 i = 1#1), ∀ a x, ((![v387] : Fin 1 → IVec S16 32) a x).toNat < S100096.size a := fun i k0_t58 v387 k0_hw50 k0_h18 => k0_hw50 k0_h18
def k0_off208 (k0_t61 : Fin k0_t61_loop.trips) : Fin 2 → Nat :=
  let c1_i32_246 : BitVec 32 := 1#32
  let v390 : Index := Scalar.indexCast c1_i32_246
  let c0_i32_152 : BitVec 32 := 0#32
  let c1_i32_154 : BitVec 32 := 1#32
  let arg21 : BitVec 32 := Scf.iv c0_i32_152 c1_i32_154 k0_t61
  let c16_i32_245 : BitVec 32 := 16#32
  let v389 : BitVec 32 := Scalar.muli arg21 c16_i32_245
  let v391 : Index := Scalar.indexCast v389
  ![1, v391.toNat]
def k0_off209 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c2048_i32_158 : BitVec 32 := 2048#32
  ![arg20.toNat, 2048]
def k0_cond29 (i : grid0.Coords) (k0_t58 : Fin (k0_t58_loop i).trips) (k0_t59 : Fin (k0_t59_loop i k0_t58).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let v292 : BitVec 1 := Scalar.cmpi .sgt arg20 v12
  let v293 : BitVec 32 := Scalar.extui v292
  let c0_i32_161 : BitVec 32 := 0#32
  let v294 : BitVec 1 := Scalar.cmpi .ne v293 c0_i32_161
  v294

def k0_off210 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c0_i32_245 : BitVec 32 := 0#32
  ![arg20.toNat, 0]
@[reducible] def k0_t62_loop : Scf.Loop 32 :=
  let c0_i32_163 : BitVec 32 := 0#32
  let c128_i32_164 : BitVec 32 := 128#32
  let v295 : BitVec 32 := Scalar.addi c0_i32_163 c128_i32_164
  let c1_i32_165 : BitVec 32 := 1#32
  ⟨c0_i32_163, v295, c1_i32_165⟩
def k0_off211 (k0_t62 : Fin k0_t62_loop.trips) : Fin 2 → Nat :=
  let c2_i32_244 : BitVec 32 := 2#32
  let v385 : Index := Scalar.indexCast c2_i32_244
  let c0_i32_163 : BitVec 32 := 0#32
  let c1_i32_165 : BitVec 32 := 1#32
  let arg21 : BitVec 32 := Scf.iv c0_i32_163 c1_i32_165 k0_t62
  let c16_i32_243 : BitVec 32 := 16#32
  let v384 : BitVec 32 := Scalar.muli arg21 c16_i32_243
  let v386 : Index := Scalar.indexCast v384
  ![2, v386.toNat]

def k0_chk51 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx51_inb : ∀ (i : grid0.Coords) (k0_t58 : Fin (k0_t58_loop i).trips) (v387 : IVec S16 32) (k0_hw51 : k0_chk51 i k0_t58 v387), ∀ (k0_h18 : k0_cond18 i = 1#1), ∀ a x, ((![v387] : Fin 1 → IVec S16 32) a x).toNat < S100096.size a := fun i k0_t58 v387 k0_hw51 k0_h18 => k0_hw51 k0_h18
def k0_off212 (k0_t62 : Fin k0_t62_loop.trips) : Fin 2 → Nat :=
  let c2_i32_246 : BitVec 32 := 2#32
  let v390 : Index := Scalar.indexCast c2_i32_246
  let c0_i32_163 : BitVec 32 := 0#32
  let c1_i32_165 : BitVec 32 := 1#32
  let arg21 : BitVec 32 := Scf.iv c0_i32_163 c1_i32_165 k0_t62
  let c16_i32_245 : BitVec 32 := 16#32
  let v389 : BitVec 32 := Scalar.muli arg21 c16_i32_245
  let v391 : Index := Scalar.indexCast v389
  ![2, v391.toNat]
def k0_off213 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c4096_i32_169 : BitVec 32 := 4096#32
  ![arg20.toNat, 4096]
def k0_cond30 (i : grid0.Coords) (k0_t58 : Fin (k0_t58_loop i).trips) (k0_t59 : Fin (k0_t59_loop i k0_t58).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let v304 : BitVec 1 := Scalar.cmpi .sgt arg20 v12
  let v305 : BitVec 32 := Scalar.extui v304
  let c0_i32_172 : BitVec 32 := 0#32
  let v306 : BitVec 1 := Scalar.cmpi .ne v305 c0_i32_172
  v306

def k0_off214 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c0_i32_245 : BitVec 32 := 0#32
  ![arg20.toNat, 0]
@[reducible] def k0_t63_loop : Scf.Loop 32 :=
  let c0_i32_174 : BitVec 32 := 0#32
  let c128_i32_175 : BitVec 32 := 128#32
  let v307 : BitVec 32 := Scalar.addi c0_i32_174 c128_i32_175
  let c1_i32_176 : BitVec 32 := 1#32
  ⟨c0_i32_174, v307, c1_i32_176⟩
def k0_off215 (k0_t63 : Fin k0_t63_loop.trips) : Fin 2 → Nat :=
  let c3_i32_244 : BitVec 32 := 3#32
  let v385 : Index := Scalar.indexCast c3_i32_244
  let c0_i32_174 : BitVec 32 := 0#32
  let c1_i32_176 : BitVec 32 := 1#32
  let arg21 : BitVec 32 := Scf.iv c0_i32_174 c1_i32_176 k0_t63
  let c16_i32_243 : BitVec 32 := 16#32
  let v384 : BitVec 32 := Scalar.muli arg21 c16_i32_243
  let v386 : Index := Scalar.indexCast v384
  ![3, v386.toNat]

def k0_chk52 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx52_inb : ∀ (i : grid0.Coords) (k0_t58 : Fin (k0_t58_loop i).trips) (v387 : IVec S16 32) (k0_hw52 : k0_chk52 i k0_t58 v387), ∀ (k0_h18 : k0_cond18 i = 1#1), ∀ a x, ((![v387] : Fin 1 → IVec S16 32) a x).toNat < S100096.size a := fun i k0_t58 v387 k0_hw52 k0_h18 => k0_hw52 k0_h18
def k0_off216 (k0_t63 : Fin k0_t63_loop.trips) : Fin 2 → Nat :=
  let c3_i32_246 : BitVec 32 := 3#32
  let v390 : Index := Scalar.indexCast c3_i32_246
  let c0_i32_174 : BitVec 32 := 0#32
  let c1_i32_176 : BitVec 32 := 1#32
  let arg21 : BitVec 32 := Scf.iv c0_i32_174 c1_i32_176 k0_t63
  let c16_i32_245 : BitVec 32 := 16#32
  let v389 : BitVec 32 := Scalar.muli arg21 c16_i32_245
  let v391 : Index := Scalar.indexCast v389
  ![3, v391.toNat]
def k0_off217 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c6144_i32_180 : BitVec 32 := 6144#32
  ![arg20.toNat, 6144]
@[reducible] def k0_t64_loop : Scf.Loop 32 :=
  let c0_i32_189 : BitVec 32 := 0#32
  let c128_i32_190 : BitVec 32 := 128#32
  let v324 : BitVec 32 := Scalar.addi c0_i32_189 c128_i32_190
  let c1_i32_191 : BitVec 32 := 1#32
  ⟨c0_i32_189, v324, c1_i32_191⟩
def k0_off218 (k0_t64 : Fin k0_t64_loop.trips) : Fin 2 → Nat :=
  let c4_i32_244 : BitVec 32 := 4#32
  let v385 : Index := Scalar.indexCast c4_i32_244
  let c0_i32_189 : BitVec 32 := 0#32
  let c1_i32_191 : BitVec 32 := 1#32
  let arg21 : BitVec 32 := Scf.iv c0_i32_189 c1_i32_191 k0_t64
  let c16_i32_243 : BitVec 32 := 16#32
  let v384 : BitVec 32 := Scalar.muli arg21 c16_i32_243
  let v386 : Index := Scalar.indexCast v384
  ![4, v386.toNat]

def k0_chk53 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx53_inb : ∀ (i : grid0.Coords) (k0_t58 : Fin (k0_t58_loop i).trips) (v387 : IVec S16 32) (k0_hw53 : k0_chk53 i k0_t58 v387), ∀ (k0_h18 : k0_cond18 i = 1#1), ∀ a x, ((![v387] : Fin 1 → IVec S16 32) a x).toNat < S100096.size a := fun i k0_t58 v387 k0_hw53 k0_h18 => k0_hw53 k0_h18
def k0_off219 (k0_t64 : Fin k0_t64_loop.trips) : Fin 2 → Nat :=
  let c0_i32_246 : BitVec 32 := 0#32
  let v390 : Index := Scalar.indexCast c0_i32_246
  let c0_i32_189 : BitVec 32 := 0#32
  let c1_i32_191 : BitVec 32 := 1#32
  let arg21 : BitVec 32 := Scf.iv c0_i32_189 c1_i32_191 k0_t64
  let c16_i32_245 : BitVec 32 := 16#32
  let v389 : BitVec 32 := Scalar.muli arg21 c16_i32_245
  let v391 : Index := Scalar.indexCast v389
  ![0, v391.toNat]
def k0_off220 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c8192_i32_195 : BitVec 32 := 8192#32
  ![arg20.toNat, 8192]
@[reducible] def k0_t65_loop : Scf.Loop 32 :=
  let c0_i32_204 : BitVec 32 := 0#32
  let c128_i32_205 : BitVec 32 := 128#32
  let v341 : BitVec 32 := Scalar.addi c0_i32_204 c128_i32_205
  let c1_i32_206 : BitVec 32 := 1#32
  ⟨c0_i32_204, v341, c1_i32_206⟩
def k0_off221 (k0_t65 : Fin k0_t65_loop.trips) : Fin 2 → Nat :=
  let c5_i32_244 : BitVec 32 := 5#32
  let v385 : Index := Scalar.indexCast c5_i32_244
  let c0_i32_204 : BitVec 32 := 0#32
  let c1_i32_206 : BitVec 32 := 1#32
  let arg21 : BitVec 32 := Scf.iv c0_i32_204 c1_i32_206 k0_t65
  let c16_i32_243 : BitVec 32 := 16#32
  let v384 : BitVec 32 := Scalar.muli arg21 c16_i32_243
  let v386 : Index := Scalar.indexCast v384
  ![5, v386.toNat]

def k0_chk54 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx54_inb : ∀ (i : grid0.Coords) (k0_t58 : Fin (k0_t58_loop i).trips) (v387 : IVec S16 32) (k0_hw54 : k0_chk54 i k0_t58 v387), ∀ (k0_h18 : k0_cond18 i = 1#1), ∀ a x, ((![v387] : Fin 1 → IVec S16 32) a x).toNat < S100096.size a := fun i k0_t58 v387 k0_hw54 k0_h18 => k0_hw54 k0_h18
def k0_off222 (k0_t65 : Fin k0_t65_loop.trips) : Fin 2 → Nat :=
  let c1_i32_246 : BitVec 32 := 1#32
  let v390 : Index := Scalar.indexCast c1_i32_246
  let c0_i32_204 : BitVec 32 := 0#32
  let c1_i32_206 : BitVec 32 := 1#32
  let arg21 : BitVec 32 := Scf.iv c0_i32_204 c1_i32_206 k0_t65
  let c16_i32_245 : BitVec 32 := 16#32
  let v389 : BitVec 32 := Scalar.muli arg21 c16_i32_245
  let v391 : Index := Scalar.indexCast v389
  ![1, v391.toNat]
def k0_off223 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c10240_i32_210 : BitVec 32 := 10240#32
  ![arg20.toNat, 10240]
@[reducible] def k0_t66_loop : Scf.Loop 32 :=
  let c0_i32_219 : BitVec 32 := 0#32
  let c128_i32_220 : BitVec 32 := 128#32
  let v358 : BitVec 32 := Scalar.addi c0_i32_219 c128_i32_220
  let c1_i32_221 : BitVec 32 := 1#32
  ⟨c0_i32_219, v358, c1_i32_221⟩
def k0_off224 (k0_t66 : Fin k0_t66_loop.trips) : Fin 2 → Nat :=
  let c6_i32_244 : BitVec 32 := 6#32
  let v385 : Index := Scalar.indexCast c6_i32_244
  let c0_i32_219 : BitVec 32 := 0#32
  let c1_i32_221 : BitVec 32 := 1#32
  let arg21 : BitVec 32 := Scf.iv c0_i32_219 c1_i32_221 k0_t66
  let c16_i32_243 : BitVec 32 := 16#32
  let v384 : BitVec 32 := Scalar.muli arg21 c16_i32_243
  let v386 : Index := Scalar.indexCast v384
  ![6, v386.toNat]

def k0_chk55 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx55_inb : ∀ (i : grid0.Coords) (k0_t58 : Fin (k0_t58_loop i).trips) (v387 : IVec S16 32) (k0_hw55 : k0_chk55 i k0_t58 v387), ∀ (k0_h18 : k0_cond18 i = 1#1), ∀ a x, ((![v387] : Fin 1 → IVec S16 32) a x).toNat < S100096.size a := fun i k0_t58 v387 k0_hw55 k0_h18 => k0_hw55 k0_h18
def k0_off225 (k0_t66 : Fin k0_t66_loop.trips) : Fin 2 → Nat :=
  let c2_i32_246 : BitVec 32 := 2#32
  let v390 : Index := Scalar.indexCast c2_i32_246
  let c0_i32_219 : BitVec 32 := 0#32
  let c1_i32_221 : BitVec 32 := 1#32
  let arg21 : BitVec 32 := Scf.iv c0_i32_219 c1_i32_221 k0_t66
  let c16_i32_245 : BitVec 32 := 16#32
  let v389 : BitVec 32 := Scalar.muli arg21 c16_i32_245
  let v391 : Index := Scalar.indexCast v389
  ![2, v391.toNat]
def k0_off226 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c12288_i32_225 : BitVec 32 := 12288#32
  ![arg20.toNat, 12288]
@[reducible] def k0_t67_loop : Scf.Loop 32 :=
  let c0_i32_234 : BitVec 32 := 0#32
  let c128_i32_235 : BitVec 32 := 128#32
  let v375 : BitVec 32 := Scalar.addi c0_i32_234 c128_i32_235
  let c1_i32_236 : BitVec 32 := 1#32
  ⟨c0_i32_234, v375, c1_i32_236⟩
def k0_off227 (k0_t67 : Fin k0_t67_loop.trips) : Fin 2 → Nat :=
  let c7_i32_244 : BitVec 32 := 7#32
  let v385 : Index := Scalar.indexCast c7_i32_244
  let c0_i32_234 : BitVec 32 := 0#32
  let c1_i32_236 : BitVec 32 := 1#32
  let arg21 : BitVec 32 := Scf.iv c0_i32_234 c1_i32_236 k0_t67
  let c16_i32_243 : BitVec 32 := 16#32
  let v384 : BitVec 32 := Scalar.muli arg21 c16_i32_243
  let v386 : Index := Scalar.indexCast v384
  ![7, v386.toNat]

def k0_chk56 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx56_inb : ∀ (i : grid0.Coords) (k0_t58 : Fin (k0_t58_loop i).trips) (v387 : IVec S16 32) (k0_hw56 : k0_chk56 i k0_t58 v387), ∀ (k0_h18 : k0_cond18 i = 1#1), ∀ a x, ((![v387] : Fin 1 → IVec S16 32) a x).toNat < S100096.size a := fun i k0_t58 v387 k0_hw56 k0_h18 => k0_hw56 k0_h18
def k0_off228 (k0_t67 : Fin k0_t67_loop.trips) : Fin 2 → Nat :=
  let c3_i32_246 : BitVec 32 := 3#32
  let v390 : Index := Scalar.indexCast c3_i32_246
  let c0_i32_234 : BitVec 32 := 0#32
  let c1_i32_236 : BitVec 32 := 1#32
  let arg21 : BitVec 32 := Scf.iv c0_i32_234 c1_i32_236 k0_t67
  let c16_i32_245 : BitVec 32 := 16#32
  let v389 : BitVec 32 := Scalar.muli arg21 c16_i32_245
  let v391 : Index := Scalar.indexCast v389
  ![3, v391.toNat]
def k0_off229 (i : grid0.Coords) (k0_t58 : Fin (k0_t58_loop i).trips) (k0_t59 : Fin (k0_t59_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_109 : BitVec 32 := 1#32
  let arg20 : BitVec 32 := Scf.iv v211 c1_i32_109 k0_t59
  let c14336_i32_240 : BitVec 32 := 14336#32
  ![arg20.toNat, 14336]
@[reducible] def k0_t68_loop (i : grid0.Coords) (k0_t58 : Fin (k0_t58_loop i).trips) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let v216 : BitVec 32 := Scalar.addi v211 v215
  let c1_i32_110 : BitVec 32 := 1#32
  ⟨v219, v216, c1_i32_110⟩
def k0_off230 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c0_i32_112 : BitVec 32 := 0#32
  ![arg20.toNat, 0]
def k0_off231 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c33280_i32_115 : BitVec 32 := 33280#32
  ![arg20.toNat, 33280]
def k0_off232 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c66560_i32_118 : BitVec 32 := 66560#32
  ![arg20.toNat, 66560]
def k0_off233 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c0_i32_121 : BitVec 32 := 0#32
  ![arg20.toNat, 0]
def k0_cond31 (i : grid0.Coords) (k0_t58 : Fin (k0_t58_loop i).trips) (k0_t68 : Fin (k0_t68_loop i k0_t58).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let v268 : BitVec 1 := Scalar.cmpi .sgt arg20 v12
  let v269 : BitVec 32 := Scalar.extui v268
  let c0_i32_140 : BitVec 32 := 0#32
  let v270 : BitVec 1 := Scalar.cmpi .ne v269 c0_i32_140
  v270

def k0_off234 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c0_i32_245 : BitVec 32 := 0#32
  ![arg20.toNat, 0]
@[reducible] def k0_t69_loop : Scf.Loop 32 :=
  let c0_i32_142 : BitVec 32 := 0#32
  let c128_i32 : BitVec 32 := 128#32
  let v271 : BitVec 32 := Scalar.addi c0_i32_142 c128_i32
  let c1_i32_143 : BitVec 32 := 1#32
  ⟨c0_i32_142, v271, c1_i32_143⟩
def k0_off235 (k0_t69 : Fin k0_t69_loop.trips) : Fin 2 → Nat :=
  let c0_i32_244 : BitVec 32 := 0#32
  let v385 : Index := Scalar.indexCast c0_i32_244
  let c0_i32_142 : BitVec 32 := 0#32
  let c1_i32_143 : BitVec 32 := 1#32
  let arg21 : BitVec 32 := Scf.iv c0_i32_142 c1_i32_143 k0_t69
  let c16_i32_243 : BitVec 32 := 16#32
  let v384 : BitVec 32 := Scalar.muli arg21 c16_i32_243
  let v386 : Index := Scalar.indexCast v384
  ![0, v386.toNat]

def k0_chk57 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx57_inb : ∀ (i : grid0.Coords) (k0_t58 : Fin (k0_t58_loop i).trips) (v387 : IVec S16 32) (k0_hw57 : k0_chk57 i k0_t58 v387), ∀ (k0_h18 : k0_cond18 i = 1#1), ∀ a x, ((![v387] : Fin 1 → IVec S16 32) a x).toNat < S100096.size a := fun i k0_t58 v387 k0_hw57 k0_h18 => k0_hw57 k0_h18
def k0_off236 (k0_t69 : Fin k0_t69_loop.trips) : Fin 2 → Nat :=
  let c0_i32_246 : BitVec 32 := 0#32
  let v390 : Index := Scalar.indexCast c0_i32_246
  let c0_i32_142 : BitVec 32 := 0#32
  let c1_i32_143 : BitVec 32 := 1#32
  let arg21 : BitVec 32 := Scf.iv c0_i32_142 c1_i32_143 k0_t69
  let c16_i32_245 : BitVec 32 := 16#32
  let v389 : BitVec 32 := Scalar.muli arg21 c16_i32_245
  let v391 : Index := Scalar.indexCast v389
  ![0, v391.toNat]
def k0_off237 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c0_i32_147 : BitVec 32 := 0#32
  ![arg20.toNat, 0]
def k0_cond32 (i : grid0.Coords) (k0_t58 : Fin (k0_t58_loop i).trips) (k0_t68 : Fin (k0_t68_loop i k0_t58).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let v280 : BitVec 1 := Scalar.cmpi .sgt arg20 v12
  let v281 : BitVec 32 := Scalar.extui v280
  let c0_i32_150 : BitVec 32 := 0#32
  let v282 : BitVec 1 := Scalar.cmpi .ne v281 c0_i32_150
  v282

def k0_off238 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c0_i32_245 : BitVec 32 := 0#32
  ![arg20.toNat, 0]
@[reducible] def k0_t70_loop : Scf.Loop 32 :=
  let c0_i32_152 : BitVec 32 := 0#32
  let c128_i32_153 : BitVec 32 := 128#32
  let v283 : BitVec 32 := Scalar.addi c0_i32_152 c128_i32_153
  let c1_i32_154 : BitVec 32 := 1#32
  ⟨c0_i32_152, v283, c1_i32_154⟩
def k0_off239 (k0_t70 : Fin k0_t70_loop.trips) : Fin 2 → Nat :=
  let c1_i32_244 : BitVec 32 := 1#32
  let v385 : Index := Scalar.indexCast c1_i32_244
  let c0_i32_152 : BitVec 32 := 0#32
  let c1_i32_154 : BitVec 32 := 1#32
  let arg21 : BitVec 32 := Scf.iv c0_i32_152 c1_i32_154 k0_t70
  let c16_i32_243 : BitVec 32 := 16#32
  let v384 : BitVec 32 := Scalar.muli arg21 c16_i32_243
  let v386 : Index := Scalar.indexCast v384
  ![1, v386.toNat]

def k0_chk58 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx58_inb : ∀ (i : grid0.Coords) (k0_t58 : Fin (k0_t58_loop i).trips) (v387 : IVec S16 32) (k0_hw58 : k0_chk58 i k0_t58 v387), ∀ (k0_h18 : k0_cond18 i = 1#1), ∀ a x, ((![v387] : Fin 1 → IVec S16 32) a x).toNat < S100096.size a := fun i k0_t58 v387 k0_hw58 k0_h18 => k0_hw58 k0_h18
def k0_off240 (k0_t70 : Fin k0_t70_loop.trips) : Fin 2 → Nat :=
  let c1_i32_246 : BitVec 32 := 1#32
  let v390 : Index := Scalar.indexCast c1_i32_246
  let c0_i32_152 : BitVec 32 := 0#32
  let c1_i32_154 : BitVec 32 := 1#32
  let arg21 : BitVec 32 := Scf.iv c0_i32_152 c1_i32_154 k0_t70
  let c16_i32_245 : BitVec 32 := 16#32
  let v389 : BitVec 32 := Scalar.muli arg21 c16_i32_245
  let v391 : Index := Scalar.indexCast v389
  ![1, v391.toNat]
def k0_off241 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c2048_i32_158 : BitVec 32 := 2048#32
  ![arg20.toNat, 2048]
def k0_cond33 (i : grid0.Coords) (k0_t58 : Fin (k0_t58_loop i).trips) (k0_t68 : Fin (k0_t68_loop i k0_t58).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let v292 : BitVec 1 := Scalar.cmpi .sgt arg20 v12
  let v293 : BitVec 32 := Scalar.extui v292
  let c0_i32_161 : BitVec 32 := 0#32
  let v294 : BitVec 1 := Scalar.cmpi .ne v293 c0_i32_161
  v294

def k0_off242 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c0_i32_245 : BitVec 32 := 0#32
  ![arg20.toNat, 0]
@[reducible] def k0_t71_loop : Scf.Loop 32 :=
  let c0_i32_163 : BitVec 32 := 0#32
  let c128_i32_164 : BitVec 32 := 128#32
  let v295 : BitVec 32 := Scalar.addi c0_i32_163 c128_i32_164
  let c1_i32_165 : BitVec 32 := 1#32
  ⟨c0_i32_163, v295, c1_i32_165⟩
def k0_off243 (k0_t71 : Fin k0_t71_loop.trips) : Fin 2 → Nat :=
  let c2_i32_244 : BitVec 32 := 2#32
  let v385 : Index := Scalar.indexCast c2_i32_244
  let c0_i32_163 : BitVec 32 := 0#32
  let c1_i32_165 : BitVec 32 := 1#32
  let arg21 : BitVec 32 := Scf.iv c0_i32_163 c1_i32_165 k0_t71
  let c16_i32_243 : BitVec 32 := 16#32
  let v384 : BitVec 32 := Scalar.muli arg21 c16_i32_243
  let v386 : Index := Scalar.indexCast v384
  ![2, v386.toNat]

def k0_chk59 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx59_inb : ∀ (i : grid0.Coords) (k0_t58 : Fin (k0_t58_loop i).trips) (v387 : IVec S16 32) (k0_hw59 : k0_chk59 i k0_t58 v387), ∀ (k0_h18 : k0_cond18 i = 1#1), ∀ a x, ((![v387] : Fin 1 → IVec S16 32) a x).toNat < S100096.size a := fun i k0_t58 v387 k0_hw59 k0_h18 => k0_hw59 k0_h18
def k0_off244 (k0_t71 : Fin k0_t71_loop.trips) : Fin 2 → Nat :=
  let c2_i32_246 : BitVec 32 := 2#32
  let v390 : Index := Scalar.indexCast c2_i32_246
  let c0_i32_163 : BitVec 32 := 0#32
  let c1_i32_165 : BitVec 32 := 1#32
  let arg21 : BitVec 32 := Scf.iv c0_i32_163 c1_i32_165 k0_t71
  let c16_i32_245 : BitVec 32 := 16#32
  let v389 : BitVec 32 := Scalar.muli arg21 c16_i32_245
  let v391 : Index := Scalar.indexCast v389
  ![2, v391.toNat]
def k0_off245 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c4096_i32_169 : BitVec 32 := 4096#32
  ![arg20.toNat, 4096]
def k0_cond34 (i : grid0.Coords) (k0_t58 : Fin (k0_t58_loop i).trips) (k0_t68 : Fin (k0_t68_loop i k0_t58).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let v304 : BitVec 1 := Scalar.cmpi .sgt arg20 v12
  let v305 : BitVec 32 := Scalar.extui v304
  let c0_i32_172 : BitVec 32 := 0#32
  let v306 : BitVec 1 := Scalar.cmpi .ne v305 c0_i32_172
  v306

def k0_off246 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c0_i32_245 : BitVec 32 := 0#32
  ![arg20.toNat, 0]
@[reducible] def k0_t72_loop : Scf.Loop 32 :=
  let c0_i32_174 : BitVec 32 := 0#32
  let c128_i32_175 : BitVec 32 := 128#32
  let v307 : BitVec 32 := Scalar.addi c0_i32_174 c128_i32_175
  let c1_i32_176 : BitVec 32 := 1#32
  ⟨c0_i32_174, v307, c1_i32_176⟩
def k0_off247 (k0_t72 : Fin k0_t72_loop.trips) : Fin 2 → Nat :=
  let c3_i32_244 : BitVec 32 := 3#32
  let v385 : Index := Scalar.indexCast c3_i32_244
  let c0_i32_174 : BitVec 32 := 0#32
  let c1_i32_176 : BitVec 32 := 1#32
  let arg21 : BitVec 32 := Scf.iv c0_i32_174 c1_i32_176 k0_t72
  let c16_i32_243 : BitVec 32 := 16#32
  let v384 : BitVec 32 := Scalar.muli arg21 c16_i32_243
  let v386 : Index := Scalar.indexCast v384
  ![3, v386.toNat]

def k0_chk60 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx60_inb : ∀ (i : grid0.Coords) (k0_t58 : Fin (k0_t58_loop i).trips) (v387 : IVec S16 32) (k0_hw60 : k0_chk60 i k0_t58 v387), ∀ (k0_h18 : k0_cond18 i = 1#1), ∀ a x, ((![v387] : Fin 1 → IVec S16 32) a x).toNat < S100096.size a := fun i k0_t58 v387 k0_hw60 k0_h18 => k0_hw60 k0_h18
def k0_off248 (k0_t72 : Fin k0_t72_loop.trips) : Fin 2 → Nat :=
  let c3_i32_246 : BitVec 32 := 3#32
  let v390 : Index := Scalar.indexCast c3_i32_246
  let c0_i32_174 : BitVec 32 := 0#32
  let c1_i32_176 : BitVec 32 := 1#32
  let arg21 : BitVec 32 := Scf.iv c0_i32_174 c1_i32_176 k0_t72
  let c16_i32_245 : BitVec 32 := 16#32
  let v389 : BitVec 32 := Scalar.muli arg21 c16_i32_245
  let v391 : Index := Scalar.indexCast v389
  ![3, v391.toNat]
def k0_off249 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c6144_i32_180 : BitVec 32 := 6144#32
  ![arg20.toNat, 6144]
@[reducible] def k0_t73_loop : Scf.Loop 32 :=
  let c0_i32_189 : BitVec 32 := 0#32
  let c128_i32_190 : BitVec 32 := 128#32
  let v324 : BitVec 32 := Scalar.addi c0_i32_189 c128_i32_190
  let c1_i32_191 : BitVec 32 := 1#32
  ⟨c0_i32_189, v324, c1_i32_191⟩
def k0_off250 (k0_t73 : Fin k0_t73_loop.trips) : Fin 2 → Nat :=
  let c4_i32_244 : BitVec 32 := 4#32
  let v385 : Index := Scalar.indexCast c4_i32_244
  let c0_i32_189 : BitVec 32 := 0#32
  let c1_i32_191 : BitVec 32 := 1#32
  let arg21 : BitVec 32 := Scf.iv c0_i32_189 c1_i32_191 k0_t73
  let c16_i32_243 : BitVec 32 := 16#32
  let v384 : BitVec 32 := Scalar.muli arg21 c16_i32_243
  let v386 : Index := Scalar.indexCast v384
  ![4, v386.toNat]

def k0_chk61 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx61_inb : ∀ (i : grid0.Coords) (k0_t58 : Fin (k0_t58_loop i).trips) (v387 : IVec S16 32) (k0_hw61 : k0_chk61 i k0_t58 v387), ∀ (k0_h18 : k0_cond18 i = 1#1), ∀ a x, ((![v387] : Fin 1 → IVec S16 32) a x).toNat < S100096.size a := fun i k0_t58 v387 k0_hw61 k0_h18 => k0_hw61 k0_h18
def k0_off251 (k0_t73 : Fin k0_t73_loop.trips) : Fin 2 → Nat :=
  let c0_i32_246 : BitVec 32 := 0#32
  let v390 : Index := Scalar.indexCast c0_i32_246
  let c0_i32_189 : BitVec 32 := 0#32
  let c1_i32_191 : BitVec 32 := 1#32
  let arg21 : BitVec 32 := Scf.iv c0_i32_189 c1_i32_191 k0_t73
  let c16_i32_245 : BitVec 32 := 16#32
  let v389 : BitVec 32 := Scalar.muli arg21 c16_i32_245
  let v391 : Index := Scalar.indexCast v389
  ![0, v391.toNat]
def k0_off252 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c8192_i32_195 : BitVec 32 := 8192#32
  ![arg20.toNat, 8192]
@[reducible] def k0_t74_loop : Scf.Loop 32 :=
  let c0_i32_204 : BitVec 32 := 0#32
  let c128_i32_205 : BitVec 32 := 128#32
  let v341 : BitVec 32 := Scalar.addi c0_i32_204 c128_i32_205
  let c1_i32_206 : BitVec 32 := 1#32
  ⟨c0_i32_204, v341, c1_i32_206⟩
def k0_off253 (k0_t74 : Fin k0_t74_loop.trips) : Fin 2 → Nat :=
  let c5_i32_244 : BitVec 32 := 5#32
  let v385 : Index := Scalar.indexCast c5_i32_244
  let c0_i32_204 : BitVec 32 := 0#32
  let c1_i32_206 : BitVec 32 := 1#32
  let arg21 : BitVec 32 := Scf.iv c0_i32_204 c1_i32_206 k0_t74
  let c16_i32_243 : BitVec 32 := 16#32
  let v384 : BitVec 32 := Scalar.muli arg21 c16_i32_243
  let v386 : Index := Scalar.indexCast v384
  ![5, v386.toNat]

def k0_chk62 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx62_inb : ∀ (i : grid0.Coords) (k0_t58 : Fin (k0_t58_loop i).trips) (v387 : IVec S16 32) (k0_hw62 : k0_chk62 i k0_t58 v387), ∀ (k0_h18 : k0_cond18 i = 1#1), ∀ a x, ((![v387] : Fin 1 → IVec S16 32) a x).toNat < S100096.size a := fun i k0_t58 v387 k0_hw62 k0_h18 => k0_hw62 k0_h18
def k0_off254 (k0_t74 : Fin k0_t74_loop.trips) : Fin 2 → Nat :=
  let c1_i32_246 : BitVec 32 := 1#32
  let v390 : Index := Scalar.indexCast c1_i32_246
  let c0_i32_204 : BitVec 32 := 0#32
  let c1_i32_206 : BitVec 32 := 1#32
  let arg21 : BitVec 32 := Scf.iv c0_i32_204 c1_i32_206 k0_t74
  let c16_i32_245 : BitVec 32 := 16#32
  let v389 : BitVec 32 := Scalar.muli arg21 c16_i32_245
  let v391 : Index := Scalar.indexCast v389
  ![1, v391.toNat]
def k0_off255 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c10240_i32_210 : BitVec 32 := 10240#32
  ![arg20.toNat, 10240]
@[reducible] def k0_t75_loop : Scf.Loop 32 :=
  let c0_i32_219 : BitVec 32 := 0#32
  let c128_i32_220 : BitVec 32 := 128#32
  let v358 : BitVec 32 := Scalar.addi c0_i32_219 c128_i32_220
  let c1_i32_221 : BitVec 32 := 1#32
  ⟨c0_i32_219, v358, c1_i32_221⟩
def k0_off256 (k0_t75 : Fin k0_t75_loop.trips) : Fin 2 → Nat :=
  let c6_i32_244 : BitVec 32 := 6#32
  let v385 : Index := Scalar.indexCast c6_i32_244
  let c0_i32_219 : BitVec 32 := 0#32
  let c1_i32_221 : BitVec 32 := 1#32
  let arg21 : BitVec 32 := Scf.iv c0_i32_219 c1_i32_221 k0_t75
  let c16_i32_243 : BitVec 32 := 16#32
  let v384 : BitVec 32 := Scalar.muli arg21 c16_i32_243
  let v386 : Index := Scalar.indexCast v384
  ![6, v386.toNat]

def k0_chk63 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx63_inb : ∀ (i : grid0.Coords) (k0_t58 : Fin (k0_t58_loop i).trips) (v387 : IVec S16 32) (k0_hw63 : k0_chk63 i k0_t58 v387), ∀ (k0_h18 : k0_cond18 i = 1#1), ∀ a x, ((![v387] : Fin 1 → IVec S16 32) a x).toNat < S100096.size a := fun i k0_t58 v387 k0_hw63 k0_h18 => k0_hw63 k0_h18
def k0_off257 (k0_t75 : Fin k0_t75_loop.trips) : Fin 2 → Nat :=
  let c2_i32_246 : BitVec 32 := 2#32
  let v390 : Index := Scalar.indexCast c2_i32_246
  let c0_i32_219 : BitVec 32 := 0#32
  let c1_i32_221 : BitVec 32 := 1#32
  let arg21 : BitVec 32 := Scf.iv c0_i32_219 c1_i32_221 k0_t75
  let c16_i32_245 : BitVec 32 := 16#32
  let v389 : BitVec 32 := Scalar.muli arg21 c16_i32_245
  let v391 : Index := Scalar.indexCast v389
  ![2, v391.toNat]
def k0_off258 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c12288_i32_225 : BitVec 32 := 12288#32
  ![arg20.toNat, 12288]
@[reducible] def k0_t76_loop : Scf.Loop 32 :=
  let c0_i32_234 : BitVec 32 := 0#32
  let c128_i32_235 : BitVec 32 := 128#32
  let v375 : BitVec 32 := Scalar.addi c0_i32_234 c128_i32_235
  let c1_i32_236 : BitVec 32 := 1#32
  ⟨c0_i32_234, v375, c1_i32_236⟩
def k0_off259 (k0_t76 : Fin k0_t76_loop.trips) : Fin 2 → Nat :=
  let c7_i32_244 : BitVec 32 := 7#32
  let v385 : Index := Scalar.indexCast c7_i32_244
  let c0_i32_234 : BitVec 32 := 0#32
  let c1_i32_236 : BitVec 32 := 1#32
  let arg21 : BitVec 32 := Scf.iv c0_i32_234 c1_i32_236 k0_t76
  let c16_i32_243 : BitVec 32 := 16#32
  let v384 : BitVec 32 := Scalar.muli arg21 c16_i32_243
  let v386 : Index := Scalar.indexCast v384
  ![7, v386.toNat]

def k0_chk64 (i : grid0.Coords) (k0_t58 : Fin (k0_t58_loop i).trips) (v387 : IVec S16 32) : Prop :=
  (∀ (k0_h18 : k0_cond18 i = 1#1), ∀ a x, ((![v387] : Fin 1 → IVec S16 32) a x).toNat < S100096.size a)
theorem k0_idx64_inb : ∀ (i : grid0.Coords) (k0_t58 : Fin (k0_t58_loop i).trips) (v387 : IVec S16 32) (k0_hw64 : k0_chk64 i k0_t58 v387), ∀ (k0_h18 : k0_cond18 i = 1#1), ∀ a x, ((![v387] : Fin 1 → IVec S16 32) a x).toNat < S100096.size a := fun i k0_t58 v387 k0_hw64 k0_h18 => k0_hw64 k0_h18
def k0_off260 (k0_t76 : Fin k0_t76_loop.trips) : Fin 2 → Nat :=
  let c3_i32_246 : BitVec 32 := 3#32
  let v390 : Index := Scalar.indexCast c3_i32_246
  let c0_i32_234 : BitVec 32 := 0#32
  let c1_i32_236 : BitVec 32 := 1#32
  let arg21 : BitVec 32 := Scf.iv c0_i32_234 c1_i32_236 k0_t76
  let c16_i32_245 : BitVec 32 := 16#32
  let v389 : BitVec 32 := Scalar.muli arg21 c16_i32_245
  let v391 : Index := Scalar.indexCast v389
  ![3, v391.toNat]
def k0_off261 (i : grid0.Coords) (k0_t58 : Fin (k0_t58_loop i).trips) (k0_t68 : Fin (k0_t68_loop i k0_t58).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c22_i32 : BitVec 32 := 22#32
  let v12 : BitVec 32 := Scalar.muli v11 c22_i32
  let c0_i32_10 : BitVec 32 := 0#32
  let v22 : BitVec 1 := Scalar.cmpi .sgt v12 c0_i32_10
  let v23 : BitVec 32 := Scalar.extui v22
  let c0_i32_11 : BitVec 32 := 0#32
  let v24 : BitVec 1 := Scalar.cmpi .slt v12 c0_i32_11
  let v25 : BitVec 32 := Scalar.extui v24
  let v26 : BitVec 32 := Scalar.subi v23 v25
  let c16_i32_9 : BitVec 32 := 16#32
  let c0_i32_12 : BitVec 32 := 0#32
  let v27 : BitVec 1 := Scalar.cmpi .sgt c16_i32_9 c0_i32_12
  let v28 : BitVec 32 := Scalar.extui v27
  let c0_i32_13 : BitVec 32 := 0#32
  let v29 : BitVec 1 := Scalar.cmpi .slt c16_i32_9 c0_i32_13
  let v30 : BitVec 32 := Scalar.extui v29
  let v31 : BitVec 32 := Scalar.subi v28 v30
  let v32 : BitVec 1 := Scalar.cmpi .ne v26 v31
  let v33 : BitVec 32 := Scalar.remsi v12 c16_i32_9
  let c0_i32_14 : BitVec 32 := 0#32
  let v34 : BitVec 1 := Scalar.cmpi .ne v33 c0_i32_14
  let v35 : BitVec 1 := Scalar.andi v32 v34
  let v21 : BitVec 32 := Scalar.divsi v12 c16_i32_9
  let c1_i32_15 : BitVec 32 := 1#32
  let v36 : BitVec 32 := Scalar.subi v21 c1_i32_15
  let v37 : BitVec 32 := Scalar.select v35 v36 v21
  let c1_i32_3 : BitVec 32 := 1#32
  let v13 : BitVec 32 := Scalar.addi v11 c1_i32_3
  let c22_i32_4 : BitVec 32 := 22#32
  let v14 : BitVec 32 := Scalar.muli v13 c22_i32_4
  let c1_i32_16 : BitVec 32 := 1#32
  let v38 : BitVec 32 := Scalar.subi v14 c1_i32_16
  let c0_i32_18 : BitVec 32 := 0#32
  let v40 : BitVec 1 := Scalar.cmpi .sgt v38 c0_i32_18
  let v41 : BitVec 32 := Scalar.extui v40
  let c0_i32_19 : BitVec 32 := 0#32
  let v42 : BitVec 1 := Scalar.cmpi .slt v38 c0_i32_19
  let v43 : BitVec 32 := Scalar.extui v42
  let v44 : BitVec 32 := Scalar.subi v41 v43
  let c16_i32_17 : BitVec 32 := 16#32
  let c0_i32_20 : BitVec 32 := 0#32
  let v45 : BitVec 1 := Scalar.cmpi .sgt c16_i32_17 c0_i32_20
  let v46 : BitVec 32 := Scalar.extui v45
  let c0_i32_21 : BitVec 32 := 0#32
  let v47 : BitVec 1 := Scalar.cmpi .slt c16_i32_17 c0_i32_21
  let v48 : BitVec 32 := Scalar.extui v47
  let v49 : BitVec 32 := Scalar.subi v46 v48
  let v50 : BitVec 1 := Scalar.cmpi .ne v44 v49
  let v51 : BitVec 32 := Scalar.remsi v38 c16_i32_17
  let c0_i32_22 : BitVec 32 := 0#32
  let v52 : BitVec 1 := Scalar.cmpi .ne v51 c0_i32_22
  let v53 : BitVec 1 := Scalar.andi v50 v52
  let v39 : BitVec 32 := Scalar.divsi v38 c16_i32_17
  let c1_i32_23 : BitVec 32 := 1#32
  let v54 : BitVec 32 := Scalar.subi v39 c1_i32_23
  let v55 : BitVec 32 := Scalar.select v53 v54 v39
  let c1_i32_24 : BitVec 32 := 1#32
  let v56 : BitVec 32 := Scalar.addi v55 c1_i32_24
  let v57 : BitVec 32 := Scalar.subi v56 v37
  let c1_i32_26 : BitVec 32 := 1#32
  let v59 : BitVec 32 := Scalar.divsi v57 c1_i32_26
  let v60 : BitVec 32 := Scalar.muli v59 c1_i32_26
  let v61 : BitVec 32 := Scalar.addi v37 v60
  let c1_i32_28 : BitVec 32 := 1#32
  let arg19 : BitVec 32 := Scf.iv v61 c1_i32_28 k0_t58
  let c16_i32_104 : BitVec 32 := 16#32
  let v210 : BitVec 32 := Scalar.muli arg19 c16_i32_104
  let v211 : BitVec 32 := Scalar.maxsi v12 v210
  let c1_i32_105 : BitVec 32 := 1#32
  let v212 : BitVec 32 := Scalar.addi arg19 c1_i32_105
  let c16_i32_106 : BitVec 32 := 16#32
  let v213 : BitVec 32 := Scalar.muli v212 c16_i32_106
  let v214 : BitVec 32 := Scalar.minsi v14 v213
  let v215 : BitVec 32 := Scalar.subi v214 v211
  let c1_i32_108 : BitVec 32 := 1#32
  let v217 : BitVec 32 := Scalar.divsi v215 c1_i32_108
  let v218 : BitVec 32 := Scalar.muli v217 c1_i32_108
  let v219 : BitVec 32 := Scalar.addi v211 v218
  let c1_i32_110 : BitVec 32 := 1#32
  let arg20 : BitVec 32 := Scf.iv v219 c1_i32_110 k0_t68
  let c14336_i32_240 : BitVec 32 := 14336#32
  ![arg20.toNat, 14336]
def k0_off262 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_3 : BitVec 32 := 1#32
  let v13 : BitVec 32 := Scalar.addi v11 c1_i32_3
  let c22_i32_4 : BitVec 32 := 22#32
  let v14 : BitVec 32 := Scalar.muli v13 c22_i32_4
  let c1_i32_29 : BitVec 32 := 1#32
  let v62 : BitVec 32 := Scalar.subi v14 c1_i32_29
  let c0_i32_32 : BitVec 32 := 0#32
  ![v62.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S352x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S352x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S352x704 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S352x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S22x100000x16 : Shape := ⟨3, ![22, 100000, 16]⟩
abbrev S231x4x2x16 : Shape := ⟨4, ![231, 4, 2, 16]⟩
abbrev S231x2x32 : Shape := ⟨3, ![231, 2, 32]⟩
abbrev S5 : Shape := ⟨1, ![5]⟩
abbrev S22x16384 : Shape := ⟨2, ![22, 16384]⟩
abbrev S3000000 : Shape := ⟨1, ![3000000]⟩
abbrev S231 : Shape := ⟨1, ![231]⟩
abbrev S_ : Shape := ⟨0, ![]⟩
abbrev S22x16384x1 : Shape := ⟨3, ![22, 16384, 1]⟩
abbrev S1 : Shape := ⟨1, ![1]⟩
abbrev S1x1x1 : Shape := ⟨3, ![1, 1, 1]⟩
abbrev S22x16384x16 : Shape := ⟨3, ![22, 16384, 16]⟩
abbrev S262144 : Shape := ⟨1, ![262144]⟩
abbrev S16384x16 : Shape := ⟨2, ![16384, 16]⟩
abbrev S1x16384x16 : Shape := ⟨3, ![1, 16384, 16]⟩
abbrev S231x1 : Shape := ⟨2, ![231, 1]⟩
abbrev S231x16384x16 : Shape := ⟨3, ![231, 16384, 16]⟩
abbrev S231x16384x32 : Shape := ⟨3, ![231, 16384, 32]⟩
abbrev S231x1x2x16 : Shape := ⟨4, ![231, 1, 2, 16]⟩
abbrev S231x2x16 : Shape := ⟨3, ![231, 2, 16]⟩
abbrev S231x16384x2 : Shape := ⟨3, ![231, 16384, 2]⟩
abbrev S16384x2 : Shape := ⟨2, ![16384, 2]⟩

abbrev nBuf : Space → Nat
  | .hbm => 127
  | .vmem => 0
  | .smem => 0
  | _ => 0

abbrev bufTy : (tb : Table) → Fin (tcTables nBuf tb) → BufTy
  | .hbm, ⟨0, _⟩ => ⟨S22x100000x16, .f32⟩
  | .hbm, ⟨1, _⟩ => ⟨S22x100000x16, .f32⟩
  | .hbm, ⟨2, _⟩ => ⟨S231x4x2x16, .f32⟩
  | .hbm, ⟨3, _⟩ => ⟨S231x2x32, .f32⟩
  | .hbm, ⟨4, _⟩ => ⟨S5, .f32⟩
  | .hbm, ⟨5, _⟩ => ⟨S22x16384, .i32⟩
  | .hbm, ⟨6, _⟩ => ⟨S3000000, .f32⟩
  | .hbm, ⟨7, _⟩ => ⟨S231, .i32⟩
  | .hbm, ⟨8, _⟩ => ⟨S231, .i1⟩
  | .hbm, ⟨9, _⟩ => ⟨S231, .i32⟩
  | .hbm, ⟨10, _⟩ => ⟨S231, .i1⟩
  | .hbm, ⟨11, _⟩ => ⟨S_, .i32⟩
  | .hbm, ⟨12, _⟩ => ⟨S22x16384, .i32⟩
  | .hbm, ⟨13, _⟩ => ⟨S22x16384, .i1⟩
  | .hbm, ⟨14, _⟩ => ⟨S_, .i32⟩
  | .hbm, ⟨15, _⟩ => ⟨S22x16384, .i32⟩
  | .hbm, ⟨16, _⟩ => ⟨S22x16384, .i32⟩
  | .hbm, ⟨17, _⟩ => ⟨S22x16384, .i32⟩
  | .hbm, ⟨18, _⟩ => ⟨S22x16384x1, .i32⟩
  | .hbm, ⟨19, _⟩ => ⟨S1, .i32⟩
  | .hbm, ⟨20, _⟩ => ⟨S_, .i32⟩
  | .hbm, ⟨21, _⟩ => ⟨S22x16384x1, .i32⟩
  | .hbm, ⟨22, _⟩ => ⟨S22x16384x1, .i1⟩
  | .hbm, ⟨23, _⟩ => ⟨S1x1x1, .i32⟩
  | .hbm, ⟨24, _⟩ => ⟨S22x16384x1, .i32⟩
  | .hbm, ⟨25, _⟩ => ⟨S22x16384x1, .i1⟩
  | .hbm, ⟨26, _⟩ => ⟨S22x16384x1, .i1⟩
  | .hbm, ⟨27, _⟩ => ⟨S_, .i1⟩
  | .hbm, ⟨28, _⟩ => ⟨S22x16384, .i1⟩
  | .hbm, ⟨29, _⟩ => ⟨S22x16384x16, .f32⟩
  | .hbm, ⟨30, _⟩ => ⟨S22x16384x16, .i1⟩
  | .hbm, ⟨31, _⟩ => ⟨S_, .f32⟩
  | .hbm, ⟨32, _⟩ => ⟨S22x16384x16, .f32⟩
  | .hbm, ⟨33, _⟩ => ⟨S22x16384x16, .f32⟩
  | .hbm, ⟨34, _⟩ => ⟨S_, .i32⟩
  | .hbm, ⟨35, _⟩ => ⟨S22x16384, .i32⟩
  | .hbm, ⟨36, _⟩ => ⟨S22x16384, .i1⟩
  | .hbm, ⟨37, _⟩ => ⟨S_, .i32⟩
  | .hbm, ⟨38, _⟩ => ⟨S22x16384, .i32⟩
  | .hbm, ⟨39, _⟩ => ⟨S22x16384, .i32⟩
  | .hbm, ⟨40, _⟩ => ⟨S22x16384, .i32⟩
  | .hbm, ⟨41, _⟩ => ⟨S22x16384x1, .i32⟩
  | .hbm, ⟨42, _⟩ => ⟨S1, .i32⟩
  | .hbm, ⟨43, _⟩ => ⟨S_, .i32⟩
  | .hbm, ⟨44, _⟩ => ⟨S22x16384x1, .i32⟩
  | .hbm, ⟨45, _⟩ => ⟨S22x16384x1, .i1⟩
  | .hbm, ⟨46, _⟩ => ⟨S1x1x1, .i32⟩
  | .hbm, ⟨47, _⟩ => ⟨S22x16384x1, .i32⟩
  | .hbm, ⟨48, _⟩ => ⟨S22x16384x1, .i1⟩
  | .hbm, ⟨49, _⟩ => ⟨S22x16384x1, .i1⟩
  | .hbm, ⟨50, _⟩ => ⟨S_, .i1⟩
  | .hbm, ⟨51, _⟩ => ⟨S22x16384, .i1⟩
  | .hbm, ⟨52, _⟩ => ⟨S22x16384x16, .f32⟩
  | .hbm, ⟨53, _⟩ => ⟨S22x16384x16, .i1⟩
  | .hbm, ⟨54, _⟩ => ⟨S_, .f32⟩
  | .hbm, ⟨55, _⟩ => ⟨S22x16384x16, .f32⟩
  | .hbm, ⟨56, _⟩ => ⟨S22x16384x16, .f32⟩
  | .hbm, ⟨57, _⟩ => ⟨S22x16384x16, .f32⟩
  | .hbm, ⟨58, _⟩ => ⟨S_, .f32⟩
  | .hbm, ⟨59, _⟩ => ⟨S22x16384x16, .f32⟩
  | .hbm, ⟨60, _⟩ => ⟨S22x16384x16, .f32⟩
  | .hbm, ⟨61, _⟩ => ⟨S22x16384x16, .f32⟩
  | .hbm, ⟨62, _⟩ => ⟨S262144, .f32⟩
  | .hbm, ⟨63, _⟩ => ⟨S16384x16, .f32⟩
  | .hbm, ⟨64, _⟩ => ⟨S1x16384x16, .f32⟩
  | .hbm, ⟨65, _⟩ => ⟨S22x16384x16, .f32⟩
  | .hbm, ⟨66, _⟩ => ⟨S22x16384x16, .f32⟩
  | .hbm, ⟨67, _⟩ => ⟨S_, .f32⟩
  | .hbm, ⟨68, _⟩ => ⟨S22x16384x16, .f32⟩
  | .hbm, ⟨69, _⟩ => ⟨S22x16384x16, .f32⟩
  | .hbm, ⟨70, _⟩ => ⟨S22x16384x16, .f32⟩
  | .hbm, ⟨71, _⟩ => ⟨S_, .i32⟩
  | .hbm, ⟨72, _⟩ => ⟨S231, .i32⟩
  | .hbm, ⟨73, _⟩ => ⟨S231, .i32⟩
  | .hbm, ⟨74, _⟩ => ⟨S231, .i32⟩
  | .hbm, ⟨75, _⟩ => ⟨S231x1, .i32⟩
  | .hbm, ⟨76, _⟩ => ⟨S231x16384x16, .f32⟩
  | .hbm, ⟨77, _⟩ => ⟨S_, .i32⟩
  | .hbm, ⟨78, _⟩ => ⟨S231, .i32⟩
  | .hbm, ⟨79, _⟩ => ⟨S231, .i32⟩
  | .hbm, ⟨80, _⟩ => ⟨S231, .i32⟩
  | .hbm, ⟨81, _⟩ => ⟨S231x1, .i32⟩
  | .hbm, ⟨82, _⟩ => ⟨S231x16384x16, .f32⟩
  | .hbm, ⟨83, _⟩ => ⟨S231x16384x16, .f32⟩
  | .hbm, ⟨84, _⟩ => ⟨S231x16384x16, .f32⟩
  | .hbm, ⟨85, _⟩ => ⟨S231x16384x16, .f32⟩
  | .hbm, ⟨86, _⟩ => ⟨S231x16384x16, .f32⟩
  | .hbm, ⟨87, _⟩ => ⟨S231x16384x32, .f32⟩
  | .hbm, ⟨88, _⟩ => ⟨S1, .f32⟩
  | .hbm, ⟨89, _⟩ => ⟨S_, .f32⟩
  | .hbm, ⟨90, _⟩ => ⟨S231x1x2x16, .f32⟩
  | .hbm, ⟨91, _⟩ => ⟨S231x2x16, .f32⟩
  | .hbm, ⟨92, _⟩ => ⟨S231x16384x2, .f32⟩
  | .hbm, ⟨93, _⟩ => ⟨S231x16384x2, .f32⟩
  | .hbm, ⟨94, _⟩ => ⟨S231x16384x2, .f32⟩
  | .hbm, ⟨95, _⟩ => ⟨S1, .f32⟩
  | .hbm, ⟨96, _⟩ => ⟨S_, .f32⟩
  | .hbm, ⟨97, _⟩ => ⟨S231x1x2x16, .f32⟩
  | .hbm, ⟨98, _⟩ => ⟨S231x2x16, .f32⟩
  | .hbm, ⟨99, _⟩ => ⟨S231x16384x2, .f32⟩
  | .hbm, ⟨100, _⟩ => ⟨S231x16384x2, .f32⟩
  | .hbm, ⟨101, _⟩ => ⟨S231x16384x2, .f32⟩
  | .hbm, ⟨102, _⟩ => ⟨S231x16384x2, .f32⟩
  | .hbm, ⟨103, _⟩ => ⟨S1, .f32⟩
  | .hbm, ⟨104, _⟩ => ⟨S_, .f32⟩
  | .hbm, ⟨105, _⟩ => ⟨S231x1x2x16, .f32⟩
  | .hbm, ⟨106, _⟩ => ⟨S231x2x16, .f32⟩
  | .hbm, ⟨107, _⟩ => ⟨S231x16384x2, .f32⟩
  | .hbm, ⟨108, _⟩ => ⟨S231x16384x2, .f32⟩
  | .hbm, ⟨109, _⟩ => ⟨S231x16384x2, .f32⟩
  | .hbm, ⟨110, _⟩ => ⟨S231x16384x2, .f32⟩
  | .hbm, ⟨111, _⟩ => ⟨S1, .f32⟩
  | .hbm, ⟨112, _⟩ => ⟨S_, .f32⟩
  | .hbm, ⟨113, _⟩ => ⟨S231x1x2x16, .f32⟩
  | .hbm, ⟨114, _⟩ => ⟨S231x2x16, .f32⟩
  | .hbm, ⟨115, _⟩ => ⟨S231x16384x2, .f32⟩
  | .hbm, ⟨116, _⟩ => ⟨S231x16384x2, .f32⟩
  | .hbm, ⟨117, _⟩ => ⟨S231x16384x2, .f32⟩
  | .hbm, ⟨118, _⟩ => ⟨S231x16384x2, .f32⟩
  | .hbm, ⟨119, _⟩ => ⟨S1, .f32⟩
  | .hbm, ⟨120, _⟩ => ⟨S_, .f32⟩
  | .hbm, ⟨121, _⟩ => ⟨S231x16384x2, .f32⟩
  | .hbm, ⟨122, _⟩ => ⟨S231x16384x2, .f32⟩
  | .hbm, ⟨123, _⟩ => ⟨S231x16384x2, .f32⟩
  | .hbm, ⟨124, _⟩ => ⟨S231x16384x2, .f32⟩
  | .hbm, ⟨125, _⟩ => ⟨S_, .f32⟩
  | .hbm, ⟨126, _⟩ => ⟨S16384x2, .f32⟩
  | _, _ => ⟨S22x100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v1 : Ref sig .tc := ⟨.hbm, 56, rfl⟩
abbrev main_v2 : Ref sig .tc := ⟨.hbm, 57, rfl⟩
abbrev main_cst : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_c_4 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_c_5 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_cst_6 : Ref sig .tc := ⟨.hbm, 125, rfl⟩
abbrev main_v66 : Ref sig .tc := ⟨.hbm, 126, rfl⟩

abbrev nD : Nat := 1
abbrev τ : Topo := Topo.v7x

variable {F : FTy → Type} [FloatOps F]
-- ==== Proof.Pieces.lean ====
/-
  Pieces of a buffer seen through a memref: the ownership assertion `part`, stated by the contents the memref reads,
  and the transfer, load and store rules in its terms. A slice, a squeeze, a row of a table or a run of consecutive
  elements of a vector are then the same assertion on a smaller set of indices.
-/
module

public import Idealize.ShloMosaic.Lib.SparseCore.Ops
public import Idealize.ShloMosaic.Lib.Transfers
public import Idealize.ShloMosaic.Lib.Batch
public import Idealize.ShloMosaic.Lib.Tactic

@[expose] public section

noncomputable section

namespace Cert.Proof.Pieces

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Ix : Type} [DecidableEq Ix] {Val : EltTy → Type} [∀ e, Nonempty (Val e)]
  {Name : Type} [DecidableEq Name] {U : Type} [URA U] {Lvl : Type}

local notation "𝕄" => MT nD τ sig Ix Val Name U Lvl

/-! ## Contents and index sets named by natural numbers -/

/-- Contents of a table from a function of the row and column numbers. -/
def f2 {α : Type} {d : Fin 2 → ℕ} (X : ℕ → ℕ → α) : (⟨2, d⟩ : Shape).Idx → α := fun x => X (x 0).val (x 1).val
/-- Contents of a vector from a function of the position. -/
def f1 {α : Type} {d : Fin 1 → ℕ} (X : ℕ → α) : (⟨1, d⟩ : Shape).Idx → α := fun x => X (x 0).val

/-- The `n` elements of row `r` of a table from column `k`. -/
def seg2 {d : Fin 2 → ℕ} (r k n : ℕ) : Finset (⟨2, d⟩ : Shape).Idx :=
  Finset.univ.filter fun x => (x 0).val = r ∧ k ≤ (x 1).val ∧ (x 1).val < k + n
/-- The `n` elements of a vector from position `k`. -/
def seg1 {d : Fin 1 → ℕ} (k n : ℕ) : Finset (⟨1, d⟩ : Shape).Idx :=
  Finset.univ.filter fun x => k ≤ (x 0).val ∧ (x 0).val < k + n

/-- The position `k` of a vector of length `n`. -/
def at1 {n k : ℕ} (h : k < n) : (⟨1, ![n]⟩ : Shape).Idx := fun a => ⟨k, by
  obtain rfl : a = 0 := Subsingleton.elim _ _; exact h⟩

theorem mem_seg2 {d : Fin 2 → ℕ} {r k n : ℕ} {x : (⟨2, d⟩ : Shape).Idx} :
    x ∈ seg2 r k n ↔ (x 0).val = r ∧ k ≤ (x 1).val ∧ (x 1).val < k + n := by simp [seg2]
theorem mem_seg1 {d : Fin 1 → ℕ} {k n : ℕ} {x : (⟨1, d⟩ : Shape).Idx} :
    x ∈ seg1 k n ↔ k ≤ (x 0).val ∧ (x 0).val < k + n := by simp [seg1]

/-! ## The assertion -/

section Part

variable {sp : Space} {s : Shape} {e : EltTy} (c : Thread nD τ)

/-- Contents of a memref's whole buffer that the memref reads as `X`. -/
def fill (m : Memref sig c.2.kind sp s e) (X : s.Idx → Val e) : Buf Val (m.view.loc c) :=
  m.view.write Val (fun _ => Classical.arbitrary _) X Finset.univ

/-- The elements of `m` at the indices `T`, held at share `q`, reading `X` there. -/
def part (m : Memref sig c.2.kind sp s e) (q : PosShare TreeShare) (T : Finset s.Idx) (X : s.Idx → Val e) : sProp 𝕄 :=
  iprop(m.view.loc c ↦[m.view.setOn T]{q} fill c m X)

variable {c} {m : Memref sig c.2.kind sp s e} {q : PosShare TreeShare} {T T' : Finset s.Idx} {X X' : s.Idx → Val e}

/-- The filled contents are read back. -/
theorem read_fill : m.view.read Val (fill c m X) = X := View.read_write_univ _ _

/-- A holding of the elements at `T` is `part` at whatever the memref reads there. -/
theorem part_eq {f : Buf Val (m.view.loc c)} (h : ∀ x ∈ T, m.view.read Val f x = X x) :
    (iprop(m.view.loc c ↦[m.view.setOn T]{q} f) : sProp 𝕄) = part c m q T X := by
  refine pointsTo_congr fun i hi => ?_
  obtain ⟨x, hx, rfl⟩ := Finset.mem_map.1 hi
  have h1 := h x hx
  rw [← congrFun (read_fill (c := c) (m := m) (X := X)) x, View.read_apply, View.read_apply] at h1
  exact (cast_inj _).1 h1

/-- Contents that agree on the indices held are interchangeable. -/
theorem part_congr (h : ∀ x ∈ T, X x = X' x) : (part c m q T X : sProp 𝕄) = part c m q T X' :=
  part_eq fun x hx => by rw [read_fill]; exact h x hx

/-- A family of disjoint index sets is held piece by piece. -/
theorem part_biUnion {ι : Type} (S : Finset ι) (K : ι → Finset s.Idx)
    (h : ∀ t ∈ S, ∀ t' ∈ S, t ≠ t' → Disjoint (K t) (K t')) :
    (part c m q (S.biUnion K) X : sProp 𝕄) = bigSep S fun t => part c m q (K t) X := by
  unfold part View.setOn
  rw [Finset.map_eq_image, Finset.biUnion_image]
  rw [pointsTo_biUnion]
  · simp only [Finset.map_eq_image]
  · intro t ht t' ht' hne
    have := h t ht t' ht' hne
    rw [← Finset.map_eq_image, ← Finset.map_eq_image]
    exact (Finset.disjoint_map _).2 this

/-- Two disjoint index sets at once. -/
theorem part_union (h : Disjoint T T') :
    (part c m q (T ∪ T') X : sProp 𝕄) ⊣⊢ iprop(part c m q T X ∗ part c m q T' X) := by
  unfold part View.setOn
  rw [Finset.map_union]
  exact pointsTo_union ((Finset.disjoint_map _).2 h)

/-- A subset held apart from the rest. -/
theorem part_subset (h : T' ⊆ T) :
    (part c m q T X : sProp 𝕄) ⊣⊢ iprop(part c m q T' X ∗ part c m q (T \ T') X) := by
  rw [show part c m q T X = part c m q (T' ∪ (T \ T')) X by rw [Finset.union_sdiff_of_subset h]]
  exact part_union Finset.disjoint_sdiff

/-- A subset taken out, with the way back. -/
theorem part_borrow (h : T' ⊆ T) :
    (part c m q T X : sProp 𝕄) ⊢ iprop(part c m q T' X ∗ (part c m q T' X -∗ part c m q T X)) := by
  iintro H
  ihave H' := (part_subset (m := m) (q := q) (X := X) h).1 $$ H
  icases H' with ⟨H1, H2⟩
  isplitl [H1]; · iexact H1
  iintro H1
  iapply (part_subset (m := m) (q := q) (X := X) h).2
  isplitl [H1] <;> iassumption

/-- Through a slice: the same elements, at the indices the slice places them. -/
theorem part_slice {r : Rect s} {hr : ∀ a, r.stride a = 1} {T : Finset r.shape.Idx} {X' : r.shape.Idx → Val e}
    (h : ∀ x ∈ T, X' x = X (r.emb x)) :
    (part c (m.slice r hr) q T X' : sProp 𝕄) = part c m q (T.map r.emb) X := by
  have hs : (m.slice r hr).view.setOn T = m.view.setOn (T.map r.emb) := (Finset.map_map _ _ _).symm
  have hp := part_eq (Ix := Ix) (Name := Name) (U := U) (Lvl := Lvl) (c := c) (m := m.slice r hr) (q := q) (T := T) (X := X') (f := fill c m X) fun x hx => by
    rw [h x hx]; exact congrFun (read_fill (c := c) (m := m) (X := X)) (r.emb x)
  rw [← hp, hs]; rfl

/-- Through a squeeze: the same elements, renumbered. -/
theorem part_squeeze {s' : Shape} {h : s.Squeezes s'} {T : Finset s'.Idx} {X' : s'.Idx → Val e}
    (hX : ∀ x ∈ T, X' x = X (Shape.reshapeEquiv h.numel_eq x)) :
    (part c (m.squeeze s' h) q T X' : sProp 𝕄) = part c m q (T.map (Shape.reshapeEquiv h.numel_eq).toEmbedding) X := by
  have hs : (m.squeeze s' h).view.setOn T = m.view.setOn (T.map (Shape.reshapeEquiv h.numel_eq).toEmbedding) :=
    (Finset.map_map _ _ _).symm
  have hp := part_eq (Ix := Ix) (Name := Name) (U := U) (Lvl := Lvl) (c := c) (m := m.squeeze s' h) (q := q) (T := T) (X := X') (f := fill c m X) fun x hx => by
    rw [hX x hx]; exact congrFun (read_fill (c := c) (m := m) (X := X)) (Shape.reshapeEquiv h.numel_eq x)
  rw [← hp, hs]; rfl

end Part

/-! ## Rows and runs -/

section Rows

variable {sp : Space} {e : EltTy} {c : Thread nD τ} {q : PosShare TreeShare}

/-- A run of one row of a table, taken as a one-row slice and squeezed to a vector. -/
theorem part_row {d : Fin 2 → ℕ} {m : Memref sig c.2.kind sp ⟨2, d⟩ e} {off : Fin 2 → ℕ} {n : ℕ}
    {inb : ∀ a, off a + (![1, n] : Fin 2 → ℕ) a ≤ d a} {hr} {hq : (⟨2, ![1, n]⟩ : Shape).Squeezes ⟨1, ![n]⟩}
    (r k : ℕ) (ho : off = ![r, k]) {X : ℕ → ℕ → Val e} {X' : ℕ → Val e} (hX : ∀ b < n, X' b = X r (k + b)) :
    (part c ((m.slice (Rect.unit (s := ⟨2, d⟩) off ![1, n] inb) hr).squeeze ⟨1, ![n]⟩ hq) q Finset.univ (f1 X') : sProp 𝕄)
      = part c m q (seg2 r k n) (f2 X) := by
  subst ho
  have key : ∀ x : (⟨1, ![n]⟩ : Shape).Idx,
      ((Shape.reshapeEquiv hq.numel_eq x : (⟨2, ![1, n]⟩ : Shape).Idx) 0).val = 0
        ∧ ((Shape.reshapeEquiv hq.numel_eq x : (⟨2, ![1, n]⟩ : Shape).Idx) 1).val = (x 0).val := by
    intro x
    have := Shape.rowMajor_reshapeEquiv hq.numel_eq x
    rw [Shape.rowMajor_val_one] at this
    have h2 := Shape.rowMajor_val_two (d := ![1, n]) (Shape.reshapeEquiv hq.numel_eq x)
    have h0 : ((Shape.reshapeEquiv hq.numel_eq x : (⟨2, ![1, n]⟩ : Shape).Idx) 0).val < 1 :=
      ((Shape.reshapeEquiv hq.numel_eq x : (⟨2, ![1, n]⟩ : Shape).Idx) 0).isLt
    have h1 : (![1, n] : Fin 2 → ℕ) 1 = n := rfl
    rw [h1] at h2
    have h0' : ((Shape.reshapeEquiv hq.numel_eq x : (⟨2, ![1, n]⟩ : Shape).Idx) 0).val = 0 := by omega
    rw [h0', Nat.zero_mul, Nat.zero_add] at h2
    exact ⟨h0', h2.symm.trans this⟩
  rw [part_squeeze (X := f2 fun _ b => X' b) (fun x _ => by simp only [f1, f2]; rw [(key x).2]),
    part_slice (X := f2 X) (fun x _ => by
      have h1 : (x 1).val < n := (x 1).isLt
      have h0 : (x 0).val < 1 := (x 0).isLt
      simp only [f2]
      rw [hX _ h1]
      congr 1
      · show r = r + 1 * (x 0).val; omega
      · show k + (x 1).val = k + 1 * (x 1).val; omega)]
  congr 1
  ext y
  simp only [Finset.mem_map, Finset.mem_univ, true_and, mem_seg2]
  constructor
  · rintro ⟨x, ⟨z, rfl⟩, rfl⟩
    have hk := key z
    have hz : (z 0).val < n := (z 0).isLt
    refine ⟨?_, ?_, ?_⟩
    · show r + 1 * _ = r
      simp only [Equiv.coe_toEmbedding]; rw [hk.1]; omega
    · show k ≤ k + 1 * _
      omega
    · show k + 1 * _ < k + n
      simp only [Equiv.coe_toEmbedding]; rw [hk.2]; omega
  · rintro ⟨h0, h1, h2⟩
    have hlt : (y 1).val - k < n := by omega
    refine ⟨Shape.reshapeEquiv hq.numel_eq (at1 hlt), ⟨_, rfl⟩, ?_⟩
    funext a
    apply Fin.ext
    have hk := key (at1 hlt)
    match a with
    | 0 => show r + 1 * _ = _; rw [hk.1]; omega
    | 1 => show k + 1 * _ = _; rw [hk.2]; show k + 1 * ((y 1).val - k) = _; omega

/-- A run of a vector, taken as a slice. -/
theorem part_run {d : Fin 1 → ℕ} {m : Memref sig c.2.kind sp ⟨1, d⟩ e} {off : Fin 1 → ℕ} {n : ℕ}
    {inb : ∀ a, off a + (![n] : Fin 1 → ℕ) a ≤ d a} {hr}
    (k : ℕ) (ho : off = ![k]) {X X' : ℕ → Val e} (hX : ∀ b < n, X' b = X (k + b)) :
    (part c (m.slice (Rect.unit (s := ⟨1, d⟩) off ![n] inb) hr) q Finset.univ (f1 X') : sProp 𝕄)
      = part c m q (seg1 k n) (f1 X) := by
  subst ho
  rw [part_slice (X := f1 X) (fun x _ => by
      have h0 : (x 0).val < n := (x 0).isLt
      simp only [f1]
      rw [hX _ h0]
      congr 1
      show k + (x 0).val = k + 1 * (x 0).val; omega)]
  congr 1
  ext y
  simp only [Finset.mem_map, Finset.mem_univ, true_and, mem_seg1]
  constructor
  · rintro ⟨x, rfl⟩
    have hx : (x 0).val < n := (x 0).isLt
    constructor
    · show k ≤ k + 1 * _; omega
    · show k + 1 * _ < k + n; omega
  · rintro ⟨h1, h2⟩
    have hlt : (y 0).val - k < n := by omega
    refine ⟨at1 hlt, ?_⟩
    funext a
    have : a = 0 := Subsingleton.elim _ _
    subst this
    apply Fin.ext
    show k + 1 * ((y 0).val - k) = _; omega

end Rows

/-! ## The rules -/

section Rules

variable (EC : UEmb Counters (MT nD τ sig Ix Val Name U Lvl)) [Infinite Name] [EC.LandsIn (upEmb : UEmb _ (MT nD τ sig Ix Val Name U Lvl))] [Preorder Lvl]
variable {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}

/-- What a landed copy leaves: the destination reading what the source read. -/
theorem part_landed {src : Memref sig c.2.kind sp s e} {dst : Memref sig c.2.kind sp' s e} {X : s.Idx → Val e}
    (fd : Buf Val (dst.view.loc c)) :
    (iprop(dst.view.loc c ↦[dst.view.set]{fullShare} (dst.view.write Val fd (ReadAs.same.apply (src.view.read Val (fill c src X))) Finset.univ)) : sProp 𝕄)
      = part c dst fullShare Finset.univ X := by
  refine part_eq (T := Finset.univ) fun x _ => ?_
  rw [View.read_write_univ, read_fill]

/-- A local copy on a counter at zero: what lands is the destination reading the source's contents. -/
theorem wp_copy {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (ι : Ix) (N : ℕ) (hN : dst.view.amount sm = N) (hN0 : 0 < N) :
    iprop(part c src q Finset.univ X ∗ part c dst fullShare Finset.univ Y ∗ semVal (c, sm) 0)
      ⊢ iprop((Flight EC c sm ι N iprop(part c dst fullShare Finset.univ X ∗ part c src q Finset.univ X)
              -∗ wp frame (wpE defs 𝒱 c bd) Set.univ (k ⟨⟩) Q)
          -∗ wp frame (wpE defs 𝒱 c bd) Set.univ (.op (.enqueueDma src (.here dst) sm hsrc hdst hsem) k) Q) := by
  have h := wp_dmaLocal EC 𝒱 c bd (defs := defs) (via := .same) (src := src) (dst := dst) (hsrc := hsrc) (hdst := hdst) (hsem := hsem) (k := k) (Q := Q)
    (q := q) (fs := fill c src X) (fd := fill c dst Y) (Sd := dst.view.set) ι N hN hN0 (Finset.Subset.refl _)
  rw [part_landed] at h
  exact h

/-- The same as one of a batch of copies on one counter. -/
theorem wp_copyBatch {n : ℕ} {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    {D : Fin n → sProp 𝕄} {j : ℕ} (ι : Ix) (N : ℕ) (hN : dst.view.amount sm = N) (hj : j < n)
    (hD : iprop(part c dst fullShare Finset.univ X ∗ part c src q Finset.univ X) ⊢ D ⟨j, hj⟩) :
    iprop(part c src q Finset.univ X ∗ part c dst fullShare Finset.univ Y ∗ Batch EC c sm ι N D j 0)
      ⊢ iprop((Batch EC c sm ι N D (j + 1) 0 -∗ wp frame (wpE defs 𝒱 c bd) Set.univ (k ⟨⟩) Q)
          -∗ wp frame (wpE defs 𝒱 c bd) Set.univ (.op (.enqueueDma src (.here dst) sm hsrc hdst hsem) k) Q) :=
  wp_dmaBatch EC 𝒱 c bd (via := .same) (fs := fill c src X) (fd := fill c dst Y) (Sd := dst.view.set) ι N hN
    (Finset.Subset.refl _) hj (Nat.zero_le _) (by rw [part_landed]; exact hD)

/-- A load through a rectangle of elements held. -/
theorem wp_loadPart {cs : CoreSpace} {m : Memref sig c.2.kind cs s e} {r : Rect s} {hl : m.view.LoadsAt r}
    {k : (r.shape.Idx → Val e) → Prog (TpuEff nD τ sig Val Λ c.2) α} {T : Finset s.Idx} {q : PosShare TreeShare} {X : s.Idx → Val e}
    (hT : ∀ x, r.emb x ∈ T) :
    (part c m q T X : sProp 𝕄)
      ⊢ iprop((part c m q T X -∗ wp frame (wpE defs 𝒱 c bd) Set.univ (k fun x => X (r.emb x)) Q)
        -∗ wp frame (wpE defs 𝒱 c bd) Set.univ (.op (.load m r hl) k) Q) := by
  have hS : m.view.setOn r.set ⊆ m.view.setOn T := by
    refine Finset.map_subset_map.2 fun y hy => ?_
    rw [← Rect.map_emb_univ] at hy
    obtain ⟨x, _, rfl⟩ := Finset.mem_map.1 hy
    exact hT x
  have h : (part c m q T X : sProp 𝕄)
      ⊢ iprop((part c m q T X -∗ wp frame (wpE defs 𝒱 c bd) Set.univ (k (m.view.readAt Val r.toLoadRect (fill c m X))) Q)
        -∗ wp frame (wpE defs 𝒱 c bd) Set.univ (.op (.load m r hl) k) Q) := wp_load 𝒱 c bd Set.univ hS
  have hv : m.view.readAt Val r.toLoadRect (fill c m X) = fun x => X (r.emb x) := by
    funext x; exact congrFun (read_fill (c := c) (m := m) (X := X)) (r.emb x)
  rw [hv] at h
  exact h

/-- A store through a rectangle of elements held outright. -/
theorem wp_storePart {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {T : Finset s.Idx} {X X' : s.Idx → Val e}
    (hT : ∀ x, r.emb x ∈ T) (hw : ∀ x, X' (r.emb x) = w x) (ho : ∀ y ∈ T, (∀ x, r.emb x ≠ y) → X' y = X y) :
    (part c m fullShare T X : sProp 𝕄)
      ⊢ iprop((part c m fullShare T X' -∗ wp frame (wpE defs 𝒱 c bd) Set.univ (k ⟨⟩) Q)
        -∗ wp frame (wpE defs 𝒱 c bd) Set.univ (.op (.store m r w Finset.univ hx hm) k) Q) := by
  have hS : (m.access r).setOn Finset.univ ⊆ m.view.setOn T := by
    intro i hi
    obtain ⟨x, _, rfl⟩ := Finset.mem_map.1 hi
    exact Finset.mem_map.2 ⟨r.emb x, hT x, rfl⟩
  have h : (part c m fullShare T X : sProp 𝕄)
      ⊢ iprop(((m.view.loc c ↦[m.view.setOn T]{fullShare} ((m.access r).write Val (fill c m X) w Finset.univ))
          -∗ wp frame (wpE defs 𝒱 c bd) Set.univ (k ⟨⟩) Q)
        -∗ wp frame (wpE defs 𝒱 c bd) Set.univ (.op (.store m r w Finset.univ hx hm) k) Q) :=
    wp_store 𝒱 c bd Set.univ (m := m) (r := r) (w := w) (hx := hx) (hm := hm) (k := k) (Q := Q) (S := m.view.setOn T) (f := fill c m X) hS
  have he : (iprop(m.view.loc c ↦[m.view.setOn T]{fullShare} ((m.access r).write Val (fill c m X) w Finset.univ)) : sProp 𝕄)
      = part c m fullShare T X' := by
    refine part_eq fun y hy => ?_
    by_cases hxy : ∃ x, r.emb x = y
    · obtain ⟨x, rfl⟩ := hxy
      rw [hw]
      exact View.read_slice_write_emb (v := m.view) r (fill c m X) w (Finset.mem_univ x)
    · have hne : ∀ x, r.emb x ≠ y := fun x hx => hxy ⟨x, hx⟩
      rw [ho y hy hne]
      refine (View.read_slice_write_of_not_mem (v := m.view) r (fill c m X) w Finset.univ (y := y) ?_).trans ?_
      · intro hm'
        obtain ⟨x, _, hx⟩ := Finset.mem_map.1 hm'
        exact hne x hx
      · rw [read_fill]
  rw [he] at h
  exact h

end Rules

section Gather

variable {F : FTy → Type} [∀ e, Nonempty (Elt F e)]
variable {Λ : Labels} {defs : Defs nD τ sig (Elt F) Λ} (𝒱 : Variants) (c : Thread nD τ) (bd : Option 𝒱.V) [Preorder Lvl]
variable {α : Type} {Q : α → sProp (MT nD τ sig Ix (Elt F) Name U Lvl)} {s t : Shape} {e : EltTy}

/-- An indexed load of elements held whole. -/
theorem wp_gatherPart {base : Memref sig c.2.kind .vmem s e} {idxs : Fin s.rank → IVec t 32}
    {h : ∀ a x, (idxs a x).toNat < s.size a} {hl : base.view.Loads} {k : Vec F t e → Prog (TpuEff nD τ sig (Elt F) Λ c.2) α}
    {q : PosShare TreeShare} {X : s.Idx → Elt F e} :
    (part c base q Finset.univ X : sProp (MT nD τ sig Ix (Elt F) Name U Lvl))
      ⊢ iprop((part c base q Finset.univ X -∗ wp frame (wpE defs 𝒱 c bd) Set.univ (k (loadIdx X idxs h)) Q)
        -∗ wp frame (wpE defs 𝒱 c bd) Set.univ (SparseCore.vectorLoadIdx base idxs h hl >>= k) Q) := by
  have hset : (base.access (.whole s)).set ⊆ base.view.setOn Finset.univ := by
    rw [View.setOn_univ]; exact View.set_slice_subset _ _
  have hr : (base.access (.whole s)).read (Elt F) (fill c base X) = X := by
    funext x
    have := congrFun (read_fill (c := c) (m := base) (X := X)) ((Rect.whole s).emb x)
    rw [Rect.emb_whole_apply] at this
    refine Eq.trans ?_ this
    show base.view.read (Elt F) (fill c base X) ((Rect.whole s).emb x) = _
    rw [Rect.emb_whole_apply]
  have hh := SparseCore.wp_vectorLoadIdx 𝒱 c bd Set.univ (defs := defs) (idxs := idxs) (h := h) (hl := hl) (k := k) (Q := Q) (q := q) (f := fill c base X) hset
  rw [hr] at hh
  exact hh

end Gather

end Cert.Proof.Pieces

end
-- ==== Proof.Coords.lean ====
/-
  Where each tile of the gather works: the fields and planes its two nested loops go through, and the row and column
  its copies start from, as closed forms in the tile's position. Every statement here is a finite check over the
  32 positions and the loops' trips.
-/
module

public import proofs.«01_k».proof.Proof.Gen.KernelIdeal

@[expose] public section

namespace Cert.Proof.Coords

open Cert.KernelIdeal Cert.KernelIdeal.Gen Idealize.ShloMosaic

/-- The tile at core `a` and subcore `b`. -/
def mk (a : Fin 2) (b : Fin 16) : grid0.Coords := fun x => match x with | 0 => a | 1 => b

/-- A tile is given by its core and subcore. -/
theorem eq_mk (i : grid0.Coords) : i = mk (i 0) (i 1) := by
  funext x; match x with | 0 => rfl | 1 => rfl

/-- The tile's number. -/
def wid (i : grid0.Coords) : ℕ := 2 * (i 1).val + (i 0).val
/-- The first of the tile's 22 planes. -/
def lo (i : grid0.Coords) : ℕ := 22 * (wid i % 16)
/-- How many of the tile's planes belong to fields before its field number `t`. -/
def A (i : grid0.Coords) (t : ℕ) : ℕ := min 22 (16 * (lo i / 16 + t) - lo i)
/-- How many fields the tile's planes touch. -/
def nf (i : grid0.Coords) : ℕ := (lo i + 21) / 16 - lo i / 16 + 1

/-- No plane comes before the first field. -/
theorem A_zero (i : grid0.Coords) : A i 0 = 0 := by unfold A; omega
/-- Field by field the count grows. -/
theorem A_mono (i : grid0.Coords) (t : ℕ) : A i t ≤ A i (t + 1) := by unfold A; omega
/-- The fields exhaust the planes. -/
theorem A_nf (i : grid0.Coords) : A i (nf i) = 22 := by unfold A nf; omega
/-- A tile has 22 planes. -/
theorem A_le (i : grid0.Coords) (t : ℕ) : A i t ≤ 22 := by unfold A; omega
/-- The planes end within the table. -/
theorem lo_le (i : grid0.Coords) : lo i + 22 ≤ 352 := by unfold lo; omega
/-- The plane reached in field `t` after `u` further ones belongs to that field. -/
theorem div_plane (i : grid0.Coords) (t u : ℕ) (h : u < A i (t + 1) - A i t) :
    (lo i + A i t + u) / 16 = lo i / 16 + t := by unfold A at *; omega
/-- A tile's fields are among the 22. -/
theorem field_lt (i : grid0.Coords) (t : ℕ) (h : t < nf i) : lo i / 16 + t < 22 := by
  have := lo_le i; unfold nf at h; omega

/-- The table a tile serves: the mean's below tile 16, the deviation's from there on. -/
theorem cond_iff : ∀ a b, (k0_cond1 (mk a b) = 1#1 ↔ wid (mk a b) < 16) ∧ (k0_cond18 (mk a b) = 1#1 ↔ ¬ wid (mk a b) < 16) := by decide +kernel

/-! ## The tiles of the mean -/

/-- The outer loop goes through the fields, the remainder loop after it does nothing. -/
theorem trips1_out' : ∀ a b, (k0_t1_loop (mk a b)).trips = nf (mk a b) ∧ (k0_t20_loop (mk a b)).trips = 0 := by decide +kernel
/-- The inner loop goes through the field's planes, the remainder loop after it does nothing. -/
theorem trips1_in' : ∀ a b (t : Fin (k0_t1_loop (mk a b)).trips),
    (k0_t2_loop (mk a b) t).trips = A (mk a b) (t.val + 1) - A (mk a b) t.val ∧ (k0_t11_loop (mk a b) t).trips = 0 := by decide +kernel
/-- Where the eight pieces of the field's index row are read. -/
theorem idx1' : ∀ a b (t : Fin (k0_t1_loop (mk a b)).trips) (j : Fin 8),
    k0_off1 (mk a b) t (BitVec.ofNat 32 (2048 * j.val)) = ![16384 * (lo (mk a b) / 16 + t.val) + 2048 * j.val] := by decide +kernel
/-- Where the three pieces of the plane and its last columns are read. -/
theorem src1' : ∀ a b (t : Fin (k0_t1_loop (mk a b)).trips) (u : Fin (k0_t2_loop (mk a b) t).trips),
    k0_off2 (mk a b) t u = ![lo (mk a b) + (A (mk a b) t.val + u.val), 0] ∧ k0_off3 (mk a b) t u = ![lo (mk a b) + (A (mk a b) t.val + u.val), 33280]
      ∧ k0_off4 (mk a b) t u = ![lo (mk a b) + (A (mk a b) t.val + u.val), 66560] ∧ k0_off5 (mk a b) t u = ![lo (mk a b) + (A (mk a b) t.val + u.val), 0] := by decide +kernel
/-- Where the eight chunks of the plane's results are written. -/
theorem dst1' : ∀ a b (t : Fin (k0_t1_loop (mk a b)).trips) (u : Fin (k0_t2_loop (mk a b) t).trips),
    (k0_off9 (mk a b) t u = ![lo (mk a b) + (A (mk a b) t.val + u.val), 0] ∧ k0_off13 (mk a b) t u = ![lo (mk a b) + (A (mk a b) t.val + u.val), 2048]
      ∧ k0_off17 (mk a b) t u = ![lo (mk a b) + (A (mk a b) t.val + u.val), 4096] ∧ k0_off21 (mk a b) t u = ![lo (mk a b) + (A (mk a b) t.val + u.val), 6144])
    ∧ k0_off24 (mk a b) t u = ![lo (mk a b) + (A (mk a b) t.val + u.val), 8192] ∧ k0_off27 (mk a b) t u = ![lo (mk a b) + (A (mk a b) t.val + u.val), 10240]
      ∧ k0_off30 (mk a b) t u = ![lo (mk a b) + (A (mk a b) t.val + u.val), 12288] ∧ k0_off33 (mk a b) t u = ![lo (mk a b) + (A (mk a b) t.val + u.val), 14336] := by decide +kernel
/-- A result row is waited for before its reuse, except on the first plane. -/
theorem first1' : ∀ a b (t : Fin (k0_t1_loop (mk a b)).trips) (u : Fin (k0_t2_loop (mk a b) t).trips),
    (k0_cond2 (mk a b) t u = 1#1 ↔ A (mk a b) t.val + u.val ≠ 0) ∧ (k0_cond3 (mk a b) t u = 1#1 ↔ A (mk a b) t.val + u.val ≠ 0)
      ∧ (k0_cond4 (mk a b) t u = 1#1 ↔ A (mk a b) t.val + u.val ≠ 0) ∧ (k0_cond5 (mk a b) t u = 1#1 ↔ A (mk a b) t.val + u.val ≠ 0) := by decide +kernel

/-- `trips1_out'` at any tile. -/
theorem trips1_out (i : grid0.Coords) : (k0_t1_loop i).trips = nf i ∧ (k0_t20_loop i).trips = 0 := by
  rw [eq_mk i]; exact trips1_out' _ _
/-- `trips1_in'` at any tile. -/
theorem trips1_in (i : grid0.Coords) : ∀ t : Fin (k0_t1_loop i).trips,
    (k0_t2_loop i t).trips = A i (t.val + 1) - A i t.val ∧ (k0_t11_loop i t).trips = 0 := by
  rw [eq_mk i]; exact trips1_in' _ _
/-- `idx1'` at any tile. -/
theorem idx1 (i : grid0.Coords) : ∀ (t : Fin (k0_t1_loop i).trips) (j : Fin 8),
    k0_off1 i t (BitVec.ofNat 32 (2048 * j.val)) = ![16384 * (lo i / 16 + t.val) + 2048 * j.val] := by
  rw [eq_mk i]; exact idx1' _ _
/-- `src1'` at any tile. -/
theorem src1 (i : grid0.Coords) : ∀ (t : Fin (k0_t1_loop i).trips) (u : Fin (k0_t2_loop i t).trips),
    k0_off2 i t u = ![lo i + (A i t.val + u.val), 0] ∧ k0_off3 i t u = ![lo i + (A i t.val + u.val), 33280]
      ∧ k0_off4 i t u = ![lo i + (A i t.val + u.val), 66560] ∧ k0_off5 i t u = ![lo i + (A i t.val + u.val), 0] := by
  rw [eq_mk i]; exact src1' _ _
/-- `dst1'` at any tile. -/
theorem dst1 (i : grid0.Coords) : ∀ (t : Fin (k0_t1_loop i).trips) (u : Fin (k0_t2_loop i t).trips),
    (k0_off9 i t u = ![lo i + (A i t.val + u.val), 0] ∧ k0_off13 i t u = ![lo i + (A i t.val + u.val), 2048]
      ∧ k0_off17 i t u = ![lo i + (A i t.val + u.val), 4096] ∧ k0_off21 i t u = ![lo i + (A i t.val + u.val), 6144])
    ∧ k0_off24 i t u = ![lo i + (A i t.val + u.val), 8192] ∧ k0_off27 i t u = ![lo i + (A i t.val + u.val), 10240]
      ∧ k0_off30 i t u = ![lo i + (A i t.val + u.val), 12288] ∧ k0_off33 i t u = ![lo i + (A i t.val + u.val), 14336] := by
  rw [eq_mk i]; exact dst1' _ _
/-- `first1'` at any tile. -/
theorem first1 (i : grid0.Coords) : ∀ (t : Fin (k0_t1_loop i).trips) (u : Fin (k0_t2_loop i t).trips),
    (k0_cond2 i t u = 1#1 ↔ A i t.val + u.val ≠ 0) ∧ (k0_cond3 i t u = 1#1 ↔ A i t.val + u.val ≠ 0)
      ∧ (k0_cond4 i t u = 1#1 ↔ A i t.val + u.val ≠ 0) ∧ (k0_cond5 i t u = 1#1 ↔ A i t.val + u.val ≠ 0) := by
  rw [eq_mk i]; exact first1' _ _

/-! ## The tiles of the deviation -/

/-- The outer loop goes through the fields, the remainder loop after it does nothing. -/
theorem trips2_out' : ∀ a b, (k0_t39_loop (mk a b)).trips = nf (mk a b) ∧ (k0_t58_loop (mk a b)).trips = 0 := by decide +kernel
/-- The inner loop goes through the field's planes, the remainder loop after it does nothing. -/
theorem trips2_in' : ∀ a b (t : Fin (k0_t39_loop (mk a b)).trips),
    (k0_t40_loop (mk a b) t).trips = A (mk a b) (t.val + 1) - A (mk a b) t.val ∧ (k0_t49_loop (mk a b) t).trips = 0 := by decide +kernel
/-- Where the eight pieces of the field's index row are read. -/
theorem idx2' : ∀ a b (t : Fin (k0_t39_loop (mk a b)).trips) (j : Fin 8),
    k0_off132 (mk a b) t (BitVec.ofNat 32 (2048 * j.val)) = ![16384 * (lo (mk a b) / 16 + t.val) + 2048 * j.val] := by decide +kernel
/-- Where the three pieces of the plane and its last columns are read. -/
theorem src2' : ∀ a b (t : Fin (k0_t39_loop (mk a b)).trips) (u : Fin (k0_t40_loop (mk a b) t).trips),
    k0_off133 (mk a b) t u = ![lo (mk a b) + (A (mk a b) t.val + u.val), 0] ∧ k0_off134 (mk a b) t u = ![lo (mk a b) + (A (mk a b) t.val + u.val), 33280]
      ∧ k0_off135 (mk a b) t u = ![lo (mk a b) + (A (mk a b) t.val + u.val), 66560] ∧ k0_off136 (mk a b) t u = ![lo (mk a b) + (A (mk a b) t.val + u.val), 0] := by decide +kernel
/-- Where the eight chunks of the plane's results are written. -/
theorem dst2' : ∀ a b (t : Fin (k0_t39_loop (mk a b)).trips) (u : Fin (k0_t40_loop (mk a b) t).trips),
    (k0_off140 (mk a b) t u = ![lo (mk a b) + (A (mk a b) t.val + u.val), 0] ∧ k0_off144 (mk a b) t u = ![lo (mk a b) + (A (mk a b) t.val + u.val), 2048]
      ∧ k0_off148 (mk a b) t u = ![lo (mk a b) + (A (mk a b) t.val + u.val), 4096] ∧ k0_off152 (mk a b) t u = ![lo (mk a b) + (A (mk a b) t.val + u.val), 6144])
    ∧ k0_off155 (mk a b) t u = ![lo (mk a b) + (A (mk a b) t.val + u.val), 8192] ∧ k0_off158 (mk a b) t u = ![lo (mk a b) + (A (mk a b) t.val + u.val), 10240]
      ∧ k0_off161 (mk a b) t u = ![lo (mk a b) + (A (mk a b) t.val + u.val), 12288] ∧ k0_off164 (mk a b) t u = ![lo (mk a b) + (A (mk a b) t.val + u.val), 14336] := by decide +kernel
/-- A result row is waited for before its reuse, except on the first plane. -/
theorem first2' : ∀ a b (t : Fin (k0_t39_loop (mk a b)).trips) (u : Fin (k0_t40_loop (mk a b) t).trips),
    (k0_cond19 (mk a b) t u = 1#1 ↔ A (mk a b) t.val + u.val ≠ 0) ∧ (k0_cond20 (mk a b) t u = 1#1 ↔ A (mk a b) t.val + u.val ≠ 0)
      ∧ (k0_cond21 (mk a b) t u = 1#1 ↔ A (mk a b) t.val + u.val ≠ 0) ∧ (k0_cond22 (mk a b) t u = 1#1 ↔ A (mk a b) t.val + u.val ≠ 0) := by decide +kernel

/-- `trips2_out'` at any tile. -/
theorem trips2_out (i : grid0.Coords) : (k0_t39_loop i).trips = nf i ∧ (k0_t58_loop i).trips = 0 := by
  rw [eq_mk i]; exact trips2_out' _ _
/-- `trips2_in'` at any tile. -/
theorem trips2_in (i : grid0.Coords) : ∀ t : Fin (k0_t39_loop i).trips,
    (k0_t40_loop i t).trips = A i (t.val + 1) - A i t.val ∧ (k0_t49_loop i t).trips = 0 := by
  rw [eq_mk i]; exact trips2_in' _ _
/-- `idx2'` at any tile. -/
theorem idx2 (i : grid0.Coords) : ∀ (t : Fin (k0_t39_loop i).trips) (j : Fin 8),
    k0_off132 i t (BitVec.ofNat 32 (2048 * j.val)) = ![16384 * (lo i / 16 + t.val) + 2048 * j.val] := by
  rw [eq_mk i]; exact idx2' _ _
/-- `src2'` at any tile. -/
theorem src2 (i : grid0.Coords) : ∀ (t : Fin (k0_t39_loop i).trips) (u : Fin (k0_t40_loop i t).trips),
    k0_off133 i t u = ![lo i + (A i t.val + u.val), 0] ∧ k0_off134 i t u = ![lo i + (A i t.val + u.val), 33280]
      ∧ k0_off135 i t u = ![lo i + (A i t.val + u.val), 66560] ∧ k0_off136 i t u = ![lo i + (A i t.val + u.val), 0] := by
  rw [eq_mk i]; exact src2' _ _
/-- `dst2'` at any tile. -/
theorem dst2 (i : grid0.Coords) : ∀ (t : Fin (k0_t39_loop i).trips) (u : Fin (k0_t40_loop i t).trips),
    (k0_off140 i t u = ![lo i + (A i t.val + u.val), 0] ∧ k0_off144 i t u = ![lo i + (A i t.val + u.val), 2048]
      ∧ k0_off148 i t u = ![lo i + (A i t.val + u.val), 4096] ∧ k0_off152 i t u = ![lo i + (A i t.val + u.val), 6144])
    ∧ k0_off155 i t u = ![lo i + (A i t.val + u.val), 8192] ∧ k0_off158 i t u = ![lo i + (A i t.val + u.val), 10240]
      ∧ k0_off161 i t u = ![lo i + (A i t.val + u.val), 12288] ∧ k0_off164 i t u = ![lo i + (A i t.val + u.val), 14336] := by
  rw [eq_mk i]; exact dst2' _ _
/-- `first2'` at any tile. -/
theorem first2 (i : grid0.Coords) : ∀ (t : Fin (k0_t39_loop i).trips) (u : Fin (k0_t40_loop i t).trips),
    (k0_cond19 i t u = 1#1 ↔ A i t.val + u.val ≠ 0) ∧ (k0_cond20 i t u = 1#1 ↔ A i t.val + u.val ≠ 0)
      ∧ (k0_cond21 i t u = 1#1 ↔ A i t.val + u.val ≠ 0) ∧ (k0_cond22 i t u = 1#1 ↔ A i t.val + u.val ≠ 0) := by
  rw [eq_mk i]; exact first2' _ _

/-- `cond_iff` at any tile. -/
theorem cond1_iff (i : grid0.Coords) : k0_cond1 i = 1#1 ↔ wid i < 16 := by
  rw [eq_mk i]; exact (cond_iff _ _).1
/-- `cond_iff` at any tile. -/
theorem cond18_iff (i : grid0.Coords) : k0_cond18 i = 1#1 ↔ ¬ wid i < 16 := by
  rw [eq_mk i]; exact (cond_iff _ _).2

end Cert.Proof.Coords
-- ==== Proof.Base.lean ====
/-
  The names the proof of the kernel's run shares: the program as the launch theorem sees it, the resource algebra
  (the launch's handshakes, the pipeline's rounds, the transfers' counters) and a tile's thread and buffers.
-/
module

public import proofs.«01_k».proof.Defs
public import Idealize.ShloMosaic.Lib.SparseCore.Quiescent
public import Idealize.ShloMosaic.Lib.StableHlo.Run
public import Idealize.ShloMosaic.Lib.Pipeline.Kit
public import proofs.«01_k».proof.Proof.Gen.KernelIdeal
public import proofs.«01_k».proof.Proof.Gen.KernelIdeal.Skeleton
public import proofs.«01_k».proof.Proof.Pieces
public import proofs.«01_k».proof.Proof.Coords

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra -/

abbrev UH : Type := URounds (GSem nD τ sig) ℕ
abbrev UK : Type := URounds (GSem nD τ sig) Unit
abbrev UU : Type := UH × (UK × Counters)
/-- The machine's assertions' model. -/
abbrev MM (F : FTy → Type) : Type := MT nD τ sig (HIx 1) (Elt F) ℕ UU ℕ

/-- The launch's handshakes: the left factor. -/
def EH : Emb UH (MM F) :=
  (Emb.inl : Emb UH UU).trans (uEmb (nD := nD) (sig := sig) (Ix := HIx 1) (Val := Elt F) (Name := ℕ) (U := UU) (Lvl := ℕ)).toEmb
/-- The pipeline's rounds: the middle factor. -/
def EK : Emb UK (MM F) :=
  ((Emb.inl : Emb UK (UK × Counters)).trans (Emb.inr : Emb (UK × Counters) UU)).trans
    (uEmb (nD := nD) (sig := sig) (Ix := HIx 1) (Val := Elt F) (Name := ℕ) (U := UU) (Lvl := ℕ)).toEmb
/-- The transfers' counters: the right factor. -/
abbrev EC : UEmb Counters (MM F) := countersEmb

instance EH_landsIn : (EH : Emb UH (MM F)).LandsIn (upEmb : UEmb _ (MM F)) := by unfold EH; infer_instance
instance EK_landsIn : (EK : Emb UK (MM F)).LandsIn (upEmb : UEmb _ (MM F)) := by unfold EK; infer_instance

/-- Every element type has a value. -/
instance elt_nonempty [FloatOps F] (e : EltTy) : Nonempty (Elt F e) := by
  cases e <;> first
    | exact ⟨(0#_ : BitVec _)⟩
    | exact ⟨(FloatOps.ofBits _ 0 : F _)⟩

/-! ## A tile -/

/-- The thread of the tile at `i`. -/
abbrev thr (d : Dev nD) (i : grid0.Coords) : Thread nD τ := V d ((i 0).castLE hcore0) ((i 1).castLE hsub0)

/-- The staged plane, the staged index row and the four result rows. -/
abbrev pvW : Memref sig .scVector .vmem S100096 .f32 := Memref.whole cc0_scratch0
abbrev ivW : Memref sig .scVector .vmem S8x2048 .i32 := Memref.whole cc0_scratch1
abbrev ovW : Memref sig .scVector .vmem S4x2048 .f32 := Memref.whole cc0_scratch2

end Cert.Proof

end
-- ==== Proof.Gather.lean ====
/-
  The gather of one chunk: 128 trips, each loading sixteen indices, gathering sixteen elements of the staged plane and
  storing them in a result row. Stated once, for any of the loops that have this body.
-/
module

public import proofs.«01_k».proof.Proof.Base

@[expose] public section

noncomputable section

namespace Cert.Proof

open Cert.KernelIdeal Cert.KernelIdeal.Gen Cert.Proof.Pieces
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- A tile's programs. -/
abbrev TP (i : grid0.Coords) (α : Type) : Type 1 :=
  Prog (TpuEff nD τ sig (Elt F) Λ₀ (.scVector ((i 0).castLE hcore0) ((i 1).castLE hsub0))) α

/-- One trip of a gather: the body every gather loop has, at its offsets and its check. -/
def gatherStep (i : grid0.Coords) (off off' : Fin 2 → ℕ) (inb : ∀ a, off a + S1x16.size a ≤ S8x2048.size a)
    (inb' : ∀ a, off' a + S1x16.size a ≤ S4x2048.size a) (chk : IVec S16 32 → Prop) (dec : ∀ w, Decidable (chk w))
    (hidx : ∀ w, chk w → ∀ a x, ((![w] : Fin 1 → IVec S16 32) a x).toNat < S100096.size a) : TP (F := F) i Unit := do
  let v_ld : Vec F S1x16 .i32 ← Prog.lift (.load ivW (Rect.unit (s := S8x2048) off S1x16.size inb).toLoadRect (View.loadsAt_vmem h_S1x16))
  have v : Vec F S16 .i32 := shapeCast S16 v_ld shapeCasts_S1x16_S16
  have hw : chk v := (← Prog.lift (TpuEff.assume (chk v) (dec v))).down
  let g : Vec F S16 .f32 ← SparseCore.vectorLoadIdx pvW ![v] (hidx v hw) (View.loads_vmem h_S100096)
  let _d : Vec F S1x16 .f32 ← Prog.lift (.load ovW (Rect.unit (s := S4x2048) off' S1x16.size inb').toLoadRect (View.loadsAt_vmem h_S1x16))
  Prog.lift (.store ovW (Rect.unit (s := S4x2048) off' S1x16.size inb') (shapeCast S1x16 g shapeCasts_S16_S1x16) Finset.univ (View.stores_vmem_bits_univ h_S1x16 rfl) (.inl rfl))
  pure ⟨⟩

/-- The position of lane `x` of a one-row vector of sixteen in a vector of sixteen. -/
theorem lane_val (x : S16.Idx) : ((Shape.reshapeEquiv (show S16.numel = S1x16.numel by decide) x : S1x16.Idx) 0).val = 0
    ∧ ((Shape.reshapeEquiv (show S16.numel = S1x16.numel by decide) x : S1x16.Idx) 1).val = (x 0).val := by
  revert x; decide +kernel

/-- And back. -/
theorem lane_val' (x : S1x16.Idx) : ((Shape.reshapeEquiv (show S1x16.numel = S16.numel by decide) x : S16.Idx) 0).val = (x 1).val := by
  revert x; decide +kernel

section Step

variable (d : Dev nD) (i : grid0.Coords) (j s : ℕ) (X : ℕ → ℕ → BitVec 32) (Y Z : ℕ → Elt F .f32)

/-- What a chunk's gather has written of its result row after `b` elements. -/
abbrev gathered (b : ℕ) (k : ℕ) : Elt F .f32 := if k < b then Y (X j k).toNat else Z k

/-- The buffers a gather works on. -/
def gBufs (b : ℕ) : sProp (MM F) :=
  iprop(part (thr d i) ivW fullShare Finset.univ (f2 X) ∗ part (thr d i) pvW fullShare Finset.univ (f1 Y)
    ∗ part (thr d i) ovW fullShare (seg2 s 0 2048) (f2 fun _ k => gathered j X Y Z b k))

variable {j s X Y Z}

/-- One trip writes the next sixteen elements. -/
theorem wp_gatherStep {off off' : Fin 2 → ℕ} {inb inb'} {chk : IVec S16 32 → Prop} {dec hidx} {t : ℕ} (ht : t < 128)
    (ho : off = ![j, 16 * t]) (ho' : off' = ![s, 16 * t]) (hX : ∀ b < 2048, (X j b).toNat < 100096)
    (hchk : ∀ w : IVec S16 32, (∀ a x, ((![w] : Fin 1 → IVec S16 32) a x).toNat < S100096.size a) → chk w) :
    gBufs d i j s X Y Z (16 * t)
      ⊢ wp frame (wpE (defs₀ (F := F)) 𝒱₀ (thr d i) none) Set.univ (gatherStep i off off' inb inb' chk dec hidx)
          fun _ => gBufs d i j s X Y Z (16 * (t + 1)) := by
  subst ho ho'
  unfold gatherStep gBufs
  simp only [Prog.lift, Prog.bind_op, Prog.bind_ret, Prog.pure_eq_ret]
  iintro ⟨HI, HP, HO⟩
  iapply (wp_loadPart 𝒱₀ (thr d i) none (defs := defs₀ (F := F)) (m := ivW) (r := Rect.unit (s := S8x2048) ![j, 16 * t] S1x16.size inb) (fun _ => Finset.mem_univ _)) $$ HI
  iintro HI
  have hv : ∀ x : S16.Idx, (shapeCast S16 (fun x => f2 X ((Rect.unit (s := S8x2048) ![j, 16 * t] S1x16.size inb).emb x)) shapeCasts_S1x16_S16 : IVec S16 32) x
      = X j (16 * t + (x 0).val) := by
    intro x
    have h := lane_val x
    show X (j + 1 * _) (16 * t + 1 * _) = _
    rw [Nat.one_mul, Nat.one_mul]
    refine congrArg₂ X ?_ ?_
    · exact (congrArg (j + ·) h.1)
    · exact (congrArg (16 * t + ·) h.2)
  generalize (shapeCast S16 (fun x => f2 X ((Rect.unit (s := S8x2048) ![j, 16 * t] S1x16.size inb).emb x)) shapeCasts_S1x16_S16 : IVec S16 32) = w at hv
  have hw : chk w := hchk w fun a x => by
    obtain rfl : a = 0 := Subsingleton.elim _ _
    show (w x).toNat < 100096
    rw [hv x]
    have := (x 0).isLt
    exact hX _ (by show _ < 2048; have h16 : (x 0).val < 16 := (x 0).isLt; omega)
  iapply (wp_assume 𝒱₀ (thr d i) none Set.univ hw)
  iapply (wp_gatherPart 𝒱₀ (thr d i) none (defs := defs₀ (F := F)) (base := pvW) (idxs := ![w]) (h := hidx w hw)) $$ HP
  iintro HP
  iapply (wp_loadPart 𝒱₀ (thr d i) none (defs := defs₀ (F := F)) (m := ovW) (r := Rect.unit (s := S4x2048) ![s, 16 * t] S1x16.size inb') (T := seg2 s 0 2048) (fun x => by
    have h0 : (x 0).val < 1 := (x 0).isLt
    have h1 : (x 1).val < 16 := (x 1).isLt
    refine mem_seg2.2 ⟨?_, ?_, ?_⟩
    · show s + 1 * (x 0).val = s; omega
    · show 0 ≤ _; omega
    · show 16 * t + 1 * (x 1).val < _; omega)) $$ HO
  iintro HO
  iapply (wp_storePart 𝒱₀ (thr d i) none (defs := defs₀ (F := F)) (m := ovW) (r := Rect.unit (s := S4x2048) ![s, 16 * t] S1x16.size inb') (T := seg2 s 0 2048)
    (X' := f2 fun _ k => gathered j X Y Z (16 * (t + 1)) k) (fun x => by
      have h0 : (x 0).val < 1 := (x 0).isLt
      have h1 : (x 1).val < 16 := (x 1).isLt
      refine mem_seg2.2 ⟨?_, ?_, ?_⟩
      · show s + 1 * (x 0).val = s; omega
      · show 0 ≤ _; omega
      · show 16 * t + 1 * (x 1).val < _; omega) (fun x => by
      have h1 : (x 1).val < 16 := (x 1).isLt
      show gathered j X Y Z (16 * (t + 1)) (16 * t + 1 * (x 1).val) = _
      unfold gathered
      rw [if_pos (by omega), Nat.one_mul]
      show _ = f1 Y (idxAt ![w] _ (Shape.reshapeEquiv _ x))
      show Y _ = Y (w _).toNat
      rw [hv]
      refine congrArg (fun k => Y (X j (16 * t + k)).toNat) (lane_val' x).symm) (fun y hy hn => by
      have hy' := mem_seg2.1 hy
      show gathered j X Y Z (16 * (t + 1)) (y 1).val = gathered j X Y Z (16 * t) (y 1).val
      unfold gathered
      by_cases h1 : (y 1).val < 16 * t
      · rw [if_pos h1, if_pos (by omega)]
      by_cases h2 : (y 1).val < 16 * (t + 1)
      · exfalso
        refine hn (fun a => match a with | 0 => ⟨0, Nat.zero_lt_one⟩ | 1 => ⟨(y 1).val - 16 * t, by show _ < 16; omega⟩) ?_
        funext a
        apply Fin.ext
        match a with
        | 0 => show s + 1 * 0 = _; omega
        | 1 => show 16 * t + 1 * ((y 1).val - 16 * t) = _; omega
      · rw [if_neg h1, if_neg h2])) $$ HO
  iintro HO
  rw [wp_ret]
  imodintro
  isplitl [HI]; · iexact HI
  isplitl [HP]; · iexact HP
  iexact HO

/-- A whole gather loop, given that its body is `gatherStep` at its trips' offsets. -/
theorem wp_gatherLoop (l : Scf.Loop 32) (hl : l.trips = 128) (hok : l.OK) (body : Fin l.trips → Unit → TP (F := F) i Unit)
    {off off' : Fin l.trips → Fin 2 → ℕ} {inb : ∀ t a, off t a + S1x16.size a ≤ S8x2048.size a}
    {inb' : ∀ t a, off' t a + S1x16.size a ≤ S4x2048.size a} {chk : IVec S16 32 → Prop} {dec : ∀ w, Decidable (chk w)}
    {hidx : ∀ w, chk w → ∀ a x, ((![w] : Fin 1 → IVec S16 32) a x).toNat < S100096.size a}
    (hb : ∀ t u, body t u = gatherStep i (off t) (off' t) (inb t) (inb' t) chk dec hidx)
    (ho : ∀ t, off t = ![j, 16 * t.val]) (ho' : ∀ t, off' t = ![s, 16 * t.val]) (hX : ∀ b < 2048, (X j b).toNat < 100096)
    (hchk : ∀ w : IVec S16 32, (∀ a x, ((![w] : Fin 1 → IVec S16 32) a x).toNat < S100096.size a) → chk w) :
    gBufs d i j s X Y Z 0
      ⊢ wp frame (wpE (defs₀ (F := F)) 𝒱₀ (thr d i) none) Set.univ (Scf.Loop.for l hok ⟨⟩ body)
          fun _ => gBufs d i j s X Y Z 2048 := by
  iintro H
  iapply (Scf.wp_for frame _ Set.univ _ _ _ hok () body (fun t _ => gBufs d i j s X Y Z (16 * t)) (fun t u => by
    rw [hb t u]
    exact wp_gatherStep d i (lt_of_lt_of_eq t.isLt hl) (ho t) (ho' t) hX hchk))
  isplitl [H]; · iexact H
  iintro %u H
  have e : 16 * Scf.trips l.lb l.ub l.st = 2048 := by have : Scf.trips l.lb l.ub l.st = 128 := hl; omega
  rw [e]
  iexact H

end Step

end Cert.Proof

end
-- ==== Proof.Plane.lean ====
/-
  One plane of a tile's work: the plane's row of the table is staged (three long pieces and a short tail), then eight
  chunks of indices are gathered from it, each into one of four result rows in turn, each row copied out while the next
  is filled. Stated over the memrefs and offsets, so that it is proved once for the two tables.
-/
module

public import proofs.«01_k».proof.Proof.Gather

@[expose] public section

noncomputable section

namespace Cert.Proof

open Cert.KernelIdeal Cert.KernelIdeal.Gen Cert.Proof.Pieces
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## Consecutive runs -/

section Runs

variable {sp : Space} {e : EltTy} {c : Thread nD τ} {q : PosShare TreeShare}

instance part_storable {s : Shape} (m : Memref sig c.2.kind sp s e) (T : Finset s.Idx) (X : s.Idx → Elt F e) :
    Storable (upEmb : UEmb _ (MM F)) (part c m q T X) := by unfold part; infer_instance

/-- A run of a vector is two shorter ones. -/
theorem part_seg1_add {dd : Fin 1 → ℕ} {m : Memref sig c.2.kind sp ⟨1, dd⟩ e} {X : (⟨1, dd⟩ : Shape).Idx → Elt F e} (k n n' : ℕ) :
    (part c m q (seg1 k (n + n')) X : sProp (MM F)) ⊣⊢ iprop(part c m q (seg1 k n) X ∗ part c m q (seg1 (k + n) n') X) := by
  rw [show (seg1 k (n + n') : Finset (⟨1, dd⟩ : Shape).Idx) = seg1 k n ∪ seg1 (k + n) n' by
    ext x; simp only [Finset.mem_union, mem_seg1]; omega]
  refine part_union (Finset.disjoint_left.2 fun x h h' => ?_)
  have := mem_seg1.1 h; have := mem_seg1.1 h'; omega

/-- A run of a row is two shorter ones. -/
theorem part_seg2_add {dd : Fin 2 → ℕ} {m : Memref sig c.2.kind sp ⟨2, dd⟩ e} {X : (⟨2, dd⟩ : Shape).Idx → Elt F e} (r k n n' : ℕ) :
    (part c m q (seg2 r k (n + n')) X : sProp (MM F)) ⊣⊢ iprop(part c m q (seg2 r k n) X ∗ part c m q (seg2 r (k + n) n') X) := by
  rw [show (seg2 r k (n + n') : Finset (⟨2, dd⟩ : Shape).Idx) = seg2 r k n ∪ seg2 r (k + n) n' by
    ext x; simp only [Finset.mem_union, mem_seg2]; omega]
  refine part_union (Finset.disjoint_left.2 fun x h h' => ?_)
  have := mem_seg2.1 h; have := mem_seg2.1 h'; omega

/-- The staged plane's buffer is its four pieces. -/
theorem pv_split {Y : ℕ → Elt F .f32} (d : Dev nD) (i : grid0.Coords) :
    (part (thr d i) pvW fullShare Finset.univ (f1 Y) : sProp (MM F))
      ⊣⊢ iprop(part (thr d i) pvW fullShare (seg1 0 33280) (f1 Y) ∗ part (thr d i) pvW fullShare (seg1 33280 33280) (f1 Y)
        ∗ part (thr d i) pvW fullShare (seg1 66560 33280) (f1 Y) ∗ part (thr d i) pvW fullShare (seg1 99840 256) (f1 Y)) := by
  have h0 : (Finset.univ : Finset S100096.Idx) = seg1 0 (33280 + (33280 + (33280 + 256))) := by
    ext x
    have hx : (x 0).val < 100096 := (x 0).isLt
    simp only [Finset.mem_univ, true_iff, mem_seg1]; omega
  rw [h0]
  have h1 := part_seg1_add (F := F) (c := thr d i) (m := pvW) (q := fullShare) (X := f1 Y) 0 33280 (33280 + (33280 + 256))
  have h2 := part_seg1_add (F := F) (c := thr d i) (m := pvW) (q := fullShare) (X := f1 Y) 33280 33280 (33280 + 256)
  have h3 := part_seg1_add (F := F) (c := thr d i) (m := pvW) (q := fullShare) (X := f1 Y) 66560 33280 256
  constructor
  · iintro H
    ihave H := h1.1 $$ H
    icases H with ⟨H1, H⟩
    ihave H := h2.1 $$ H
    icases H with ⟨H2, H⟩
    ihave H := h3.1 $$ H
    icases H with ⟨H3, H4⟩
    isplitl [H1]; · iexact H1
    isplitl [H2]; · iexact H2
    isplitl [H3] <;> iassumption
  · iintro ⟨H1, H2, H3, H4⟩
    iapply h1.2
    isplitl [H1]; · iexact H1
    iapply h2.2
    isplitl [H2]; · iexact H2
    iapply h3.2
    isplitl [H3] <;> iassumption

end Runs

/-! ## What a tile owes -/

section Wait

variable (d : Dev nD) (i : grid0.Coords) (O : CellTallies nD τ sig (HIx 1)) (W : Waits sig (HIx 1))

/-- What a tile owes the launch, whatever waits of its own it has recorded, and the evidence that it may wait. -/
def Ow : sProp (MM F) :=
  iprop(MayWaits (thr d i) (none : HIx 1) O ∗ ∃ W', ⌜∀ p ∈ W', p ∈ W ∨ p.2 = none⌝ ∗ owes (thr d i) O W')

variable {d i O W} {α : Type} {Q : α → sProp (MM F)} {sp sp' : Space} {s s' : Shape} {e e' : EltTy}

theorem insert_ok {W W' : Waits sig (HIx 1)} (sm : SemLoc sig) (h : ∀ p ∈ W', p ∈ W ∨ p.2 = none) :
    ∀ p ∈ insert (sm, (none : HIx 1)) W', p ∈ W ∨ p.2 = none := by
  intro p hp
  rcases Finset.mem_insert.mp hp with hp | hp
  · exact .inr (hp ▸ rfl)
  · exact h p hp

/-- Waiting for a copy in flight gives what it delivers. -/
theorem wp_waitOw {sem : DmaSem sig} {srcw : Memref sig (thr d i).2.kind sp' s' e'} {dstw : Memref sig (thr d i).2.kind sp s e}
    {hsrc : srcw.view.WordExact} {hdst : dstw.view.WordExact} {k : PUnit → TP (F := F) i α} {N : ℕ} (hN : dstw.view.dmaCredit = N) {DD : sProp (MM F)} :
    iprop(Flight EC (thr d i) (.dma sem) (none : HIx 1) N DD ∗ Ow d i O W)
      ⊢ iprop((iprop(DD ∗ semVal (thr d i, .dma sem) 0 ∗ Ow d i O W) -∗ wp frame (wpE (defs₀ (F := F)) 𝒱₀ (thr d i) none) Set.univ (k ⟨⟩) Q)
          -∗ wp frame (wpE (defs₀ (F := F)) 𝒱₀ (thr d i) none) Set.univ (.op (.waitDma2 sem srcw dstw hsrc hdst) k) Q) := by
  unfold Ow
  iintro ⟨HF, #HM, %W', %hW', HO⟩ Hk
  ihave HM1 := (MayWaits.elim (c := thr d i) (ι := (none : HIx 1)) (O := O) (SemLoc.dma sem)) $$ HM
  iapply (wp_waitLocalO EC 𝒱₀ (thr d i) none none hN) $$ [HF HO HM1]
  · isplitl [HF]; · iexact HF
    isplitl [HO]; · iexact HO
    iexact HM1
  iintro ⟨HD, Hs, HO⟩
  iapply Hk
  isplitl [HD]; · iexact HD
  isplitl [Hs]; · iexact Hs
  isplitr; · iexact HM
  iexists (insert (SemLoc.dma sem, (none : HIx 1)) W'); isplitr
  · ipureintro; exact insert_ok _ hW'
  · iexact HO

/-- Waiting for one of a batch that others remain of. -/
theorem wp_waitBatchOw {n : ℕ} {sem : DmaSem sig} {srcw : Memref sig (thr d i).2.kind sp' s' e'} {dstw : Memref sig (thr d i).2.kind sp s e}
    {hsrc : srcw.view.WordExact} {hdst : dstw.view.WordExact} {k : PUnit → TP (F := F) i α} {N : ℕ} (hN : dstw.view.dmaCredit = N) {DD : Fin n → sProp (MM F)}
    {u : ℕ} (hu : u + N < N * n) :
    iprop(Batch EC (thr d i) (.dma sem) (none : HIx 1) N DD n u ∗ Ow d i O W)
      ⊢ iprop((iprop(Batch EC (thr d i) (.dma sem) (none : HIx 1) N DD n (u + N) ∗ Ow d i O W) -∗ wp frame (wpE (defs₀ (F := F)) 𝒱₀ (thr d i) none) Set.univ (k ⟨⟩) Q)
          -∗ wp frame (wpE (defs₀ (F := F)) 𝒱₀ (thr d i) none) Set.univ (.op (.waitDma2 sem srcw dstw hsrc hdst) k) Q) := by
  unfold Ow
  iintro ⟨HF, #HM, %W', %hW', HO⟩ Hk
  ihave HM1 := (MayWaits.elim (c := thr d i) (ι := (none : HIx 1)) (O := O) (SemLoc.dma sem)) $$ HM
  iapply (wp_waitBatchO EC 𝒱₀ (thr d i) none none hN hu) $$ [HF HO HM1]
  · isplitl [HF]; · iexact HF
    isplitl [HO]; · iexact HO
    iexact HM1
  iintro ⟨HD, HO⟩
  iapply Hk
  isplitl [HD]; · iexact HD
  isplitr; · iexact HM
  iexists (insert (SemLoc.dma sem, (none : HIx 1)) W'); isplitr
  · ipureintro; exact insert_ok _ hW'
  · iexact HO

/-- Waiting for the last of a batch gives all they deliver. -/
theorem wp_waitBatchLastOw {n : ℕ} {sem : DmaSem sig} {srcw : Memref sig (thr d i).2.kind sp' s' e'} {dstw : Memref sig (thr d i).2.kind sp s e}
    {hsrc : srcw.view.WordExact} {hdst : dstw.view.WordExact} {k : PUnit → TP (F := F) i α} {N : ℕ} (hN : dstw.view.dmaCredit = N) (hN0 : 0 < N) {DD : Fin n → sProp (MM F)}
    {u : ℕ} (hu : u + N = N * n) :
    iprop(Batch EC (thr d i) (.dma sem) (none : HIx 1) N DD n u ∗ Ow d i O W)
      ⊢ iprop((iprop(bigSep Finset.univ DD ∗ semVal (thr d i, .dma sem) 0 ∗ Ow d i O W) -∗ wp frame (wpE (defs₀ (F := F)) 𝒱₀ (thr d i) none) Set.univ (k ⟨⟩) Q)
          -∗ wp frame (wpE (defs₀ (F := F)) 𝒱₀ (thr d i) none) Set.univ (.op (.waitDma2 sem srcw dstw hsrc hdst) k) Q) := by
  unfold Ow
  iintro ⟨HF, #HM, %W', %hW', HO⟩ Hk
  ihave HM1 := (MayWaits.elim (c := thr d i) (ι := (none : HIx 1)) (O := O) (SemLoc.dma sem)) $$ HM
  iapply (wp_waitBatchLastO EC 𝒱₀ (thr d i) none none hN hN0 hu) $$ [HF HO HM1]
  · isplitl [HF]; · iexact HF
    isplitl [HO]; · iexact HO
    iexact HM1
  iintro ⟨HD, Hs, HO⟩
  iapply Hk
  isplitl [HD]; · iexact HD
  isplitl [Hs]; · iexact Hs
  isplitr; · iexact HM
  iexists (insert (SemLoc.dma sem, (none : HIx 1)) W'); isplitr
  · ipureintro; exact insert_ok _ hW'
  · iexact HO

end Wait

/-! ## Staging -/

/-- A piece of the plane's buffer and the piece of a table's row it is copied from. -/
abbrev pvSl (k : ℕ) (h : ∀ a, (![k] : Fin 1 → ℕ) a + S33280.size a ≤ S100096.size a) : Memref sig .scVector .vmem S33280 .f32 :=
  pvW.slice (Rect.unit (s := S100096) ![k] S33280.size h) (fun _ => rfl)
abbrev tabSl (tab : Memref sig .scVector .hbm S352x100000 .f32) (o : Fin 2 → ℕ) (h : ∀ a, o a + S1x33280.size a ≤ S352x100000.size a) :
    Memref sig .scVector .hbm S33280 .f32 :=
  (tab.slice (Rect.unit (s := S352x100000) o S1x33280.size h) (fun _ => rfl)).squeeze S33280 squeezes_S1x33280_S33280
abbrev pvTl : Memref sig .scVector .vmem S256 .f32 := pvW.slice (Rect.unit (s := S100096) ![99840] S256.size inb_S100096_S256_99840) (fun _ => rfl)
abbrev tailSl (tail : Memref sig .scVector .hbm S352x256 .f32) (o : Fin 2 → ℕ) (h : ∀ a, o a + S1x256.size a ≤ S352x256.size a) :
    Memref sig .scVector .hbm S256 .f32 :=
  (tail.slice (Rect.unit (s := S352x256) o S1x256.size h) (fun _ => rfl)).squeeze S256 squeezes_S1x256_S256

/-- The staging of a plane: four copies started, four waited for. -/
def stage (i : grid0.Coords) (tab : Memref sig .scVector .hbm S352x100000 .f32) (htab : tab.IsWhole) (tail : Memref sig .scVector .hbm S352x256 .f32)
    (sS sT : DmaSem sig) (o2 o3 o4 o5 : Fin 2 → ℕ) (h2 : ∀ a, o2 a + S1x33280.size a ≤ S352x100000.size a)
    (h3 : ∀ a, o3 a + S1x33280.size a ≤ S352x100000.size a) (h4 : ∀ a, o4 a + S1x33280.size a ≤ S352x100000.size a)
    (h5 : ∀ a, o5 a + S1x256.size a ≤ S352x256.size a) : TP (F := F) i PUnit := do
  Prog.lift (.enqueueDma (tabSl tab o2 h2) (.here (pvSl 0 inb_S100096_S33280_0)) (.dma sS) ((View.wordExact_bits rfl).reshape _ _) (View.wordExact_bits rfl) ⟨Or.inl rfl, trivial⟩)
  Prog.lift (.enqueueDma (tabSl tab o3 h3) (.here (pvSl 33280 inb_S100096_S33280_33280)) (.dma sS) ((View.wordExact_bits rfl).reshape _ _) (View.wordExact_bits rfl) ⟨Or.inl rfl, trivial⟩)
  Prog.lift (.enqueueDma (tabSl tab o4 h4) (.here (pvSl 66560 inb_S100096_S33280_66560)) (.dma sS) ((View.wordExact_bits rfl).reshape _ _) (View.wordExact_bits rfl) ⟨Or.inl rfl, trivial⟩)
  Prog.lift (.enqueueDma (tailSl tail o5 h5) (.here pvTl) (.dma sT) ((View.wordExact_bits rfl).reshape _ _) (View.wordExact_bits rfl) ⟨Or.inl rfl, trivial⟩)
  Prog.lift (.waitDma2 sS (tabSl tab o2 h2) (pvSl 0 inb_S100096_S33280_0) ((View.wordExact_bits rfl).reshape _ _) (View.wordExact_bits rfl))
  Prog.lift (.waitDma2 sS (tabSl tab o3 h3) (pvSl 33280 inb_S100096_S33280_33280) ((View.wordExact_bits rfl).reshape _ _) (View.wordExact_bits rfl))
  Prog.lift (.waitDma2 sS (tabSl tab o4 h4) (pvSl 66560 inb_S100096_S33280_66560) ((View.wordExact_bits rfl).reshape _ _) (View.wordExact_bits rfl))
  Prog.lift (.waitDma2 sT (tailSl tail o5 h5) pvTl ((View.wordExact_bits rfl).reshape _ _) (View.wordExact_bits rfl))

/-- Row `p` of a table with its last columns taken from the padded tail. -/
def rowv (tX lX : ℕ → ℕ → Elt F .f32) (p v : ℕ) : Elt F .f32 := if v < 99840 then tX p v else lX p (v - 99840)

/-- The credit of one long piece, and of the tail. -/
abbrev NS : ℕ := (pvSl 0 inb_S100096_S33280_0).view.dmaCredit
abbrev NT : ℕ := pvTl.view.dmaCredit
theorem NS_pos : 0 < NS := View.dmaCredit_pos _ (by decide)
theorem NT_pos : 0 < NT := View.dmaCredit_pos _ (by decide)

section Stage

variable (d : Dev nD) (i : grid0.Coords) (O : CellTallies nD τ sig (HIx 1)) (W : Waits sig (HIx 1))
variable (tab : Memref sig .scVector .hbm S352x100000 .f32) (htab : tab.IsWhole) (tail : Memref sig .scVector .hbm S352x256 .f32)
variable (tX lX : ℕ → ℕ → Elt F .f32) (q q' : PosShare TreeShare) (sS sT : DmaSem sig)

/-- The table and its tail, read. -/
def tabs : sProp (MM F) := iprop(part (thr d i) tab q Finset.univ (f2 tX) ∗ part (thr d i) tail q' Finset.univ (f2 lX))

/-- What a long piece's copy delivers. -/
def pieceD (p : ℕ) (t : Fin 3) : sProp (MM F) :=
  iprop(part (thr d i) pvW fullShare (seg1 (33280 * t.val) 33280) (f1 (rowv tX lX p)) ∗ part (thr d i) tab q (seg2 p (33280 * t.val) 33280) (f2 tX))

instance (p : ℕ) (t : Fin 3) : Storable (upEmb : UEmb _ (MM F)) (pieceD d i tab tX lX q p t) := by unfold pieceD; infer_instance

/-- Staging leaves the plane's row in the plane's buffer. -/
theorem wp_stage {o2 o3 o4 o5 : Fin 2 → ℕ} {h2 h3 h4 h5} (p : ℕ) (hp : p < 352)
    (e2 : o2 = ![p, 0]) (e3 : o3 = ![p, 33280]) (e4 : o4 = ![p, 66560]) (e5 : o5 = ![p, 0]) :
    iprop(tabs d i tab tail tX lX q q' ∗ (∃ Y, part (thr d i) pvW fullShare Finset.univ (f1 Y))
        ∗ semVal (thr d i, .dma sS) 0 ∗ semVal (thr d i, .dma sT) 0 ∗ Ow d i O W)
      ⊢ wp frame (wpE (defs₀ (F := F)) 𝒱₀ (thr d i) none) Set.univ (stage i tab htab tail sS sT o2 o3 o4 o5 h2 h3 h4 h5)
        fun _ => iprop(tabs d i tab tail tX lX q q' ∗ part (thr d i) pvW fullShare Finset.univ (f1 (rowv tX lX p))
          ∗ semVal (thr d i, .dma sS) 0 ∗ semVal (thr d i, .dma sT) 0 ∗ Ow d i O W) := by
  unfold stage tabs
  simp only [Prog.lift, Prog.bind_op, Prog.bind_ret, Prog.pure_eq_ret]
  -- the row of the table the three pieces are read from, apart from the rest of it
  have hrow : (seg2 p 0 (33280 + (33280 + 33280)) : Finset S352x100000.Idx) ⊆ Finset.univ := Finset.subset_univ _
  have hr1 := part_seg2_add (F := F) (c := thr d i) (m := tab) (q := q) (X := f2 tX) p 0 33280 (33280 + 33280)
  have hr2 := part_seg2_add (F := F) (c := thr d i) (m := tab) (q := q) (X := f2 tX) p 33280 33280 33280
  have htl : (seg2 p 0 256 : Finset S352x256.Idx) ⊆ Finset.univ := Finset.subset_univ _
  -- a piece and its source, as the copy's memrefs see them
  have hsrc : ∀ (k : ℕ) (o : Fin 2 → ℕ) (h) (_ : o = ![p, k]),
      (part (thr d i) (tabSl tab o h) q Finset.univ (f1 fun b => tX p (k + b)) : sProp (MM F)) = part (thr d i) tab q (seg2 p k 33280) (f2 tX) :=
    fun k o h ho => part_row p k ho fun b _ => rfl
  have hdst : ∀ (k : ℕ) (h) (Y : ℕ → Elt F .f32),
      (part (thr d i) (pvSl k h) fullShare Finset.univ (f1 fun b => Y (k + b)) : sProp (MM F)) = part (thr d i) pvW fullShare (seg1 k 33280) (f1 Y) :=
    fun k h Y => part_run k rfl fun b _ => rfl
  have hland : ∀ (k : ℕ) (h) (_ : k + 33280 ≤ 99840),
      (part (thr d i) (pvSl k h) fullShare Finset.univ (f1 fun b => tX p (k + b)) : sProp (MM F)) = part (thr d i) pvW fullShare (seg1 k 33280) (f1 (rowv tX lX p)) :=
    fun k h hk => part_run k rfl fun b hb => by
      show _ = rowv tX lX p (k + b); unfold rowv; rw [if_pos (by omega)]
  have hsrcT : ∀ (h) , (part (thr d i) (tailSl tail o5 h) q' Finset.univ (f1 fun b => lX p (0 + b)) : sProp (MM F)) = part (thr d i) tail q' (seg2 p 0 256) (f2 lX) :=
    fun h => part_row p 0 e5 fun b _ => rfl
  have hdstT : ∀ (Y : ℕ → Elt F .f32),
      (part (thr d i) pvTl fullShare Finset.univ (f1 fun b => Y (99840 + b)) : sProp (MM F)) = part (thr d i) pvW fullShare (seg1 99840 256) (f1 Y) :=
    fun Y => part_run 99840 rfl fun b _ => rfl
  have hlandT : (part (thr d i) pvTl fullShare Finset.univ (f1 fun b => lX p (0 + b)) : sProp (MM F)) = part (thr d i) pvW fullShare (seg1 99840 256) (f1 (rowv tX lX p)) :=
    part_run 99840 rfl fun b hb => by
      show _ = rowv tX lX p (99840 + b); unfold rowv; rw [if_neg (by omega)]; exact congrArg (lX p) (by omega)
  have hD : bigSep Finset.univ (pieceD d i tab tX lX q p)
      ⊢ iprop((part (thr d i) pvW fullShare (seg1 0 33280) (f1 (rowv tX lX p)) ∗ part (thr d i) tab q (seg2 p 0 33280) (f2 tX))
        ∗ (part (thr d i) pvW fullShare (seg1 33280 33280) (f1 (rowv tX lX p)) ∗ part (thr d i) tab q (seg2 p 33280 33280) (f2 tX))
        ∗ (part (thr d i) pvW fullShare (seg1 66560 33280) (f1 (rowv tX lX p)) ∗ part (thr d i) tab q (seg2 p 66560 33280) (f2 tX))) := by
    rw [show (Finset.univ : Finset (Fin 3)) = {0, 1, 2} by decide, SparseCore.bigSep_insert' (by decide), SparseCore.bigSep_insert' (by decide), bigSep_singleton]
    exact .rfl
  iintro ⟨⟨Htab, Htail⟩, ⟨%Y, Hpv⟩, HsS, HsT, HO⟩
  ihave Hpv := (pv_split (Y := Y) d i).1 $$ Hpv
  icases Hpv with ⟨Hp1, Hp2, Hp3, Hp4⟩
  ihave Htab := (part_borrow (q := q) (X := f2 tX) hrow) $$ Htab
  icases Htab with ⟨Hr, Htab⟩
  ihave Hr := hr1.1 $$ Hr
  icases Hr with ⟨Hr1, Hr⟩
  ihave Hr := hr2.1 $$ Hr
  icases Hr with ⟨Hr2, Hr3⟩
  ihave Htail := (part_borrow (q := q') (X := f2 lX) htl) $$ Htail
  icases Htail with ⟨Ht, Htail⟩
  imod (batch_alloc' EC (thr d i) (none : HIx 1) NS (pieceD d i tab tX lX q p) (E := Set.univ)) $$ HsS with HB
  iapply (wp_copyBatch EC 𝒱₀ (thr d i) none (defs := defs₀ (F := F)) (q := q) (dst := pvSl 0 inb_S100096_S33280_0) (X := f1 fun b => tX p (0 + b)) (Y := f1 fun b => Y (0 + b)) (D := pieceD d i tab tX lX q p) (j := 0) (none : HIx 1) NS rfl (by decide)
    (by unfold pieceD; rw [hland 0 _ (by omega), hsrc 0 _ _ e2]; exact .rfl)) $$ [Hr1 Hp1 HB]
  · rw [hsrc 0 _ _ e2, hdst 0 _ Y]
    isplitl [Hr1]; · iexact Hr1
    isplitl [Hp1] <;> iassumption
  iintro HB
  iapply (wp_copyBatch EC 𝒱₀ (thr d i) none (defs := defs₀ (F := F)) (q := q) (dst := pvSl 33280 inb_S100096_S33280_33280) (X := f1 fun b => tX p (33280 + b)) (Y := f1 fun b => Y (33280 + b)) (D := pieceD d i tab tX lX q p) (j := 1) (none : HIx 1) NS rfl (by decide)
    (by unfold pieceD; rw [hland 33280 _ (by omega), hsrc 33280 _ _ e3]; exact .rfl)) $$ [Hr2 Hp2 HB]
  · rw [hsrc 33280 _ _ e3, hdst 33280 _ Y]
    isplitl [Hr2]; · iexact Hr2
    isplitl [Hp2] <;> iassumption
  iintro HB
  iapply (wp_copyBatch EC 𝒱₀ (thr d i) none (defs := defs₀ (F := F)) (q := q) (dst := pvSl 66560 inb_S100096_S33280_66560) (X := f1 fun b => tX p (66560 + b)) (Y := f1 fun b => Y (66560 + b)) (D := pieceD d i tab tX lX q p) (j := 2) (none : HIx 1) NS rfl (by decide)
    (by unfold pieceD; rw [hland 66560 _ (by omega), hsrc 66560 _ _ e4]; exact .rfl)) $$ [Hr3 Hp3 HB]
  · rw [hsrc 66560 _ _ e4, hdst 66560 _ Y]
    isplitl [Hr3]; · iexact Hr3
    isplitl [Hp3] <;> iassumption
  iintro HB
  iapply (wp_copy EC 𝒱₀ (thr d i) none (defs := defs₀ (F := F)) (q := q') (X := f1 fun b => lX p (0 + b)) (Y := f1 fun b => Y (99840 + b)) (none : HIx 1) NT rfl NT_pos) $$ [Ht Hp4 HsT]
  · rw [hsrcT, hdstT Y]
    isplitl [Ht]; · iexact Ht
    isplitl [Hp4] <;> iassumption
  iintro HF
  rw [hlandT, hsrcT]
  iapply (wp_waitBatchOw (F := F) (O := O) (W := W) (N := NS) (n := 3) rfl (u := 0) (by have := NS_pos; omega)) $$ [HB HO]
  · isplitl [HB] <;> iassumption
  iintro ⟨HB, HO⟩
  iapply (wp_waitBatchOw (F := F) (O := O) (W := W) (N := NS) (n := 3) (dstw := pvSl 33280 inb_S100096_S33280_33280) rfl (u := 0 + NS) (by have := NS_pos; omega)) $$ [HB HO]
  · isplitl [HB] <;> iassumption
  iintro ⟨HB, HO⟩
  iapply (wp_waitBatchLastOw (F := F) (O := O) (W := W) (N := NS) (n := 3) (dstw := pvSl 66560 inb_S100096_S33280_66560) rfl NS_pos (u := 0 + NS + NS) (by omega)) $$ [HB HO]
  · isplitl [HB] <;> iassumption
  iintro ⟨HD, HsS, HO⟩
  iapply (wp_waitOw (F := F) (O := O) (W := W) (N := NT) rfl) $$ [HF HO]
  · isplitl [HF] <;> iassumption
  iintro ⟨⟨Hp4, Ht⟩, HsT, HO⟩
  rw [wp_ret]
  imodintro
  ihave HD := hD $$ HD
  icases HD with ⟨⟨Hp1, Hr1⟩, ⟨Hp2, Hr2⟩, Hp3, Hr3⟩
  isplitl [Htab Htail Hr1 Hr2 Hr3 Ht]
  · isplitl [Htab Hr1 Hr2 Hr3]
    · iapply Htab
      iapply hr1.2
      isplitl [Hr1]; · iexact Hr1
      iapply hr2.2
      isplitl [Hr2]; · iexact Hr2
      iexact Hr3
    · iapply Htail; iexact Ht
  isplitl [Hp1 Hp2 Hp3 Hp4]
  · iapply (pv_split d i).2
    isplitl [Hp1]; · iexact Hp1
    isplitl [Hp2]; · iexact Hp2
    isplitl [Hp3]; · iexact Hp3
    iexact Hp4
  isplitl [HsS]; · iexact HsS
  isplitl [HsT]; · iexact HsT
  iexact HO

end Stage

end Cert.Proof

end
-- ==== Proof.Chunk.lean ====
/-
  The chunks of a plane: waiting for a result row to be free, filling it by a gather loop and starting its copy to the
  result; and the plane's eight chunks after its staging.
-/
module

public import proofs.«01_k».proof.Proof.Plane

@[expose] public section

noncomputable section

namespace Cert.Proof

open Cert.KernelIdeal Cert.KernelIdeal.Gen Cert.Proof.Pieces
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The programs -/

/-- What follows a conditional follows each of its branches. -/
theorem dite_bind {i : grid0.Coords} {α β : Type} {c : Prop} [Decidable c] (A : c → TP (F := F) i α) (B : ¬c → TP (F := F) i α) (k : α → TP (F := F) i β) :
    (dite c A B >>= k) = dite c (fun h => A h >>= k) (fun h => B h >>= k) := by
  by_cases h : c
  · rw [dif_pos h, dif_pos h]
  · rw [dif_neg h, dif_neg h]

/-- A result row, and the run of the result it is copied to. -/
abbrev ovSl (s : ℕ) (h : ∀ a, (![s, 0] : Fin 2 → ℕ) a + S1x2048.size a ≤ S4x2048.size a) : Memref sig .scVector .vmem S2048 .f32 :=
  (ovW.slice (Rect.unit (s := S4x2048) ![s, 0] S1x2048.size h) (fun _ => rfl)).squeeze S2048 squeezes_S1x2048_S2048
abbrev outSl (out : Memref sig .scVector .hbm S352x16384 .f32) (o : Fin 2 → ℕ) (h : ∀ a, o a + S1x2048.size a ≤ S352x16384.size a) :
    Memref sig .scVector .hbm S2048 .f32 :=
  (out.slice (Rect.unit (s := S352x16384) o S1x2048.size h) (fun _ => rfl)).squeeze S2048 squeezes_S1x2048_S2048

section Progs

variable (i : grid0.Coords) (out : Memref sig .scVector .hbm S352x16384 .f32) (s : ℕ)
  (hs : ∀ a, (![s, 0] : Fin 2 → ℕ) a + S1x2048.size a ≤ S4x2048.size a) (sem : DmaSem sig)

/-- Start copying a result row out. -/
def issue (o : Fin 2 → ℕ) (h : ∀ a, o a + S1x2048.size a ≤ S352x16384.size a) : TP (F := F) i PUnit :=
  Prog.lift (.enqueueDma (ovSl s hs) (.here (outSl out o h)) (.dma sem) ((View.wordExact_bits rfl).reshape _ _) ((View.wordExact_bits rfl).reshape _ _) ⟨Or.inl rfl, trivial⟩)
/-- Wait for a result row's copy. -/
def drain (o : Fin 2 → ℕ) (h : ∀ a, o a + S1x2048.size a ≤ S352x16384.size a) : TP (F := F) i PUnit :=
  Prog.lift (.waitDma2 sem (ovSl s hs) (outSl out o h) ((View.wordExact_bits rfl).reshape _ _) ((View.wordExact_bits rfl).reshape _ _))
/-- Wait for a result row's copy if one is under way. -/
def maybeDrain (cond : BitVec 1) (od : Fin 2 → ℕ) (hd : cond = 1#1 → ∀ a, od a + S1x2048.size a ≤ S352x16384.size a) : TP (F := F) i PUnit :=
  if hc : cond = 1#1 then do
    drain i out s hs sem od (hd hc)
    pure ⟨⟩
  else do
    pure ⟨⟩
/-- A plane's first use of a result row: waited for if a copy of it is under way. -/
def chunkA (cond : BitVec 1) (od : Fin 2 → ℕ) (hd : cond = 1#1 → ∀ a, od a + S1x2048.size a ≤ S352x16384.size a) (g : TP (F := F) i Unit)
    (o : Fin 2 → ℕ) (h : ∀ a, o a + S1x2048.size a ≤ S352x16384.size a) : TP (F := F) i PUnit := do
  maybeDrain i out s hs sem cond od hd
  g
  issue i out s hs sem o h
/-- Its second use: always waited for. -/
def chunkB (od : Fin 2 → ℕ) (hd : ∀ a, od a + S1x2048.size a ≤ S352x16384.size a) (g : TP (F := F) i Unit)
    (o : Fin 2 → ℕ) (h : ∀ a, o a + S1x2048.size a ≤ S352x16384.size a) : TP (F := F) i PUnit := do
  drain i out s hs sem od hd
  g
  issue i out s hs sem o h
/-- A plane: its staging and its eight chunks. -/
def planeProg (st c0 c1 c2 c3 c4 c5 c6 c7 : TP (F := F) i PUnit) : TP (F := F) i PUnit := do
  st; c0; c1; c2; c3; c4; c5; c6; c7

end Progs

/-! ## The assertions -/

section Asserts

variable (d : Dev nD) (i : grid0.Coords) (out : Memref sig .scVector .hbm S352x16384 .f32)

/-- Chunk `j` of row `p` of the result, reading `X`. -/
def outPart (p j : ℕ) (X : ℕ → ℕ → Elt F .f32) : sProp (MM F) := part (thr d i) out fullShare (seg2 p (2048 * j) 2048) (f2 X)
/-- A result row, whatever it holds. -/
def ovAny (s : ℕ) : sProp (MM F) := iprop(∃ Z : ℕ → Elt F .f32, part (thr d i) ovW fullShare (seg2 s 0 2048) (f2 fun _ k => Z k))
/-- The credit of a chunk's copy. -/
abbrev NW : ℕ := out.view.ref.dmaCredit S2048 .f32
/-- A result row being copied to chunk `j` of row `p`. -/
def inFl (s : ℕ) (sem : DmaSem sig) (p j : ℕ) (X : ℕ → ℕ → Elt F .f32) : sProp (MM F) :=
  Flight EC (thr d i) (.dma sem) (none : HIx 1) (NW out) iprop(outPart d i out p j X ∗ ovAny d i s)
/-- A result row between planes, `a` of the tile's planes done: free at first, then under way with the last plane's chunk. -/
def slot (s : ℕ) (sem : DmaSem sig) (lo a : ℕ) (X : ℕ → ℕ → Elt F .f32) : sProp (MM F) :=
  if a = 0 then iprop(semVal (thr d i, .dma sem) 0 ∗ ovAny d i s) else inFl d i out s sem (lo + (a - 1)) (4 + s) X
/-- What waiting for a row between planes gives. -/
def late1 (s lo a : ℕ) (X : ℕ → ℕ → Elt F .f32) : sProp (MM F) := if a = 0 then iprop(emp) else outPart d i out (lo + (a - 1)) (4 + s) X
/-- The staged indices and the staged plane. -/
def ivp (X : ℕ → ℕ → BitVec 32) : sProp (MM F) := part (thr d i) ivW fullShare Finset.univ (f2 X)
def pvp (Y : ℕ → Elt F .f32) : sProp (MM F) := part (thr d i) pvW fullShare Finset.univ (f1 Y)

end Asserts

theorem NW_pos (out : Memref sig .scVector .hbm S352x16384 .f32) : 0 < NW out :=
  View.dmaCredit_pos (outSl out ![0, 0] (by decide)).view (by decide)

/-! ## The rules -/

section Rules

variable {d : Dev nD} {i : grid0.Coords} {O : CellTallies nD τ sig (HIx 1)} {W : Waits sig (HIx 1)}
variable {out : Memref sig .scVector .hbm S352x16384 .f32} {s : ℕ}
  {hs : ∀ a, (![s, 0] : Fin 2 → ℕ) a + S1x2048.size a ≤ S4x2048.size a} {sem : DmaSem sig}
  {X : ℕ → ℕ → BitVec 32} {Y : ℕ → Elt F .f32} {G out0 : ℕ → ℕ → Elt F .f32}

/-- A gather of a chunk, from its indices and the staged plane. -/
def Gathers (d : Dev nD) (i : grid0.Coords) (j s : ℕ) (X : ℕ → ℕ → BitVec 32) (Y : ℕ → Elt F .f32) (g : TP (F := F) i Unit) : Prop :=
  ∀ Z, gBufs d i j s X Y Z 0 ⊢ wp frame (wpE (defs₀ (F := F)) 𝒱₀ (thr d i) none) Set.univ g fun _ => gBufs d i j s X Y Z 2048

/-- Filling a free row and starting its copy. -/
theorem wp_fill {g : TP (F := F) i Unit} {o : Fin 2 → ℕ} {h} (p j : ℕ) (ho : o = ![p, 2048 * j]) (hg : Gathers d i j s X Y g)
    (hG : ∀ k < 2048, G p (2048 * j + k) = Y (X j k).toNat) :
    iprop(semVal (thr d i, .dma sem) 0 ∗ ovAny d i s ∗ outPart d i out p j out0 ∗ ivp d i X ∗ pvp d i Y)
      ⊢ wp frame (wpE (defs₀ (F := F)) 𝒱₀ (thr d i) none) Set.univ (g >>= fun _ => issue i out s hs sem o h)
          fun _ => iprop(inFl d i out s sem p j G ∗ ivp d i X ∗ pvp d i Y) := by
  unfold ovAny ivp pvp outPart
  have hsrc : (part (thr d i) (ovSl s hs) fullShare Finset.univ (f1 fun k => G p (2048 * j + k)) : sProp (MM F))
      = part (thr d i) ovW fullShare (seg2 s 0 2048) (f2 fun _ k => G p (2048 * j + k)) :=
    part_row s 0 rfl fun b _ => by rw [Nat.zero_add]
  have hdst : ∀ (X : ℕ → ℕ → Elt F .f32), (part (thr d i) (outSl out o h) fullShare Finset.univ (f1 fun b => X p (2048 * j + b)) : sProp (MM F))
      = part (thr d i) out fullShare (seg2 p (2048 * j) 2048) (f2 X) := fun X => part_row p (2048 * j) ho fun b _ => rfl
  have hov : ∀ Z : ℕ → Elt F .f32, (part (thr d i) ovW fullShare (seg2 s 0 2048) (f2 fun _ k => gathered j X Y Z 2048 k) : sProp (MM F))
      ⊢ part (thr d i) ovW fullShare (seg2 s 0 2048) (f2 fun _ k => G p (2048 * j + k)) := fun Z => le_of_eq (part_congr fun x hx => by
    have hx' := mem_seg2.1 hx
    show gathered j X Y Z 2048 (x 1).val = G p (2048 * j + (x 1).val)
    unfold gathered
    rw [if_pos (by omega), hG _ (by omega)])
  iintro ⟨Hs, ⟨%Z, Hov⟩, Hout, Hiv, Hpv⟩
  rw [wp_bind]
  iapply (wp_wand_r frame _ Set.univ)
  isplitl [Hov Hiv Hpv]
  · iapply (hg Z)
    unfold gBufs
    isplitl [Hiv]; · iexact Hiv
    isplitl [Hpv]; · iexact Hpv
    rw [show (f2 (fun _ k => gathered j X Y Z 0 k) : S4x2048.Idx → Elt F .f32) = f2 fun _ k => Z k by
      funext x; simp only [f2, gathered, Nat.not_lt_zero, if_false]]
    iexact Hov
  unfold gBufs
  iintro %_ ⟨Hiv, Hpv, Hov⟩
  unfold issue
  simp only [Prog.lift]
  ihave Hov := (hov Z) $$ Hov
  iapply (wp_copy EC 𝒱₀ (thr d i) none (defs := defs₀ (F := F)) (src := ovSl s hs) (dst := outSl out o h) (q := fullShare)
    (X := f1 fun k => G p (2048 * j + k)) (Y := f1 fun k => out0 p (2048 * j + k)) (none : HIx 1) (NW out) rfl (NW_pos out)) $$ [Hov Hout Hs]
  · rw [hsrc, hdst out0]
    isplitl [Hov]; · iexact Hov
    isplitl [Hout] <;> iassumption
  iintro HF
  rw [wp_ret]
  imodintro
  isplitl [HF]
  · unfold inFl
    iapply (Flight_mono EC (thr d i) (D := iprop(part (thr d i) (outSl out o h) fullShare Finset.univ (f1 fun k => G p (2048 * j + k))
      ∗ part (thr d i) (ovSl s hs) fullShare Finset.univ (f1 fun k => G p (2048 * j + k)))) (by
        rw [hsrc, hdst G]
        unfold outPart ovAny
        iintro ⟨H1, H2⟩
        isplitl [H1]; · iexact H1
        iexists (fun k => G p (2048 * j + k))
        iexact H2))
    iexact HF
  isplitl [Hiv] <;> iassumption

/-- Waiting for a row under way gives the chunk written and the row free. -/
theorem wp_drain {α : Type} {Q : α → sProp (MM F)} {o : Fin 2 → ℕ} {h} {p j : ℕ} {k : PUnit → TP (F := F) i α} :
    iprop(inFl d i out s sem p j G ∗ Ow d i O W)
      ⊢ iprop((iprop(outPart d i out p j G ∗ semVal (thr d i, .dma sem) 0 ∗ ovAny d i s ∗ Ow d i O W)
            -∗ wp frame (wpE (defs₀ (F := F)) 𝒱₀ (thr d i) none) Set.univ (k ⟨⟩) Q)
          -∗ wp frame (wpE (defs₀ (F := F)) 𝒱₀ (thr d i) none) Set.univ (drain i out s hs sem o h >>= k) Q) := by
  unfold inFl drain
  simp only [Prog.lift, Prog.bind_op, Prog.bind_ret]
  iintro H Hk
  iapply (wp_waitOw (F := F) (O := O) (W := W) (dstw := outSl out o h) (N := NW out) rfl) $$ H
  iintro ⟨⟨H1, H2⟩, Hs, HO⟩
  iapply Hk
  isplitl [H1]; · iexact H1
  isplitl [Hs]; · iexact Hs
  isplitl [H2] <;> iassumption

/-- A plane's first use of a row. -/
theorem wp_chunkA {cond : BitVec 1} {od : Fin 2 → ℕ} {hd} {g : TP (F := F) i Unit} {o : Fin 2 → ℕ} {h} (lo a p j : ℕ) (hcond : cond = 1#1 ↔ a ≠ 0)
    (ho : o = ![p, 2048 * j]) (hg : Gathers d i j s X Y g) (hG : ∀ k < 2048, G p (2048 * j + k) = Y (X j k).toNat) :
    iprop(slot d i out s sem lo a G ∗ outPart d i out p j out0 ∗ ivp d i X ∗ pvp d i Y ∗ Ow d i O W)
      ⊢ wp frame (wpE (defs₀ (F := F)) 𝒱₀ (thr d i) none) Set.univ (chunkA i out s hs sem cond od hd g o h)
          fun _ => iprop(inFl d i out s sem p j G ∗ late1 d i out s lo a G ∗ ivp d i X ∗ pvp d i Y ∗ Ow d i O W) := by
  have hf := wp_fill (sem := sem) (hs := hs) (out := out) (out0 := out0) (o := o) (h := h) p j ho hg hG
  unfold chunkA maybeDrain slot late1
  by_cases ha : a = 0
  · have hc : ¬ cond = 1#1 := fun hc => hcond.1 hc ha
    simp only [dif_neg hc, if_pos ha, Prog.pure_eq_ret, Prog.bind_ret]
    iintro ⟨⟨Hs, Hov⟩, Hout, Hiv, Hpv, HO⟩
    iapply (wp_wand_r frame _ Set.univ)
    isplitr [HO]
    · iapply hf
      isplitl [Hs]; · iexact Hs
      isplitl [Hov]; · iexact Hov
      isplitl [Hout]; · iexact Hout
      isplitl [Hiv] <;> iassumption
    iintro %_ ⟨HF, Hiv, Hpv⟩
    isplitl [HF]; · iexact HF
    isplitr; · iempintro
    isplitl [Hiv]; · iexact Hiv
    isplitl [Hpv] <;> iassumption
  · have hc : cond = 1#1 := hcond.2 ha
    simp only [dif_pos hc, if_neg ha, Prog.pure_eq_ret, Prog.bind_ret, Prog.bind_assoc]
    iintro ⟨HF, Hout, Hiv, Hpv, HO⟩
    iapply (wp_drain (F := F) (O := O) (W := W)) $$ [HF HO]
    · isplitl [HF] <;> iassumption
    iintro ⟨Hl, Hs, Hov, HO⟩
    iapply (wp_wand_r frame _ Set.univ)
    isplitr [HO Hl]
    · iapply hf
      isplitl [Hs]; · iexact Hs
      isplitl [Hov]; · iexact Hov
      isplitl [Hout]; · iexact Hout
      isplitl [Hiv] <;> iassumption
    iintro %_ ⟨HF, Hiv, Hpv⟩
    isplitl [HF]; · iexact HF
    isplitl [Hl]; · iexact Hl
    isplitl [Hiv]; · iexact Hiv
    isplitl [Hpv] <;> iassumption

/-- Its second use. -/
theorem wp_chunkB {od : Fin 2 → ℕ} {hd} {g : TP (F := F) i Unit} {o : Fin 2 → ℕ} {h} (p' j' p j : ℕ)
    (ho : o = ![p, 2048 * j]) (hg : Gathers d i j s X Y g) (hG : ∀ k < 2048, G p (2048 * j + k) = Y (X j k).toNat) :
    iprop(inFl d i out s sem p' j' G ∗ outPart d i out p j out0 ∗ ivp d i X ∗ pvp d i Y ∗ Ow d i O W)
      ⊢ wp frame (wpE (defs₀ (F := F)) 𝒱₀ (thr d i) none) Set.univ (chunkB i out s hs sem od hd g o h)
          fun _ => iprop(inFl d i out s sem p j G ∗ outPart d i out p' j' G ∗ ivp d i X ∗ pvp d i Y ∗ Ow d i O W) := by
  have hf := wp_fill (sem := sem) (hs := hs) (out := out) (out0 := out0) (o := o) (h := h) p j ho hg hG
  unfold chunkB
  iintro ⟨HF, Hout, Hiv, Hpv, HO⟩
  iapply (wp_drain (F := F) (O := O) (W := W)) $$ [HF HO]
  · isplitl [HF] <;> iassumption
  iintro ⟨Hl, Hs, Hov, HO⟩
  iapply (wp_wand_r frame _ Set.univ)
  isplitr [HO Hl]
  · iapply hf
    isplitl [Hs]; · iexact Hs
    isplitl [Hov]; · iexact Hov
    isplitl [Hout]; · iexact Hout
    isplitl [Hiv] <;> iassumption
  iintro %_ ⟨HF, Hiv, Hpv⟩
  isplitl [HF]; · iexact HF
  isplitl [Hl]; · iexact Hl
  isplitl [Hiv]; · iexact Hiv
  isplitl [Hpv] <;> iassumption

end Rules

/-! ## A plane -/

section Whole

variable (d : Dev nD) (i : grid0.Coords) (O : CellTallies nD τ sig (HIx 1)) (W : Waits sig (HIx 1))
variable (tab : Memref sig .scVector .hbm S352x100000 .f32) (tail : Memref sig .scVector .hbm S352x256 .f32) (out : Memref sig .scVector .hbm S352x16384 .f32)
variable (tX lX : ℕ → ℕ → Elt F .f32) (ix : ℕ → BitVec 32) (q q' : PosShare TreeShare) (sS sT s0 s1 s2 s3 : DmaSem sig)

/-- The indices of field `c`, as the tile stages them. -/
def ivX (c j b : ℕ) : BitVec 32 := ix (16384 * c + (2048 * j + b))
/-- The result: each plane's row at the indices of its field. -/
def GX (p b : ℕ) : Elt F .f32 := rowv tX lX p (ix (16384 * (p / 16) + b)).toNat

/-- The four result rows between planes. -/
def slots (lo a : ℕ) : sProp (MM F) :=
  iprop(slot d i out 0 s0 lo a (GX tX lX ix) ∗ slot d i out 1 s1 lo a (GX tX lX ix) ∗ slot d i out 2 s2 lo a (GX tX lX ix) ∗ slot d i out 3 s3 lo a (GX tX lX ix))
/-- The first half of row `p`, and the second, reading `X`. -/
def half1 (p : ℕ) (X : ℕ → ℕ → Elt F .f32) : sProp (MM F) :=
  iprop(outPart d i out p 0 X ∗ outPart d i out p 1 X ∗ outPart d i out p 2 X ∗ outPart d i out p 3 X)
def half2 (p : ℕ) (X : ℕ → ℕ → Elt F .f32) : sProp (MM F) :=
  iprop(outPart d i out p 4 X ∗ outPart d i out p 5 X ∗ outPart d i out p 6 X ∗ outPart d i out p 7 X)
/-- What waiting for the four rows between planes gives: the last plane's second half. -/
def late (lo a : ℕ) (X : ℕ → ℕ → Elt F .f32) : sProp (MM F) := if a = 0 then iprop(emp) else half2 d i out (lo + (a - 1)) X

/-- What a tile holds between planes but its results' rows and its indices. -/
def held0 : sProp (MM F) :=
  iprop(tabs d i tab tail tX lX q q' ∗ (∃ Y, pvp d i Y) ∗ semVal (thr d i, .dma sS) 0 ∗ semVal (thr d i, .dma sT) 0 ∗ Ow d i O W)

/-- The four rows' waits together. -/
theorem late_join (lo a : ℕ) (X : ℕ → ℕ → Elt F .f32) :
    iprop(late1 d i out 0 lo a X ∗ late1 d i out 1 lo a X ∗ late1 d i out 2 lo a X ∗ late1 d i out 3 lo a X) ⊢ late d i out lo a X := by
  unfold late1 late half2
  by_cases ha : a = 0
  · simp only [if_pos ha]
    iintro H
    iempintro
  · simp only [if_neg ha]
    exact .rfl

/-- One plane: its row of the result is on its way, the plane before is finished. -/
theorem wp_planeProg {st c0 c1 c2 c3 c4 c5 c6 c7 : TP (F := F) i PUnit} (lo a : ℕ) {X : ℕ → ℕ → BitVec 32} {out0 : ℕ → ℕ → Elt F .f32}
    (hst : iprop(held0 d i O W tab tail tX lX q q' sS sT)
      ⊢ wp frame (wpE (defs₀ (F := F)) 𝒱₀ (thr d i) none) Set.univ st fun _ => iprop(tabs d i tab tail tX lX q q' ∗ pvp d i (rowv tX lX (lo + a))
          ∗ semVal (thr d i, .dma sS) 0 ∗ semVal (thr d i, .dma sT) 0 ∗ Ow d i O W))
    (hA : ∀ (s : ℕ) (sem : DmaSem sig) (c : TP (F := F) i PUnit), (s, sem, c) ∈ ({(0, s0, c0), (1, s1, c1), (2, s2, c2), (3, s3, c3)} : Set (ℕ × DmaSem sig × TP (F := F) i PUnit)) →
      iprop(slot d i out s sem lo a (GX tX lX ix) ∗ outPart d i out (lo + a) s out0 ∗ ivp d i X ∗ pvp d i (rowv tX lX (lo + a)) ∗ Ow d i O W)
        ⊢ wp frame (wpE (defs₀ (F := F)) 𝒱₀ (thr d i) none) Set.univ c
          fun _ => iprop(inFl d i out s sem (lo + a) s (GX tX lX ix) ∗ late1 d i out s lo a (GX tX lX ix) ∗ ivp d i X ∗ pvp d i (rowv tX lX (lo + a)) ∗ Ow d i O W))
    (hB : ∀ (s : ℕ) (sem : DmaSem sig) (c : TP (F := F) i PUnit), (s, sem, c) ∈ ({(0, s0, c4), (1, s1, c5), (2, s2, c6), (3, s3, c7)} : Set (ℕ × DmaSem sig × TP (F := F) i PUnit)) →
      iprop(inFl d i out s sem (lo + a) s (GX tX lX ix) ∗ outPart d i out (lo + a) (4 + s) out0 ∗ ivp d i X ∗ pvp d i (rowv tX lX (lo + a)) ∗ Ow d i O W)
        ⊢ wp frame (wpE (defs₀ (F := F)) 𝒱₀ (thr d i) none) Set.univ c
          fun _ => iprop(inFl d i out s sem (lo + a) (4 + s) (GX tX lX ix) ∗ outPart d i out (lo + a) s (GX tX lX ix) ∗ ivp d i X ∗ pvp d i (rowv tX lX (lo + a)) ∗ Ow d i O W)) :
    iprop(held0 d i O W tab tail tX lX q q' sS sT ∗ ivp d i X ∗ slots d i out tX lX ix s0 s1 s2 s3 lo a ∗ half1 d i out (lo + a) out0 ∗ half2 d i out (lo + a) out0)
      ⊢ wp frame (wpE (defs₀ (F := F)) 𝒱₀ (thr d i) none) Set.univ (planeProg i st c0 c1 c2 c3 c4 c5 c6 c7)
        fun _ => iprop(held0 d i O W tab tail tX lX q q' sS sT ∗ ivp d i X ∗ slots d i out tX lX ix s0 s1 s2 s3 lo (a + 1)
          ∗ half1 d i out (lo + a) (GX tX lX ix) ∗ late d i out lo a (GX tX lX ix)) := by
  unfold planeProg slots half1 half2
  simp only [wp_bind]
  iintro ⟨Hh, Hiv, ⟨H0, H1, H2, H3⟩, ⟨Ho0, Ho1, Ho2, Ho3⟩, Ho4, Ho5, Ho6, Ho7⟩
  iapply (wp_wand_r frame _ Set.univ); isplitl [Hh]
  · iapply hst; iexact Hh
  iintro %_ ⟨Htab, Hpv, HsS, HsT, HO⟩
  iapply (wp_wand_r frame _ Set.univ); isplitl [H0 Ho0 Hiv Hpv HO]
  · iapply (hA 0 s0 c0 (by simp))
    isplitl [H0]; · iexact H0
    isplitl [Ho0]; · iexact Ho0
    isplitl [Hiv]; · iexact Hiv
    isplitl [Hpv] <;> iassumption
  iintro %_ ⟨H0, Hl0, Hiv, Hpv, HO⟩
  iapply (wp_wand_r frame _ Set.univ); isplitl [H1 Ho1 Hiv Hpv HO]
  · iapply (hA 1 s1 c1 (by simp))
    isplitl [H1]; · iexact H1
    isplitl [Ho1]; · iexact Ho1
    isplitl [Hiv]; · iexact Hiv
    isplitl [Hpv] <;> iassumption
  iintro %_ ⟨H1, Hl1, Hiv, Hpv, HO⟩
  iapply (wp_wand_r frame _ Set.univ); isplitl [H2 Ho2 Hiv Hpv HO]
  · iapply (hA 2 s2 c2 (by simp))
    isplitl [H2]; · iexact H2
    isplitl [Ho2]; · iexact Ho2
    isplitl [Hiv]; · iexact Hiv
    isplitl [Hpv] <;> iassumption
  iintro %_ ⟨H2, Hl2, Hiv, Hpv, HO⟩
  iapply (wp_wand_r frame _ Set.univ); isplitl [H3 Ho3 Hiv Hpv HO]
  · iapply (hA 3 s3 c3 (by simp))
    isplitl [H3]; · iexact H3
    isplitl [Ho3]; · iexact Ho3
    isplitl [Hiv]; · iexact Hiv
    isplitl [Hpv] <;> iassumption
  iintro %_ ⟨H3, Hl3, Hiv, Hpv, HO⟩
  iapply (wp_wand_r frame _ Set.univ); isplitl [H0 Ho4 Hiv Hpv HO]
  · iapply (hB 0 s0 c4 (by simp))
    isplitl [H0]; · iexact H0
    isplitl [Ho4]; · iexact Ho4
    isplitl [Hiv]; · iexact Hiv
    isplitl [Hpv] <;> iassumption
  iintro %_ ⟨H0, Ho0, Hiv, Hpv, HO⟩
  iapply (wp_wand_r frame _ Set.univ); isplitl [H1 Ho5 Hiv Hpv HO]
  · iapply (hB 1 s1 c5 (by simp))
    isplitl [H1]; · iexact H1
    isplitl [Ho5]; · iexact Ho5
    isplitl [Hiv]; · iexact Hiv
    isplitl [Hpv] <;> iassumption
  iintro %_ ⟨H1, Ho1, Hiv, Hpv, HO⟩
  iapply (wp_wand_r frame _ Set.univ); isplitl [H2 Ho6 Hiv Hpv HO]
  · iapply (hB 2 s2 c6 (by simp))
    isplitl [H2]; · iexact H2
    isplitl [Ho6]; · iexact Ho6
    isplitl [Hiv]; · iexact Hiv
    isplitl [Hpv] <;> iassumption
  iintro %_ ⟨H2, Ho2, Hiv, Hpv, HO⟩
  iapply (wp_wand_r frame _ Set.univ); isplitl [H3 Ho7 Hiv Hpv HO]
  · iapply (hB 3 s3 c7 (by simp))
    isplitl [H3]; · iexact H3
    isplitl [Ho7]; · iexact Ho7
    isplitl [Hiv]; · iexact Hiv
    isplitl [Hpv] <;> iassumption
  iintro %_ ⟨H3, Ho3, Hiv, Hpv, HO⟩
  have hne : ¬ a + 1 = 0 := Nat.succ_ne_zero a
  unfold held0 slot
  simp only [if_neg hne, Nat.add_sub_cancel]
  isplitl [Htab Hpv HsS HsT HO]
  · isplitl [Htab]; · iexact Htab
    isplitl [Hpv]; · iexists _; iexact Hpv
    isplitl [HsS]; · iexact HsS
    isplitl [HsT] <;> iassumption
  isplitl [Hiv]; · iexact Hiv
  isplitl [H0 H1 H2 H3]
  · isplitl [H0]; · iexact H0
    isplitl [H1]; · iexact H1
    isplitl [H2] <;> iassumption
  isplitl [Ho0 Ho1 Ho2 Ho3]
  · isplitl [Ho0]; · iexact Ho0
    isplitl [Ho1]; · iexact Ho1
    isplitl [Ho2] <;> iassumption
  iapply (late_join d i out lo a (GX tX lX ix))
  isplitl [Hl0]; · iexact Hl0
  isplitl [Hl1]; · iexact Hl1
  isplitl [Hl2] <;> iassumption

end Whole

end Cert.Proof

end
-- ==== Proof.Field.lean ====
/-
  A field's indices, staged by eight copies, and the planes of the field that are gathered with them.
-/
module

public import proofs.«01_k».proof.Proof.Chunk

@[expose] public section

noncomputable section

namespace Cert.Proof

open Cert.KernelIdeal Cert.KernelIdeal.Gen Cert.Proof.Pieces Cert.Proof.Coords
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The indices -/

/-- A row of the staged indices, and the run of the index table it is copied from. -/
abbrev ivSl (j : ℕ) (h : ∀ a, (![j, 0] : Fin 2 → ℕ) a + S1x2048.size a ≤ S8x2048.size a) : Memref sig .scVector .vmem S2048 .i32 :=
  (ivW.slice (Rect.unit (s := S8x2048) ![j, 0] S1x2048.size h) (fun _ => rfl)).squeeze S2048 squeezes_S1x2048_S2048
abbrev idxSl (idx : Memref sig .scVector .hbm S360448 .i32) (o : Fin 1 → ℕ) (h : ∀ a, o a + S2048.size a ≤ S360448.size a) :
    Memref sig .scVector .hbm S2048 .i32 :=
  idx.slice (Rect.unit (s := S360448) o S2048.size h) (fun _ => rfl)

section Idx

variable (i : grid0.Coords) (idx : Memref sig .scVector .hbm S360448 .i32) (sI : DmaSem sig)

/-- Start staging row `j` of the indices; wait for one such row. -/
def idxEnq (o : Fin 1 → ℕ) (h : ∀ a, o a + S2048.size a ≤ S360448.size a) (j : ℕ) (hj : ∀ a, (![j, 0] : Fin 2 → ℕ) a + S1x2048.size a ≤ S8x2048.size a) :
    TP (F := F) i PUnit :=
  Prog.lift (.enqueueDma (idxSl idx o h) (.here (ivSl j hj)) (.dma sI) (View.wordExact_bits rfl) ((View.wordExact_bits rfl).reshape _ _) ⟨Or.inl rfl, trivial⟩)
def idxWait (o : Fin 1 → ℕ) (h : ∀ a, o a + S2048.size a ≤ S360448.size a) (j : ℕ) (hj : ∀ a, (![j, 0] : Fin 2 → ℕ) a + S1x2048.size a ≤ S8x2048.size a) :
    TP (F := F) i PUnit :=
  Prog.lift (.waitDma2 sI (idxSl idx o h) (ivSl j hj) (View.wordExact_bits rfl) ((View.wordExact_bits rfl).reshape _ _))

/-- Staging a field's indices. -/
def idxProg (o : Fin 8 → Fin 1 → ℕ) (h : ∀ j a, o j a + S2048.size a ≤ S360448.size a) : TP (F := F) i PUnit := do
  idxEnq i idx sI (o 0) (h 0) 0 inb_S8x2048_S1x2048_0_0
  idxEnq i idx sI (o 1) (h 1) 1 inb_S8x2048_S1x2048_1_0
  idxEnq i idx sI (o 2) (h 2) 2 inb_S8x2048_S1x2048_2_0
  idxEnq i idx sI (o 3) (h 3) 3 inb_S8x2048_S1x2048_3_0
  idxEnq i idx sI (o 4) (h 4) 4 inb_S8x2048_S1x2048_4_0
  idxEnq i idx sI (o 5) (h 5) 5 inb_S8x2048_S1x2048_5_0
  idxEnq i idx sI (o 6) (h 6) 6 inb_S8x2048_S1x2048_6_0
  idxEnq i idx sI (o 7) (h 7) 7 inb_S8x2048_S1x2048_7_0
  idxWait i idx sI (o 0) (h 0) 0 inb_S8x2048_S1x2048_0_0
  idxWait i idx sI (o 1) (h 1) 1 inb_S8x2048_S1x2048_1_0
  idxWait i idx sI (o 2) (h 2) 2 inb_S8x2048_S1x2048_2_0
  idxWait i idx sI (o 3) (h 3) 3 inb_S8x2048_S1x2048_3_0
  idxWait i idx sI (o 4) (h 4) 4 inb_S8x2048_S1x2048_4_0
  idxWait i idx sI (o 5) (h 5) 5 inb_S8x2048_S1x2048_5_0
  idxWait i idx sI (o 6) (h 6) 6 inb_S8x2048_S1x2048_6_0
  idxWait i idx sI (o 7) (h 7) 7 inb_S8x2048_S1x2048_7_0

end Idx

/-- The credit of a row of indices. -/
abbrev NI : ℕ := (ivSl 0 inb_S8x2048_S1x2048_0_0).view.dmaCredit
theorem NI_pos : 0 < NI := View.dmaCredit_pos _ (by decide)

section IdxWp

variable (d : Dev nD) (i : grid0.Coords) (O : CellTallies nD τ sig (HIx 1)) (W : Waits sig (HIx 1))
variable (idx : Memref sig .scVector .hbm S360448 .i32) (ix : ℕ → BitVec 32) (q : PosShare TreeShare) (sI : DmaSem sig) (c : ℕ)

/-- What the copy of row `j` delivers. -/
def pieceI (j : Fin 8) : sProp (MM F) :=
  iprop(part (thr d i) ivW fullShare (seg2 j.val 0 2048) (f2 (ivX ix c)) ∗ part (thr d i) idx q (seg1 (16384 * c + 2048 * j.val) 2048) (f1 ix))

instance (j : Fin 8) : Storable (upEmb : UEmb _ (MM F)) (pieceI d i idx ix q c j) := by unfold pieceI; infer_instance

/-- What it takes. -/
def pieceT (X : ℕ → ℕ → BitVec 32) (j : Fin 8) : sProp (MM F) :=
  iprop(part (thr d i) ivW fullShare (seg2 j.val 0 2048) (f2 X) ∗ part (thr d i) idx q (seg1 (16384 * c + 2048 * j.val) 2048) (f1 ix))

/-- The copies still to start. -/
def pend (X : ℕ → ℕ → BitVec 32) (n : ℕ) : sProp (MM F) := bigSep (Finset.univ.filter fun j : Fin 8 => n ≤ j.val) (pieceT d i idx ix q c X)

/-- Starting the next copy. -/
theorem wp_idxEnq {α : Type} {Q : α → sProp (MM F)} {X : ℕ → ℕ → BitVec 32} {o : Fin 1 → ℕ} {h} (j : ℕ) {hj} (hj8 : j < 8) (ho : o = ![16384 * c + 2048 * j])
    {k : PUnit → TP (F := F) i α} :
    iprop(pend d i idx ix q c X j ∗ Batch EC (thr d i) (.dma sI) (none : HIx 1) NI (pieceI d i idx ix q c) j 0)
      ⊢ iprop((iprop(pend d i idx ix q c X (j + 1) ∗ Batch EC (thr d i) (.dma sI) (none : HIx 1) NI (pieceI d i idx ix q c) (j + 1) 0)
            -∗ wp frame (wpE (defs₀ (F := F)) 𝒱₀ (thr d i) none) Set.univ (k ⟨⟩) Q)
          -∗ wp frame (wpE (defs₀ (F := F)) 𝒱₀ (thr d i) none) Set.univ (idxEnq i idx sI o h j hj >>= k) Q) := by
  have hset : (Finset.univ.filter fun t : Fin 8 => j ≤ t.val) = insert ⟨j, hj8⟩ (Finset.univ.filter fun t : Fin 8 => j + 1 ≤ t.val) := by
    ext t; simp only [Finset.mem_filter, Finset.mem_univ, true_and, Finset.mem_insert, Fin.ext_iff]; omega
  have hpend : pend d i idx ix q c X j = iprop(pieceT d i idx ix q c X ⟨j, hj8⟩ ∗ pend (F := F) d i idx ix q c X (j + 1)) := by
    unfold pend
    rw [hset, SparseCore.bigSep_insert' (by simp)]
  rw [hpend]
  unfold pieceT idxEnq
  simp only [Prog.lift, Prog.bind_op, Prog.bind_ret]
  have hsrc : (part (thr d i) (idxSl idx o h) q Finset.univ (f1 fun b => ix (16384 * c + 2048 * j + b)) : sProp (MM F))
      = part (thr d i) idx q (seg1 (16384 * c + 2048 * j) 2048) (f1 ix) := part_run _ ho fun b _ => rfl
  have hdst : (part (thr d i) (ivSl j hj) fullShare Finset.univ (f1 fun b => X j b) : sProp (MM F))
      = part (thr d i) ivW fullShare (seg2 j 0 2048) (f2 X) := part_row j 0 rfl fun b _ => by rw [Nat.zero_add]
  have hland : (part (thr d i) (ivSl j hj) fullShare Finset.univ (f1 fun b => ix (16384 * c + 2048 * j + b)) : sProp (MM F))
      = part (thr d i) ivW fullShare (seg2 j 0 2048) (f2 (ivX ix c)) := part_row j 0 rfl fun b _ => by
    unfold ivX; rw [Nat.zero_add, Nat.add_assoc]
  iintro ⟨⟨⟨Hiv, Hix⟩, Hp⟩, HB⟩ Hk
  iapply (wp_copyBatch EC 𝒱₀ (thr d i) none (defs := defs₀ (F := F)) (q := q) (src := idxSl idx o h) (dst := ivSl j hj) (X := f1 fun b => ix (16384 * c + 2048 * j + b))
    (Y := f1 fun b => X j b) (D := pieceI d i idx ix q c) (j := j) (none : HIx 1) NI rfl hj8
    (by unfold pieceI; rw [hland, hsrc])) $$ [Hiv Hix HB]
  · rw [hsrc, hdst]
    isplitl [Hix]; · iexact Hix
    isplitl [Hiv] <;> iassumption
  iintro HB
  iapply Hk
  isplitl [Hp] <;> iassumption

/-- Waiting for a copy others remain after. -/
theorem wp_idxWait {α : Type} {Q : α → sProp (MM F)} {o : Fin 1 → ℕ} {h} {j : ℕ} {hj} (u : ℕ) (hu : u + 1 < 8) {k : PUnit → TP (F := F) i α} :
    iprop(Batch EC (thr d i) (.dma sI) (none : HIx 1) NI (pieceI d i idx ix q c) 8 (u * NI) ∗ Ow d i O W)
      ⊢ iprop((iprop(Batch EC (thr d i) (.dma sI) (none : HIx 1) NI (pieceI d i idx ix q c) 8 ((u + 1) * NI) ∗ Ow d i O W)
            -∗ wp frame (wpE (defs₀ (F := F)) 𝒱₀ (thr d i) none) Set.univ (k ⟨⟩) Q)
          -∗ wp frame (wpE (defs₀ (F := F)) 𝒱₀ (thr d i) none) Set.univ (idxWait i idx sI o h j hj >>= k) Q) := by
  unfold idxWait
  simp only [Prog.lift, Prog.bind_op, Prog.bind_ret]
  rw [show (u + 1) * NI = u * NI + NI from Nat.succ_mul _ _]
  exact wp_waitBatchOw (F := F) (O := O) (W := W) (N := NI) (n := 8) (dstw := ivSl j hj) rfl (u := u * NI) (by
    have h0 := NI_pos
    calc u * NI + NI = (u + 1) * NI := (Nat.succ_mul _ _).symm
      _ < 8 * NI := Nat.mul_lt_mul_of_pos_right hu h0
      _ = NI * 8 := Nat.mul_comm _ _)

/-- The rows of the staged indices are all of them. -/
theorem iv_rows (X : ℕ → ℕ → BitVec 32) :
    (ivp d i X : sProp (MM F)) = bigSep Finset.univ fun j : Fin 8 => part (thr d i) ivW fullShare (seg2 j.val 0 2048) (f2 X) := by
  have hU : (Finset.univ : Finset S8x2048.Idx) = Finset.univ.biUnion fun j : Fin 8 => seg2 j.val 0 2048 := Finset.ext fun x => by
    have h0 : (x 0).val < 8 := (x 0).isLt
    have h1 : (x 1).val < 2048 := (x 1).isLt
    simp only [Finset.mem_univ, true_iff, Finset.mem_biUnion, mem_seg2, true_and]
    exact ⟨⟨(x 0).val, h0⟩, rfl, Nat.zero_le _, by omega⟩
  exact (congrArg (fun T => (part (thr d i) ivW fullShare T (f2 X) : sProp (MM F))) hU).trans
    (part_biUnion Finset.univ _ fun t _ t' _ hne => Finset.disjoint_left.2 fun x hx hx' => by
      have h1 := mem_seg2.1 hx; have h2 := mem_seg2.1 hx'
      exact hne (Fin.ext (by omega)))

/-- A field's part of the index table, in its eight runs. -/
theorem idx_runs (c : ℕ) : (part (thr d i) idx q (Finset.univ.biUnion fun j : Fin 8 => seg1 (16384 * c + 2048 * j.val) 2048) (f1 ix) : sProp (MM F))
    = bigSep Finset.univ fun j : Fin 8 => part (thr d i) idx q (seg1 (16384 * c + 2048 * j.val) 2048) (f1 ix) :=
  part_biUnion Finset.univ _ fun t _ t' _ hne => Finset.disjoint_left.2 fun x hx hx' => by
    have h1 := mem_seg1.1 hx; have h2 := mem_seg1.1 hx'
    exact hne (Fin.ext (by omega))

/-- Staging the indices of field `c`. -/
theorem wp_idxProg {o : Fin 8 → Fin 1 → ℕ} {h} (ho : ∀ j, o j = ![16384 * c + 2048 * j.val]) :
    iprop(part (thr d i) idx q Finset.univ (f1 ix) ∗ (∃ X, ivp d i X) ∗ semVal (thr d i, .dma sI) 0 ∗ Ow d i O W)
      ⊢ wp frame (wpE (defs₀ (F := F)) 𝒱₀ (thr d i) none) Set.univ (idxProg i idx sI o h)
        fun _ => iprop(part (thr d i) idx q Finset.univ (f1 ix) ∗ ivp d i (ivX ix c) ∗ semVal (thr d i, .dma sI) 0 ∗ Ow d i O W) := by
  unfold idxProg
  have hT : ∀ X, iprop(ivp d i X ∗ part (thr d i) idx q (Finset.univ.biUnion fun j : Fin 8 => seg1 (16384 * c + 2048 * j.val) 2048) (f1 ix))
      ⊢ (pend d i idx ix q c X 0 : sProp (MM F)) := fun X => by
    unfold pend pieceT
    rw [Finset.filter_true_of_mem (fun _ _ => Nat.zero_le _), iv_rows, idx_runs, ← bigSep_sep']
  have hI : bigSep Finset.univ (pieceI d i idx ix q c)
      ⊢ (iprop(ivp d i (ivX ix c) ∗ part (thr d i) idx q (Finset.univ.biUnion fun j : Fin 8 => seg1 (16384 * c + 2048 * j.val) 2048) (f1 ix)) : sProp (MM F)) := by
    unfold pieceI
    rw [iv_rows, idx_runs, ← bigSep_sep']
  iintro ⟨Hidx, ⟨%X, Hiv⟩, HsI, HO⟩
  ihave Hidx := (part_borrow (q := q) (X := f1 ix) (Finset.subset_univ (Finset.univ.biUnion fun j : Fin 8 => seg1 (16384 * c + 2048 * j.val) 2048))) $$ Hidx
  icases Hidx with ⟨Hix, Hidx⟩
  ihave Hp := (hT X) $$ [Hiv Hix]
  · isplitl [Hiv] <;> iassumption
  imod (batch_alloc' EC (thr d i) (none : HIx 1) NI (pieceI d i idx ix q c) (E := Set.univ)) $$ HsI with HB
  iapply (wp_idxEnq (F := F) d i idx ix q sI c (X := X) 0 (by omega) (ho 0)) $$ [Hp HB]
  · isplitl [Hp] <;> iassumption
  iintro H
  iapply (wp_idxEnq (F := F) d i idx ix q sI c (X := X) 1 (by omega) (ho 1)) $$ H
  iintro H
  iapply (wp_idxEnq (F := F) d i idx ix q sI c (X := X) 2 (by omega) (ho 2)) $$ H
  iintro H
  iapply (wp_idxEnq (F := F) d i idx ix q sI c (X := X) 3 (by omega) (ho 3)) $$ H
  iintro H
  iapply (wp_idxEnq (F := F) d i idx ix q sI c (X := X) 4 (by omega) (ho 4)) $$ H
  iintro H
  iapply (wp_idxEnq (F := F) d i idx ix q sI c (X := X) 5 (by omega) (ho 5)) $$ H
  iintro H
  iapply (wp_idxEnq (F := F) d i idx ix q sI c (X := X) 6 (by omega) (ho 6)) $$ H
  iintro H
  iapply (wp_idxEnq (F := F) d i idx ix q sI c (X := X) 7 (by omega) (ho 7)) $$ H
  iintro ⟨-, HB⟩
  have h0 : (0 : ℕ) = 0 * NI := (Nat.zero_mul _).symm
  have hB0 : Batch EC (thr d i) (.dma sI) (none : HIx 1) NI (pieceI d i idx ix q c) (7 + 1) 0
      ⊢ (Batch EC (thr d i) (.dma sI) (none : HIx 1) NI (pieceI d i idx ix q c) 8 (0 * NI) : sProp (MM F)) := by rw [Nat.zero_mul]
  ihave HB := hB0 $$ HB
  iapply (wp_idxWait (F := F) d i O W idx ix q sI c 0 (by omega)) $$ [HB HO]
  · isplitl [HB] <;> iassumption
  iintro H
  iapply (wp_idxWait (F := F) d i O W idx ix q sI c 1 (by omega)) $$ H
  iintro H
  iapply (wp_idxWait (F := F) d i O W idx ix q sI c 2 (by omega)) $$ H
  iintro H
  iapply (wp_idxWait (F := F) d i O W idx ix q sI c 3 (by omega)) $$ H
  iintro H
  iapply (wp_idxWait (F := F) d i O W idx ix q sI c 4 (by omega)) $$ H
  iintro H
  iapply (wp_idxWait (F := F) d i O W idx ix q sI c 5 (by omega)) $$ H
  iintro H
  iapply (wp_idxWait (F := F) d i O W idx ix q sI c 6 (by omega)) $$ H
  iintro H
  unfold idxWait
  simp only [Prog.lift]
  iapply (wp_waitBatchLastOw (F := F) (O := O) (W := W) (N := NI) (n := 8) (dstw := ivSl 7 inb_S8x2048_S1x2048_7_0) rfl NI_pos (u := 7 * NI) (by omega)) $$ H
  iintro ⟨HD, HsI, HO⟩
  rw [wp_ret]
  imodintro
  ihave HD := hI $$ HD
  icases HD with ⟨Hiv, Hix⟩
  isplitl [Hidx Hix]
  · iapply Hidx; iexact Hix
  isplitl [Hiv]; · iexact Hiv
  isplitl [HsI] <;> iassumption

end IdxWp

/-! ## The planes of a tile -/

section Planes

variable (d : Dev nD) (i : grid0.Coords) (O : CellTallies nD τ sig (HIx 1)) (W : Waits sig (HIx 1))
variable (tab : Memref sig .scVector .hbm S352x100000 .f32) (tail : Memref sig .scVector .hbm S352x256 .f32) (out : Memref sig .scVector .hbm S352x16384 .f32)
variable (idx : Memref sig .scVector .hbm S360448 .i32)
variable (tX lX : ℕ → ℕ → Elt F .f32) (ix : ℕ → BitVec 32) (out0 : ℕ → ℕ → Elt F .f32) (q q' q'' : PosShare TreeShare) (sI sS sT s0 s1 s2 s3 : DmaSem sig)

/-- The planes not gathered yet, and the halves of those gathered that have arrived. -/
def todo (a : ℕ) : sProp (MM F) := bigSep (Finset.univ.filter fun p : Fin 22 => a ≤ p.val) fun p => iprop(half1 d i out (lo i + p.val) out0 ∗ half2 d i out (lo i + p.val) out0)
def done1 (a : ℕ) (X : ℕ → ℕ → Elt F .f32) : sProp (MM F) := bigSep (Finset.univ.filter fun p : Fin 22 => p.val < a) fun p => half1 d i out (lo i + p.val) X
def done2 (a : ℕ) (X : ℕ → ℕ → Elt F .f32) : sProp (MM F) := bigSep (Finset.univ.filter fun p : Fin 22 => p.val + 1 < a) fun p => half2 d i out (lo i + p.val) X

/-- The next plane to gather. -/
theorem todo_next {a : ℕ} (ha : a < 22) :
    todo d i out out0 a = iprop((half1 d i out (lo i + a) out0 ∗ half2 d i out (lo i + a) out0) ∗ todo (F := F) d i out out0 (a + 1)) := by
  have hset : (Finset.univ.filter fun p : Fin 22 => a ≤ p.val) = insert ⟨a, ha⟩ (Finset.univ.filter fun p : Fin 22 => a + 1 ≤ p.val) := by
    ext t; simp only [Finset.mem_filter, Finset.mem_univ, true_and, Finset.mem_insert, Fin.ext_iff]; omega
  unfold todo
  rw [hset, SparseCore.bigSep_insert' (by simp)]

/-- Its first half arrived. -/
theorem done1_next {a : ℕ} (ha : a < 22) (X : ℕ → ℕ → Elt F .f32) : done1 d i out (a + 1) X = iprop(half1 d i out (lo i + a) X ∗ done1 (F := F) d i out a X) := by
  have hset : (Finset.univ.filter fun p : Fin 22 => p.val < a + 1) = insert ⟨a, ha⟩ (Finset.univ.filter fun p : Fin 22 => p.val < a) := by
    ext t; simp only [Finset.mem_filter, Finset.mem_univ, true_and, Finset.mem_insert, Fin.ext_iff]; omega
  unfold done1
  rw [hset, SparseCore.bigSep_insert' (by simp)]

/-- The last plane's second half arrived. -/
theorem done2_next {a : ℕ} (ha : a ≤ 22) (X : ℕ → ℕ → Elt F .f32) : iprop(late d i out (lo i) a X ∗ done2 d i out a X) ⊢ done2 (F := F) d i out (a + 1) X := by
  unfold late done2
  by_cases h0 : a = 0
  · subst h0
    rw [if_pos rfl, show (Finset.univ.filter fun p : Fin 22 => p.val + 1 < 0) = Finset.univ.filter fun p : Fin 22 => p.val + 1 < 0 + 1 by
      ext t; simp only [Finset.mem_filter, Finset.mem_univ, true_and]; omega]
    iintro ⟨-, H⟩
    iexact H
  · have hset : (Finset.univ.filter fun p : Fin 22 => p.val + 1 < a + 1) = insert ⟨a - 1, by omega⟩ (Finset.univ.filter fun p : Fin 22 => p.val + 1 < a) := by
      ext t; simp only [Finset.mem_filter, Finset.mem_univ, true_and, Finset.mem_insert, Fin.ext_iff]; omega
    rw [if_neg h0, hset, SparseCore.bigSep_insert' (by simp only [Finset.mem_filter, Finset.mem_univ, true_and]; omega)]

/-- A tile's results, `a` of its planes gathered. -/
def planes (a : ℕ) : sProp (MM F) :=
  iprop(slots d i out tX lX ix s0 s1 s2 s3 (lo i) a ∗ todo d i out out0 a ∗ done1 d i out a (GX tX lX ix) ∗ done2 d i out a (GX tX lX ix))

/-- A field's planes, given a rule for one plane of it. -/
theorem wp_planeLoop (l : Scf.Loop 32) (hok : l.OK) (body : Fin l.trips → Unit → TP (F := F) i Unit) (X : ℕ → ℕ → BitVec 32) (a n : ℕ)
    (hl : l.trips = n) (ha : a + n ≤ 22)
    (hb : ∀ (t : Fin l.trips) u,
      iprop(held0 d i O W tab tail tX lX q q' sS sT ∗ ivp d i X ∗ slots d i out tX lX ix s0 s1 s2 s3 (lo i) (a + t.val) ∗ half1 d i out (lo i + (a + t.val)) out0 ∗ half2 d i out (lo i + (a + t.val)) out0)
        ⊢ wp frame (wpE (defs₀ (F := F)) 𝒱₀ (thr d i) none) Set.univ (body t u)
          fun _ => iprop(held0 d i O W tab tail tX lX q q' sS sT ∗ ivp d i X ∗ slots d i out tX lX ix s0 s1 s2 s3 (lo i) (a + t.val + 1)
            ∗ half1 d i out (lo i + (a + t.val)) (GX tX lX ix) ∗ late d i out (lo i) (a + t.val) (GX tX lX ix))) :
    iprop(held0 d i O W tab tail tX lX q q' sS sT ∗ ivp d i X ∗ planes d i out tX lX ix out0 s0 s1 s2 s3 a)
      ⊢ wp frame (wpE (defs₀ (F := F)) 𝒱₀ (thr d i) none) Set.univ (Scf.Loop.for l hok ⟨⟩ body)
          fun _ => iprop(held0 d i O W tab tail tX lX q q' sS sT ∗ ivp d i X ∗ planes d i out tX lX ix out0 s0 s1 s2 s3 (a + n)) := by
  iintro H
  iapply (Scf.wp_for frame _ Set.univ _ _ _ hok () body
    (fun t _ => iprop(held0 d i O W tab tail tX lX q q' sS sT ∗ ivp d i X ∗ planes d i out tX lX ix out0 s0 s1 s2 s3 (a + t))) (fun t u => by
      have ht : t.val < n := lt_of_lt_of_eq t.isLt hl
      unfold planes
      rw [todo_next d i out out0 (a := a + t.val) (by omega)]
      iintro ⟨Hh, Hiv, Hs, ⟨⟨Ht1, Ht2⟩, Htodo⟩, H1, H2⟩
      iapply (wp_wand_r frame _ Set.univ)
      isplitl [Hh Hiv Hs Ht1 Ht2]
      · iapply (hb t u)
        isplitl [Hh]; · iexact Hh
        isplitl [Hiv]; · iexact Hiv
        isplitl [Hs]; · iexact Hs
        isplitl [Ht1] <;> iassumption
      iintro %_ ⟨Hh, Hiv, Hs, Hn1, Hl⟩
      isplitl [Hh]; · iexact Hh
      isplitl [Hiv]; · iexact Hiv
      isplitl [Hs]; · iexact Hs
      isplitl [Htodo]; · iexact Htodo
      isplitl [H1 Hn1]
      · iapply (Entails.of_eq (done1_next d i out (a := a + t.val) (by omega) (GX tX lX ix)).symm)
        isplitl [Hn1] <;> iassumption
      · iapply (done2_next d i out (a := a + t.val) (by omega) (GX tX lX ix))
        isplitl [Hl] <;> iassumption))
  isplitl [H]; · iexact H
  iintro %u H
  have e : Scf.trips l.lb l.ub l.st = n := hl
  rw [e]
  iexact H

/-- What a tile holds between fields, `t` of them done. -/
def fields (t : ℕ) : sProp (MM F) :=
  iprop(held0 d i O W tab tail tX lX q q' sS sT ∗ part (thr d i) idx q'' Finset.univ (f1 ix) ∗ (∃ X, ivp d i X) ∗ semVal (thr d i, .dma sI) 0
    ∗ planes d i out tX lX ix out0 s0 s1 s2 s3 (A i t))

/-- One field: its indices staged, its planes gathered; the loop after them does nothing. -/
theorem wp_field (t : ℕ) {o : Fin 8 → Fin 1 → ℕ} {h} (ho : ∀ j, o j = ![16384 * (lo i / 16 + t) + 2048 * j.val])
    (l l' : Scf.Loop 32) (hok : l.OK) (hok' : l'.OK) (body : Fin l.trips → Unit → TP (F := F) i Unit) (body' : Fin l'.trips → Unit → TP (F := F) i Unit)
    (hl : l.trips = A i (t + 1) - A i t) (hl' : l'.trips = 0)
    (hb : ∀ (u : Fin l.trips) x,
      iprop(held0 d i O W tab tail tX lX q q' sS sT ∗ ivp d i (ivX ix (lo i / 16 + t)) ∗ slots d i out tX lX ix s0 s1 s2 s3 (lo i) (A i t + u.val)
          ∗ half1 d i out (lo i + (A i t + u.val)) out0 ∗ half2 d i out (lo i + (A i t + u.val)) out0)
        ⊢ wp frame (wpE (defs₀ (F := F)) 𝒱₀ (thr d i) none) Set.univ (body u x)
          fun _ => iprop(held0 d i O W tab tail tX lX q q' sS sT ∗ ivp d i (ivX ix (lo i / 16 + t)) ∗ slots d i out tX lX ix s0 s1 s2 s3 (lo i) (A i t + u.val + 1)
            ∗ half1 d i out (lo i + (A i t + u.val)) (GX tX lX ix) ∗ late d i out (lo i) (A i t + u.val) (GX tX lX ix))) :
    fields d i O W tab tail out idx tX lX ix out0 q q' q'' sI sS sT s0 s1 s2 s3 t
      ⊢ wp frame (wpE (defs₀ (F := F)) 𝒱₀ (thr d i) none) Set.univ
          (idxProg i idx sI o h >>= fun _ => Scf.Loop.for l hok ⟨⟩ body >>= fun _ => Scf.Loop.for l' hok' ⟨⟩ body' >>= fun _ => Prog.ret ())
          fun _ => fields d i O W tab tail out idx tX lX ix out0 q q' q'' sI sS sT s0 s1 s2 s3 (t + 1) := by
  have hmono := A_mono i t
  have hle := A_le i (t + 1)
  unfold fields held0
  simp only [wp_bind]
  iintro ⟨⟨Htab, Hpv, HsS, HsT, HO⟩, Hidx, Hiv, HsI, Hpl⟩
  iapply (wp_wand_r frame _ Set.univ); isplitl [Hidx Hiv HsI HO]
  · iapply (wp_idxProg (F := F) d i O W idx ix q'' sI (lo i / 16 + t) ho)
    isplitl [Hidx]; · iexact Hidx
    isplitl [Hiv]; · iexact Hiv
    isplitl [HsI] <;> iassumption
  iintro %_ ⟨Hidx, Hiv, HsI, HO⟩
  iapply (wp_wand_r frame _ Set.univ); isplitl [Htab Hpv HsS HsT HO Hiv Hpl]
  · iapply (wp_planeLoop (F := F) d i O W tab tail out tX lX ix out0 q q' sS sT s0 s1 s2 s3 l hok body (ivX ix (lo i / 16 + t)) (A i t) (A i (t + 1) - A i t) hl (by omega) hb)
    unfold held0
    isplitl [Htab Hpv HsS HsT HO]
    · isplitl [Htab]; · iexact Htab
      isplitl [Hpv]; · iexact Hpv
      isplitl [HsS]; · iexact HsS
      isplitl [HsT] <;> iassumption
    isplitl [Hiv] <;> iassumption
  iintro %_ ⟨Hh, Hiv, Hpl⟩
  iapply (wp_wand_r frame _ Set.univ)
  isplitr
  · iapply (Scf.wp_for0' (Fr := frame) (wpE := wpE (defs₀ (F := F)) 𝒱₀ (thr d i) none) (Es := Set.univ) _ _ _ hok' () body' hl' (fun _ => iprop(emp)) iprop(emp) .rfl)
    iempintro
  iintro %_ -
  rw [wp_ret, show A i t + (A i (t + 1) - A i t) = A i (t + 1) by omega]
  imodintro
  unfold held0
  isplitl [Hh]; · iexact Hh
  isplitl [Hidx]; · iexact Hidx
  isplitl [Hiv]; · iexists _; iexact Hiv
  isplitl [HsI] <;> iassumption

end Planes

end Cert.Proof

end
-- ==== Proof.Branch.lean ====
/-
  All the fields of a tile, and the last waits.
-/
module

public import proofs.«01_k».proof.Proof.Field

@[expose] public section

noncomputable section

namespace Cert.Proof

open Cert.KernelIdeal Cert.KernelIdeal.Gen Cert.Proof.Pieces Cert.Proof.Coords
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The waits after the last plane. -/
def drains (i : grid0.Coords) (out : Memref sig .scVector .hbm S352x16384 .f32) (s0 s1 s2 s3 : DmaSem sig) (o : Fin 2 → ℕ)
    (h : ∀ a, o a + S1x2048.size a ≤ S352x16384.size a) : TP (F := F) i PUnit := do
  drain i out 0 inb_S4x2048_S1x2048_0_0 s0 o h
  drain i out 1 inb_S4x2048_S1x2048_1_0 s1 o h
  drain i out 2 inb_S4x2048_S1x2048_2_0 s2 o h
  drain i out 3 inb_S4x2048_S1x2048_3_0 s3 o h

section Branch

variable (d : Dev nD) (i : grid0.Coords) (O : CellTallies nD τ sig (HIx 1)) (W : Waits sig (HIx 1))
variable (tab : Memref sig .scVector .hbm S352x100000 .f32) (tail : Memref sig .scVector .hbm S352x256 .f32) (out : Memref sig .scVector .hbm S352x16384 .f32)
variable (idx : Memref sig .scVector .hbm S360448 .i32)
variable (tX lX : ℕ → ℕ → Elt F .f32) (ix : ℕ → BitVec 32) (out0 : ℕ → ℕ → Elt F .f32) (q q' q'' : PosShare TreeShare) (sI sS sT s0 s1 s2 s3 : DmaSem sig)

/-- The tile's rows of the result, reading `X`. -/
def rows (X : ℕ → ℕ → Elt F .f32) : sProp (MM F) := bigSep Finset.univ fun p : Fin 22 => iprop(half1 d i out (lo i + p.val) X ∗ half2 d i out (lo i + p.val) X)
/-- The tile's own counters at zero and its buffers, whatever they hold. -/
def mine : sProp (MM F) :=
  iprop((∃ X, ivp d i X) ∗ (∃ Y, pvp d i Y) ∗ (ovAny d i 0 ∗ ovAny d i 1 ∗ ovAny d i 2 ∗ ovAny d i 3)
    ∗ semVal (thr d i, .dma sS) 0 ∗ semVal (thr d i, .dma sI) 0 ∗ semVal (thr d i, .dma sT) 0
    ∗ semVal (thr d i, .dma s0) 0 ∗ semVal (thr d i, .dma s1) 0 ∗ semVal (thr d i, .dma s2) 0 ∗ semVal (thr d i, .dma s3) 0)
/-- What the tile reads. -/
def reads : sProp (MM F) := iprop(tabs d i tab tail tX lX q q' ∗ part (thr d i) idx q'' Finset.univ (f1 ix))

/-- Before the first field. -/
theorem fields_zero :
    iprop(reads d i tab tail idx tX lX ix q q' q'' ∗ mine d i sI sS sT s0 s1 s2 s3 ∗ rows d i out out0 ∗ Ow d i O W)
      ⊢ fields d i O W tab tail out idx tX lX ix out0 q q' q'' sI sS sT s0 s1 s2 s3 0 := by
  have ht : rows d i out out0 ⊢ (iprop(todo d i out out0 0) : sProp (MM F)) := by
    unfold rows todo
    rw [Finset.filter_true_of_mem (fun _ _ => Nat.zero_le _)]
  have h1 : (iprop(emp) : sProp (MM F)) ⊢ done1 d i out 0 (GX tX lX ix) := by
    unfold done1
    rw [Finset.filter_false_of_mem (fun _ _ => Nat.not_lt_zero _), bigSep_empty]; exact .rfl
  have h2 : (iprop(emp) : sProp (MM F)) ⊢ done2 d i out 0 (GX tX lX ix) := by
    unfold done2
    rw [Finset.filter_false_of_mem (fun _ _ => Nat.not_lt_zero _), bigSep_empty]; exact .rfl
  unfold fields held0 planes slots slot reads mine
  rw [A_zero]
  simp only [if_true]
  iintro ⟨⟨Htab, Hidx⟩, ⟨Hiv, Hpv, ⟨Ho0, Ho1, Ho2, Ho3⟩, HsS, HsI, HsT, H0, H1, H2, H3⟩, Hr, HO⟩
  isplitl [Htab Hpv HsS HsT HO]
  · isplitl [Htab]; · iexact Htab
    isplitl [Hpv]; · iexact Hpv
    isplitl [HsS]; · iexact HsS
    isplitl [HsT] <;> iassumption
  isplitl [Hidx]; · iexact Hidx
  isplitl [Hiv]; · iexact Hiv
  isplitl [HsI]; · iexact HsI
  isplitl [Ho0 Ho1 Ho2 Ho3 H0 H1 H2 H3]
  · isplitl [Ho0 H0]; · isplitl [H0] <;> iassumption
    isplitl [Ho1 H1]; · isplitl [H1] <;> iassumption
    isplitl [Ho2 H2]; · isplitl [H2] <;> iassumption
    isplitl [H3] <;> iassumption
  isplitl [Hr]; · iapply ht; iexact Hr
  isplitr
  · iapply h1; iempintro
  · iapply h2; iempintro

/-- The last waits. -/
theorem wp_drains {o : Fin 2 → ℕ} {h} :
    fields d i O W tab tail out idx tX lX ix out0 q q' q'' sI sS sT s0 s1 s2 s3 (nf i)
      ⊢ wp frame (wpE (defs₀ (F := F)) 𝒱₀ (thr d i) none) Set.univ (drains i out s0 s1 s2 s3 o h)
        fun _ => iprop(reads d i tab tail idx tX lX ix q q' q'' ∗ mine d i sI sS sT s0 s1 s2 s3 ∗ rows d i out (GX tX lX ix) ∗ Ow d i O W) := by
  have hr : iprop(half2 d i out (lo i + 21) (GX tX lX ix) ∗ done1 d i out 22 (GX tX lX ix) ∗ done2 d i out 22 (GX tX lX ix)) ⊢ rows (F := F) d i out (GX tX lX ix) := by
    have h2 := done2_next d i out (le_refl 22) (GX tX lX ix)
    unfold late at h2
    rw [if_neg (by decide)] at h2
    have h3 : iprop(done1 d i out 22 (GX tX lX ix) ∗ done2 d i out (22 + 1) (GX tX lX ix)) ⊢ rows (F := F) d i out (GX tX lX ix) := by
      unfold rows done1 done2
      rw [Finset.filter_true_of_mem (fun p _ => p.isLt), Finset.filter_true_of_mem (fun p _ => Nat.succ_lt_succ p.isLt), ← bigSep_sep']
    iintro ⟨Hh, H1, H2⟩
    iapply h3
    isplitl [H1]; · iexact H1
    iapply h2
    isplitl [Hh] <;> iassumption
  have hl : iprop(outPart d i out (lo i + 21) 4 (GX tX lX ix) ∗ outPart d i out (lo i + 21) 5 (GX tX lX ix) ∗ outPart d i out (lo i + 21) 6 (GX tX lX ix) ∗ outPart d i out (lo i + 21) 7 (GX tX lX ix))
      ⊢ half2 (F := F) d i out (lo i + 21) (GX tX lX ix) := by unfold half2; exact .rfl
  unfold fields held0 planes slots slot reads mine drains
  rw [A_nf]
  simp only [if_neg (show ¬ (22 : ℕ) = 0 by decide)]
  iintro ⟨⟨Htab, Hpv, HsS, HsT, HO⟩, Hidx, Hiv, HsI, ⟨H0, H1, H2, H3⟩, -, Hd1, Hd2⟩
  iapply (wp_drain (F := F) (O := O) (W := W)) $$ [H0 HO]
  · isplitl [H0] <;> iassumption
  iintro ⟨Hl0, H0, Ho0, HO⟩
  iapply (wp_drain (F := F) (O := O) (W := W)) $$ [H1 HO]
  · isplitl [H1] <;> iassumption
  iintro ⟨Hl1, H1, Ho1, HO⟩
  iapply (wp_drain (F := F) (O := O) (W := W)) $$ [H2 HO]
  · isplitl [H2] <;> iassumption
  iintro ⟨Hl2, H2, Ho2, HO⟩
  rw [← Prog.bind_pure (drain i out 3 inb_S4x2048_S1x2048_3_0 s3 o h)]
  iapply (wp_drain (F := F) (O := O) (W := W)) $$ [H3 HO]
  · isplitl [H3] <;> iassumption
  iintro ⟨Hl3, H3, Ho3, HO⟩
  simp only [Prog.pure_eq_ret]
  rw [wp_ret]
  imodintro
  isplitl [Htab Hidx]
  · isplitl [Htab] <;> iassumption
  isplitr [HO Hl0 Hl1 Hl2 Hl3 Hd1 Hd2]
  · isplitl [Hiv]; · iexact Hiv
    isplitl [Hpv]; · iexact Hpv
    isplitl [Ho0 Ho1 Ho2 Ho3]
    · isplitl [Ho0]; · iexact Ho0
      isplitl [Ho1]; · iexact Ho1
      isplitl [Ho2] <;> iassumption
    isplitl [HsS]; · iexact HsS
    isplitl [HsI]; · iexact HsI
    isplitl [HsT]; · iexact HsT
    isplitl [H0]; · iexact H0
    isplitl [H1]; · iexact H1
    isplitl [H2] <;> iassumption
  isplitr [HO]
  · iapply hr
    isplitl [Hl0 Hl1 Hl2 Hl3]
    · iapply hl
      isplitl [Hl0]; · iexact Hl0
      isplitl [Hl1]; · iexact Hl1
      isplitl [Hl2] <;> iassumption
    isplitl [Hd1] <;> iassumption
  iexact HO

/-- A tile's work, given a rule for one field. -/
theorem wp_branch {o : Fin 2 → ℕ} {h} (l l' : Scf.Loop 32) (hok : l.OK) (hok' : l'.OK) (body : Fin l.trips → Unit → TP (F := F) i Unit)
    (body' : Fin l'.trips → Unit → TP (F := F) i Unit) (hl : l.trips = nf i) (hl' : l'.trips = 0)
    (hb : ∀ (t : Fin l.trips) x, fields d i O W tab tail out idx tX lX ix out0 q q' q'' sI sS sT s0 s1 s2 s3 t.val
      ⊢ wp frame (wpE (defs₀ (F := F)) 𝒱₀ (thr d i) none) Set.univ (body t x)
          fun _ => fields d i O W tab tail out idx tX lX ix out0 q q' q'' sI sS sT s0 s1 s2 s3 (t.val + 1)) :
    iprop(reads d i tab tail idx tX lX ix q q' q'' ∗ mine d i sI sS sT s0 s1 s2 s3 ∗ rows d i out out0 ∗ Ow d i O W)
      ⊢ wp frame (wpE (defs₀ (F := F)) 𝒱₀ (thr d i) none) Set.univ
          (Scf.Loop.for l hok ⟨⟩ body >>= fun _ => Scf.Loop.for l' hok' ⟨⟩ body' >>= fun _ => drains i out s0 s1 s2 s3 o h)
          fun _ => iprop(reads d i tab tail idx tX lX ix q q' q'' ∗ mine d i sI sS sT s0 s1 s2 s3 ∗ rows d i out (GX tX lX ix) ∗ Ow d i O W) := by
  simp only [wp_bind]
  iintro H
  ihave H := (fields_zero (F := F) d i O W tab tail out idx tX lX ix out0 q q' q'' sI sS sT s0 s1 s2 s3) $$ H
  iapply (wp_wand_r frame _ Set.univ); isplitl [H]
  · iapply (Scf.wp_for frame _ Set.univ _ _ _ hok () body (fun t _ => fields d i O W tab tail out idx tX lX ix out0 q q' q'' sI sS sT s0 s1 s2 s3 t) hb)
    isplitl [H]; · iexact H
    iintro %u H
    iexact H
  iintro %_ H
  iapply (wp_wand_r frame _ Set.univ); isplitr
  · iapply (Scf.wp_for0' (Fr := frame) (wpE := wpE (defs₀ (F := F)) 𝒱₀ (thr d i) none) (Es := Set.univ) _ _ _ hok' () body' hl' (fun _ => iprop(emp)) iprop(emp) .rfl)
    iempintro
  iintro %_ -
  rw [show Scf.trips l.lb l.ub l.st = nf i from hl]
  iapply (wp_drains (F := F) d i O W tab tail out idx tX lX ix out0 q q' q'' sI sS sT s0 s1 s2 s3)
  iexact H

end Branch

end Cert.Proof

end
-- ==== Proof.Mean.lean ====
/-
  The tiles of the mean: the kernel's loop bodies are the ones the planes' and fields' rules speak of.
-/
module

public import proofs.«01_k».proof.Proof.Branch
public import proofs.«01_k».proof.Proof.Gen.KernelIdeal.Skeleton

@[expose] public section

set_option maxRecDepth 65536

noncomputable section

namespace Cert.Proof

open Cert.KernelIdeal Cert.KernelIdeal.Gen Cert.Proof.Pieces Cert.Proof.Coords
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

namespace Mean

variable {F : FTy → Type} [FloatOps F]

section Programs

variable (i : grid0.Coords) (h1 : k0_cond1 i = 1#1) (v12 v14 v37 v61 v211 c arg20 : BitVec 32)

/-- The gather loops of a plane's eight chunks, on the tile's buffers. -/
def g0 (t1 : Fin (k0_t1_loop i).trips) (t2 : Fin (k0_t2_loop i t1).trips) : TP (F := F) i Unit :=
  Scf.Loop.for k0_t3_loop (k0_t3_ok i h1) ⟨⟩ (k0_t3_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 h1 t1 t2 arg20)
def g1 (t1 : Fin (k0_t1_loop i).trips) (t2 : Fin (k0_t2_loop i t1).trips) : TP (F := F) i Unit :=
  Scf.Loop.for k0_t4_loop (k0_t4_ok i h1) ⟨⟩ (k0_t4_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 h1 t1 t2 arg20)
def g2 (t1 : Fin (k0_t1_loop i).trips) (t2 : Fin (k0_t2_loop i t1).trips) : TP (F := F) i Unit :=
  Scf.Loop.for k0_t5_loop (k0_t5_ok i h1) ⟨⟩ (k0_t5_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 h1 t1 t2 arg20)
def g3 (t1 : Fin (k0_t1_loop i).trips) (t2 : Fin (k0_t2_loop i t1).trips) : TP (F := F) i Unit :=
  Scf.Loop.for k0_t6_loop (k0_t6_ok i h1) ⟨⟩ (k0_t6_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 h1 t1 t2 arg20)
def g4 (t1 : Fin (k0_t1_loop i).trips) (t2 : Fin (k0_t2_loop i t1).trips) : TP (F := F) i Unit :=
  Scf.Loop.for k0_t7_loop (k0_t7_ok i h1) ⟨⟩ (k0_t7_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 h1 t1 t2)
def g5 (t1 : Fin (k0_t1_loop i).trips) (t2 : Fin (k0_t2_loop i t1).trips) : TP (F := F) i Unit :=
  Scf.Loop.for k0_t8_loop (k0_t8_ok i h1) ⟨⟩ (k0_t8_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 h1 t1 t2)
def g6 (t1 : Fin (k0_t1_loop i).trips) (t2 : Fin (k0_t2_loop i t1).trips) : TP (F := F) i Unit :=
  Scf.Loop.for k0_t9_loop (k0_t9_ok i h1) ⟨⟩ (k0_t9_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 h1 t1 t2)
def g7 : TP (F := F) i Unit :=
  Scf.Loop.for k0_t10_loop (k0_t10_ok i h1) ⟨⟩ (k0_t10_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c)

/-- A plane's program. -/
def plane (t1 : Fin (k0_t1_loop i).trips) (t2 : Fin (k0_t2_loop i t1).trips) : TP (F := F) i PUnit :=
  planeProg i
    (stage i (Memref.whole main_v1_scv) (Memref.isWhole_whole _) (Memref.whole main_v5_scv) cc0_scratch3.sem cc0_scratch5.sem (k0_off2 i t1 t2) (k0_off3 i t1 t2) (k0_off4 i t1 t2) (k0_off5 i t1 t2)
      (k0_off2_inb i t1 t2 h1) (k0_off3_inb i t1 t2 h1) (k0_off4_inb i t1 t2 h1) (k0_off5_inb i t1 t2 h1))
    (chunkA i (Memref.whole main_v9_0_scv) 0 inb_S4x2048_S1x2048_0_0 cc0_scratch6.sem (k0_cond2 i t1 t2) (k0_off6 i t1 t2) (k0_off6_inb i t1 t2 h1)
      (g0 i h1 v12 arg20 t1 t2) (k0_off9 i t1 t2) (k0_off9_inb i t1 t2 h1))
    (chunkA i (Memref.whole main_v9_0_scv) 1 inb_S4x2048_S1x2048_1_0 cc0_scratch7.sem (k0_cond3 i t1 t2) (k0_off10 i t1 t2) (k0_off10_inb i t1 t2 h1)
      (g1 i h1 v12 arg20 t1 t2) (k0_off13 i t1 t2) (k0_off13_inb i t1 t2 h1))
    (chunkA i (Memref.whole main_v9_0_scv) 2 inb_S4x2048_S1x2048_2_0 cc0_scratch8.sem (k0_cond4 i t1 t2) (k0_off14 i t1 t2) (k0_off14_inb i t1 t2 h1)
      (g2 i h1 v12 arg20 t1 t2) (k0_off17 i t1 t2) (k0_off17_inb i t1 t2 h1))
    (chunkA i (Memref.whole main_v9_0_scv) 3 inb_S4x2048_S1x2048_3_0 cc0_scratch9.sem (k0_cond5 i t1 t2) (k0_off18 i t1 t2) (k0_off18_inb i t1 t2 h1)
      (g3 i h1 v12 arg20 t1 t2) (k0_off21 i t1 t2) (k0_off21_inb i t1 t2 h1))
    (chunkB i (Memref.whole main_v9_0_scv) 0 inb_S4x2048_S1x2048_0_0 cc0_scratch6.sem (k0_off9 i t1 t2) (k0_off9_inb i t1 t2 h1)
      (g4 i h1 t1 t2) (k0_off24 i t1 t2) (k0_off24_inb i t1 t2 h1))
    (chunkB i (Memref.whole main_v9_0_scv) 1 inb_S4x2048_S1x2048_1_0 cc0_scratch7.sem (k0_off9 i t1 t2) (k0_off9_inb i t1 t2 h1)
      (g5 i h1 t1 t2) (k0_off27 i t1 t2) (k0_off27_inb i t1 t2 h1))
    (chunkB i (Memref.whole main_v9_0_scv) 2 inb_S4x2048_S1x2048_2_0 cc0_scratch8.sem (k0_off9 i t1 t2) (k0_off9_inb i t1 t2 h1)
      (g6 i h1 t1 t2) (k0_off30 i t1 t2) (k0_off30_inb i t1 t2 h1))
    (chunkB i (Memref.whole main_v9_0_scv) 3 inb_S4x2048_S1x2048_3_0 cc0_scratch9.sem (k0_off9 i t1 t2) (k0_off9_inb i t1 t2 h1)
      (g7 i h1 v12 v14 v37 v61 c) (k0_off33 i t1 t2) (k0_off33_inb i t1 t2 h1))

/-- The parts of the body that hold conditionals, in terms of the chunks' pieces. -/
theorem part2_eq (t1 : Fin (k0_t1_loop i).trips) (t2 : Fin (k0_t2_loop i t1).trips) :
    k0_part2 (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 h1 t1 t2 arg20 = (do
      Prog.lift (.waitDma2 cc0_scratch3.sem (tabSl (Memref.whole main_v1_scv) (k0_off3 i t1 t2) (k0_off3_inb i t1 t2 h1)) (pvSl 33280 inb_S100096_S33280_33280) ((View.wordExact_bits rfl).reshape _ _) (View.wordExact_bits rfl))
      Prog.lift (.waitDma2 cc0_scratch3.sem (tabSl (Memref.whole main_v1_scv) (k0_off4 i t1 t2) (k0_off4_inb i t1 t2 h1)) (pvSl 66560 inb_S100096_S33280_66560) ((View.wordExact_bits rfl).reshape _ _) (View.wordExact_bits rfl))
      Prog.lift (.waitDma2 cc0_scratch5.sem (tailSl (Memref.whole main_v5_scv) (k0_off5 i t1 t2) (k0_off5_inb i t1 t2 h1)) pvTl ((View.wordExact_bits rfl).reshape _ _) (View.wordExact_bits rfl))
      maybeDrain i (Memref.whole main_v9_0_scv) 0 inb_S4x2048_S1x2048_0_0 cc0_scratch6.sem (k0_cond2 i t1 t2) (k0_off6 i t1 t2) (k0_off6_inb i t1 t2 h1)
      g0 i h1 v12 arg20 t1 t2
      issue i (Memref.whole main_v9_0_scv) 0 inb_S4x2048_S1x2048_0_0 cc0_scratch6.sem (k0_off9 i t1 t2) (k0_off9_inb i t1 t2 h1)
      maybeDrain i (Memref.whole main_v9_0_scv) 1 inb_S4x2048_S1x2048_1_0 cc0_scratch7.sem (k0_cond3 i t1 t2) (k0_off10 i t1 t2) (k0_off10_inb i t1 t2 h1) : TP (F := F) i PUnit) := by
  rw [k0_part2_eq_skeleton]
  unfold k0_part2_skel maybeDrain drain issue
  simp only [Prog.lift, Prog.bind_op, Prog.bind_ret, Prog.pure_eq_ret, Prog.bind_assoc, dite_bind]
  rfl
theorem part3_eq (t1 : Fin (k0_t1_loop i).trips) (t2 : Fin (k0_t2_loop i t1).trips) :
    k0_part3 (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 h1 t1 t2 arg20 = (do
      g1 i h1 v12 arg20 t1 t2
      issue i (Memref.whole main_v9_0_scv) 1 inb_S4x2048_S1x2048_1_0 cc0_scratch7.sem (k0_off13 i t1 t2) (k0_off13_inb i t1 t2 h1)
      maybeDrain i (Memref.whole main_v9_0_scv) 2 inb_S4x2048_S1x2048_2_0 cc0_scratch8.sem (k0_cond4 i t1 t2) (k0_off14 i t1 t2) (k0_off14_inb i t1 t2 h1)
      g2 i h1 v12 arg20 t1 t2
      issue i (Memref.whole main_v9_0_scv) 2 inb_S4x2048_S1x2048_2_0 cc0_scratch8.sem (k0_off17 i t1 t2) (k0_off17_inb i t1 t2 h1)
      maybeDrain i (Memref.whole main_v9_0_scv) 3 inb_S4x2048_S1x2048_3_0 cc0_scratch9.sem (k0_cond5 i t1 t2) (k0_off18 i t1 t2) (k0_off18_inb i t1 t2 h1)
      g3 i h1 v12 arg20 t1 t2
      pure ⟨⟩ : TP (F := F) i PUnit) := by
  rw [k0_part3_eq_skeleton]
  unfold k0_part3_skel maybeDrain drain issue
  simp only [Prog.lift, Prog.bind_op, Prog.bind_ret, Prog.pure_eq_ret, Prog.bind_assoc, dite_bind]
  rfl

/-- The inner loop's body is the plane's program. -/
theorem plane_eq (t1 : Fin (k0_t1_loop i).trips) (t2 : Fin (k0_t2_loop i t1).trips) (u : Unit) :
    k0_t2_body (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c t1 v211 t2 u
      = plane i h1 v12 v14 v37 v61 c (Scf.iv v211 1#32 t2) t1 t2 := by
  unfold k0_t2_body plane planeProg
  simp only [k0_part1_eq_skeleton, part2_eq, part3_eq, k0_part4_eq_skeleton, k0_part5_eq_skeleton]
  unfold k0_part1_skel k0_part4_skel k0_part5_skel stage chunkA chunkB drain issue
  simp only [Prog.lift, Prog.bind_op, Prog.bind_ret, Prog.pure_eq_ret, Prog.bind_assoc]
  rfl

/-- The outer loop's body stages the field's indices and goes through its planes. -/
theorem field_eq (t1 : Fin (k0_t1_loop i).trips) (u : Unit) :
    k0_t1_body (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c t1 u
      = (idxProg i (Memref.whole main_v8_scv) cc0_scratch4.sem (fun j => k0_off1 i t1 (BitVec.ofNat 32 (2048 * j.val))) (fun j => k0_off1_inb i t1 h1 j) >>= fun _ =>
          Scf.Loop.for (k0_t2_loop i t1) (k0_t2_ok i t1 h1) ⟨⟩ (k0_t2_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c t1 (Scalar.maxsi v12 (Scalar.muli (Scf.iv v37 c t1) 16#32))) >>= fun _ =>
          Scf.Loop.for (k0_t11_loop i t1) (k0_t11_ok i t1 h1) ⟨⟩ (k0_t11_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c t1
            (Scalar.addi (Scalar.maxsi v12 (Scalar.muli (Scf.iv v37 c t1) 16#32)) (Scalar.muli (Scalar.divsi (Scalar.subi (Scalar.minsi v14 (Scalar.muli (Scalar.addi (Scf.iv v37 c t1) 1#32) 16#32)) (Scalar.maxsi v12 (Scalar.muli (Scf.iv v37 c t1) 16#32))) 1#32) 1#32))) >>= fun _ =>
          Prog.ret ()) := by
  unfold k0_t1_body idxProg
  simp only [k0_part11_eq_skeleton, k0_part12_eq_skeleton, k0_part13_eq_skeleton]
  unfold k0_part11_skel k0_part12_skel k0_part13_skel idxEnq idxWait
  simp only [Prog.lift, Prog.bind_op, Prog.bind_ret, Prog.pure_eq_ret, Prog.bind_assoc]
  rfl

/-- The branch goes through the fields and waits for the last copies. -/
theorem branch_eq :
    (do
      k0_part28 (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c
      Prog.lift (.waitDma2 cc0_scratch9.sem (ovSl 3 inb_S4x2048_S1x2048_3_0) (outSl (Memref.whole main_v9_0_scv) (k0_off131 i) (k0_off131_inb i h1)) ((View.wordExact_bits rfl).reshape _ _) ((View.wordExact_bits rfl).reshape _ _)) : TP (F := F) i PUnit)
      = (Scf.Loop.for (k0_t1_loop i) (k0_t1_ok i h1) ⟨⟩ (k0_t1_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c) >>= fun _ =>
          Scf.Loop.for (k0_t20_loop i) (k0_t20_ok i h1) ⟨⟩ (k0_t20_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c) >>= fun _ =>
          drains i (Memref.whole main_v9_0_scv) cc0_scratch6.sem cc0_scratch7.sem cc0_scratch8.sem cc0_scratch9.sem (k0_off131 i) (k0_off131_inb i h1)) := by
  rw [k0_part28_eq_skeleton]
  unfold k0_part28_skel drains drain
  simp only [Prog.lift, Prog.bind_op, Prog.bind_ret, Prog.pure_eq_ret, Prog.bind_assoc]

end Programs

section Rules

variable (d : Dev nD) (i : grid0.Coords) (h1 : k0_cond1 i = 1#1) (v12 v14 v37 v61 v211 c arg20 : BitVec 32)
variable (O : CellTallies nD τ sig (HIx 1)) (W : Waits sig (HIx 1))
variable (tX lX : ℕ → ℕ → Elt F .f32) (ix : ℕ → BitVec 32) (out0 : ℕ → ℕ → Elt F .f32) (q q' q'' : PosShare TreeShare)

/-- A chunk's indices are indices of the table. -/
theorem ivX_lt (hix : ∀ n, (ix n).toNat < 100000) (cc j : ℕ) : ∀ b < 2048, (ivX ix cc j b).toNat < 100096 := fun b _ =>
  lt_trans (hix _) (by decide)

/-- A plane of the tile. -/
theorem wp_plane (hix : ∀ n, (ix n).toNat < 100000) (t1 : Fin (k0_t1_loop i).trips) (t2 : Fin (k0_t2_loop i t1).trips) (u : Unit) :
    iprop(held0 d i O W (Memref.whole main_v1_scv) (Memref.whole main_v5_scv) tX lX q q' cc0_scratch3.sem cc0_scratch5.sem ∗ ivp d i (ivX ix (lo i / 16 + t1.val))
        ∗ slots d i (Memref.whole main_v9_0_scv) tX lX ix cc0_scratch6.sem cc0_scratch7.sem cc0_scratch8.sem cc0_scratch9.sem (lo i) (A i t1.val + t2.val)
        ∗ half1 d i (Memref.whole main_v9_0_scv) (lo i + (A i t1.val + t2.val)) out0 ∗ half2 d i (Memref.whole main_v9_0_scv) (lo i + (A i t1.val + t2.val)) out0)
      ⊢ wp frame (wpE (defs₀ (F := F)) 𝒱₀ (thr d i) none) Set.univ (k0_t2_body (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c t1 v211 t2 u)
        fun _ => iprop(held0 d i O W (Memref.whole main_v1_scv) (Memref.whole main_v5_scv) tX lX q q' cc0_scratch3.sem cc0_scratch5.sem ∗ ivp d i (ivX ix (lo i / 16 + t1.val))
          ∗ slots d i (Memref.whole main_v9_0_scv) tX lX ix cc0_scratch6.sem cc0_scratch7.sem cc0_scratch8.sem cc0_scratch9.sem (lo i) (A i t1.val + t2.val + 1)
          ∗ half1 d i (Memref.whole main_v9_0_scv) (lo i + (A i t1.val + t2.val)) (GX tX lX ix) ∗ late d i (Memref.whole main_v9_0_scv) (lo i) (A i t1.val + t2.val) (GX tX lX ix)) := by
  have ht : t2.val < A i (t1.val + 1) - A i t1.val := lt_of_lt_of_eq t2.isLt (trips1_in i t1).1
  have hdiv : (lo i + (A i t1.val + t2.val)) / 16 = lo i / 16 + t1.val := by rw [← Nat.add_assoc]; exact div_plane i t1.val t2.val ht
  have hp : lo i + (A i t1.val + t2.val) < 352 := by have := lo_le i; have := A_le i (t1.val + 1); omega
  have hG : ∀ j k, GX tX lX ix (lo i + (A i t1.val + t2.val)) (2048 * j + k)
      = rowv tX lX (lo i + (A i t1.val + t2.val)) (ivX ix (lo i / 16 + t1.val) j k).toNat := fun j k => by
    unfold GX ivX; rw [hdiv]
  have hX := ivX_lt ix hix (lo i / 16 + t1.val)
  have hs := src1 i t1 t2
  have hd := dst1 i t1 t2
  have hf := first1 i t1 t2
  rw [plane_eq]
  unfold plane
  refine wp_planeProg d i O W (Memref.whole main_v1_scv) (Memref.whole main_v5_scv) (Memref.whole main_v9_0_scv) tX lX ix q q' cc0_scratch3.sem cc0_scratch5.sem _ _ _ _ (lo i) (A i t1.val + t2.val)
    (by unfold held0 pvp; exact wp_stage d i O W (Memref.whole main_v1_scv) _ (Memref.whole main_v5_scv) tX lX q q' cc0_scratch3.sem cc0_scratch5.sem _ hp hs.1 hs.2.1 hs.2.2.1 hs.2.2.2) ?_ ?_
  · intro s sem cc hm
    simp only [Set.mem_insert_iff, Set.mem_singleton_iff, Prod.mk.injEq] at hm
    rcases hm with ⟨rfl, rfl, rfl⟩ | ⟨rfl, rfl, rfl⟩ | ⟨rfl, rfl, rfl⟩ | ⟨rfl, rfl, rfl⟩
    · exact wp_chunkA (lo i) _ _ 0 hf.1 hd.1.1 (fun Z => wp_gatherLoop d i _ (by decide) _ _ (chk := k0_chk1 i) (dec := k0_chk1.dec i) (hidx := fun w hw => k0_idx1_inb i w hw h1) (fun t u => rfl) k0_off7_eq k0_off8_eq (hX 0) fun w h _ => h) fun k _ => hG 0 k
    · exact wp_chunkA (lo i) _ _ 1 hf.2.1 hd.1.2.1 (fun Z => wp_gatherLoop d i _ (by decide) _ _ (chk := k0_chk2 i) (dec := k0_chk2.dec i) (hidx := fun w hw => k0_idx2_inb i w hw h1) (fun t u => rfl) k0_off11_eq k0_off12_eq (hX 1) fun w h _ => h) fun k _ => hG 1 k
    · exact wp_chunkA (lo i) _ _ 2 hf.2.2.1 hd.1.2.2.1 (fun Z => wp_gatherLoop d i _ (by decide) _ _ (chk := k0_chk3 i) (dec := k0_chk3.dec i) (hidx := fun w hw => k0_idx3_inb i w hw h1) (fun t u => rfl) k0_off15_eq k0_off16_eq (hX 2) fun w h _ => h) fun k _ => hG 2 k
    · exact wp_chunkA (lo i) _ _ 3 hf.2.2.2 hd.1.2.2.2 (fun Z => wp_gatherLoop d i _ (by decide) _ _ (chk := k0_chk4 i) (dec := k0_chk4.dec i) (hidx := fun w hw => k0_idx4_inb i w hw h1) (fun t u => rfl) k0_off19_eq k0_off20_eq (hX 3) fun w h _ => h) fun k _ => hG 3 k
  · intro s sem cc hm
    simp only [Set.mem_insert_iff, Set.mem_singleton_iff, Prod.mk.injEq] at hm
    rcases hm with ⟨rfl, rfl, rfl⟩ | ⟨rfl, rfl, rfl⟩ | ⟨rfl, rfl, rfl⟩ | ⟨rfl, rfl, rfl⟩
    · exact wp_chunkB _ 0 _ 4 hd.2.1 (fun Z => wp_gatherLoop d i _ (by decide) _ _ (chk := k0_chk5 i) (dec := k0_chk5.dec i) (hidx := fun w hw => k0_idx5_inb i w hw h1) (fun t u => rfl) k0_off22_eq k0_off23_eq (hX 4) fun w h _ => h) fun k _ => hG 4 k
    · exact wp_chunkB _ 1 _ 5 hd.2.2.1 (fun Z => wp_gatherLoop d i _ (by decide) _ _ (chk := k0_chk6 i) (dec := k0_chk6.dec i) (hidx := fun w hw => k0_idx6_inb i w hw h1) (fun t u => rfl) k0_off25_eq k0_off26_eq (hX 5) fun w h _ => h) fun k _ => hG 5 k
    · exact wp_chunkB _ 2 _ 6 hd.2.2.2.1 (fun Z => wp_gatherLoop d i _ (by decide) _ _ (chk := k0_chk7 i) (dec := k0_chk7.dec i) (hidx := fun w hw => k0_idx7_inb i w hw h1) (fun t u => rfl) k0_off28_eq k0_off29_eq (hX 6) fun w h _ => h) fun k _ => hG 6 k
    · exact wp_chunkB _ 3 _ 7 hd.2.2.2.2 (fun Z => wp_gatherLoop d i _ (by decide) _ _ (chk := k0_chk8 i) (dec := k0_chk8.dec i) (hidx := fun w hw => k0_idx8_inb i w hw h1) (fun t u => rfl) k0_off31_eq k0_off32_eq (hX 7) fun w h _ => h) fun k _ => hG 7 k

/-- The whole branch. -/
theorem wp_tile (hix : ∀ n, (ix n).toNat < 100000) :
    iprop(reads d i (Memref.whole main_v1_scv) (Memref.whole main_v5_scv) (Memref.whole main_v8_scv) tX lX ix q q' q''
        ∗ mine d i cc0_scratch4.sem cc0_scratch3.sem cc0_scratch5.sem cc0_scratch6.sem cc0_scratch7.sem cc0_scratch8.sem cc0_scratch9.sem
        ∗ rows d i (Memref.whole main_v9_0_scv) out0 ∗ Ow d i O W)
      ⊢ wp frame (wpE (defs₀ (F := F)) 𝒱₀ (thr d i) none) Set.univ
          (do
            k0_part28 (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c
            Prog.lift (.waitDma2 cc0_scratch9.sem (ovSl 3 inb_S4x2048_S1x2048_3_0) (outSl (Memref.whole main_v9_0_scv) (k0_off131 i) (k0_off131_inb i h1)) ((View.wordExact_bits rfl).reshape _ _) ((View.wordExact_bits rfl).reshape _ _)) : TP (F := F) i PUnit)
          fun _ => iprop(reads d i (Memref.whole main_v1_scv) (Memref.whole main_v5_scv) (Memref.whole main_v8_scv) tX lX ix q q' q''
            ∗ mine d i cc0_scratch4.sem cc0_scratch3.sem cc0_scratch5.sem cc0_scratch6.sem cc0_scratch7.sem cc0_scratch8.sem cc0_scratch9.sem
            ∗ rows d i (Memref.whole main_v9_0_scv) (GX tX lX ix) ∗ Ow d i O W) := by
  rw [branch_eq]
  refine wp_branch d i O W (Memref.whole main_v1_scv) (Memref.whole main_v5_scv) (Memref.whole main_v9_0_scv) (Memref.whole main_v8_scv) tX lX ix out0 q q' q'' _ _ _ _ _ _ _ _ _ _ _ _ _ (trips1_out i).1 (trips1_out i).2 fun t1 x => ?_
  rw [field_eq]
  exact wp_field d i O W (Memref.whole main_v1_scv) (Memref.whole main_v5_scv) (Memref.whole main_v9_0_scv) (Memref.whole main_v8_scv) tX lX ix out0 q q' q'' _ _ _ _ _ _ _ t1.val (idx1 i t1) _ _ _ _ _ _
    (trips1_in i t1).1 (trips1_in i t1).2 fun t2 u => wp_plane d i h1 v12 v14 v37 v61 _ c O W tX lX ix out0 q q' hix t1 t2 u

end Rules

end Mean

end Cert.Proof

end
-- ==== Proof.Deviation.lean ====
/-
  The tiles of the deviation: the kernel's loop bodies are the ones the planes' and fields' rules speak of.
-/
module

public import proofs.«01_k».proof.Proof.Branch
public import proofs.«01_k».proof.Proof.Gen.KernelIdeal.Skeleton

@[expose] public section

set_option maxRecDepth 65536

noncomputable section

namespace Cert.Proof

open Cert.KernelIdeal Cert.KernelIdeal.Gen Cert.Proof.Pieces Cert.Proof.Coords
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

namespace Dev

variable {F : FTy → Type} [FloatOps F]

section Programs

variable (i : grid0.Coords) (h1 : k0_cond18 i = 1#1) (v12 v14 v37 v61 v211 c arg20 : BitVec 32)

/-- The gather loops of a plane's eight chunks, on the tile's buffers. -/
def g0 (t1 : Fin (k0_t39_loop i).trips) (t2 : Fin (k0_t40_loop i t1).trips) : TP (F := F) i Unit :=
  Scf.Loop.for k0_t41_loop (k0_t41_ok i h1) ⟨⟩ (k0_t41_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 h1 t1 t2 arg20)
def g1 (t1 : Fin (k0_t39_loop i).trips) (t2 : Fin (k0_t40_loop i t1).trips) : TP (F := F) i Unit :=
  Scf.Loop.for k0_t42_loop (k0_t42_ok i h1) ⟨⟩ (k0_t42_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 h1 t1 t2 arg20)
def g2 (t1 : Fin (k0_t39_loop i).trips) (t2 : Fin (k0_t40_loop i t1).trips) : TP (F := F) i Unit :=
  Scf.Loop.for k0_t43_loop (k0_t43_ok i h1) ⟨⟩ (k0_t43_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 h1 t1 t2 arg20)
def g3 (t1 : Fin (k0_t39_loop i).trips) (t2 : Fin (k0_t40_loop i t1).trips) : TP (F := F) i Unit :=
  Scf.Loop.for k0_t44_loop (k0_t44_ok i h1) ⟨⟩ (k0_t44_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 h1 t1 t2 arg20)
def g4 (t1 : Fin (k0_t39_loop i).trips) (t2 : Fin (k0_t40_loop i t1).trips) : TP (F := F) i Unit :=
  Scf.Loop.for k0_t45_loop (k0_t45_ok i h1) ⟨⟩ (k0_t45_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 h1 t1 t2)
def g5 (t1 : Fin (k0_t39_loop i).trips) (t2 : Fin (k0_t40_loop i t1).trips) : TP (F := F) i Unit :=
  Scf.Loop.for k0_t46_loop (k0_t46_ok i h1) ⟨⟩ (k0_t46_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 h1 t1 t2)
def g6 (t1 : Fin (k0_t39_loop i).trips) (t2 : Fin (k0_t40_loop i t1).trips) : TP (F := F) i Unit :=
  Scf.Loop.for k0_t47_loop (k0_t47_ok i h1) ⟨⟩ (k0_t47_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 h1 t1 t2)
def g7 : TP (F := F) i Unit :=
  Scf.Loop.for k0_t48_loop (k0_t48_ok i h1) ⟨⟩ (k0_t48_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c)

/-- A plane's program. -/
def plane (t1 : Fin (k0_t39_loop i).trips) (t2 : Fin (k0_t40_loop i t1).trips) : TP (F := F) i PUnit :=
  planeProg i
    (stage i (Memref.whole main_v3_scv) (Memref.isWhole_whole _) (Memref.whole main_v7_scv) cc0_scratch3.sem cc0_scratch5.sem (k0_off133 i t1 t2) (k0_off134 i t1 t2) (k0_off135 i t1 t2) (k0_off136 i t1 t2)
      (k0_off133_inb i t1 t2 h1) (k0_off134_inb i t1 t2 h1) (k0_off135_inb i t1 t2 h1) (k0_off136_inb i t1 t2 h1))
    (chunkA i (Memref.whole main_v9_1_scv) 0 inb_S4x2048_S1x2048_0_0 cc0_scratch6.sem (k0_cond19 i t1 t2) (k0_off137 i t1 t2) (k0_off137_inb i t1 t2 h1)
      (g0 i h1 v12 arg20 t1 t2) (k0_off140 i t1 t2) (k0_off140_inb i t1 t2 h1))
    (chunkA i (Memref.whole main_v9_1_scv) 1 inb_S4x2048_S1x2048_1_0 cc0_scratch7.sem (k0_cond20 i t1 t2) (k0_off141 i t1 t2) (k0_off141_inb i t1 t2 h1)
      (g1 i h1 v12 arg20 t1 t2) (k0_off144 i t1 t2) (k0_off144_inb i t1 t2 h1))
    (chunkA i (Memref.whole main_v9_1_scv) 2 inb_S4x2048_S1x2048_2_0 cc0_scratch8.sem (k0_cond21 i t1 t2) (k0_off145 i t1 t2) (k0_off145_inb i t1 t2 h1)
      (g2 i h1 v12 arg20 t1 t2) (k0_off148 i t1 t2) (k0_off148_inb i t1 t2 h1))
    (chunkA i (Memref.whole main_v9_1_scv) 3 inb_S4x2048_S1x2048_3_0 cc0_scratch9.sem (k0_cond22 i t1 t2) (k0_off149 i t1 t2) (k0_off149_inb i t1 t2 h1)
      (g3 i h1 v12 arg20 t1 t2) (k0_off152 i t1 t2) (k0_off152_inb i t1 t2 h1))
    (chunkB i (Memref.whole main_v9_1_scv) 0 inb_S4x2048_S1x2048_0_0 cc0_scratch6.sem (k0_off140 i t1 t2) (k0_off140_inb i t1 t2 h1)
      (g4 i h1 t1 t2) (k0_off155 i t1 t2) (k0_off155_inb i t1 t2 h1))
    (chunkB i (Memref.whole main_v9_1_scv) 1 inb_S4x2048_S1x2048_1_0 cc0_scratch7.sem (k0_off140 i t1 t2) (k0_off140_inb i t1 t2 h1)
      (g5 i h1 t1 t2) (k0_off158 i t1 t2) (k0_off158_inb i t1 t2 h1))
    (chunkB i (Memref.whole main_v9_1_scv) 2 inb_S4x2048_S1x2048_2_0 cc0_scratch8.sem (k0_off140 i t1 t2) (k0_off140_inb i t1 t2 h1)
      (g6 i h1 t1 t2) (k0_off161 i t1 t2) (k0_off161_inb i t1 t2 h1))
    (chunkB i (Memref.whole main_v9_1_scv) 3 inb_S4x2048_S1x2048_3_0 cc0_scratch9.sem (k0_off140 i t1 t2) (k0_off140_inb i t1 t2 h1)
      (g7 i h1 v12 v14 v37 v61 c) (k0_off164 i t1 t2) (k0_off164_inb i t1 t2 h1))

/-- The parts of the body that hold conditionals, in terms of the chunks' pieces. -/
theorem part2_eq (t1 : Fin (k0_t39_loop i).trips) (t2 : Fin (k0_t40_loop i t1).trips) :
    k0_part30 (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 h1 t1 t2 arg20 = (do
      Prog.lift (.waitDma2 cc0_scratch3.sem (tabSl (Memref.whole main_v3_scv) (k0_off134 i t1 t2) (k0_off134_inb i t1 t2 h1)) (pvSl 33280 inb_S100096_S33280_33280) ((View.wordExact_bits rfl).reshape _ _) (View.wordExact_bits rfl))
      Prog.lift (.waitDma2 cc0_scratch3.sem (tabSl (Memref.whole main_v3_scv) (k0_off135 i t1 t2) (k0_off135_inb i t1 t2 h1)) (pvSl 66560 inb_S100096_S33280_66560) ((View.wordExact_bits rfl).reshape _ _) (View.wordExact_bits rfl))
      Prog.lift (.waitDma2 cc0_scratch5.sem (tailSl (Memref.whole main_v7_scv) (k0_off136 i t1 t2) (k0_off136_inb i t1 t2 h1)) pvTl ((View.wordExact_bits rfl).reshape _ _) (View.wordExact_bits rfl))
      maybeDrain i (Memref.whole main_v9_1_scv) 0 inb_S4x2048_S1x2048_0_0 cc0_scratch6.sem (k0_cond19 i t1 t2) (k0_off137 i t1 t2) (k0_off137_inb i t1 t2 h1)
      g0 i h1 v12 arg20 t1 t2
      issue i (Memref.whole main_v9_1_scv) 0 inb_S4x2048_S1x2048_0_0 cc0_scratch6.sem (k0_off140 i t1 t2) (k0_off140_inb i t1 t2 h1)
      maybeDrain i (Memref.whole main_v9_1_scv) 1 inb_S4x2048_S1x2048_1_0 cc0_scratch7.sem (k0_cond20 i t1 t2) (k0_off141 i t1 t2) (k0_off141_inb i t1 t2 h1) : TP (F := F) i PUnit) := by
  rw [k0_part30_eq_skeleton]
  unfold k0_part30_skel maybeDrain drain issue
  simp only [Prog.lift, Prog.bind_op, Prog.bind_ret, Prog.pure_eq_ret, Prog.bind_assoc, dite_bind]
  rfl
theorem part3_eq (t1 : Fin (k0_t39_loop i).trips) (t2 : Fin (k0_t40_loop i t1).trips) :
    k0_part31 (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 h1 t1 t2 arg20 = (do
      g1 i h1 v12 arg20 t1 t2
      issue i (Memref.whole main_v9_1_scv) 1 inb_S4x2048_S1x2048_1_0 cc0_scratch7.sem (k0_off144 i t1 t2) (k0_off144_inb i t1 t2 h1)
      maybeDrain i (Memref.whole main_v9_1_scv) 2 inb_S4x2048_S1x2048_2_0 cc0_scratch8.sem (k0_cond21 i t1 t2) (k0_off145 i t1 t2) (k0_off145_inb i t1 t2 h1)
      g2 i h1 v12 arg20 t1 t2
      issue i (Memref.whole main_v9_1_scv) 2 inb_S4x2048_S1x2048_2_0 cc0_scratch8.sem (k0_off148 i t1 t2) (k0_off148_inb i t1 t2 h1)
      maybeDrain i (Memref.whole main_v9_1_scv) 3 inb_S4x2048_S1x2048_3_0 cc0_scratch9.sem (k0_cond22 i t1 t2) (k0_off149 i t1 t2) (k0_off149_inb i t1 t2 h1)
      g3 i h1 v12 arg20 t1 t2
      pure ⟨⟩ : TP (F := F) i PUnit) := by
  rw [k0_part31_eq_skeleton]
  unfold k0_part31_skel maybeDrain drain issue
  simp only [Prog.lift, Prog.bind_op, Prog.bind_ret, Prog.pure_eq_ret, Prog.bind_assoc, dite_bind]
  rfl

/-- The inner loop's body is the plane's program. -/
theorem plane_eq (t1 : Fin (k0_t39_loop i).trips) (t2 : Fin (k0_t40_loop i t1).trips) (u : Unit) :
    k0_t40_body (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c t1 v211 t2 u
      = plane i h1 v12 v14 v37 v61 c (Scf.iv v211 1#32 t2) t1 t2 := by
  unfold k0_t40_body plane planeProg
  simp only [k0_part29_eq_skeleton, part2_eq, part3_eq, k0_part32_eq_skeleton, k0_part33_eq_skeleton]
  unfold k0_part29_skel k0_part32_skel k0_part33_skel stage chunkA chunkB drain issue
  simp only [Prog.lift, Prog.bind_op, Prog.bind_ret, Prog.pure_eq_ret, Prog.bind_assoc]
  rfl

/-- The outer loop's body stages the field's indices and goes through its planes. -/
theorem field_eq (t1 : Fin (k0_t39_loop i).trips) (u : Unit) :
    k0_t39_body (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c t1 u
      = (idxProg i (Memref.whole main_v8_scv) cc0_scratch4.sem (fun j => k0_off132 i t1 (BitVec.ofNat 32 (2048 * j.val))) (fun j => k0_off132_inb i t1 h1 j) >>= fun _ =>
          Scf.Loop.for (k0_t40_loop i t1) (k0_t40_ok i t1 h1) ⟨⟩ (k0_t40_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c t1 (Scalar.maxsi v12 (Scalar.muli (Scf.iv v37 c t1) 16#32))) >>= fun _ =>
          Scf.Loop.for (k0_t49_loop i t1) (k0_t49_ok i t1 h1) ⟨⟩ (k0_t49_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c t1
            (Scalar.addi (Scalar.maxsi v12 (Scalar.muli (Scf.iv v37 c t1) 16#32)) (Scalar.muli (Scalar.divsi (Scalar.subi (Scalar.minsi v14 (Scalar.muli (Scalar.addi (Scf.iv v37 c t1) 1#32) 16#32)) (Scalar.maxsi v12 (Scalar.muli (Scf.iv v37 c t1) 16#32))) 1#32) 1#32))) >>= fun _ =>
          Prog.ret ()) := by
  unfold k0_t39_body idxProg
  simp only [k0_part39_eq_skeleton, k0_part40_eq_skeleton, k0_part41_eq_skeleton]
  unfold k0_part39_skel k0_part40_skel k0_part41_skel idxEnq idxWait
  simp only [Prog.lift, Prog.bind_op, Prog.bind_ret, Prog.pure_eq_ret, Prog.bind_assoc]
  rfl

/-- The branch goes through the fields and waits for the last copies. -/
theorem branch_eq :
    (do
      k0_part56 (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c
      Prog.lift (.waitDma2 cc0_scratch9.sem (ovSl 3 inb_S4x2048_S1x2048_3_0) (outSl (Memref.whole main_v9_1_scv) (k0_off262 i) (k0_off262_inb i h1)) ((View.wordExact_bits rfl).reshape _ _) ((View.wordExact_bits rfl).reshape _ _)) : TP (F := F) i PUnit)
      = (Scf.Loop.for (k0_t39_loop i) (k0_t39_ok i h1) ⟨⟩ (k0_t39_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c) >>= fun _ =>
          Scf.Loop.for (k0_t58_loop i) (k0_t58_ok i h1) ⟨⟩ (k0_t58_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c) >>= fun _ =>
          drains i (Memref.whole main_v9_1_scv) cc0_scratch6.sem cc0_scratch7.sem cc0_scratch8.sem cc0_scratch9.sem (k0_off262 i) (k0_off262_inb i h1)) := by
  rw [k0_part56_eq_skeleton]
  unfold k0_part56_skel drains drain
  simp only [Prog.lift, Prog.bind_op, Prog.bind_ret, Prog.pure_eq_ret, Prog.bind_assoc]

end Programs

section Rules

variable (d : Dev nD) (i : grid0.Coords) (h1 : k0_cond18 i = 1#1) (v12 v14 v37 v61 v211 c arg20 : BitVec 32)
variable (O : CellTallies nD τ sig (HIx 1)) (W : Waits sig (HIx 1))
variable (tX lX : ℕ → ℕ → Elt F .f32) (ix : ℕ → BitVec 32) (out0 : ℕ → ℕ → Elt F .f32) (q q' q'' : PosShare TreeShare)

/-- A chunk's indices are indices of the table. -/
theorem ivX_lt (hix : ∀ n, (ix n).toNat < 100000) (cc j : ℕ) : ∀ b < 2048, (ivX ix cc j b).toNat < 100096 := fun b _ =>
  lt_trans (hix _) (by decide)

/-- A plane of the tile. -/
theorem wp_plane (hix : ∀ n, (ix n).toNat < 100000) (t1 : Fin (k0_t39_loop i).trips) (t2 : Fin (k0_t40_loop i t1).trips) (u : Unit) :
    iprop(held0 d i O W (Memref.whole main_v3_scv) (Memref.whole main_v7_scv) tX lX q q' cc0_scratch3.sem cc0_scratch5.sem ∗ ivp d i (ivX ix (lo i / 16 + t1.val))
        ∗ slots d i (Memref.whole main_v9_1_scv) tX lX ix cc0_scratch6.sem cc0_scratch7.sem cc0_scratch8.sem cc0_scratch9.sem (lo i) (A i t1.val + t2.val)
        ∗ half1 d i (Memref.whole main_v9_1_scv) (lo i + (A i t1.val + t2.val)) out0 ∗ half2 d i (Memref.whole main_v9_1_scv) (lo i + (A i t1.val + t2.val)) out0)
      ⊢ wp frame (wpE (defs₀ (F := F)) 𝒱₀ (thr d i) none) Set.univ (k0_t40_body (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c t1 v211 t2 u)
        fun _ => iprop(held0 d i O W (Memref.whole main_v3_scv) (Memref.whole main_v7_scv) tX lX q q' cc0_scratch3.sem cc0_scratch5.sem ∗ ivp d i (ivX ix (lo i / 16 + t1.val))
          ∗ slots d i (Memref.whole main_v9_1_scv) tX lX ix cc0_scratch6.sem cc0_scratch7.sem cc0_scratch8.sem cc0_scratch9.sem (lo i) (A i t1.val + t2.val + 1)
          ∗ half1 d i (Memref.whole main_v9_1_scv) (lo i + (A i t1.val + t2.val)) (GX tX lX ix) ∗ late d i (Memref.whole main_v9_1_scv) (lo i) (A i t1.val + t2.val) (GX tX lX ix)) := by
  have ht : t2.val < A i (t1.val + 1) - A i t1.val := lt_of_lt_of_eq t2.isLt (trips2_in i t1).1
  have hdiv : (lo i + (A i t1.val + t2.val)) / 16 = lo i / 16 + t1.val := by rw [← Nat.add_assoc]; exact div_plane i t1.val t2.val ht
  have hp : lo i + (A i t1.val + t2.val) < 352 := by have := lo_le i; have := A_le i (t1.val + 1); omega
  have hG : ∀ j k, GX tX lX ix (lo i + (A i t1.val + t2.val)) (2048 * j + k)
      = rowv tX lX (lo i + (A i t1.val + t2.val)) (ivX ix (lo i / 16 + t1.val) j k).toNat := fun j k => by
    unfold GX ivX; rw [hdiv]
  have hX := ivX_lt ix hix (lo i / 16 + t1.val)
  have hs := src2 i t1 t2
  have hd := dst2 i t1 t2
  have hf := first2 i t1 t2
  rw [plane_eq]
  unfold plane
  refine wp_planeProg d i O W (Memref.whole main_v3_scv) (Memref.whole main_v7_scv) (Memref.whole main_v9_1_scv) tX lX ix q q' cc0_scratch3.sem cc0_scratch5.sem _ _ _ _ (lo i) (A i t1.val + t2.val)
    (by unfold held0 pvp; exact wp_stage d i O W (Memref.whole main_v3_scv) _ (Memref.whole main_v7_scv) tX lX q q' cc0_scratch3.sem cc0_scratch5.sem _ hp hs.1 hs.2.1 hs.2.2.1 hs.2.2.2) ?_ ?_
  · intro s sem cc hm
    simp only [Set.mem_insert_iff, Set.mem_singleton_iff, Prod.mk.injEq] at hm
    rcases hm with ⟨rfl, rfl, rfl⟩ | ⟨rfl, rfl, rfl⟩ | ⟨rfl, rfl, rfl⟩ | ⟨rfl, rfl, rfl⟩
    · exact wp_chunkA (lo i) _ _ 0 hf.1 hd.1.1 (fun Z => wp_gatherLoop d i _ (by decide) _ _ (chk := k0_chk33 i) (dec := k0_chk33.dec i) (hidx := fun w hw => k0_idx33_inb i w hw h1) (fun t u => rfl) k0_off138_eq k0_off139_eq (hX 0) fun w h _ => h) fun k _ => hG 0 k
    · exact wp_chunkA (lo i) _ _ 1 hf.2.1 hd.1.2.1 (fun Z => wp_gatherLoop d i _ (by decide) _ _ (chk := k0_chk34 i) (dec := k0_chk34.dec i) (hidx := fun w hw => k0_idx34_inb i w hw h1) (fun t u => rfl) k0_off142_eq k0_off143_eq (hX 1) fun w h _ => h) fun k _ => hG 1 k
    · exact wp_chunkA (lo i) _ _ 2 hf.2.2.1 hd.1.2.2.1 (fun Z => wp_gatherLoop d i _ (by decide) _ _ (chk := k0_chk35 i) (dec := k0_chk35.dec i) (hidx := fun w hw => k0_idx35_inb i w hw h1) (fun t u => rfl) k0_off146_eq k0_off147_eq (hX 2) fun w h _ => h) fun k _ => hG 2 k
    · exact wp_chunkA (lo i) _ _ 3 hf.2.2.2 hd.1.2.2.2 (fun Z => wp_gatherLoop d i _ (by decide) _ _ (chk := k0_chk36 i) (dec := k0_chk36.dec i) (hidx := fun w hw => k0_idx36_inb i w hw h1) (fun t u => rfl) k0_off150_eq k0_off151_eq (hX 3) fun w h _ => h) fun k _ => hG 3 k
  · intro s sem cc hm
    simp only [Set.mem_insert_iff, Set.mem_singleton_iff, Prod.mk.injEq] at hm
    rcases hm with ⟨rfl, rfl, rfl⟩ | ⟨rfl, rfl, rfl⟩ | ⟨rfl, rfl, rfl⟩ | ⟨rfl, rfl, rfl⟩
    · exact wp_chunkB _ 0 _ 4 hd.2.1 (fun Z => wp_gatherLoop d i _ (by decide) _ _ (chk := k0_chk37 i) (dec := k0_chk37.dec i) (hidx := fun w hw => k0_idx37_inb i w hw h1) (fun t u => rfl) k0_off153_eq k0_off154_eq (hX 4) fun w h _ => h) fun k _ => hG 4 k
    · exact wp_chunkB _ 1 _ 5 hd.2.2.1 (fun Z => wp_gatherLoop d i _ (by decide) _ _ (chk := k0_chk38 i) (dec := k0_chk38.dec i) (hidx := fun w hw => k0_idx38_inb i w hw h1) (fun t u => rfl) k0_off156_eq k0_off157_eq (hX 5) fun w h _ => h) fun k _ => hG 5 k
    · exact wp_chunkB _ 2 _ 6 hd.2.2.2.1 (fun Z => wp_gatherLoop d i _ (by decide) _ _ (chk := k0_chk39 i) (dec := k0_chk39.dec i) (hidx := fun w hw => k0_idx39_inb i w hw h1) (fun t u => rfl) k0_off159_eq k0_off160_eq (hX 6) fun w h _ => h) fun k _ => hG 6 k
    · exact wp_chunkB _ 3 _ 7 hd.2.2.2.2 (fun Z => wp_gatherLoop d i _ (by decide) _ _ (chk := k0_chk40 i) (dec := k0_chk40.dec i) (hidx := fun w hw => k0_idx40_inb i w hw h1) (fun t u => rfl) k0_off162_eq k0_off163_eq (hX 7) fun w h _ => h) fun k _ => hG 7 k

/-- The whole branch. -/
theorem wp_tile (hix : ∀ n, (ix n).toNat < 100000) :
    iprop(reads d i (Memref.whole main_v3_scv) (Memref.whole main_v7_scv) (Memref.whole main_v8_scv) tX lX ix q q' q''
        ∗ mine d i cc0_scratch4.sem cc0_scratch3.sem cc0_scratch5.sem cc0_scratch6.sem cc0_scratch7.sem cc0_scratch8.sem cc0_scratch9.sem
        ∗ rows d i (Memref.whole main_v9_1_scv) out0 ∗ Ow d i O W)
      ⊢ wp frame (wpE (defs₀ (F := F)) 𝒱₀ (thr d i) none) Set.univ
          (do
            k0_part56 (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c
            Prog.lift (.waitDma2 cc0_scratch9.sem (ovSl 3 inb_S4x2048_S1x2048_3_0) (outSl (Memref.whole main_v9_1_scv) (k0_off262 i) (k0_off262_inb i h1)) ((View.wordExact_bits rfl).reshape _ _) ((View.wordExact_bits rfl).reshape _ _)) : TP (F := F) i PUnit)
          fun _ => iprop(reads d i (Memref.whole main_v3_scv) (Memref.whole main_v7_scv) (Memref.whole main_v8_scv) tX lX ix q q' q''
            ∗ mine d i cc0_scratch4.sem cc0_scratch3.sem cc0_scratch5.sem cc0_scratch6.sem cc0_scratch7.sem cc0_scratch8.sem cc0_scratch9.sem
            ∗ rows d i (Memref.whole main_v9_1_scv) (GX tX lX ix) ∗ Ow d i O W) := by
  rw [branch_eq]
  refine wp_branch d i O W (Memref.whole main_v3_scv) (Memref.whole main_v7_scv) (Memref.whole main_v9_1_scv) (Memref.whole main_v8_scv) tX lX ix out0 q q' q'' _ _ _ _ _ _ _ _ _ _ _ _ _ (trips2_out i).1 (trips2_out i).2 fun t1 x => ?_
  rw [field_eq]
  exact wp_field d i O W (Memref.whole main_v3_scv) (Memref.whole main_v7_scv) (Memref.whole main_v9_1_scv) (Memref.whole main_v8_scv) tX lX ix out0 q q' q'' _ _ _ _ _ _ _ t1.val (idx2 i t1) _ _ _ _ _ _
    (trips2_in i t1).1 (trips2_in i t1).2 fun t2 u => wp_plane d i h1 v12 v14 v37 v61 _ c O W tX lX ix out0 q q' hix t1 t2 u

end Rules

end Dev

end Cert.Proof

end
-- ==== Proof.Tile.lean ====
/-
  A tile's whole body: what the launch hands a tile, the buffers and counters it owns, and the body run on the tile at
  any position, the mean's branch on the first sixteen tiles and the deviation's on the others.
-/
module

public import proofs.«01_k».proof.Proof.Mean
public import proofs.«01_k».proof.Proof.Deviation

@[expose] public section

noncomputable section

namespace Cert.Proof

open Cert.KernelIdeal Cert.KernelIdeal.Gen Cert.Proof.Pieces Cert.Proof.Coords
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

/-! ## Contents as functions of the position -/

/-- The contents of a table as a function of row and column, `z` outside. -/
def un2 {α : Type} {d : Fin 2 → ℕ} (z : α) (v : (⟨2, d⟩ : Shape).Idx → α) (r k : ℕ) : α :=
  if h : r < d 0 ∧ k < d 1 then v (fun a => match a with | 0 => ⟨r, h.1⟩ | 1 => ⟨k, h.2⟩) else z
/-- The contents of a vector as a function of the position, `z` outside. -/
def un1 {α : Type} {d : Fin 1 → ℕ} (z : α) (v : (⟨1, d⟩ : Shape).Idx → α) (k : ℕ) : α :=
  if h : k < d 0 then v (fun a => match a with | 0 => ⟨k, h⟩) else z

/-- Read back at an index, a table is itself. -/
theorem f2_un2 {α : Type} {d : Fin 2 → ℕ} (z : α) (v : (⟨2, d⟩ : Shape).Idx → α) : f2 (un2 z v) = v := by
  funext x
  unfold f2 un2
  rw [dif_pos (⟨(x 0).isLt, (x 1).isLt⟩ : (x 0).val < d 0 ∧ (x 1).val < d 1)]
  congr 1
  funext a
  match a with
  | 0 => rfl
  | 1 => rfl
/-- Read back at an index, a vector is itself. -/
theorem f1_un1 {α : Type} {d : Fin 1 → ℕ} (z : α) (v : (⟨1, d⟩ : Shape).Idx → α) : f1 (un1 z v) = v := by
  funext x
  unfold f1 un1
  rw [dif_pos (x 0).isLt]
  congr 1
  funext a
  match a with
  | 0 => rfl

variable {F : FTy → Type} [FloatOps F]

/-- A whole buffer held at a share is `part` at all its indices. -/
theorem whole_part {c : Thread nD τ} {sp : Space} {s : Shape} {e : EltTy} (m : Memref sig c.2.kind sp s e) (hm : m.view.set = Finset.univ)
    {q : PosShare TreeShare} {f : Buf (Elt F) (m.view.loc c)} {X : s.Idx → Elt F e} (h : ∀ x, m.view.read (Elt F) f x = X x) :
    (iprop(m.view.loc c ↦{q} f) : sProp (MM F)) = part c m q Finset.univ X := by
  rw [← part_eq fun x _ => h x, View.setOn_univ, hm]

/-! ## A tile's rows -/

/-- The 22 rows from row `l`. -/
def band (l : ℕ) : Finset S352x16384.Idx := Finset.univ.filter fun x => l ≤ (x 0).val ∧ (x 0).val < l + 22

section Rows

variable (d : Dev nD) (i : grid0.Coords) (out : Memref sig .scVector .hbm S352x16384 .f32) (X : ℕ → ℕ → Elt F .f32)

/-- A row is its eight chunks. -/
theorem row_chunks (p : ℕ) :
    (part (thr d i) out fullShare (seg2 p 0 16384) (f2 X) : sProp (MM F)) ⊣⊢ iprop(half1 d i out p X ∗ half2 d i out p X) := by
  have h : (seg2 p 0 16384 : Finset S352x16384.Idx) = (Finset.univ : Finset (Fin 8)).biUnion fun j => seg2 p (2048 * j.val) 2048 := by
    ext x
    rw [Finset.mem_biUnion, mem_seg2]
    constructor
    · rintro ⟨h0, -, h2⟩
      refine ⟨⟨(x 1).val / 2048, by omega⟩, Finset.mem_univ _, mem_seg2.2 ⟨h0, ?_⟩⟩
      dsimp only
      omega
    · rintro ⟨j, -, hj⟩
      obtain ⟨h0, h1, h2⟩ := mem_seg2.1 hj
      have := j.isLt
      omega
  rw [h, part_biUnion Finset.univ (fun j : Fin 8 => seg2 p (2048 * j.val) 2048) (fun a _ b _ hab => Finset.disjoint_left.2 fun x ha hb => by
      obtain ⟨-, h1, h2⟩ := mem_seg2.1 ha
      obtain ⟨-, h3, h4⟩ := mem_seg2.1 hb
      exact hab (Fin.ext (by omega))),
    show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  unfold half1 half2 outPart
  constructor
  · iintro ⟨H0, H1, H2, H3, H4, H5, H6, H7⟩
    isplitl [H0 H1 H2 H3]
    · isplitl [H0]; · iexact H0
      isplitl [H1]; · iexact H1
      isplitl [H2] <;> iassumption
    · isplitl [H4]; · iexact H4
      isplitl [H5]; · iexact H5
      isplitl [H6] <;> iassumption
  · iintro ⟨⟨H0, H1, H2, H3⟩, H4, H5, H6, H7⟩
    isplitl [H0]; · iexact H0
    isplitl [H1]; · iexact H1
    isplitl [H2]; · iexact H2
    isplitl [H3]; · iexact H3
    isplitl [H4]; · iexact H4
    isplitl [H5]; · iexact H5
    isplitl [H6] <;> iassumption

/-- A tile's band is its 22 rows. -/
theorem band_rows : (part (thr d i) out fullShare (band (lo i)) (f2 X) : sProp (MM F)) ⊣⊢ rows d i out X := by
  have h : band (lo i) = (Finset.univ : Finset (Fin 22)).biUnion fun p => seg2 (lo i + p.val) 0 16384 := by
    ext x
    rw [Finset.mem_biUnion]
    simp only [band, Finset.mem_filter, Finset.mem_univ, true_and]
    constructor
    · rintro ⟨h1, h2⟩
      have hx : (x 1).val < 16384 := (x 1).isLt
      exact ⟨⟨(x 0).val - lo i, by omega⟩, mem_seg2.2 ⟨by dsimp only; omega, by omega, by omega⟩⟩
    · rintro ⟨p, hp⟩
      obtain ⟨h0, -, -⟩ := mem_seg2.1 hp
      have := p.isLt
      omega
  have hb : (part (thr d i) out fullShare (band (lo i)) (f2 X) : sProp (MM F))
      = bigSep Finset.univ fun p : Fin 22 => part (thr d i) out fullShare (seg2 (lo i + p.val) 0 16384) (f2 X) := by
    rw [h, part_biUnion Finset.univ (fun p : Fin 22 => seg2 (lo i + p.val) 0 16384) (fun a _ b _ hab => Finset.disjoint_left.2 fun x ha hb => by
      obtain ⟨h1, -, -⟩ := mem_seg2.1 ha
      obtain ⟨h2, -, -⟩ := mem_seg2.1 hb
      exact hab (Fin.ext (by omega)))]
  rw [hb]
  unfold rows
  exact ⟨bigSep_mono fun p _ => (row_chunks d i out X _).1, bigSep_mono fun p _ => (row_chunks d i out X _).2⟩

end Rows

/-! ## What the tiles read and write -/

/-- The contents the launch finds in the arrays of the call: the two tables, their last columns, the indices, and what the
    two results held before. -/
structure Vals (F : FTy → Type) where
  tM : ℕ → ℕ → Elt F .f32
  tS : ℕ → ℕ → Elt F .f32
  lM : ℕ → ℕ → Elt F .f32
  lS : ℕ → ℕ → Elt F .f32
  ix : ℕ → BitVec 32
  oM : ℕ → ℕ → Elt F .f32
  oS : ℕ → ℕ → Elt F .f32

/-- The tile at core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The tile's share of an array every tile reads: its subcore's token of its core's token. -/
def tok (i : grid0.Coords) : PosShare TreeShare := shareTokN (shareTokN fullShare (i 0).val) (i 1).val

/-- The rows the tile writes of the gathered means, and of the gathered deviations. -/
def setM (i : grid0.Coords) : Finset S352x16384.Idx := if wid i < 16 then band (lo i) else ∅
def setS (i : grid0.Coords) : Finset S352x16384.Idx := if wid i < 16 then ∅ else band (lo i)

section Deal

variable (d : Dev nD) (i : grid0.Coords) (v : Vals F)

/-- What a tile may read. -/
def readV : sProp (MM F) :=
  iprop(reads d i (Memref.whole main_v1_scv) (Memref.whole main_v5_scv) (Memref.whole main_v8_scv) v.tM v.lM v.ix (tok i) (tok i) (tok i)
    ∗ tabs d i (Memref.whole main_v3_scv) (Memref.whole main_v7_scv) v.tS v.lS (tok i) (tok i))
/-- What a tile may write, the results reading `X` and `Y`. -/
def outV (X Y : ℕ → ℕ → Elt F .f32) : sProp (MM F) :=
  iprop(part (thr d i) (Memref.whole main_v9_0_scv) fullShare (setM i) (f2 X) ∗ part (thr d i) (Memref.whole main_v9_1_scv) fullShare (setS i) (f2 Y))
/-- What a tile is handed, and what it hands back. -/
def goV : sProp (MM F) := iprop(readV d i v ∗ outV d i v.oM v.oS)
def tdV : sProp (MM F) := iprop(readV d i v ∗ outV d i (GX v.tM v.lM v.ix) (GX v.tS v.lS v.ix))

instance : Storable (upEmb : UEmb _ (MM F)) (goV d i v) := by unfold goV readV outV reads tabs; infer_instance
instance : Storable (upEmb : UEmb _ (MM F)) (tdV d i v) := by unfold tdV readV outV reads tabs; infer_instance

end Deal

/-! ## What a tile owns -/

section Own

variable (d : Dev nD) (i : grid0.Coords)

/-- A counter of the tile. -/
abbrev cell (sm : DmaSem sig) : GSem nD τ sig := (thr d i, .dma sm)

omit [FloatOps F] in
/-- A counter kept for the tile's own copies is among the counters it owns. -/
theorem cell_mem (sm : DmaSem sig) (h : (SemLoc.dma sm : SemLoc sig).isScoped .scVector = true) : cell d i sm ∈ ownCells (thr d i) :=
  (mem_ownCells (g := cell d i sm)).mpr ⟨rfl, h⟩

/-- The counters a tile owns beside the seven it counts its copies with. -/
def restCells : Finset (GSem nD τ sig) :=
  (((((((ownCells (thr d i)).erase (cell d i cc0_scratch3.sem)).erase (cell d i cc0_scratch4.sem)).erase (cell d i cc0_scratch5.sem)).erase
    (cell d i cc0_scratch6.sem)).erase (cell d i cc0_scratch7.sem)).erase (cell d i cc0_scratch8.sem)).erase (cell d i cc0_scratch9.sem)

theorem cell_ne {a b : DmaSem sig} (h : a ≠ b) : cell d i a ≠ cell d i b := fun e => h (SemLoc.dma.inj (Prod.mk.inj e).2)

/-- The counters a tile owns: the seven and the others. -/
theorem ownSems_tile :
    (ownSems0 (thr d i) : sProp (MM F))
      = iprop(semVal (cell d i cc0_scratch3.sem) 0 ∗ semVal (cell d i cc0_scratch4.sem) 0 ∗ semVal (cell d i cc0_scratch5.sem) 0
          ∗ semVal (cell d i cc0_scratch6.sem) 0 ∗ semVal (cell d i cc0_scratch7.sem) 0 ∗ semVal (cell d i cc0_scratch8.sem) 0
          ∗ semVal (cell d i cc0_scratch9.sem) 0 ∗ bigSep (restCells d i) fun g => semVal g 0) := by
  have m : ∀ {s : Finset (GSem nD τ sig)} {a b : DmaSem sig}, a ≠ b → cell d i a ∈ s → cell d i a ∈ s.erase (cell d i b) :=
    fun h hs => Finset.mem_erase.2 ⟨cell_ne d i h, hs⟩
  unfold SparseCore.Cfg.ownSems0 restCells
  rw [SparseCore.bigSep_erase' (cell_mem d i cc0_scratch3.sem (by decide)),
    SparseCore.bigSep_erase' (m (by decide) (cell_mem d i cc0_scratch4.sem (by decide))),
    SparseCore.bigSep_erase' (m (by decide) (m (by decide) (cell_mem d i cc0_scratch5.sem (by decide)))),
    SparseCore.bigSep_erase' (m (by decide) (m (by decide) (m (by decide) (cell_mem d i cc0_scratch6.sem (by decide))))),
    SparseCore.bigSep_erase' (m (by decide) (m (by decide) (m (by decide) (m (by decide) (cell_mem d i cc0_scratch7.sem (by decide)))))),
    SparseCore.bigSep_erase' (m (by decide) (m (by decide) (m (by decide) (m (by decide) (m (by decide) (cell_mem d i cc0_scratch8.sem (by decide))))))),
    SparseCore.bigSep_erase' (m (by decide) (m (by decide) (m (by decide) (m (by decide) (m (by decide) (m (by decide) (cell_mem d i cc0_scratch9.sem (by decide))))))))]

/-- The tile's processor, and the buffers it owns beside the three it works in. -/
abbrev proc : Proc τ := (.scVector ((i 0).castLE hcore0) ((i 1).castLE hsub0))
def restRefs : Finset (DevRef τ sig) :=
  (((ownRefs (τ := τ) (sig := sig) (proc i)).erase ((proc i).devRef cc0_scratch0)).erase ((proc i).devRef cc0_scratch1)).erase ((proc i).devRef cc0_scratch2)

/-- The buffers a tile owns: the three it works in and the others. -/
theorem ownBufs_tile :
    (ownBufs (thr d i) : sProp (MM F))
      = iprop((∃ f, (thr d i).loc cc0_scratch0 ↦{fullShare} f) ∗ (∃ f, (thr d i).loc cc0_scratch1 ↦{fullShare} f)
          ∗ (∃ f, (thr d i).loc cc0_scratch2 ↦{fullShare} f)
          ∗ bigSep (restRefs i) fun b => iprop(∃ f, ((d, b) : Loc nD τ sig) ↦{fullShare} f)) := by
  unfold SparseCore.Cfg.ownBufs restRefs
  refine (SparseCore.bigSep_erase' (SparseCore.Cfg.mem_ownRefs_of_owner (p := proc i) (b := (proc i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := proc i) (b := (proc i).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := proc i) (b := (proc i).devRef cc0_scratch2) rfl⟩⟩)]

/-- A value of an element type, read nowhere. -/
def junk (e : EltTy) : Elt F e := Classical.arbitrary _

/-- The result rows' buffer is its four rows. -/
theorem ov_rows : iprop(∃ f, (thr d i).loc cc0_scratch2 ↦{fullShare} f) ⊣⊢ (iprop(ovAny d i 0 ∗ ovAny d i 1 ∗ ovAny d i 2 ∗ ovAny d i 3) : sProp (MM F)) := by
  have hs : (part (thr d i) ovW fullShare Finset.univ : (S4x2048.Idx → Elt F .f32) → sProp (MM F)) = fun X =>
      iprop(part (thr d i) ovW fullShare (seg2 0 0 2048) X ∗ part (thr d i) ovW fullShare (seg2 1 0 2048) X
        ∗ part (thr d i) ovW fullShare (seg2 2 0 2048) X ∗ part (thr d i) ovW fullShare (seg2 3 0 2048) X) := by
    funext X
    have h : (Finset.univ : Finset S4x2048.Idx) = (Finset.univ : Finset (Fin 4)).biUnion fun j => seg2 j.val 0 2048 := by
      ext x
      have hx : (x 1).val < 2048 := (x 1).isLt
      simp only [Finset.mem_univ, Finset.mem_biUnion, true_and, true_iff]
      exact ⟨⟨(x 0).val, (x 0).isLt⟩, mem_seg2.2 ⟨rfl, by omega, by omega⟩⟩
    rw [h, part_biUnion Finset.univ (fun j : Fin 4 => seg2 j.val 0 2048) (fun a _ b _ hab => Finset.disjoint_left.2 fun x ha hb =>
        hab (Fin.ext ((mem_seg2.1 ha).1.symm.trans (mem_seg2.1 hb).1))),
      show (Finset.univ : Finset (Fin 4)) = {0, 1, 2, 3} by decide,
      SparseCore.bigSep_insert' (by decide), SparseCore.bigSep_insert' (by decide), SparseCore.bigSep_insert' (by decide), bigSep_singleton]
    rfl
  have hw : ∀ f, (iprop((thr d i).loc cc0_scratch2 ↦{fullShare} f) : sProp (MM F)) = part (thr d i) ovW fullShare Finset.univ f := fun f =>
    whole_part (c := thr d i) ovW (View.set_whole _) fun _ => rfl
  have hr : ∀ (s : ℕ) (X : ℕ → ℕ → Elt F .f32), (part (thr d i) ovW fullShare (seg2 s 0 2048) (f2 X) : sProp (MM F))
      = part (thr d i) ovW fullShare (seg2 s 0 2048) (f2 fun _ k => X s k) := fun s X => part_congr fun x hx => by
    unfold f2; rw [(mem_seg2.1 hx).1]
  simp only [hw]
  unfold ovAny
  constructor
  · iintro ⟨%f, H⟩
    have he : (part (thr d i) ovW fullShare Finset.univ f : sProp (MM F)) = part (thr d i) ovW fullShare Finset.univ (f2 (un2 (junk _) f)) := by rw [f2_un2]
    ihave H := (Entails.of_eq (he.trans ((congrFun hs _).trans (by beta_reduce; rw [hr 0, hr 1, hr 2, hr 3])))) $$ H
    icases H with ⟨H0, H1, H2, H3⟩
    isplitl [H0]; · iexists _; iexact H0
    isplitl [H1]; · iexists _; iexact H1
    isplitl [H2]; · iexists _; iexact H2
    iexists _; iexact H3
  · iintro ⟨⟨%Z0, H0⟩, ⟨%Z1, H1⟩, ⟨%Z2, H2⟩, %Z3, H3⟩
    have hj := (congrFun hs (f2 fun s k => if s = 0 then Z0 k else if s = 1 then Z1 k else if s = 2 then Z2 k else Z3 k)).trans
      (by beta_reduce; rw [hr 0, hr 1, hr 2, hr 3])
    iexists (f2 fun s k => if s = 0 then Z0 k else if s = 1 then Z1 k else if s = 2 then Z2 k else Z3 k)
    iapply (Entails.of_eq hj.symm)
    isplitl [H0]; · iexact H0
    isplitl [H1]; · iexact H1
    isplitl [H2]; · iexact H2
    iexact H3

/-- The three buffers and seven counters, as the body uses them. -/
theorem mine_iff :
    (iprop((∃ f, (thr d i).loc cc0_scratch0 ↦{fullShare} f) ∗ (∃ f, (thr d i).loc cc0_scratch1 ↦{fullShare} f) ∗ (∃ f, (thr d i).loc cc0_scratch2 ↦{fullShare} f)
        ∗ semVal (cell d i cc0_scratch3.sem) 0 ∗ semVal (cell d i cc0_scratch4.sem) 0 ∗ semVal (cell d i cc0_scratch5.sem) 0
        ∗ semVal (cell d i cc0_scratch6.sem) 0 ∗ semVal (cell d i cc0_scratch7.sem) 0 ∗ semVal (cell d i cc0_scratch8.sem) 0 ∗ semVal (cell d i cc0_scratch9.sem) 0) : sProp (MM F))
      ⊣⊢ mine d i cc0_scratch4.sem cc0_scratch3.sem cc0_scratch5.sem cc0_scratch6.sem cc0_scratch7.sem cc0_scratch8.sem cc0_scratch9.sem := by
  have hp : ∀ f, (iprop((thr d i).loc cc0_scratch0 ↦{fullShare} f) : sProp (MM F)) = part (thr d i) pvW fullShare Finset.univ f := fun f =>
    whole_part (c := thr d i) pvW (View.set_whole _) fun _ => rfl
  have hi : ∀ f, (iprop((thr d i).loc cc0_scratch1 ↦{fullShare} f) : sProp (MM F)) = part (thr d i) ivW fullShare Finset.univ f := fun f =>
    whole_part (c := thr d i) ivW (View.set_whole _) fun _ => rfl
  simp only [hp, hi]
  unfold mine ivp pvp
  constructor
  · iintro ⟨⟨%f0, H0⟩, ⟨%f1, H1⟩, H2, S3, S4, S5, S⟩
    ihave H2 := (ov_rows (F := F) d i).1 $$ H2
    have e0 : (part (thr d i) pvW fullShare Finset.univ f0 : sProp (MM F)) = part (thr d i) pvW fullShare Finset.univ (Pieces.f1 (un1 (junk _) f0)) := by rw [f1_un1]
    have e1 : (part (thr d i) ivW fullShare Finset.univ f1 : sProp (MM F)) = part (thr d i) ivW fullShare Finset.univ (f2 (un2 0#32 f1)) := by rw [f2_un2]
    ihave H0 := (Entails.of_eq e0) $$ H0
    ihave H1 := (Entails.of_eq e1) $$ H1
    isplitl [H1]; · iexists _; iexact H1
    isplitl [H0]; · iexists _; iexact H0
    isplitl [H2]; · iexact H2
    isplitl [S3]; · iexact S3
    isplitl [S4]; · iexact S4
    isplitl [S5]; · iexact S5
    iexact S
  · iintro ⟨⟨%X, H1⟩, ⟨%Y, H0⟩, H2, S3, S4, S5, S⟩
    ihave H2 := (ov_rows (F := F) d i).2 $$ H2
    isplitl [H0]; · iexists _; iexact H0
    isplitl [H1]; · iexists _; iexact H1
    isplitl [H2]; · iexact H2
    isplitl [S3]; · iexact S3
    isplitl [S4]; · iexact S4
    isplitl [S5]; · iexact S5
    iexact S

end Own

/-! ## The body -/

section Body

variable (d : Dev nD) (i : grid0.Coords) (v : Vals F) (O : CellTallies nD τ sig (HIx 1)) (W : Waits sig (HIx 1))

/-- The body on the tile's buffers. -/
def bodyV : TP (F := F) i PUnit :=
  cc0__sc_gather_body i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9

/-- On a tile of the mean the body is the mean's branch. -/
theorem body_mean (h1 : k0_cond1 i = 1#1) (h18 : ¬ k0_cond18 i = 1#1) : ∃ v12 v14 v37 v61 c : BitVec 32, bodyV (F := F) i = (do
    k0_part28 (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h1 v37 v61 c
    Prog.lift (.waitDma2 cc0_scratch9.sem (ovSl 3 inb_S4x2048_S1x2048_3_0) (outSl (Memref.whole main_v9_0_scv) (k0_off131 i) (k0_off131_inb i h1)) ((View.wordExact_bits rfl).reshape _ _) ((View.wordExact_bits rfl).reshape _ _)) : TP (F := F) i PUnit) := by
  unfold bodyV
  simp only [cc0__sc_gather_body_eq_skeleton]; unfold cc0__sc_gather_body_skel
  simp only [k0_part27_eq_skeleton, k0_part55_eq_skeleton]; unfold k0_part27_skel k0_part55_skel
  simp only [dif_pos h1, dif_neg h18, Prog.lift, Prog.bind_op, Prog.bind_ret, Prog.pure_eq_ret, Prog.bind_assoc]
  exact ⟨_, _, _, _, _, rfl⟩

/-- On a tile of the deviation the body is the deviation's branch. -/
theorem body_dev (h1 : ¬ k0_cond1 i = 1#1) (h18 : k0_cond18 i = 1#1) : ∃ v12 v14 v37 v61 c : BitVec 32, bodyV (F := F) i = (do
    k0_part56 (F := F) i (Memref.whole main_v1_scv) (Memref.isWhole_whole _) (Memref.whole main_v3_scv) (Memref.isWhole_whole _) (Memref.whole main_v8_scv) (Memref.isWhole_whole _) (Memref.whole main_v5_scv) (Memref.isWhole_whole _) (Memref.whole main_v7_scv) (Memref.isWhole_whole _) (Memref.whole main_v9_0_scv) (Memref.isWhole_whole _) (Memref.whole main_v9_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 v12 v14 h18 v37 v61 c
    Prog.lift (.waitDma2 cc0_scratch9.sem (ovSl 3 inb_S4x2048_S1x2048_3_0) (outSl (Memref.whole main_v9_1_scv) (k0_off262 i) (k0_off262_inb i h18)) ((View.wordExact_bits rfl).reshape _ _) ((View.wordExact_bits rfl).reshape _ _)) : TP (F := F) i PUnit) := by
  unfold bodyV
  simp only [cc0__sc_gather_body_eq_skeleton]; unfold cc0__sc_gather_body_skel
  simp only [k0_part27_eq_skeleton, k0_part55_eq_skeleton]; unfold k0_part27_skel k0_part55_skel
  simp only [dif_neg h1, dif_pos h18, Prog.lift, Prog.bind_op, Prog.bind_ret, Prog.pure_eq_ret, Prog.bind_assoc]
  exact ⟨_, _, _, _, _, rfl⟩

/-- The body run on a tile: its rows of the two results hold the gathered values. -/
theorem wp_body (hix : ∀ n, (v.ix n).toNat < 100000) :
    iprop(goV d i v ∗ mine d i cc0_scratch4.sem cc0_scratch3.sem cc0_scratch5.sem cc0_scratch6.sem cc0_scratch7.sem cc0_scratch8.sem cc0_scratch9.sem ∗ Ow d i O W)
      ⊢ wp frame (wpE (defs₀ (F := F)) 𝒱₀ (thr d i) none) Set.univ (bodyV i)
          fun _ => iprop(tdV d i v ∗ mine d i cc0_scratch4.sem cc0_scratch3.sem cc0_scratch5.sem cc0_scratch6.sem cc0_scratch7.sem cc0_scratch8.sem cc0_scratch9.sem ∗ Ow d i O W) := by
  unfold goV tdV outV readV
  by_cases hw : wid i < 16
  · have h1 : k0_cond1 i = 1#1 := (cond1_iff i).2 hw
    have h18 : ¬ k0_cond18 i = 1#1 := fun h => (cond18_iff i).1 h hw
    have eM : setM i = band (lo i) := if_pos hw
    have eS : (part (thr d i) (Memref.whole main_v9_1_scv) fullShare (setS i) (f2 v.oS) : sProp (MM F)) = part (thr d i) (Memref.whole main_v9_1_scv) fullShare (setS i) (f2 (GX v.tS v.lS v.ix)) :=
      part_congr fun x hx => absurd hx (by unfold setS; rw [if_pos hw]; exact Finset.notMem_empty _)
    obtain ⟨v12, v14, v37, v61, c, he⟩ := body_mean (F := F) i h1 h18
    rw [he, eM, eS]
    iintro ⟨⟨⟨Hr, Hr'⟩, Ho, Hs⟩, Hm, HO⟩
    ihave Ho := (band_rows (F := F) d i _ _).1 $$ Ho
    iapply (wp_wand_r frame _ Set.univ); isplitl [Hr Ho Hm HO]
    · iapply (Mean.wp_tile (F := F) d i h1 v12 v14 v37 v61 c O W v.tM v.lM v.ix v.oM (tok i) (tok i) (tok i) hix)
      isplitl [Hr]; · iexact Hr
      isplitl [Hm]; · iexact Hm
      isplitl [Ho] <;> iassumption
    iintro %_ ⟨Hr, Hm, Ho, HO⟩
    ihave Ho := (band_rows (F := F) d i _ _).2 $$ Ho
    isplitl [Hr Hr' Ho Hs]
    · isplitl [Hr Hr']
      · isplitl [Hr] <;> iassumption
      isplitl [Ho] <;> iassumption
    isplitl [Hm] <;> iassumption
  · have h1 : ¬ k0_cond1 i = 1#1 := fun h => hw ((cond1_iff i).1 h)
    have h18 : k0_cond18 i = 1#1 := (cond18_iff i).2 hw
    have eS : setS i = band (lo i) := if_neg hw
    have eM : (part (thr d i) (Memref.whole main_v9_0_scv) fullShare (setM i) (f2 v.oM) : sProp (MM F)) = part (thr d i) (Memref.whole main_v9_0_scv) fullShare (setM i) (f2 (GX v.tM v.lM v.ix)) :=
      part_congr fun x hx => absurd hx (by unfold setM; rw [if_neg hw]; exact Finset.notMem_empty _)
    obtain ⟨v12, v14, v37, v61, c, he⟩ := body_dev (F := F) i h1 h18
    rw [he, eM, eS]
    unfold reads
    iintro ⟨⟨⟨⟨Hr', Hx⟩, Ht⟩, Hs, Ho⟩, Hm, HO⟩
    ihave Ho := (band_rows (F := F) d i _ _).1 $$ Ho
    iapply (wp_wand_r frame _ Set.univ); isplitl [Hx Ht Ho Hm HO]
    · iapply (Dev.wp_tile (F := F) d i h18 v12 v14 v37 v61 c O W v.tS v.lS v.ix v.oS (tok i) (tok i) (tok i) hix)
      unfold reads
      isplitl [Hx Ht]
      · isplitl [Ht] <;> iassumption
      isplitl [Hm]; · iexact Hm
      isplitl [Ho] <;> iassumption
    iintro %_ ⟨Hr, Hm, Ho, HO⟩
    ihave Hr := (show reads d i (Memref.whole main_v3_scv) (Memref.whole main_v7_scv) (Memref.whole main_v8_scv) v.tS v.lS v.ix (tok i) (tok i) (tok i)
      ⊢ iprop(tabs d i (Memref.whole main_v3_scv) (Memref.whole main_v7_scv) v.tS v.lS (tok i) (tok i)
        ∗ part (thr d i) (Memref.whole main_v8_scv) (tok i) Finset.univ (Pieces.f1 v.ix)) from .rfl) $$ Hr
    icases Hr with ⟨Ht, Hx⟩
    ihave Ho := (band_rows (F := F) d i _ _).2 $$ Ho
    isplitl [Hr' Hx Ht Ho Hs]
    · isplitl [Hr' Hx Ht]
      · isplitl [Hr' Hx]
        · isplitl [Hr'] <;> iassumption
        iexact Ht
      isplitl [Hs] <;> iassumption
    isplitl [Hm] <;> iassumption

/-- The body run on a tile from what the launch gives the tile's thread. -/
theorem tile_body (hF : (K (F := F)).Facts) (hix : ∀ n, (v.ix n).toNat < 100000) (hO : ∀ g, O g none = 0) :
    iprop(levAts (K (F := F)).L (K (F := F)).lev ∗ emp ∗ goV d i v ∗ scopedBufs (thr d i) ∗ scopedSems0 (thr d i) ∗ owes (thr d i) O W)
      ⊢ wp frame (wpE (defs₀ (F := F)) 𝒱₀ (thr d i) none) Set.univ (bodyV i)
          fun _ => iprop(tdV d i v ∗ scopedBufs (thr d i) ∗ scopedSems0 (thr d i) ∗ ∃ W', ⌜∀ p ∈ W', p ∈ W ∨ p.2 = none⌝ ∗ owes (thr d i) O W') := by
  rw [(K (F := F)).scopedBufs_V hF d ((i 0).castLE hcore0) ((i 1).castLE hsub0),
    SparseCore.Cfg.scopedSems0_V (Val := Elt F) d ((i 0).castLE hcore0) ((i 1).castLE hsub0), ownSems_tile, ownBufs_tile]
  iintro ⟨#Hlv, -, Hgo, ⟨Hb0, Hb1, Hb2, Hbufs⟩, ⟨S3, S4, S5, S6, S7, S8, S9, Hsems⟩, HO⟩
  ihave Hmw := ((K (F := F)).mayWaits_none (thr := thr d i) hO) $$ Hlv
  iapply (wp_wand_r frame _ Set.univ); isplitl [Hgo Hb0 Hb1 Hb2 S3 S4 S5 S6 S7 S8 S9 HO Hmw]
  · iapply (wp_body (F := F) d i v O W hix)
    isplitl [Hgo]; · iexact Hgo
    isplitl [Hb0 Hb1 Hb2 S3 S4 S5 S6 S7 S8 S9]
    · iapply (mine_iff (F := F) d i).1
      isplitl [Hb0]; · iexact Hb0
      isplitl [Hb1]; · iexact Hb1
      isplitl [Hb2]; · iexact Hb2
      isplitl [S3]; · iexact S3
      isplitl [S4]; · iexact S4
      isplitl [S5]; · iexact S5
      isplitl [S6]; · iexact S6
      isplitl [S7]; · iexact S7
      isplitl [S8] <;> iassumption
    · unfold Ow
      isplitl [Hmw]; · iexact Hmw
      iexists W; isplitr
      · ipureintro; exact fun p hp => .inl hp
      · iexact HO
  unfold Ow
  iintro %_ ⟨Htd, Hm, -, HO⟩
  ihave Hm := (mine_iff (F := F) d i).2 $$ Hm
  icases Hm with ⟨Hb0, Hb1, Hb2, S3, S4, S5, S6, S7, S8, S9⟩
  isplitl [Htd]; · iexact Htd
  isplitl [Hb0 Hb1 Hb2 Hbufs]
  · isplitl [Hb0]; · iexact Hb0
    isplitl [Hb1]; · iexact Hb1
    isplitl [Hb2] <;> iassumption
  isplitl [S3 S4 S5 S6 S7 S8 S9 Hsems]
  · isplitl [S3]; · iexact S3
    isplitl [S4]; · iexact S4
    isplitl [S5]; · iexact S5
    isplitl [S6]; · iexact S6
    isplitl [S7]; · iexact S7
    isplitl [S8]; · iexact S8
    isplitl [S9] <;> iassumption
  iexact HO

end Body

end Cert.Proof

end
-- ==== Proof.Host.lean ====
/-
  The host program as three stretches of operations around the two kernel calls: before the SparseCore call, between the
  two calls, after the TensorCore call.
-/
module

public import proofs.«01_k».proof.Proof.Base
public import Idealize.ShloMosaic.Lib.Pipeline.Frame
public import Idealize.ShloMosaic.Lib.StableHlo.Run

@[expose] public section

noncomputable section

namespace Cert.Proof

open Cert.KernelIdeal Cert.KernelIdeal.Gen
open Idealize.ShloMosaic Idealize.ShloMosaic.TcCoe Idealize.SL.Sem Idealize.ShloMosaic.StableHlo

variable {F : FTy → Type} [FloatOps F]

/-- The host operations before the SparseCore call: the two tables as planes, their tails, the indices in one row (a called function's operations stand in its call's place). -/
abbrev opsA : List (HloOp τ sig (Elt F)) :=
  [ nullary main_c (fun i => lit0 (S231.rowMajor i)),
    nullary main_c_0 (fun i => lit1 (S231.rowMajor i)),
    unary main_arg0 main_v0 ((transpose S22x16x100000 [0, 2, 1] · transposes_S22x100000x16_S22x16x100000_0_2_1) : (⟨S22x100000x16, .f32⟩ : BufTy).Contents (Elt F) → (⟨S22x16x100000, .f32⟩ : BufTy).Contents (Elt F)),
    reshape main_v0 main_v1 (rfl : (.f32 : EltTy) = .f32) shapeCasts_S22x16x100000_S352x100000,
    unary main_arg1 main_v2 ((transpose S22x16x100000 [0, 2, 1] · transposes_S22x100000x16_S22x16x100000_0_2_1) : (⟨S22x100000x16, .f32⟩ : BufTy).Contents (Elt F) → (⟨S22x16x100000, .f32⟩ : BufTy).Contents (Elt F)),
    reshape main_v2 main_v3 (rfl : (.f32 : EltTy) = .f32) shapeCasts_S22x16x100000_S352x100000,
    unary main_v1 main_v4 ((extractStridedSlice S352x160 ![0, 99840] · slices_S352x100000_S352x160_0_99840) : (⟨S352x100000, .f32⟩ : BufTy).Contents (Elt F) → (⟨S352x160, .f32⟩ : BufTy).Contents (Elt F)),
    nullary main_c_1 (constantI S_ 32 0#32),
    TRef.unary (TRef.of (T := ⟨S_, .i32⟩) main_c_1) (TRef.of (T := ⟨S_, .f32⟩) main_call0_v0) (sitofp .f32),
    TRef.binary (TRef.of (T := ⟨S352x160, .f32⟩) main_v4) (TRef.of (T := ⟨S_, .f32⟩) main_call0_v0) (TRef.of (T := ⟨S352x256, .f32⟩) main_v5) (fun x v => pad S352x256 ![0, 0] ![0, 96] ![0, 0] x v pads_S352x160_S352x256_000_0960 h_S_),
    unary main_v3 main_v6 ((extractStridedSlice S352x160 ![0, 99840] · slices_S352x100000_S352x160_0_99840) : (⟨S352x100000, .f32⟩ : BufTy).Contents (Elt F) → (⟨S352x160, .f32⟩ : BufTy).Contents (Elt F)),
    nullary main_c_2 (constantI S_ 32 0#32),
    TRef.unary (TRef.of (T := ⟨S_, .i32⟩) main_c_2) (TRef.of (T := ⟨S_, .f32⟩) main_call1_v0) (sitofp .f32),
    TRef.binary (TRef.of (T := ⟨S352x160, .f32⟩) main_v6) (TRef.of (T := ⟨S_, .f32⟩) main_call1_v0) (TRef.of (T := ⟨S352x256, .f32⟩) main_v7) (fun x v => pad S352x256 ![0, 0] ![0, 96] ![0, 0] x v pads_S352x160_S352x256_000_0960 h_S_),
    reshape main_arg5 main_v8 (rfl : (.i32 : EltTy) = .i32) shapeCasts_S22x16384_S360448 ]

/-- The host operations between the two calls: the pair matrix, the two rows of the linear part, the noise transposed. -/
abbrev opsB : List (HloOp τ sig (Elt F)) :=
  [ TRef.unary (TRef.of (T := ⟨S231, .i32⟩) main_c) (TRef.of (T := ⟨S231x1, .i32⟩) main_call2_v0) (broadcastInDim S231x1 ![0] bcast_S231_S231x1_0),
    TRef.nullary (TRef.of (T := ⟨S1x22, .i32⟩) main_call2_v1) (iotaInDim S1x22 32 1),
    TRef.unary (TRef.of (T := ⟨S231x1, .i32⟩) main_call2_v0) (TRef.of (T := ⟨S231x22, .i32⟩) main_call2_v2) (broadcastInDim S231x22 ![0, 1] bcast_S231x1_S231x22_0_1),
    TRef.unary (TRef.of (T := ⟨S1x22, .i32⟩) main_call2_v1) (TRef.of (T := ⟨S231x22, .i32⟩) main_call2_v3) (broadcastInDim S231x22 ![0, 1] bcast_S1x22_S231x22_0_1),
    TRef.binary (TRef.of (T := ⟨S231x22, .i32⟩) main_call2_v2) (TRef.of (T := ⟨S231x22, .i32⟩) main_call2_v3) (TRef.of (T := ⟨S231x22, .i1⟩) main_call2_v4) (cmpi .eq),
    TRef.unary (TRef.of (T := ⟨S231x22, .i1⟩) main_call2_v4) (TRef.of (T := ⟨S231x22, .f32⟩) main_v10) (uitofp .f32),
    TRef.unary (TRef.of (T := ⟨S231, .i32⟩) main_c_0) (TRef.of (T := ⟨S231x1, .i32⟩) main_call3_v0) (broadcastInDim S231x1 ![0] bcast_S231_S231x1_0),
    TRef.nullary (TRef.of (T := ⟨S1x22, .i32⟩) main_call3_v1) (iotaInDim S1x22 32 1),
    TRef.unary (TRef.of (T := ⟨S231x1, .i32⟩) main_call3_v0) (TRef.of (T := ⟨S231x22, .i32⟩) main_call3_v2) (broadcastInDim S231x22 ![0, 1] bcast_S231x1_S231x22_0_1),
    TRef.unary (TRef.of (T := ⟨S1x22, .i32⟩) main_call3_v1) (TRef.of (T := ⟨S231x22, .i32⟩) main_call3_v3) (broadcastInDim S231x22 ![0, 1] bcast_S1x22_S231x22_0_1),
    TRef.binary (TRef.of (T := ⟨S231x22, .i32⟩) main_call3_v2) (TRef.of (T := ⟨S231x22, .i32⟩) main_call3_v3) (TRef.of (T := ⟨S231x22, .i1⟩) main_call3_v4) (cmpi .eq),
    TRef.unary (TRef.of (T := ⟨S231x22, .i1⟩) main_call3_v4) (TRef.of (T := ⟨S231x22, .f32⟩) main_v11) (uitofp .f32),
    nullary main_v12 (iotaInDim S16x16 32 0),
    nullary main_v13 (iotaInDim S16x16 32 1),
    nullary main_c_3 (constantI S_ 32 0#32),
    unary main_c_3 main_v14 (broadcastInDim S16x16 ![] bcast_S_S16x16 : (⟨S_, .i32⟩ : BufTy).Contents (Elt F) → (⟨S16x16, .i32⟩ : BufTy).Contents (Elt F)),
    binary main_v12 main_v14 main_v15 (addi : (⟨S16x16, .i32⟩ : BufTy).Contents (Elt F) → (⟨S16x16, .i32⟩ : BufTy).Contents (Elt F) → (⟨S16x16, .i32⟩ : BufTy).Contents (Elt F)),
    binary main_v15 main_v13 main_v16 (cmpi .eq : (⟨S16x16, .i32⟩ : BufTy).Contents (Elt F) → (⟨S16x16, .i32⟩ : BufTy).Contents (Elt F) → (⟨S16x16, .i1⟩ : BufTy).Contents (Elt F)),
    unary main_v16 main_v17 (uitofp .f32 : (⟨S16x16, .i1⟩ : BufTy).Contents (Elt F) → (⟨S16x16, .f32⟩ : BufTy).Contents (Elt F)),
    unary main_arg2 main_v18 ((extractStridedSlice S231x1x2x16 ![0, 1, 0, 0] · slices_S231x4x2x16_S231x1x2x16_0_1_0_0) : (⟨S231x4x2x16, .f32⟩ : BufTy).Contents (Elt F) → (⟨S231x1x2x16, .f32⟩ : BufTy).Contents (Elt F)),
    reshape main_v18 main_v19 (rfl : (.f32 : EltTy) = .f32) shapeCasts_S231x1x2x16_S231x2x16,
    unary main_arg4 main_v20 ((extractStridedSlice S1 ![1] · slices_S5_S1_1) : (⟨S5, .f32⟩ : BufTy).Contents (Elt F) → (⟨S1, .f32⟩ : BufTy).Contents (Elt F)),
    reshape main_v20 main_v21 (rfl : (.f32 : EltTy) = .f32) shapeCasts_S1_S_,
    unary main_v21 main_v22 (broadcastInDim S231x2x16 ![] bcast_S_S231x2x16 : (⟨S_, .f32⟩ : BufTy).Contents (Elt F) → (⟨S231x2x16, .f32⟩ : BufTy).Contents (Elt F)),
    binary main_v19 main_v22 main_v23 (mulf : (⟨S231x2x16, .f32⟩ : BufTy).Contents (Elt F) → (⟨S231x2x16, .f32⟩ : BufTy).Contents (Elt F) → (⟨S231x2x16, .f32⟩ : BufTy).Contents (Elt F)),
    unary main_v10 main_v24 (broadcastInDim S231x22x1 ![0, 1] bcast_S231x22_S231x22x1_0_1 : (⟨S231x22, .f32⟩ : BufTy).Contents (Elt F) → (⟨S231x22x1, .f32⟩ : BufTy).Contents (Elt F)),
    unary main_v11 main_v25 (broadcastInDim S231x1x22 ![0, 2] bcast_S231x22_S231x1x22_0_2 : (⟨S231x22, .f32⟩ : BufTy).Contents (Elt F) → (⟨S231x1x22, .f32⟩ : BufTy).Contents (Elt F)),
    unary main_v24 main_v26 (broadcastInDim S231x22x22 ![0, 1, 2] bcast_S231x22x1_S231x22x22_0_1_2 : (⟨S231x22x1, .f32⟩ : BufTy).Contents (Elt F) → (⟨S231x22x22, .f32⟩ : BufTy).Contents (Elt F)),
    unary main_v25 main_v27 (broadcastInDim S231x22x22 ![0, 1, 2] bcast_S231x1x22_S231x22x22_0_1_2 : (⟨S231x1x22, .f32⟩ : BufTy).Contents (Elt F) → (⟨S231x22x22, .f32⟩ : BufTy).Contents (Elt F)),
    binary main_v26 main_v27 main_v28 (mulf : (⟨S231x22x22, .f32⟩ : BufTy).Contents (Elt F) → (⟨S231x22x22, .f32⟩ : BufTy).Contents (Elt F) → (⟨S231x22x22, .f32⟩ : BufTy).Contents (Elt F)),
    unary main_v28 main_v29 (broadcastInDim S231x22x1x1x22 ![0, 1, 4] bcast_S231x22x22_S231x22x1x1x22_0_1_4 : (⟨S231x22x22, .f32⟩ : BufTy).Contents (Elt F) → (⟨S231x22x1x1x22, .f32⟩ : BufTy).Contents (Elt F)),
    unary main_v23 main_v30 ((transpose S231x16x2 [0, 2, 1] · transposes_S231x2x16_S231x16x2_0_2_1) : (⟨S231x2x16, .f32⟩ : BufTy).Contents (Elt F) → (⟨S231x16x2, .f32⟩ : BufTy).Contents (Elt F)),
    unary main_v30 main_v31 (broadcastInDim S231x1x16x2x1 ![0, 2, 3] bcast_S231x16x2_S231x1x16x2x1_0_2_3 : (⟨S231x16x2, .f32⟩ : BufTy).Contents (Elt F) → (⟨S231x1x16x2x1, .f32⟩ : BufTy).Contents (Elt F)),
    unary main_v29 main_v32 (broadcastInDim S231x22x16x2x22 ![0, 1, 2, 3, 4] bcast_S231x22x1x1x22_S231x22x16x2x22_0_1_2_3_4 : (⟨S231x22x1x1x22, .f32⟩ : BufTy).Contents (Elt F) → (⟨S231x22x16x2x22, .f32⟩ : BufTy).Contents (Elt F)),
    unary main_v31 main_v33 (broadcastInDim S231x22x16x2x22 ![0, 1, 2, 3, 4] bcast_S231x1x16x2x1_S231x22x16x2x22_0_1_2_3_4 : (⟨S231x1x16x2x1, .f32⟩ : BufTy).Contents (Elt F) → (⟨S231x22x16x2x22, .f32⟩ : BufTy).Contents (Elt F)),
    binary main_v32 main_v33 main_v34 (mulf : (⟨S231x22x16x2x22, .f32⟩ : BufTy).Contents (Elt F) → (⟨S231x22x16x2x22, .f32⟩ : BufTy).Contents (Elt F) → (⟨S231x22x16x2x22, .f32⟩ : BufTy).Contents (Elt F)),
    nullary main_cst (constant S_ .f32 0x00000000#32),
    binary main_v34 main_cst main_v35 ((fun x v => Host.reduceAdd x v reducesTo_S231x22x16x2x22_S22x16x2x22_d0 h_S_) : (⟨S231x22x16x2x22, .f32⟩ : BufTy).Contents (Elt F) → (⟨S_, .f32⟩ : BufTy).Contents (Elt F) → (⟨S22x16x2x22, .f32⟩ : BufTy).Contents (Elt F)),
    unary main_v35 main_v36 (broadcastInDim S22x16x2x22x1 ![0, 1, 2, 3] bcast_S22x16x2x22_S22x16x2x22x1_0_1_2_3 : (⟨S22x16x2x22, .f32⟩ : BufTy).Contents (Elt F) → (⟨S22x16x2x22x1, .f32⟩ : BufTy).Contents (Elt F)),
    unary main_v17 main_v37 (broadcastInDim S1x16x1x1x16 ![1, 4] bcast_S16x16_S1x16x1x1x16_1_4 : (⟨S16x16, .f32⟩ : BufTy).Contents (Elt F) → (⟨S1x16x1x1x16, .f32⟩ : BufTy).Contents (Elt F)),
    unary main_v36 main_v38 (broadcastInDim S22x16x2x22x16 ![0, 1, 2, 3, 4] bcast_S22x16x2x22x1_S22x16x2x22x16_0_1_2_3_4 : (⟨S22x16x2x22x1, .f32⟩ : BufTy).Contents (Elt F) → (⟨S22x16x2x22x16, .f32⟩ : BufTy).Contents (Elt F)),
    unary main_v37 main_v39 (broadcastInDim S22x16x2x22x16 ![0, 1, 2, 3, 4] bcast_S1x16x1x1x16_S22x16x2x22x16_0_1_2_3_4 : (⟨S1x16x1x1x16, .f32⟩ : BufTy).Contents (Elt F) → (⟨S22x16x2x22x16, .f32⟩ : BufTy).Contents (Elt F)),
    binary main_v38 main_v39 main_v40 (mulf : (⟨S22x16x2x22x16, .f32⟩ : BufTy).Contents (Elt F) → (⟨S22x16x2x22x16, .f32⟩ : BufTy).Contents (Elt F) → (⟨S22x16x2x22x16, .f32⟩ : BufTy).Contents (Elt F)),
    reshape main_v40 main_v41 (rfl : (.f32 : EltTy) = .f32) shapeCasts_S22x16x2x22x16_S352x704,
    unary main_arg2 main_v42 ((extractStridedSlice S231x1x2x16 ![0, 0, 0, 0] · slices_S231x4x2x16_S231x1x2x16_0_0_0_0) : (⟨S231x4x2x16, .f32⟩ : BufTy).Contents (Elt F) → (⟨S231x1x2x16, .f32⟩ : BufTy).Contents (Elt F)),
    reshape main_v42 main_v43 (rfl : (.f32 : EltTy) = .f32) shapeCasts_S231x1x2x16_S231x2x16,
    unary main_arg4 main_v44 ((extractStridedSlice S1 ![0] · slices_S5_S1_0) : (⟨S5, .f32⟩ : BufTy).Contents (Elt F) → (⟨S1, .f32⟩ : BufTy).Contents (Elt F)),
    reshape main_v44 main_v45 (rfl : (.f32 : EltTy) = .f32) shapeCasts_S1_S_,
    unary main_v45 main_v46 (broadcastInDim S231x2x16 ![] bcast_S_S231x2x16 : (⟨S_, .f32⟩ : BufTy).Contents (Elt F) → (⟨S231x2x16, .f32⟩ : BufTy).Contents (Elt F)),
    binary main_v43 main_v46 main_v47 (mulf : (⟨S231x2x16, .f32⟩ : BufTy).Contents (Elt F) → (⟨S231x2x16, .f32⟩ : BufTy).Contents (Elt F) → (⟨S231x2x16, .f32⟩ : BufTy).Contents (Elt F)),
    unary main_arg4 main_v48 ((extractStridedSlice S1 ![4] · slices_S5_S1_4) : (⟨S5, .f32⟩ : BufTy).Contents (Elt F) → (⟨S1, .f32⟩ : BufTy).Contents (Elt F)),
    reshape main_v48 main_v49 (rfl : (.f32 : EltTy) = .f32) shapeCasts_S1_S_,
    unary main_v49 main_v50 (broadcastInDim S231x2x32 ![] bcast_S_S231x2x32 : (⟨S_, .f32⟩ : BufTy).Contents (Elt F) → (⟨S231x2x32, .f32⟩ : BufTy).Contents (Elt F)),
    binary main_arg3 main_v50 main_v51 (mulf : (⟨S231x2x32, .f32⟩ : BufTy).Contents (Elt F) → (⟨S231x2x32, .f32⟩ : BufTy).Contents (Elt F) → (⟨S231x2x32, .f32⟩ : BufTy).Contents (Elt F)),
    binary main_v10 main_v11 main_v52 (addf : (⟨S231x22, .f32⟩ : BufTy).Contents (Elt F) → (⟨S231x22, .f32⟩ : BufTy).Contents (Elt F) → (⟨S231x22, .f32⟩ : BufTy).Contents (Elt F)),
    unary main_v52 main_v53 (broadcastInDim S231x22x1x1 ![0, 1] bcast_S231x22_S231x22x1x1_0_1 : (⟨S231x22, .f32⟩ : BufTy).Contents (Elt F) → (⟨S231x22x1x1, .f32⟩ : BufTy).Contents (Elt F)),
    unary main_v47 main_v54 ((transpose S231x16x2 [0, 2, 1] · transposes_S231x2x16_S231x16x2_0_2_1) : (⟨S231x2x16, .f32⟩ : BufTy).Contents (Elt F) → (⟨S231x16x2, .f32⟩ : BufTy).Contents (Elt F)),
    unary main_v54 main_v55 (broadcastInDim S231x1x16x2 ![0, 2, 3] bcast_S231x16x2_S231x1x16x2_0_2_3 : (⟨S231x16x2, .f32⟩ : BufTy).Contents (Elt F) → (⟨S231x1x16x2, .f32⟩ : BufTy).Contents (Elt F)),
    unary main_v53 main_v56 (broadcastInDim S231x22x16x2 ![0, 1, 2, 3] bcast_S231x22x1x1_S231x22x16x2_0_1_2_3 : (⟨S231x22x1x1, .f32⟩ : BufTy).Contents (Elt F) → (⟨S231x22x16x2, .f32⟩ : BufTy).Contents (Elt F)),
    unary main_v55 main_v57 (broadcastInDim S231x22x16x2 ![0, 1, 2, 3] bcast_S231x1x16x2_S231x22x16x2_0_1_2_3 : (⟨S231x1x16x2, .f32⟩ : BufTy).Contents (Elt F) → (⟨S231x22x16x2, .f32⟩ : BufTy).Contents (Elt F)),
    binary main_v56 main_v57 main_v58 (mulf : (⟨S231x22x16x2, .f32⟩ : BufTy).Contents (Elt F) → (⟨S231x22x16x2, .f32⟩ : BufTy).Contents (Elt F) → (⟨S231x22x16x2, .f32⟩ : BufTy).Contents (Elt F)),
    nullary main_cst_4 (constant S_ .f32 0x00000000#32),
    binary main_v58 main_cst_4 main_v59 ((fun x v => Host.reduceAdd x v reducesTo_S231x22x16x2_S22x16x2_d0 h_S_) : (⟨S231x22x16x2, .f32⟩ : BufTy).Contents (Elt F) → (⟨S_, .f32⟩ : BufTy).Contents (Elt F) → (⟨S22x16x2, .f32⟩ : BufTy).Contents (Elt F)),
    unary main_v51 main_v60 ((extractStridedSlice S231x2x16 ![0, 0, 0] · slices_S231x2x32_S231x2x16_0_0_0) : (⟨S231x2x32, .f32⟩ : BufTy).Contents (Elt F) → (⟨S231x2x16, .f32⟩ : BufTy).Contents (Elt F)),
    unary main_v10 main_v61 (broadcastInDim S231x22x1x1 ![0, 1] bcast_S231x22_S231x22x1x1_0_1 : (⟨S231x22, .f32⟩ : BufTy).Contents (Elt F) → (⟨S231x22x1x1, .f32⟩ : BufTy).Contents (Elt F)),
    unary main_v60 main_v62 ((transpose S231x16x2 [0, 2, 1] · transposes_S231x2x16_S231x16x2_0_2_1) : (⟨S231x2x16, .f32⟩ : BufTy).Contents (Elt F) → (⟨S231x16x2, .f32⟩ : BufTy).Contents (Elt F)),
    unary main_v62 main_v63 (broadcastInDim S231x1x16x2 ![0, 2, 3] bcast_S231x16x2_S231x1x16x2_0_2_3 : (⟨S231x16x2, .f32⟩ : BufTy).Contents (Elt F) → (⟨S231x1x16x2, .f32⟩ : BufTy).Contents (Elt F)),
    unary main_v61 main_v64 (broadcastInDim S231x22x16x2 ![0, 1, 2, 3] bcast_S231x22x1x1_S231x22x16x2_0_1_2_3 : (⟨S231x22x1x1, .f32⟩ : BufTy).Contents (Elt F) → (⟨S231x22x16x2, .f32⟩ : BufTy).Contents (Elt F)),
    unary main_v63 main_v65 (broadcastInDim S231x22x16x2 ![0, 1, 2, 3] bcast_S231x1x16x2_S231x22x16x2_0_1_2_3 : (⟨S231x1x16x2, .f32⟩ : BufTy).Contents (Elt F) → (⟨S231x22x16x2, .f32⟩ : BufTy).Contents (Elt F)),
    binary main_v64 main_v65 main_v66 (mulf : (⟨S231x22x16x2, .f32⟩ : BufTy).Contents (Elt F) → (⟨S231x22x16x2, .f32⟩ : BufTy).Contents (Elt F) → (⟨S231x22x16x2, .f32⟩ : BufTy).Contents (Elt F)),
    nullary main_cst_5 (constant S_ .f32 0x00000000#32),
    binary main_v66 main_cst_5 main_v67 ((fun x v => Host.reduceAdd x v reducesTo_S231x22x16x2_S22x16x2_d0 h_S_) : (⟨S231x22x16x2, .f32⟩ : BufTy).Contents (Elt F) → (⟨S_, .f32⟩ : BufTy).Contents (Elt F) → (⟨S22x16x2, .f32⟩ : BufTy).Contents (Elt F)),
    binary main_v59 main_v67 main_v68 (addf : (⟨S22x16x2, .f32⟩ : BufTy).Contents (Elt F) → (⟨S22x16x2, .f32⟩ : BufTy).Contents (Elt F) → (⟨S22x16x2, .f32⟩ : BufTy).Contents (Elt F)),
    unary main_v51 main_v69 ((extractStridedSlice S231x2x16 ![0, 0, 16] · slices_S231x2x32_S231x2x16_0_0_16) : (⟨S231x2x32, .f32⟩ : BufTy).Contents (Elt F) → (⟨S231x2x16, .f32⟩ : BufTy).Contents (Elt F)),
    unary main_v11 main_v70 (broadcastInDim S231x22x1x1 ![0, 1] bcast_S231x22_S231x22x1x1_0_1 : (⟨S231x22, .f32⟩ : BufTy).Contents (Elt F) → (⟨S231x22x1x1, .f32⟩ : BufTy).Contents (Elt F)),
    unary main_v69 main_v71 ((transpose S231x16x2 [0, 2, 1] · transposes_S231x2x16_S231x16x2_0_2_1) : (⟨S231x2x16, .f32⟩ : BufTy).Contents (Elt F) → (⟨S231x16x2, .f32⟩ : BufTy).Contents (Elt F)),
    unary main_v71 main_v72 (broadcastInDim S231x1x16x2 ![0, 2, 3] bcast_S231x16x2_S231x1x16x2_0_2_3 : (⟨S231x16x2, .f32⟩ : BufTy).Contents (Elt F) → (⟨S231x1x16x2, .f32⟩ : BufTy).Contents (Elt F)),
    unary main_v70 main_v73 (broadcastInDim S231x22x16x2 ![0, 1, 2, 3] bcast_S231x22x1x1_S231x22x16x2_0_1_2_3 : (⟨S231x22x1x1, .f32⟩ : BufTy).Contents (Elt F) → (⟨S231x22x16x2, .f32⟩ : BufTy).Contents (Elt F)),
    unary main_v72 main_v74 (broadcastInDim S231x22x16x2 ![0, 1, 2, 3] bcast_S231x1x16x2_S231x22x16x2_0_1_2_3 : (⟨S231x1x16x2, .f32⟩ : BufTy).Contents (Elt F) → (⟨S231x22x16x2, .f32⟩ : BufTy).Contents (Elt F)),
    binary main_v73 main_v74 main_v75 (mulf : (⟨S231x22x16x2, .f32⟩ : BufTy).Contents (Elt F) → (⟨S231x22x16x2, .f32⟩ : BufTy).Contents (Elt F) → (⟨S231x22x16x2, .f32⟩ : BufTy).Contents (Elt F)),
    nullary main_cst_6 (constant S_ .f32 0x00000000#32),
    binary main_v75 main_cst_6 main_v76 ((fun x v => Host.reduceAdd x v reducesTo_S231x22x16x2_S22x16x2_d0 h_S_) : (⟨S231x22x16x2, .f32⟩ : BufTy).Contents (Elt F) → (⟨S_, .f32⟩ : BufTy).Contents (Elt F) → (⟨S22x16x2, .f32⟩ : BufTy).Contents (Elt F)),
    binary main_v68 main_v76 main_v77 (addf : (⟨S22x16x2, .f32⟩ : BufTy).Contents (Elt F) → (⟨S22x16x2, .f32⟩ : BufTy).Contents (Elt F) → (⟨S22x16x2, .f32⟩ : BufTy).Contents (Elt F)),
    reshape main_v77 main_v78 (rfl : (.f32 : EltTy) = .f32) shapeCasts_S22x16x2_S352x2,
    unary main_arg6 main_v79 ((extractStridedSlice S262144 ![0] · slices_S3000000_S262144_0) : (⟨S3000000, .f32⟩ : BufTy).Contents (Elt F) → (⟨S262144, .f32⟩ : BufTy).Contents (Elt F)),
    reshape main_v79 main_v80 (rfl : (.f32 : EltTy) = .f32) shapeCasts_S262144_S16384x16,
    unary main_v80 main_v81 ((transpose S16x16384 [1, 0] · transposes_S16384x16_S16x16384_1_0) : (⟨S16384x16, .f32⟩ : BufTy).Contents (Elt F) → (⟨S16x16384, .f32⟩ : BufTy).Contents (Elt F)) ]

/-- The host operation after the TensorCore call. -/
abbrev opsC : List (HloOp τ sig (Elt F)) :=
  [ unary main_v82 main_v83 ((transpose S16384x2 [1, 0] · transposes_S2x16384_S16384x2_1_0) : (⟨S2x16384, .f32⟩ : BufTy).Contents (Elt F) → (⟨S16384x2, .f32⟩ : BufTy).Contents (Elt F)) ]

set_option maxRecDepth 8192 in
set_option maxHeartbeats 40000000 in
/-- The host program is the three stretches around the two calls. -/
theorem main_eq (d : Dev nD) : main (F := F) d
    = seq opsA >>= fun _ => sc.run d 0 >>= fun _ => seq opsB >>= fun _ =>
      Prog.lift (.customCall (SparseCore.inner (Pipeline.entry 0)) ()) >>= fun _ => seq opsC := rfl

set_option maxRecDepth 8192 in
/-- Each operation of the first stretch names unscoped buffers only. -/
theorem opsA_sub : ∀ op ∈ (opsA : List (HloOp τ sig (Elt F))), op.bufs ⊆ Pipeline.ucRefs τ sig :=
  fun op h => Pipeline.sub_ucRefs op (List.forall_iff_forall_mem.1 (show (opsA : List (HloOp τ sig (Elt F))).Forall fun op => op.bufs ⊆ tcRefs τ sig from
  ⟨nullary_bufs_sub .., nullary_bufs_sub .., unary_bufs_sub .., reshape_bufs_sub .., unary_bufs_sub .., reshape_bufs_sub .., unary_bufs_sub .., nullary_bufs_sub .., unary_bufs_sub .., binary_bufs_sub .., unary_bufs_sub .., nullary_bufs_sub .., unary_bufs_sub .., binary_bufs_sub .., reshape_bufs_sub ..⟩) op h)

set_option maxRecDepth 8192 in
/-- Each operation of the second stretch names unscoped buffers only. -/
theorem opsB_sub : ∀ op ∈ (opsB : List (HloOp τ sig (Elt F))), op.bufs ⊆ Pipeline.ucRefs τ sig :=
  fun op h => Pipeline.sub_ucRefs op (List.forall_iff_forall_mem.1 (show (opsB : List (HloOp τ sig (Elt F))).Forall fun op => op.bufs ⊆ tcRefs τ sig from
  ⟨unary_bufs_sub .., nullary_bufs_sub .., unary_bufs_sub .., unary_bufs_sub .., binary_bufs_sub .., unary_bufs_sub .., unary_bufs_sub .., nullary_bufs_sub .., unary_bufs_sub .., unary_bufs_sub .., binary_bufs_sub .., unary_bufs_sub .., nullary_bufs_sub .., nullary_bufs_sub .., nullary_bufs_sub .., unary_bufs_sub .., binary_bufs_sub .., binary_bufs_sub .., unary_bufs_sub .., unary_bufs_sub .., reshape_bufs_sub .., unary_bufs_sub .., reshape_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., unary_bufs_sub .., binary_bufs_sub .., nullary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., binary_bufs_sub .., unary_bufs_sub .., reshape_bufs_sub .., unary_bufs_sub .., binary_bufs_sub .., binary_bufs_sub .., unary_bufs_sub .., unary_bufs_sub .., unary_bufs_sub .., unary_bufs_sub .., unary_bufs_sub .., binary_bufs_sub .., nullary_bufs_sub .., binary_bufs_sub .., unary_bufs_sub .., unary_bufs_sub .., unary_bufs_sub .., unary_bufs_sub .., unary_bufs_sub .., unary_bufs_sub .., binary_bufs_sub .., nullary_bufs_sub .., binary_bufs_sub .., binary_bufs_sub .., unary_bufs_sub .., unary_bufs_sub .., unary_bufs_sub .., unary_bufs_sub .., unary_bufs_sub .., unary_bufs_sub .., binary_bufs_sub .., nullary_bufs_sub .., binary_bufs_sub .., binary_bufs_sub .., reshape_bufs_sub .., unary_bufs_sub .., reshape_bufs_sub .., unary_bufs_sub ..⟩) op h)

/-- The last operation names unscoped buffers only. -/
theorem opsC_sub : ∀ op ∈ (opsC : List (HloOp τ sig (Elt F))), op.bufs ⊆ Pipeline.ucRefs τ sig :=
  fun op h => Pipeline.sub_ucRefs op (List.forall_iff_forall_mem.1 (show (opsC : List (HloOp τ sig (Elt F))).Forall fun op => op.bufs ⊆ tcRefs τ sig from
  unary_bufs_sub ..) op h)

/-- Each operation determines its results. -/
theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h

end Cert.Proof

end
-- ==== Proof.Deal.lean ====
/-
  Dealing the arrays of the SparseCore call to the tiles: each array the tiles read in shares, the two results in bands
  of rows, and the arrays put together again from what the tiles hand back.
-/
module

public import proofs.«01_k».proof.Proof.Tile
public import proofs.«01_k».proof.Proof.Host

@[expose] public section

noncomputable section

namespace Cert.Proof

open Cert.KernelIdeal Cert.KernelIdeal.Gen Cert.Proof.Pieces Cert.Proof.Coords
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## Shares -/

/-- A conjunct for each tile. -/
def tiles (Φ : grid0.Coords → sProp (MM F)) : sProp (MM F) :=
  bigSep (Finset.univ : Finset (Fin 2)) fun c => bigSep (Finset.univ : Finset (Fin 16)) fun s => Φ (coordsV c s)

theorem tiles_sep (Φ Ψ : grid0.Coords → sProp (MM F)) : tiles (fun i => iprop(Φ i ∗ Ψ i)) = iprop(tiles Φ ∗ tiles Ψ) := by
  unfold tiles; simp only [bigSep_sep']

/-- What of an array no tile gets. -/
def kept (ℓ : Loc nD τ sig) (f : Buf (Elt F) ℓ) : sProp (MM F) :=
  iprop((ℓ ↦{shareDrop fullShare 2} f) ∗ bigSep (Finset.univ : Finset (Fin 2)) fun c => ℓ ↦{shareDrop (shareTokN fullShare c.val) 16} f)

/-- A whole array is what is kept and each tile's share. -/
theorem share_deal (ℓ : Loc nD τ sig) (f : Buf (Elt F) ℓ) :
    iprop(ℓ ↦{fullShare} f) ⊣⊢ (iprop(kept ℓ f ∗ tiles fun i => ℓ ↦{tok i} f) : sProp (MM F)) := by
  have h2 : (bigSep (Finset.univ : Finset (Fin 2)) fun c => (iprop(ℓ ↦{shareTokN fullShare c.val} f) : sProp (MM F)))
      ⊣⊢ iprop((bigSep (Finset.univ : Finset (Fin 2)) fun c => ℓ ↦{shareDrop (shareTokN fullShare c.val) 16} f) ∗ tiles fun i => ℓ ↦{tok i} f) := by
    unfold tiles
    rw [← bigSep_sep']
    exact ⟨bigSep_mono fun c _ => pointsTo_toks_split (shareTokN fullShare c.val) 16, bigSep_mono fun c _ => pointsTo_toks_join (shareTokN fullShare c.val) 16⟩
  unfold kept
  constructor
  · iintro H
    ihave H := (pointsTo_toks_split fullShare 2) $$ H
    icases H with ⟨H0, H⟩
    ihave H := h2.1 $$ H
    icases H with ⟨H1, H⟩
    isplitl [H0 H1]
    · isplitl [H0] <;> iassumption
    iexact H
  · iintro ⟨⟨H0, H1⟩, H⟩
    iapply (pointsTo_toks_join fullShare 2)
    isplitl [H0]; · iexact H0
    iapply h2.2
    isplitl [H1] <;> iassumption

/-! ## Bands -/

theorem wid_coordsV (c : Fin 2) (s : Fin 16) : wid (coordsV c s) = 2 * s.val + c.val := rfl

/-- The bands of the means, and of the deviations, are disjoint -/
theorem bands_disjoint (b : Prop) [Decidable b] (K : grid0.Coords → Finset S352x16384.Idx)
    (hK : ∀ i, K i = if (wid i < 16 ↔ b) then band (lo i) else ∅) :
    ∀ p ∈ (Finset.univ : Finset (Fin 2 × Fin 16)), ∀ p' ∈ (Finset.univ : Finset (Fin 2 × Fin 16)), p ≠ p' →
      Disjoint (K (coordsV p.1 p.2)) (K (coordsV p'.1 p'.2)) := by
  intro p _ p' _ hne
  have h0 := p.1.isLt; have h1 := p'.1.isLt; have h2 := p.2.isLt; have h3 := p'.2.isLt
  rw [hK, hK]
  refine Finset.disjoint_left.2 fun x hx hx' => hne ?_
  split at hx <;> [skip; exact absurd hx (Finset.notMem_empty _)]
  split at hx' <;> [skip; exact absurd hx' (Finset.notMem_empty _)]
  rename_i ha hb
  have hx := (Finset.mem_filter.1 hx).2; have hx' := (Finset.mem_filter.1 hx').2
  unfold lo at hx hx'
  rw [wid_coordsV] at hx ha; rw [wid_coordsV] at hx' hb
  have hab := ha.trans hb.symm
  exact Prod.ext (Fin.ext (by omega)) (Fin.ext (by omega))

/-- and cover the array. -/
theorem bands_cover (b : Prop) [Decidable b] (K : grid0.Coords → Finset S352x16384.Idx)
    (hK : ∀ i, K i = if (wid i < 16 ↔ b) then band (lo i) else ∅) :
    (Finset.univ : Finset (Fin 2 × Fin 16)).biUnion (fun p => K (coordsV p.1 p.2)) = Finset.univ := by
  ext x
  have hx : (x 0).val < 352 := (x 0).isLt
  simp only [Finset.mem_biUnion, Finset.mem_univ, true_and, iff_true]
  by_cases hb : b
  · refine ⟨(⟨(x 0).val / 22 % 2, by omega⟩, ⟨(x 0).val / 22 / 2, by omega⟩), ?_⟩
    rw [hK, if_pos (iff_of_true (by rw [wid_coordsV]; show 2 * ((x 0).val / 22 / 2) + (x 0).val / 22 % 2 < 16; omega) hb)]
    refine Finset.mem_filter.2 ⟨Finset.mem_univ _, ?_⟩
    unfold lo; rw [wid_coordsV]
    show 22 * ((2 * ((x 0).val / 22 / 2) + (x 0).val / 22 % 2) % 16) ≤ (x 0).val ∧ (x 0).val < 22 * ((2 * ((x 0).val / 22 / 2) + (x 0).val / 22 % 2) % 16) + 22
    omega
  · refine ⟨(⟨(x 0).val / 22 % 2, by omega⟩, ⟨8 + (x 0).val / 22 / 2, by omega⟩), ?_⟩
    rw [hK, if_pos (iff_of_false (by rw [wid_coordsV]; show ¬ 2 * (8 + (x 0).val / 22 / 2) + (x 0).val / 22 % 2 < 16; omega) hb)]
    refine Finset.mem_filter.2 ⟨Finset.mem_univ _, ?_⟩
    unfold lo; rw [wid_coordsV]
    show 22 * ((2 * (8 + (x 0).val / 22 / 2) + (x 0).val / 22 % 2) % 16) ≤ (x 0).val ∧ (x 0).val < 22 * ((2 * (8 + (x 0).val / 22 / 2) + (x 0).val / 22 % 2) % 16) + 22
    omega

theorem setM_eq (i : grid0.Coords) : setM i = if (wid i < 16 ↔ True) then band (lo i) else ∅ := by simp only [setM, iff_true]
theorem setS_eq (i : grid0.Coords) : setS i = if (wid i < 16 ↔ False) then band (lo i) else ∅ := by
  unfold setS; by_cases h : wid i < 16 <;> simp [h]

/-! ## The arrays -/

/-- A TensorCore reference as a device buffer. -/
abbrev tcr (b : Ref sig .tc) : DevRef τ sig := Proc.devRef .tc b
/-- Its place on device `d`. -/
abbrev place (d : Dev nD) (b : Ref sig .tc) : Loc nD τ sig := (d, tcr b)

variable (d : Dev nD) (W : Valuation τ sig (Elt F))

/-- The contents the call starts from, by row and column. -/
def vals : Vals F where
  tM := un2 (junk .f32) (W (tcr main_v1) : S352x100000.Idx → Elt F .f32)
  tS := un2 (junk .f32) (W (tcr main_v3) : S352x100000.Idx → Elt F .f32)
  lM := un2 (junk .f32) (W (tcr main_v5) : S352x256.Idx → Elt F .f32)
  lS := un2 (junk .f32) (W (tcr main_v7) : S352x256.Idx → Elt F .f32)
  ix := un1 0#32 (W (tcr main_v8) : S360448.Idx → Elt F .i32)
  oM := un2 (junk .f32) (W (tcr main_v9_0) : S352x16384.Idx → Elt F .f32)
  oS := un2 (junk .f32) (W (tcr main_v9_1) : S352x16384.Idx → Elt F .f32)

/-- The contents after the call: the two results hold the gathered tables. -/
def Wsc : Valuation τ sig (Elt F) :=
  Function.update (Function.update W (tcr main_v9_0) (f2 (GX (vals W).tM (vals W).lM (vals W).ix) : S352x16384.Idx → Elt F .f32))
    (tcr main_v9_1) (f2 (GX (vals W).tS (vals W).lS (vals W).ix) : S352x16384.Idx → Elt F .f32)

/-- What a tile may read, by the arrays' places. -/
theorem readV_eq (i : grid0.Coords) : (readV d i (vals W) : sProp (MM F))
    = iprop((((place d main_v1 ↦{tok i} W (tcr main_v1)) ∗ (place d main_v5 ↦{tok i} W (tcr main_v5))) ∗ (place d main_v8 ↦{tok i} W (tcr main_v8)))
        ∗ (place d main_v3 ↦{tok i} W (tcr main_v3)) ∗ (place d main_v7 ↦{tok i} W (tcr main_v7))) := by
  unfold readV reads tabs vals
  simp only [f2_un2, f1_un1]
  have e1 := whole_part (F := F) (c := thr d i) (q := tok i) (Memref.whole main_v1_scv) (View.set_whole _) (f := W (tcr main_v1)) (X := W (tcr main_v1)) fun _ => rfl
  have e5 := whole_part (F := F) (c := thr d i) (q := tok i) (Memref.whole main_v5_scv) (View.set_whole _) (f := W (tcr main_v5)) (X := W (tcr main_v5)) fun _ => rfl
  have e8 := whole_part (F := F) (c := thr d i) (q := tok i) (Memref.whole main_v8_scv) (View.set_whole _) (f := W (tcr main_v8)) (X := W (tcr main_v8)) fun _ => rfl
  have e3 := whole_part (F := F) (c := thr d i) (q := tok i) (Memref.whole main_v3_scv) (View.set_whole _) (f := W (tcr main_v3)) (X := W (tcr main_v3)) fun _ => rfl
  have e7 := whole_part (F := F) (c := thr d i) (q := tok i) (Memref.whole main_v7_scv) (View.set_whole _) (f := W (tcr main_v7)) (X := W (tcr main_v7)) fun _ => rfl
  rw [← e1, ← e5, ← e8, ← e3, ← e7]

/-- The two results whole are every tile's bands of them. -/
theorem outs_deal (X Y : ℕ → ℕ → Elt F .f32) :
    (iprop((place d main_v9_0 ↦{fullShare} (f2 X : S352x16384.Idx → Elt F .f32)) ∗ (place d main_v9_1 ↦{fullShare} (f2 Y : S352x16384.Idx → Elt F .f32))) : sProp (MM F))
      = tiles fun i => outV d i X Y := by
  unfold outV
  rw [tiles_sep]
  congr 1
  · refine (whole_part (c := thr d (coordsV (0 : Fin 2) (0 : Fin 16))) (Memref.whole main_v9_0_scv) (View.set_whole _) (X := f2 X) fun _ => rfl).trans ?_
    rw [← bands_cover True setM setM_eq, part_biUnion _ _ (bands_disjoint True setM setM_eq), bigSep_univ_prod]
    rfl
  · refine (whole_part (c := thr d (coordsV (0 : Fin 2) (0 : Fin 16))) (Memref.whole main_v9_1_scv) (View.set_whole _) (X := f2 Y) fun _ => rfl).trans ?_
    rw [← bands_cover False setS setS_eq, part_biUnion _ _ (bands_disjoint False setS setS_eq), bigSep_univ_prod]
    rfl

/-- The arrays of the call. -/
def scRefs : Finset (DevRef τ sig) :=
  {tcr main_v1, tcr main_v3, tcr main_v5, tcr main_v7, tcr main_v8, tcr main_v9_0, tcr main_v9_1}

theorem scRefs_sub : scRefs ⊆ Pipeline.ucRefs τ sig := by decide +kernel

/-- Of the arrays the tiles read, what no tile gets. -/
def keptAll : sProp (MM F) :=
  iprop(kept (place d main_v1) (W (tcr main_v1)) ∗ kept (place d main_v3) (W (tcr main_v3)) ∗ kept (place d main_v5) (W (tcr main_v5))
    ∗ kept (place d main_v7) (W (tcr main_v7)) ∗ kept (place d main_v8) (W (tcr main_v8)))

theorem held_sc (W : Valuation τ sig (Elt F)) : (StableHlo.held (d.tc : Thread nD τ) scRefs W : sProp (MM F))
    = iprop((place d main_v1 ↦{fullShare} W (tcr main_v1)) ∗ (place d main_v3 ↦{fullShare} W (tcr main_v3)) ∗ (place d main_v5 ↦{fullShare} W (tcr main_v5))
        ∗ (place d main_v7 ↦{fullShare} W (tcr main_v7)) ∗ (place d main_v8 ↦{fullShare} W (tcr main_v8))
        ∗ (place d main_v9_0 ↦{fullShare} W (tcr main_v9_0)) ∗ (place d main_v9_1 ↦{fullShare} W (tcr main_v9_1))) := by
  unfold StableHlo.held scRefs
  rw [SparseCore.bigSep_insert' (by decide +kernel), SparseCore.bigSep_insert' (by decide +kernel), SparseCore.bigSep_insert' (by decide +kernel),
    SparseCore.bigSep_insert' (by decide +kernel), SparseCore.bigSep_insert' (by decide +kernel), SparseCore.bigSep_insert' (by decide +kernel), bigSep_singleton]

theorem Wsc_of_ne {b : DevRef τ sig} (h0 : b ≠ tcr main_v9_0) (h1 : b ≠ tcr main_v9_1) : Wsc W b = W b := by
  unfold Wsc; rw [Function.update_of_ne h1, Function.update_of_ne h0]

theorem Wsc_0 : Wsc W (tcr main_v9_0) = (f2 (GX (vals W).tM (vals W).lM (vals W).ix) : S352x16384.Idx → Elt F .f32) := by
  unfold Wsc; rw [Function.update_of_ne (by decide +kernel), Function.update_self]
theorem Wsc_1 : Wsc W (tcr main_v9_1) = (f2 (GX (vals W).tS (vals W).lS (vals W).ix) : S352x16384.Idx → Elt F .f32) := by
  unfold Wsc; rw [Function.update_self]

/-- Every tile's share of what the tiles read. -/
theorem reads_deal : (tiles fun i => readV d i (vals W) : sProp (MM F))
    = iprop(((tiles (fun i => place d main_v1 ↦{tok i} W (tcr main_v1)) ∗ tiles (fun i => place d main_v5 ↦{tok i} W (tcr main_v5)))
        ∗ tiles (fun i => place d main_v8 ↦{tok i} W (tcr main_v8)))
      ∗ tiles (fun i => place d main_v3 ↦{tok i} W (tcr main_v3)) ∗ tiles (fun i => place d main_v7 ↦{tok i} W (tcr main_v7))) := by
  simp only [readV_eq, tiles_sep]

/-- The arrays of the call, dealt out -/
theorem deal : (StableHlo.held (d.tc : Thread nD τ) scRefs W : sProp (MM F)) ⊢ iprop(keptAll d W ∗ tiles fun i => goV d i (vals W)) := by
  have ho : (iprop((place d main_v9_0 ↦{fullShare} W (tcr main_v9_0)) ∗ (place d main_v9_1 ↦{fullShare} W (tcr main_v9_1))) : sProp (MM F))
      = tiles fun i => outV d i (vals W).oM (vals W).oS := by
    rw [← outs_deal]; unfold vals; rw [f2_un2, f2_un2]
  unfold goV
  rw [tiles_sep, reads_deal, held_sc, ← ho]
  unfold keptAll
  iintro ⟨H1, H3, H5, H7, H8, H9, H9'⟩
  ihave H1 := (share_deal _ _).1 $$ H1
  ihave H3 := (share_deal _ _).1 $$ H3
  ihave H5 := (share_deal _ _).1 $$ H5
  ihave H7 := (share_deal _ _).1 $$ H7
  ihave H8 := (share_deal _ _).1 $$ H8
  icases H1 with ⟨K1, H1⟩
  icases H3 with ⟨K3, H3⟩
  icases H5 with ⟨K5, H5⟩
  icases H7 with ⟨K7, H7⟩
  icases H8 with ⟨K8, H8⟩
  isplitl [K1 K3 K5 K7 K8]
  · isplitl [K1]; · iexact K1
    isplitl [K3]; · iexact K3
    isplitl [K5]; · iexact K5
    isplitl [K7] <;> iassumption
  isplitr [H9 H9']
  · isplitl [H1 H5 H8]
    · isplitl [H1 H5]
      · isplitl [H1] <;> iassumption
      iexact H8
    isplitl [H3] <;> iassumption
  isplitl [H9] <;> iassumption

/-- and put together again, the results gathered. -/
theorem undeal : (iprop(keptAll d W ∗ tiles fun i => tdV d i (vals W)) : sProp (MM F)) ⊢ StableHlo.held (d.tc : Thread nD τ) scRefs (Wsc W) := by
  unfold tdV
  rw [tiles_sep, reads_deal, held_sc, ← outs_deal, Wsc_0, Wsc_1, Wsc_of_ne W (b := tcr main_v1) (by decide +kernel) (by decide +kernel),
    Wsc_of_ne W (b := tcr main_v3) (by decide +kernel) (by decide +kernel), Wsc_of_ne W (b := tcr main_v5) (by decide +kernel) (by decide +kernel),
    Wsc_of_ne W (b := tcr main_v7) (by decide +kernel) (by decide +kernel), Wsc_of_ne W (b := tcr main_v8) (by decide +kernel) (by decide +kernel)]
  unfold keptAll
  iintro ⟨⟨K1, K3, K5, K7, K8⟩, ⟨⟨⟨H1, H5⟩, H8⟩, H3, H7⟩, H9, H9'⟩
  isplitl [K1 H1]; · iapply (share_deal _ _).2; isplitl [K1] <;> iassumption
  isplitl [K3 H3]; · iapply (share_deal _ _).2; isplitl [K3] <;> iassumption
  isplitl [K5 H5]; · iapply (share_deal _ _).2; isplitl [K5] <;> iassumption
  isplitl [K7 H7]; · iapply (share_deal _ _).2; isplitl [K7] <;> iassumption
  isplitl [K8 H8]; · iapply (share_deal _ _).2; isplitl [K8] <;> iassumption
  isplitl [H9] <;> iassumption

/-- All the buffers outside the calls' working space, the arrays of the call dealt out: what is left gives them back. -/
theorem deal_all : (StableHlo.held (d.tc : Thread nD τ) (Pipeline.ucRefs τ sig) W : sProp (MM F))
    ⊢ iprop((tiles fun i => goV d i (vals W)) ∗ ((tiles fun i => tdV d i (vals W)) -∗ StableHlo.held (d.tc : Thread nD τ) (Pipeline.ucRefs τ sig) (Wsc W))) := by
  have hrest : (StableHlo.held (d.tc : Thread nD τ) (Pipeline.ucRefs τ sig \ scRefs) W : sProp (MM F))
      = StableHlo.held (d.tc : Thread nD τ) (Pipeline.ucRefs τ sig \ scRefs) (Wsc W) := StableHlo.held_congr _ fun b hb => by
    have hn := (Finset.mem_sdiff.1 hb).2
    refine (Wsc_of_ne W (fun e => hn ?_) (fun e => hn ?_)).symm <;> rw [e] <;> decide +kernel
  rw [StableHlo.held_sub_split (d.tc : Thread nD τ) scRefs_sub W, StableHlo.held_sub_split (d.tc : Thread nD τ) scRefs_sub (Wsc W), hrest]
  iintro ⟨H, HR⟩
  ihave H := (deal d W) $$ H
  icases H with ⟨HK, H⟩
  isplitl [H]; · iexact H
  iintro H
  isplitr [HR]
  · iapply (undeal d W); isplitl [HK] <;> iassumption
  iexact HR

end Cert.Proof

end
-- ==== Proof.Region.lean ====
/-
  The TensorCore's grid of four: what each point leaves of the staged blocks, the body run at a point, and the grid as one
  region between two valuations of the TensorCore's buffers, over the program's own handshake levels.
-/
module

public import proofs.«01_k».proof.Proof.Base
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.FrameBody
public import Idealize.ShloMosaic.Lib.Pipeline.RegionsLoop
public import Idealize.ShloMosaic.Lib.Pipeline.FrameTail

@[expose] public section

noncomputable section

namespace Cert.Proof

open Cert.KernelIdeal Cert.KernelIdeal.Gen Cert.Proof.Pieces
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation arrRef arrRefs ucRefs)
open Idealize.ShloMosaic.TcCoe

variable {F : FTy → Type} [FloatOps F]

/-- A memref held at given contents is `part` at all its indices. -/
theorem owns_part {c : Thread nD τ} {sp : Space} {s : Shape} {e : EltTy} (m : Memref sig c.2.kind sp s e) (X : s.Idx → Elt F e) :
    (owns c m fullShare X : sProp (MM F)) ⊣⊢ part c m fullShare Finset.univ X := by
  constructor
  · unfold owns
    iintro ⟨%f, %hf, H⟩
    have h : (iprop(m.view.loc c ↦[m.view.setOn Finset.univ]{fullShare} f) : sProp (MM F)) = part c m fullShare Finset.univ X :=
      part_eq fun x _ => congrFun hf x
    rw [View.setOn_univ] at h
    iapply (Entails.of_eq h) $$ H
  · have h : (part c m fullShare Finset.univ X : sProp (MM F)) = iprop(m.view.loc c ↦[m.view.set]{fullShare} fill c m X) := by
      unfold part; rw [View.setOn_univ]
    rw [h]
    unfold owns
    iintro H
    iexists (fill c m X)
    isplitr; · ipureintro; exact read_fill
    iexact H

/-! ## The body at a point -/

section Body

variable (c : Dev nD) (M1 M2 : Memref sig .tc .vmem S352x4096 .f32) (M3 : Memref sig .tc .vmem S16x4096 .f32) (M4 : Memref sig .tc .vmem S352x704 .f32)
  (M5 : Memref sig .tc .vmem S352x2 .f32) (M6 : Memref sig .tc .vmem S2x4096 .f32)

/-- A rectangle of a whole table from its origin places every position at itself. -/
theorem unit_emb {d : Fin 2 → ℕ} (h : ∀ a, (![0, 0] : Fin 2 → ℕ) a + d a ≤ d a) (x : (⟨2, d⟩ : Shape).Idx) :
    (Rect.unit (s := ⟨2, d⟩) ![0, 0] d h).emb x = x := by
  funext a
  apply Fin.ext
  match a with
  | 0 => show 0 + 1 * (x 0).val = (x 0).val; omega
  | 1 => show 0 + 1 * (x 1).val = (x 1).val; omega

/-- A load of a whole table reads its contents. -/
theorem wp_loadWhole {d : Fin 2 → ℕ} {e : EltTy} (M : Memref sig .tc .vmem ⟨2, d⟩ e) (h : ∀ a, (![0, 0] : Fin 2 → ℕ) a + d a ≤ d a)
    {hl : M.view.LoadsAt (Rect.unit (s := ⟨2, d⟩) ![0, 0] d h)} {X : (⟨2, d⟩ : Shape).Idx → Elt F e}
    {k : ((⟨2, d⟩ : Shape).Idx → Elt F e) → Prog (TpuEff nD τ sig (Elt F) Λ₀ .tc) PUnit} {Q : PUnit → sProp (MM F)} :
    (part (c.tc : Thread nD τ) M fullShare Finset.univ X : sProp (MM F))
      ⊢ iprop((part (c.tc : Thread nD τ) M fullShare Finset.univ X -∗ wp frame (wpE (defs₀ (F := F)) 𝒱₀ (c.tc : Thread nD τ) none) Set.univ (k X) Q)
        -∗ wp frame (wpE (defs₀ (F := F)) 𝒱₀ (c.tc : Thread nD τ) none) Set.univ
          (.op (.load M (Rect.unit (s := ⟨2, d⟩) ![0, 0] d h).toLoadRect hl) k) Q) := by
  have e : (fun x => X ((Rect.unit (s := ⟨2, d⟩) ![0, 0] d h).emb x)) = X := funext fun x => congrArg X (unit_emb h x)
  have := wp_loadPart 𝒱₀ (c.tc : Thread nD τ) none (defs := defs₀ (F := F)) (m := M) (r := Rect.unit (s := ⟨2, d⟩) ![0, 0] d h) (hl := hl)
    (k := k) (q := fullShare) (X := X) (T := Finset.univ) (Q := Q) (fun _ => Finset.mem_univ _)
  rw [e] at this
  exact this

/-- A store of a whole table leaves the stored contents. -/
theorem wp_storeWhole {d : Fin 2 → ℕ} {e : EltTy} (M : Memref sig .tc .vmem ⟨2, d⟩ e) (h : ∀ a, (![0, 0] : Fin 2 → ℕ) a + d a ≤ d a)
    {w : (⟨2, d⟩ : Shape).Idx → Elt F e} {hx : (M.access (Rect.unit (s := ⟨2, d⟩) ![0, 0] d h)).Stores Finset.univ}
    {hm : (Finset.univ : Finset (⟨2, d⟩ : Shape).Idx) = Finset.univ ∨ ∀ a, (Rect.unit (s := ⟨2, d⟩) ![0, 0] d h).stride a = 1}
    {X : (⟨2, d⟩ : Shape).Idx → Elt F e}
    {k : PUnit → Prog (TpuEff nD τ sig (Elt F) Λ₀ .tc) PUnit} {Q : PUnit → sProp (MM F)} :
    (part (c.tc : Thread nD τ) M fullShare Finset.univ X : sProp (MM F))
      ⊢ iprop((part (c.tc : Thread nD τ) M fullShare Finset.univ w -∗ wp frame (wpE (defs₀ (F := F)) 𝒱₀ (c.tc : Thread nD τ) none) Set.univ (k ⟨⟩) Q)
        -∗ wp frame (wpE (defs₀ (F := F)) 𝒱₀ (c.tc : Thread nD τ) none) Set.univ
          (.op (.store M (Rect.unit (s := ⟨2, d⟩) ![0, 0] d h) w Finset.univ hx hm) k) Q) :=
  wp_storePart 𝒱₀ (c.tc : Thread nD τ) none (defs := defs₀ (F := F)) (m := M) (r := Rect.unit (s := ⟨2, d⟩) ![0, 0] d h)
    (X := X) (X' := w) (T := Finset.univ) (fun _ => Finset.mem_univ _) (fun x => congrArg w (unit_emb h x))
    (fun y _ hy => absurd (unit_emb h y) (hy y))

/-- The body at a point, from the six blocks: the inputs' are unchanged and the result's holds the computed value. -/
theorem wp_tc (i : grid1.Coords) (h1 h2 h3 h4 h5 h6) (X1 X2 : S352x4096.Idx → Elt F .f32) (X3 : S16x4096.Idx → Elt F .f32)
    (X4 : S352x704.Idx → Elt F .f32) (X5 : S352x2.Idx → Elt F .f32) (X6 : S2x4096.Idx → Elt F .f32) (Q : PUnit → sProp (MM F)) :
    iprop(part (c.tc : Thread nD τ) M1 fullShare Finset.univ X1 ∗ part (c.tc : Thread nD τ) M2 fullShare Finset.univ X2
        ∗ part (c.tc : Thread nD τ) M3 fullShare Finset.univ X3 ∗ part (c.tc : Thread nD τ) M4 fullShare Finset.univ X4
        ∗ part (c.tc : Thread nD τ) M5 fullShare Finset.univ X5 ∗ part (c.tc : Thread nD τ) M6 fullShare Finset.univ X6
        ∗ (iprop(part (c.tc : Thread nD τ) M1 fullShare Finset.univ X1 ∗ part (c.tc : Thread nD τ) M2 fullShare Finset.univ X2
          ∗ part (c.tc : Thread nD τ) M3 fullShare Finset.univ X3 ∗ part (c.tc : Thread nD τ) M4 fullShare Finset.univ X4
          ∗ part (c.tc : Thread nD τ) M5 fullShare Finset.univ X5
          ∗ part (c.tc : Thread nD τ) M6 fullShare Finset.univ (k1_pay1 (F := F) X1 X2 X3 X4 X5)) -∗ Q ⟨⟩))
      ⊢ wp frame (wpE (defs₀ (F := F)) 𝒱₀ (c.tc : Thread nD τ) none) Set.univ (cc1__tc_body (F := F) i M1 h1 M2 h2 M3 h3 M4 h4 M5 h5 M6 h6) Q := by
  rw [cc1__tc_body_eq_skeleton]
  unfold cc1__tc_body_skel
  simp only [Prog.lift, Prog.bind_op, Prog.bind_ret, Prog.pure_eq_ret, Prog.bind_assoc]
  iintro ⟨H1, H2, H3, H4, H5, H6, Hk⟩
  iapply (wp_loadWhole (F := F) c M1 inb_S352x4096_S352x4096_0_0) $$ H1
  iintro H1
  iapply (wp_loadWhole (F := F) c M2 inb_S352x4096_S352x4096_0_0) $$ H2
  iintro H2
  iapply (wp_loadWhole (F := F) c M3 inb_S16x4096_S16x4096_0_0) $$ H3
  iintro H3
  iapply (wp_loadWhole (F := F) c M4 inb_S352x704_S352x704_0_0) $$ H4
  iintro H4
  iapply (wp_loadWhole (F := F) c M5 inb_S352x2_S352x2_0_0) $$ H5
  iintro H5
  iapply (wp_loadWhole (F := F) c M6 inb_S2x4096_S2x4096_0_0) $$ H6
  iintro H6
  iapply (wp_storeWhole (F := F) c M6 inb_S2x4096_S2x4096_0_0) $$ H6
  iintro H6
  rw [wp_ret]
  imodintro
  iapply Hk
  isplitl [H1]; · iexact H1
  isplitl [H2]; · iexact H2
  isplitl [H3]; · iexact H3
  isplitl [H4]; · iexact H4
  isplitl [H5]; · iexact H5
  iexact H6

end Body

/-! ## The proof data -/

variable (W : Dev nD → Valuation τ sig (Elt F))

/-- The block of window `w` at point `t`, out of the array as the region finds it. -/
abbrev blk (c : Dev nD) (w : Fin 6) (t : Fin cfg1.N) : ((cfg1.win w).xblock (cfg1.grid.coords t)).Idx → Elt F (cfg1.win w).elt :=
  ((cfg1.win w).blk t).view.read (Elt F) (W c (Proc.devRef .tc (arrRef spec1 w)))

/-- The block the body computes at point `t`. -/
def outBlk (c : Dev nD) (t : Fin cfg1.N) : S2x4096.Idx → Elt F .f32 :=
  k1_pay1 (F := F) (blk W c 0 t) (blk W c 1 t) (blk W c 2 t) (blk W c 3 t) (blk W c 4 t)

/-- The region's data on device `c`: the arrays as found, each input's block left in place, the result's block computed,
    nothing owed, and every recorded wait at or below the level the call before it left. -/
def dat (c : Dev nD) : Dat τ (Elt F) (HIx 1) ℕ UU ℕ cfg1 c where
  A w := W c (Proc.devRef .tc (arrRef spec1 w))
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => outBlk W c t
  Φ _ := BI.emp
  q _ := fullShare
  owed _ := 0
  recorded _ := {p | (K (F := F)).lev (N := 1) (T c, p.1) p.2 ≤ 8}

abbrev adm : (p : Fin 1) → (pcfgs (F := F) p).Adm := fun p => (cfgs p).toPCfg_adm

/-- The family over the program's one grid. -/
def pdats : (p : Fin 1) → (c : Dev nD) → Dat τ (Elt F) (HIx 1) ℕ UU ℕ (Pipeline.pin (pcfgs (F := F)) adm p) c
  | ⟨0, _⟩ => fun c => dat W c

/-- When the body runs, an input's buffer holds its block. -/
theorem before0 (c : Dev nD) (t : Fin cfg1.N) (d) : (dat W c).before 0 t d = blk W c 0 t :=
  (dat W c).before_in_eq_fetched 0 rfl (fun _ => rfl) (fun _ _ _ => rfl) (fun _ => rfl) t d
theorem before1 (c : Dev nD) (t : Fin cfg1.N) (d) : (dat W c).before 1 t d = blk W c 1 t :=
  (dat W c).before_in_eq_fetched 1 rfl (fun _ => rfl) (fun _ _ _ => rfl) (fun _ => rfl) t d
theorem before2 (c : Dev nD) (t : Fin cfg1.N) (d) : (dat W c).before 2 t d = blk W c 2 t :=
  (dat W c).before_in_eq_fetched 2 rfl (fun _ => rfl) (fun _ _ _ => rfl) (fun _ => rfl) t d
theorem before3 (c : Dev nD) (t : Fin cfg1.N) (d) : (dat W c).before 3 t d = blk W c 3 t :=
  (dat W c).before_in_eq_fetched 3 rfl (fun _ => rfl) (fun _ _ _ => rfl) (fun _ => rfl) t d
theorem before4 (c : Dev nD) (t : Fin cfg1.N) (d) : (dat W c).before 4 t d = blk W c 4 t :=
  (dat W c).before_in_eq_fetched 4 rfl (fun _ => rfl) (fun _ _ _ => rfl) (fun _ => rfl) t d

set_option maxHeartbeats 4000000 in
/-- The body's obligation at every point. -/
theorem body_obligation (c : Dev nD) : BodyObligation (dat W c) (defs₀ (F := F)) 𝒱₀ (none : HIx 1) Set.univ := fun t => by
  rw [bigSep_W1, bigSep_W1, show (dat W c).Φ t.castSucc = BI.emp from rfl, show (dat W c).Φ t.succ = BI.emp from rfl,
    show (dat W c).owesAt none t.succ = (dat W c).owesAt none t.castSucc from rfl]
  iintro ⟨HΦ, HO, ⟨%d0, H0⟩, ⟨%d1, H1⟩, ⟨%d2, H2⟩, ⟨%d3, H3⟩, ⟨%d4, H4⟩, ⟨%d5, H5⟩⟩
  ihave H0 := ((Entails.of_eq (congrArg (owns (c.tc : Thread nD τ) (st1_0 t) fullShare) (before0 W c t d0))).trans (owns_part (F := F) (c := c.tc) (st1_0 t) _).1) $$ H0
  ihave H1 := ((Entails.of_eq (congrArg (owns (c.tc : Thread nD τ) (st1_1 t) fullShare) (before1 W c t d1))).trans (owns_part (F := F) (c := c.tc) (st1_1 t) _).1) $$ H1
  ihave H2 := ((Entails.of_eq (congrArg (owns (c.tc : Thread nD τ) (st1_2 t) fullShare) (before2 W c t d2))).trans (owns_part (F := F) (c := c.tc) (st1_2 t) _).1) $$ H2
  ihave H3 := ((Entails.of_eq (congrArg (owns (c.tc : Thread nD τ) (st1_3 t) fullShare) (before3 W c t d3))).trans (owns_part (F := F) (c := c.tc) (st1_3 t) _).1) $$ H3
  ihave H4 := ((Entails.of_eq (congrArg (owns (c.tc : Thread nD τ) (st1_4 t) fullShare) (before4 W c t d4))).trans (owns_part (F := F) (c := c.tc) (st1_4 t) _).1) $$ H4
  ihave H5 := (owns_part (F := F) (c := c.tc) (st1_5 t) _).1 $$ H5
  iapply (wp_tc (F := F) c (st1_0 t) (st1_1 t) (st1_2 t) (st1_3 t) (st1_4 t) (st1_5 t) (grid1.coords t) (hstage1_0 ((cfg1.slots t 0).cast nbuf1_0)) (hstage1_1 ((cfg1.slots t 1).cast nbuf1_1)) (hstage1_2 ((cfg1.slots t 2).cast nbuf1_2)) (hstage1_3 ((cfg1.slots t 3).cast nbuf1_3)) (hstage1_4 ((cfg1.slots t 4).cast nbuf1_4)) (hstage1_5 ((cfg1.slots t 5).cast nbuf1_5))
    _ _ _ _ _ _ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [HO]; · iexact HO
  isplitl [H0]; · iapply (owns_part (F := F) (c := c.tc) (st1_0 t) _).2 $$ H0
  isplitl [H1]; · iapply (owns_part (F := F) (c := c.tc) (st1_1 t) _).2 $$ H1
  isplitl [H2]; · iapply (owns_part (F := F) (c := c.tc) (st1_2 t) _).2 $$ H2
  isplitl [H3]; · iapply (owns_part (F := F) (c := c.tc) (st1_3 t) _).2 $$ H3
  isplitl [H4]; · iapply (owns_part (F := F) (c := c.tc) (st1_4 t) _).2 $$ H4
  iapply (owns_part (F := F) (c := c.tc) (st1_5 t) _).2 $$ H5

/-! ## The region over the thread state -/

/-- The valuation the region leaves. -/
def Wend (c : Dev nD) : Valuation τ sig (Elt F) := Pipeline.afterRegion (dat W c) (W c)

/-- The windows' arrays are distinct. -/
theorem arr_inj : Function.Injective (arrRef cfg1.spec) := launch1.win.arr_inj

set_option backward.isDefEq.respectTransparency.types false in
/-- The region over every unscoped buffer at `W c`, whatever rides beside, and the core's record of waits at or below
    the level the call before it left: entered with the arrays split out, left with them put back. -/
def reg (R : Dev nD → sProp (MM F)) :
    Pipeline.RegionSeg (pcfgs (F := F)) adm (pdats W) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation W c).loose
  hwaits := Pipeline.hwaits_of_owed_zero _ _ _ _ _ _ 0 fun _ _ => rfl
  pre c := iprop(unscopedBufs c (fun b => W c (Proc.devRef .tc b)) ∗ R c
    ∗ ∃ Wd, ⌜(K (F := F)).WBelow (N := 1) (T c) Wd 8⌝ ∗ owes (c.tc : Thread nD τ) (0 : CellTallies nD τ sig (HIx 1)) Wd)
  post c := iprop(unscopedBufs c (fun b => Wend W c (Proc.devRef .tc b)) ∗ R c
    ∗ ∃ Wd, ⌜(K (F := F)).WBelow (N := 1) (T c) Wd 8⌝ ∗ owes (c.tc : Thread nD τ) (0 : CellTallies nD τ sig (HIx 1)) Wd)
  X _ := BI.emp
  Y _ := BI.emp
  Z c := iprop(Pipeline.unscopedRest (Ix := HIx 1) (Name := ℕ) (U := UU) (Lvl := ℕ) spec1 c (fun b => W c (Proc.devRef .tc b)) ∗ R c)
  hentry c := by
    rw [Pipeline.ownSems0_none]
    have hsplit := Pipeline.arrays_of_unscopedBufs (p := 0) (pcfgs (F := F)) adm (pdats W) launch1.win launch1.arr_whole c
      ((pdats W 0 c).share_full fun _ => rfl) (fun b => W c (Proc.devRef .tc b)) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, %hW, HO⟩; iexists Wd; isplitr; · ipureintro; exact fun q hq => Or.inl (hW q hq)
      iexact HO
    isplitr; · iempintro
    isplitl [Hrest] <;> iassumption
  hin c := by
    rw [show (pdats W 0 c).Φ 0 = BI.emp from rfl]
    iintro ⟨-, -, -⟩; iempintro
  hout c := by
    rw [Pipeline.ownSems0_none, show (pdats W 0 c).Φ (Fin.last _) = BI.emp from rfl,
      show Pipeline.scopedRest (Ix := HIx 1) (Name := ℕ) (U := UU) (Lvl := ℕ) (Val := Elt F) (Pipeline.pin (pcfgs (F := F)) adm 0).spec c = BI.emp from scopedRest1_eq c]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ) launch1.win launch1.arr_whole c
      (pdats W) ((pdats W 0 c).share_full fun _ => rfl) (fun b => W c (Proc.devRef .tc b)) (fun b => Wend W c (Proc.devRef .tc b))
      ((pdats W 0 c).arrAt · cfg1.N)
      (fun w => (Pipeline.afterRegion_arr (dat W c) (W c) arr_inj w).symm)
      (fun b hb => Pipeline.afterRegion_of_not_arr (dat W c) (W c) fun w h => hb (h ▸ Finset.mem_image.mpr ⟨w, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wd, %hW, HO⟩; iexists Wd
    isplitr
    · ipureintro
      intro q hq
      rcases hW hq with h | h
      · exact h
      · obtain ⟨w, s, rfl⟩ := h
        exact Nat.zero_le _
    iexact HO

end Cert.Proof

end
-- ==== Proof.Launch.lean ====
/-
  The kernel's whole run: the launch's obligations for the SparseCore call, the host program with its two calls on the
  TensorCore, and what memory holds at the end.
-/
module

public import proofs.«01_k».proof.Proof.Deal
public import proofs.«01_k».proof.Proof.Region

@[expose] public section

noncomputable section

namespace Cert.Proof

open Cert.KernelIdeal Cert.KernelIdeal.Gen Cert.Proof.Pieces Cert.Proof.Coords
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The program meets the launch theorem's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

variable (m : (ℓ : Loc nD τ sig) → Buf (Elt F) ℓ) (ρ : Dev nD → PrngReg)

/-! ## The contents, stage by stage -/

/-- The buffers when the SparseCore call starts, -/
def WA (d : Dev nD) : Valuation τ sig (Elt F) := StableHlo.after opsA fun b => m (d, b)
/-- when the TensorCore call starts, -/
def WB (d : Dev nD) : Valuation τ sig (Elt F) := StableHlo.after opsB (Wsc (WA m d))
/-- and at the end. -/
def WC (d : Dev nD) : Valuation τ sig (Elt F) := StableHlo.after opsC (Wend (WB m) d)

/-! ## What the calls pass on -/

/-- A core's tiles' operands, and their results. -/
def coreGo (d : Dev nD) (c : Fin 2) (v : Vals F) : sProp (MM F) := bigSep (Finset.univ : Finset (Fin 16)) fun s => goV d (coordsV c s) v
def coreTd (d : Dev nD) (c : Fin 2) (v : Vals F) : sProp (MM F) := bigSep (Finset.univ : Finset (Fin 16)) fun s => tdV d (coordsV c s) v

instance (d : Dev nD) (c : Fin 2) (v : Vals F) : Storable (upEmb : UEmb _ (MM F)) (coreGo d c v) := by
  have h : ∀ s : Fin 16, Storable (upEmb : UEmb _ (MM F)) (goV d (coordsV c s) v) := fun s => inferInstance
  unfold coreGo
  exact Storable.bigSep upEmb _ _
instance (d : Dev nD) (c : Fin 2) (v : Vals F) : Storable (upEmb : UEmb _ (MM F)) (coreTd d c v) := by
  have h : ∀ s : Fin 16, Storable (upEmb : UEmb _ (MM F)) (tdV d (coordsV c s) v) := fun s => inferInstance
  unfold coreTd
  exact Storable.bigSep upEmb _ _

/-- The SparseCore call hands each core its tiles' operands and takes back their results. -/
def P : (K (F := F)).Pay (nD := nD) (Val := Elt F) (Name := ℕ) (U := UU) where
  st := fun q d c => match q with | 0 => coreGo d c (vals (WA m d))
  dn := fun q d c => match q with | 0 => coreTd d c (vals (WA m d))
  go := fun q d c s => match q with | 0 => goV d (coordsV c s) (vals (WA m d))
  td := fun q d c s => match q with | 0 => tdV d (coordsV c s) (vals (WA m d))
  x := fun _ _ => iprop(emp)

instance P_storable : (P m).IsStorable where
  st q d c := match q with | 0 => (inferInstance : BI.Storable (upEmb : UEmb _ (MM F)) (coreGo d c (vals (WA m d))))
  dn q d c := match q with | 0 => (inferInstance : BI.Storable (upEmb : UEmb _ (MM F)) (coreTd d c (vals (WA m d))))
  go q d c s := match q with | 0 => (inferInstance : BI.Storable (upEmb : UEmb _ (MM F)) (goV d (coordsV c s) (vals (WA m d))))
  td q d c s := match q with | 0 => (inferInstance : BI.Storable (upEmb : UEmb _ (MM F)) (tdV d (coordsV c s) (vals (WA m d))))

/-- The task of a tile is the body at its position. -/
theorem defs₀_vector (c : Fin τ.nSC) (s : Fin τ.nSub) :
    defs₀ (F := F) (.scVector c s) 0 () = SparseCore.onTile hcore0 hsub0 (fun c s => bodyV (coordsV c s)) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each tile's task, from what it is handed to what it hands back. -/
theorem tileObl (hix : ∀ d n, ((vals (WA m d)).ix n).toNat < 100000) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (vals (WA m d)) O W facts (hix d) hO).trans (wp_mono frame _ _ fun _ => obl_post)

/-- A core's operands are its tiles' operands, its results its tiles' results. -/
theorem vecSplit : (K (F := F)).VecSplit' (P m) 0 := by
  intro d c
  show (bigSep (Finset.univ : Finset (Fin 16)) fun s => goV d (coordsV c s) (vals (WA m d))) ⊢ |={Set.univ}=> iprop(
      (bigSep (Finset.univ : Finset (Fin 16)) fun s => goV d (coordsV c s) (vals (WA m d)))
      ∗ ((bigSep (Finset.univ : Finset (Fin 16)) fun s => tdV d (coordsV c s) (vals (WA m d)))
          -∗ bigSep (Finset.univ : Finset (Fin 16)) fun s => tdV d (coordsV c s) (vals (WA m d))))
  iintro H; imodintro
  isplitl [H]; · iexact H
  iintro H; iexact H

/-! ## The launch element -/

/-- The staging buffers' counters are told apart. -/
theorem phinj : Function.Injective (Pipeline.cellOf (nD := nD) (τ := τ) (Pipeline.pin (pcfgs (F := F)) adm)) := cellOf_inj

/-- The handshakes' and the pipeline's launch elements. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- What device `d`'s host program gets for the pipeline. -/
def G (d : Dev nD) : sProp (MM F) :=
  iprop(Pipeline.cellsGhost (Pipeline.pin (pcfgs (F := F)) adm) EK 0 d ∗ Pipeline.toksInit (Pipeline.pin (pcfgs (F := F)) adm) EK 0 d)

theorem ownU_split (a : UH) (b : UK) (c : Counters) : (ownU (a, (b, c)) : sProp (MM F)) ⊢ iprop(BI.own (EH a) ∗ BI.own (EK b)) := by
  have h1 := own_pair_emb (uEmb (nD := nD) (τ := τ) (sig := sig) (Ix := HIx 1) (Val := Elt F) (Name := ℕ) (U := UU) (Lvl := ℕ)).toEmb a (b, c)
  have h2 := own_pair_emb ((Emb.inr : Emb (UK × Counters) UU).trans (uEmb (nD := nD) (τ := τ) (sig := sig) (Ix := HIx 1) (Val := Elt F) (Name := ℕ) (U := UU) (Lvl := ℕ)).toEmb) b c
  exact h1.trans (BI.sep_mono (BI.Entails.refl _) (h2.trans sep_elim_left))

/-- The launch element gives the handshakes and each device's pipeline state. -/
theorem hu₀ : (ownU (u₀ (F := F)) : sProp (MM F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp (MM F)) := by
    show (bigSep Finset.univ fun thr : Thread nD τ => bigSep Finset.univ fun q : Fin 1 => (iprop(emp) : sProp (MM F))) = _
    exact (bigSep_congr fun thr _ => bigSep_emp_const _).trans (bigSep_emp_const _)
  have hg : (iprop((bigSep Finset.univ fun c : Dev nD => bigSep Finset.univ fun p => Pipeline.cellsGhost (Pipeline.pin (pcfgs (F := F)) adm) EK p c)
      ∗ (bigSep Finset.univ fun c : Dev nD => bigSep Finset.univ fun p => Pipeline.toksInit (Pipeline.pin (pcfgs (F := F)) adm) EK p c)) : sProp (MM F))
      = bigSep Finset.univ fun d : Dev nD => G d := by
    unfold G
    rw [bigSep_sep']
    congr 1 <;> refine bigSep_congr fun c _ => bigSep_univ_of_subsingleton (0 : Fin 1)
  rw [hx]
  unfold u₀
  iintro Hu
  ihave H := (ownU_split _ _ _) $$ Hu
  icases H with ⟨HH, HK⟩
  imod (Pipeline.fund_ghost (Pipeline.pin (pcfgs (F := F)) adm) EK phinj) $$ HK with HG
  imodintro
  isplitl [HH]; · iexact HH
  isplitl [HG]
  · iapply (Entails.of_eq hg); iexact HG
  iempintro

/-! ## The host program -/

/-- Everything the host program holds at the end. -/
def FIN (d : Dev nD) : sProp (MM F) := StableHlo.held (d.tc : Thread nD τ) (Pipeline.ucRefs τ sig) (WC m d)

/-- The TensorCore call, in the program without the SparseCore call. -/
def callTC : Prog (TpuEff nD τ sig (Elt F) (ΛP (F := F)) .tc) PUnit := .op (.customCall (Pipeline.entry 0) ()) .ret

theorem lift_call : (Prog.lift (.customCall (SparseCore.inner (Pipeline.entry 0)) ()) : Prog (TpuEff nD τ sig (Elt F) (SparseCore.Sig (ΛP (F := F)) 1) .tc) PUnit)
    = SparseCore.liftProg (callTC (F := F)) := rfl

/-- The TensorCore call. -/
theorem wp_region (d : Dev nD) (W : Dev nD → Valuation τ sig (Elt F)) (Q : PUnit → sProp (MM F)) :
    iprop((iprop(boundary (SparseCore.T d) ∗ (reg W (fun _ => iprop(emp))).post d) -∗ Q ⟨⟩) ∗ boundary (SparseCore.T d) ∗ (reg W (fun _ => iprop(emp))).pre d
        ∗ levAts (K (F := F)).L (K (F := F)).lev ∗ G d)
      ⊢ wp frame (wpE ((K (F := F)).defs (D (F := F))) 𝒱 (SparseCore.T d) none) Set.univ (Prog.lift (.customCall (SparseCore.inner (Pipeline.entry 0)) ())) Q := by
  rw [lift_call]
  have hl := (K (F := F)).wp_liftProg (D (F := F)) 𝒱 (SparseCore.T d) Set.univ none callTC Q
  unfold callTC at hl
  unfold G
  iintro ⟨Hk, Hb, Hp, Hl, Hc, Ht⟩
  iapply hl
  iapply (Pipeline.RegionSeg.wp pcfgs adm (pdats W) none phinj EK defs₀ 𝒱₀ (K (F := F)).L (K (F := F)).lev (reg W (fun _ => iprop(emp))) d none
    (fun _ h => nomatch h) .ret Q)
  isplitl [Hk]
  · iintro H; rw [wp_ret]; imodintro; iapply Hk; iexact H
  isplitl [Hb]; · iexact Hb
  isplitl [Hp]; · iexact Hp
  isplitl [Hl]; · iexact Hl
  isplitl [Hc] <;> iassumption

/-- After the SparseCore call the TensorCore owes nothing. -/
theorem tcSt_one (d : Dev nD) : ∃ R : sProp (MM F), (K (F := F)).tcSt EH d 1
    = iprop((∃ Wd, ⌜(K (F := F)).WBelow (N := 1) (SparseCore.T d) Wd 8⌝ ∗ owes (d.tc : Thread nD τ) (0 : CellTallies nD τ sig (HIx 1)) Wd) ∗ R) := by
  refine ⟨?_, ?_⟩
  rotate_left
  · unfold SparseCore.Cfg.tcSt
    rw [(K (F := F)).Otc_end d (le_refl 1)]
    rfl

/-- What the launch gives the host program, its buffers as contents. -/
theorem start_held (d : Dev nD) : (unscopedBufs d (fun b => m ((SparseCore.T d).loc b)) : sProp (MM F))
    = StableHlo.held (d.tc : Thread nD τ) (Pipeline.ucRefs τ sig) (fun b => m (d, b)) :=
  Pipeline.unscopedBufs_held d fun b => m (d, b)

/-- The host program on device `d`: the first operations, the SparseCore call, the second, the TensorCore call, the last. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd
  rw [main_eq, start_held]
  iintro ⟨#Hctx, Hst, ⟨Hb, Hh, Hts, -⟩, HG⟩
  ihave #Hlv := ((K (F := F)).ctx_levAts κ) $$ Hctx
  iapply (StableHlo.wp_seq 𝒱 none Set.univ d (Pipeline.ucRefs τ sig) _ opsA opsA_sub opsA_fresh) $$ [Hb Hh]
  · isplitl [Hb] <;> iassumption
  iintro ⟨Hb, Hh⟩
  rw [wp_bind]
  ihave Hh := ((show (StableHlo.held (d.tc : Thread nD τ) (Pipeline.ucRefs τ sig) (StableHlo.after opsA fun b => m (d, b)) : sProp (MM F))
    ⊢ StableHlo.held (d.tc : Thread nD τ) (Pipeline.ucRefs τ sig) (WA m d) from BI.Entails.refl _).trans (deal_all d (WA m d))) $$ Hh
  icases Hh with ⟨Hgo, Hback⟩
  iapply ((K (F := F)).wp_run (D (F := F)) 𝒱 (EH := EH) (P := P m) κ d 0) $$ [Hst Hgo Hback Hb Hts HG]
  isplitr; · iexact Hctx
  isplitl [Hst]; · iexact Hst
  isplitl [Hgo]
  · iapply (show (tiles fun i => goV d i (vals (WA m d))) ⊢ (bigSep Finset.univ fun c : Fin ((K (F := F)).nCore 0) => (P m).st 0 d c : sProp (MM F)) from BI.Entails.refl _)
    iexact Hgo
  iintro ⟨Hst, Hdn⟩
  ihave Hdn := (show (bigSep Finset.univ fun c : Fin ((K (F := F)).nCore 0) => (P m).dn 0 d c : sProp (MM F)) ⊢ (tiles fun i => tdV d i (vals (WA m d))) from BI.Entails.refl _) $$ Hdn
  ihave Hh := Hback $$ Hdn
  iapply (StableHlo.wp_seq 𝒱 none Set.univ d (Pipeline.ucRefs τ sig) _ opsB opsB_sub opsB_fresh) $$ [Hb Hh]
  · isplitl [Hb] <;> iassumption
  iintro ⟨Hb, Hh⟩
  rw [wp_bind]
  ihave Hst := ((show (K (F := F)).tcSt EH d ((0 : Fin 1).val + 1) ⊢ (K (F := F)).tcSt EH d 1 from BI.Entails.refl _).trans (Entails.of_eq hR)) $$ Hst
  icases Hst with ⟨HO, HR⟩
  iapply (wp_region d (WB m) _)
  isplitl [HR Hts]
  · iintro ⟨Hb, Hp⟩
    ihave Hp := (show (reg (WB m) (fun _ => iprop(emp))).post d ⊢ iprop(StableHlo.held (d.tc : Thread nD τ) (Pipeline.ucRefs τ sig) (Wend (WB m) d) ∗ emp
      ∗ ∃ Wd, ⌜(K (F := F)).WBelow (N := 1) (SparseCore.T d) Wd 8⌝ ∗ owes (d.tc : Thread nD τ) (0 : CellTallies nD τ sig (HIx 1)) Wd) from
      BI.sep_mono (Entails.of_eq (Pipeline.unscopedBufs_held d (Wend (WB m) d))) (BI.Entails.refl _)) $$ Hp
    icases Hp with ⟨Hh, -, HO⟩
    rw [← bind_pure (StableHlo.seq opsC)]
    iapply (StableHlo.wp_seq 𝒱 none Set.univ d (Pipeline.ucRefs τ sig) _ opsC opsC_sub opsC_fresh) $$ [Hb Hh]
    · isplitl [Hb] <;> iassumption
    iintro ⟨Hb, Hh⟩
    rw [wp_pure]
    imodintro
    isplitl [HO HR]
    · iapply (Entails.of_eq hR.symm); isplitl [HO] <;> iassumption
    isplitl [Hh]; · iapply (show (StableHlo.held (d.tc : Thread nD τ) (Pipeline.ucRefs τ sig) (StableHlo.after opsC (Wend (WB m) d)) : sProp (MM F)) ⊢ FIN m d from BI.Entails.refl _); iexact Hh
    isplitl [Hb] <;> iassumption
  isplitl [Hb]; · iexact Hb
  isplitl [Hh HO]
  · iapply (show iprop(StableHlo.held (d.tc : Thread nD τ) (Pipeline.ucRefs τ sig) (WB m d) ∗ emp
      ∗ ∃ Wd, ⌜(K (F := F)).WBelow (N := 1) (SparseCore.T d) Wd 8⌝ ∗ owes (d.tc : Thread nD τ) (0 : CellTallies nD τ sig (HIx 1)) Wd) ⊢ (reg (WB m) (fun _ => iprop(emp))).pre d from
      BI.sep_mono (Entails.of_eq (Pipeline.unscopedBufs_held d (WB m d)).symm) (BI.Entails.refl _))
    isplitl [Hh]; · iexact Hh
    isplitr; · iempintro
    iexact HO
  isplitr; · iexact Hlv
  iexact HG

/-! ## The end -/

/-- The buffers at the end hold the last stage's contents. -/
def fq (d : Dev nD) (s' : Phys nD τ sig (Elt F)) : Prop := ∀ b : {b // b ∈ Pipeline.ucRefs τ sig}, s'.mem.mem (d, b.1) = WC m d b.1

theorem hfin (d : Dev nD) (s' : Phys nD τ sig (Elt F)) : iprop(FIN m d ∗ SI s') ⊢ (⌜fq m d s'⌝ : sProp (MM F)) := by
  unfold fq FIN
  refine (forall_intro fun b => ?_).trans pure_forall.2
  have hb := StableHlo.held_sub_split (Ix := HIx 1) (Val := Elt F) (Name := ℕ) (U := UU) (Lvl := ℕ) (d.tc : Thread nD τ) (Finset.singleton_subset_iff.2 b.2) (WC m d)
  rw [hb, StableHlo.held, bigSep_singleton]
  iintro ⟨⟨H, -⟩, HSI⟩
  ihave H := (SI_pointsTo_agree (st := s') (ℓ := (d, b.1)) (I := Finset.univ) (q := fullShare) (f := WC m d b.1)) $$ [HSI H]
  · isplitl [HSI] <;> iassumption
  icases H with %h
  ipureintro; exact funext fun i => h i (Finset.mem_univ i)

/-- What the run ends with: every buffer outside the calls' working space at its last contents, every counter at zero. -/
def QC : PUnit × MemSt nD τ sig (Elt F) → Prop := fun r =>
  (∀ d : Dev nD, ∀ b ∈ Pipeline.ucRefs τ sig, r.2.mem (d, b) = WC m d b) ∧ r.2.sem = fun _ => 0

/-- The run of the whole program, if every index is in range. -/
theorem run_main (hix : ∀ d n, ((vals (WA m d)).ix n).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hix)
    (fun q _ => match q with | 0 => SparseCore.Cfg.VecSplit.of_plain (vecSplit m))
    m ρ main (fun d => G d) (FIN m) (u₀ (F := F)) (sep_elim_left.trans (hu₀ m)) (hmain m ρ) (fq m) (hfin m) (QC m)
    (fun _ h hz => ⟨fun d b hb => h d ⟨b, hb⟩, hz⟩)

end Cert.Proof

end
-- ==== Proof.Given.lean ====
/-
  What the two preconditions say of the argument arrays, element by element.
-/
module

public import proofs.«01_k».proof.Proof.Gen.Pre_in_range
public import proofs.«01_k».proof.Proof.Gen.Pre_finite_plain
public import Idealize.ShloMosaic.Lib.ReduceAll
public import Idealize.ShloMosaic.Lib.Pointwise

@[expose] public section

noncomputable section

namespace Cert.Proof.Given

open Idealize.ShloMosaic

variable {F : FTy → Type} [FloatOps F]

instance : Subsingleton (⟨0, ![]⟩ : Shape).Idx := ⟨fun a b => funext fun x => x.elim0⟩

/-- Of two conditions joined by `and`, the first, -/
theorem and_left {s : Shape} {p q : IVec s 1} (h : andi p q = fun _ => 1#1) : p = fun _ => 1#1 :=
  funext fun j => (IntOp.andi_eq_one.1 (congrFun h j)).1
/-- and the second. -/
theorem and_right {s : Shape} {p q : IVec s 1} (h : andi p q = fun _ => 1#1) : q = fun _ => 1#1 :=
  funext fun j => (IntOp.andi_eq_one.1 (congrFun h j)).2

/-- A word between 0 and 99999 as a signed number is below 100000 as an unsigned one. -/
theorem toNat_lt {v : BitVec 32} (h : IntOp.andi (IntOp.cmpi .sge v 0#32) (IntOp.cmpi .slt v 100000#32) = 1#1) : v.toNat < 100000 := by
  obtain ⟨h0, h1⟩ := IntOp.andi_eq_one.1 h
  have h0 := IntOp.cmpi_sge.1 h0
  have h1 := IntOp.cmpi_slt.1 h1
  simp only [BitVec.toInt_eq_toNat_cond, BitVec.toNat_ofNat, Nat.reducePow, Nat.reduceMod] at h0 h1
  omega

open Cert.Pre_in_range in
/-- `in_range` gives every index its range. -/
theorem ix_of_in_range {a0 a1 : FVec F S22x100000x16 .f32} {a2 : FVec F S231x4x2x16 .f32} {a3 : FVec F S231x2x32 .f32} {a4 : FVec F S5 .f32}
    {a5 : IVec S22x16384 32} {a6 : FVec F S3000000 .f32} (h : Cert.Pre_in_range.fn a0 a1 a2 a3 a4 a5 a6 = fun _ => 1#1) (i : S22x16384.Idx) :
    (a5 i).toNat < 100000 :=
  toNat_lt (Host.reduce_andi_all _ _ _ _ (fun x => x.elim0) (congrFun h fun x => x.elim0) i)

open Cert.Pre_finite_plain in
/-- `finite_plain` gives every index its range. -/
theorem ix_of_finite_plain {a0 a1 : FVec F S22x100000x16 .f32} {a2 : FVec F S231x4x2x16 .f32} {a3 : FVec F S231x2x32 .f32} {a4 : FVec F S5 .f32}
    {a5 : IVec S22x16384 32} {a6 : FVec F S3000000 .f32} (h : Cert.Pre_finite_plain.fn a0 a1 a2 a3 a4 a5 a6 = fun _ => 1#1) (i : S22x16384.Idx) :
    (a5 i).toNat < 100000 :=
  toNat_lt (Host.reduce_andi_all _ _ _ _ (fun x => x.elim0)
    (congrFun (and_left (and_left (and_left (and_left (and_left (and_left (and_left (and_left h)))))))) fun x => x.elim0) i)

/-- An extended real whose absolute value is below infinity is a real number. -/
theorem real_of_lt {x : EReal} (h : max x (-x) < ⊤) : ∃ r : ℝ, x = r := by
  induction x with
  | bot => simp at h
  | top => simp at h
  | coe r => exact ⟨r, rfl⟩

/-- The pattern of infinity is infinity. -/
theorem ofBits_inf : Ideal.ofBits .f32 0x7F800000#32 = ⊤ := by
  simp [Ideal.ofBits, Ideal.ieee]

/-- An array that passes the test of finiteness has real elements. -/
theorem real_of_test {s : Shape} {a : FVec Ideal s .f32} {m : Fin 0 → Fin s.rank} {hb : (⟨0, ![]⟩ : Shape).BroadcastsInDim s m} {ds : List (Fin s.rank)}
    {hr : s.ReducesTo ds ⟨0, ![]⟩} {hs : 0 < (⟨0, ![]⟩ : Shape).numel}
    (h : Host.reduce IntOp.andi (cmpf .olt (Host.absf a) (broadcastInDim s m hb (constant (F := Ideal) ⟨0, ![]⟩ .f32 0x7F800000#32))) (constantI ⟨0, ![]⟩ 1 1#1) hr hs
      = fun _ => 1#1) (i : s.Idx) : ∃ r : ℝ, a i = r := by
  have h := Host.reduce_andi_all _ _ _ _ (fun x => x.elim0) (congrFun h fun x => x.elim0) i
  have h : BitVec.ofBool (decide (max (a i) (-(a i)) < Ideal.ofBits .f32 0x7F800000#32)) = 1#1 := h
  rw [ofBits_inf] at h
  refine real_of_lt ?_
  by_contra hn
  rw [decide_eq_false hn] at h
  exact absurd h (by decide)

section Finite

open Cert.Pre_finite_plain

variable {a0 a1 : FVec Ideal S22x100000x16 .f32} {a2 : FVec Ideal S231x4x2x16 .f32} {a3 : FVec Ideal S231x2x32 .f32} {a4 : FVec Ideal S5 .f32}
    {a5 : IVec S22x16384 32} {a6 : FVec Ideal S3000000 .f32} (h : Cert.Pre_finite_plain.fn a0 a1 a2 a3 a4 a5 a6 = fun _ => 1#1)
include h

/-! `finite_plain` gives each float array real elements, -/

theorem real0 (i : S22x100000x16.Idx) : ∃ r : ℝ, a0 i = r :=
  real_of_test (and_right (and_left (and_left (and_left (and_left (and_left (and_left (and_left h)))))))) i
theorem real1 (i : S22x100000x16.Idx) : ∃ r : ℝ, a1 i = r :=
  real_of_test (and_right (and_left (and_left (and_left (and_left (and_left (and_left h))))))) i
theorem real2 (i : S231x4x2x16.Idx) : ∃ r : ℝ, a2 i = r :=
  real_of_test (and_right (and_left (and_left (and_left (and_left (and_left h)))))) i
theorem real3 (i : S231x2x32.Idx) : ∃ r : ℝ, a3 i = r :=
  real_of_test (and_right (and_left (and_left (and_left (and_left h))))) i
theorem real4 (i : S5.Idx) : ∃ r : ℝ, a4 i = r :=
  real_of_test (and_right (and_left (and_left (and_left h)))) i
theorem real6 (i : S3000000.Idx) : ∃ r : ℝ, a6 i = r :=
  real_of_test (and_right (and_left (and_left h))) i

end Finite

/-- A number that compares equal to the pattern of zero is zero. -/
theorem zero_of_cmp {x : EReal} (h : Ideal.cmp .oeq x (Ideal.ofBits .f32 0x00000000#32) = 1#1) : x = 0 := by
  have h : BitVec.ofBool (decide (x = Ideal.ofBits .f32 0x00000000#32)) = 1#1 := h
  rw [Ideal.ofBits_zero_f32] at h
  by_contra hn
  rw [decide_eq_false hn] at h
  exact absurd h (by decide)

section Zero

open Cert.Pre_finite_plain Cert.Pre_finite_plain.Facts

variable {a0 a1 : FVec Ideal S22x100000x16 .f32} {a2 : FVec Ideal S231x4x2x16 .f32} {a3 : FVec Ideal S231x2x32 .f32} {a4 : FVec Ideal S5 .f32}
    {a5 : IVec S22x16384 32} {a6 : FVec Ideal S3000000 .f32} (h : Cert.Pre_finite_plain.fn a0 a1 a2 a3 a4 a5 a6 = fun _ => 1#1)
include h

/-! and makes the third and the fourth mixing weight zero. -/

theorem zero2 : a4 (ix1 2) = 0 := by
  have e := congrFun (and_right (and_left h)) fun x => x.elim0
  have k : (shapeCast S_ (extractStridedSlice S1 ![2] a4 slices_S5_S1_2) shapeCasts_S1_S_) (fun x => x.elim0) = a4 (ix1 2) := by
    pointwise []
  exact zero_of_cmp (k ▸ e)
theorem zero3 : a4 (ix1 3) = 0 := by
  have e := congrFun (and_right h) fun x => x.elim0
  have k : (shapeCast S_ (extractStridedSlice S1 ![3] a4 slices_S5_S1_3) shapeCasts_S1_S_) (fun x => x.elim0) = a4 (ix1 3) := by
    pointwise []
  exact zero_of_cmp (k ▸ e)

end Zero

end Cert.Proof.Given

end
-- ==== Proof.Frames.lean ====
/-
  The frames: the kernel leaves its arguments as they were and every counter at zero, at the machine's values and at the
  ideal ones; so does the reference.
-/
module

public import proofs.«01_k».proof.Defs
public import proofs.«01_k».proof.Proof.Launch
public import proofs.«01_k».proof.Proof.Given
public import proofs.«01_k».proof.Proof.Gen.Kernel
public import proofs.«01_k».proof.Proof.Gen.ReferenceIdeal.Run

@[expose] public section

noncomputable section

namespace Cert.Proof

open Cert.KernelIdeal Cert.KernelIdeal.Gen Cert.Proof.Pieces
open Idealize.ShloMosaic Idealize.ShloMosaic.TcCoe Idealize.SL.Sem Idealize.ShloMosaic.StableHlo

variable {F : FTy → Type} [FloatOps F]
variable (m : (ℓ : Loc nD τ sig) → Buf (Elt F) ℓ)

/-- What the first stretch writes. -/
abbrev wA : List (Ref sig .tc) :=
  [main_c, main_c_0, main_v0, main_v1, main_v2, main_v3, main_v4, main_c_1, main_call0_v0, main_v5, main_v6, main_c_2, main_call1_v0, main_v7, main_v8]

/-- What the second stretch writes. -/
abbrev wB : List (Ref sig .tc) :=
  [main_call2_v0, main_call2_v1, main_call2_v2, main_call2_v3, main_call2_v4, main_v10, main_call3_v0, main_call3_v1, main_call3_v2, main_call3_v3, main_call3_v4, main_v11, main_v12, main_v13, main_c_3, main_v14, main_v15, main_v16, main_v17, main_v18, main_v19, main_v20, main_v21, main_v22, main_v23, main_v24, main_v25, main_v26, main_v27, main_v28, main_v29, main_v30, main_v31, main_v32, main_v33, main_v34, main_cst, main_v35, main_v36, main_v37, main_v38, main_v39, main_v40, main_v41, main_v42, main_v43, main_v44, main_v45, main_v46, main_v47, main_v48, main_v49, main_v50, main_v51, main_v52, main_v53, main_v54, main_v55, main_v56, main_v57, main_v58, main_cst_4, main_v59, main_v60, main_v61, main_v62, main_v63, main_v64, main_v65, main_v66, main_cst_5, main_v67, main_v68, main_v69, main_v70, main_v71, main_v72, main_v73, main_v74, main_v75, main_cst_6, main_v76, main_v77, main_v78, main_v79, main_v80, main_v81]

/-- What the first stretch does not write keeps its contents. -/
theorem keepA (V : Valuation τ sig (Elt F)) {r : Ref sig .tc} (hr : r ∉ wA) : StableHlo.after opsA V (tcr r) = V (tcr r) :=
  StableHlo.after_of_writes_sub opsA V (StableHlo.forall_writes_sub_of_map (W := wA) rfl) hr

/-- What the second stretch does not write keeps its contents. -/
theorem keepB (V : Valuation τ sig (Elt F)) {r : Ref sig .tc} (hr : r ∉ wB) : StableHlo.after opsB V (tcr r) = V (tcr r) :=
  StableHlo.after_of_writes_sub opsB V (StableHlo.forall_writes_sub_of_map (W := wB) rfl) hr

/-- What the last operation does not write keeps its contents. -/
theorem keepC (V : Valuation τ sig (Elt F)) {r : Ref sig .tc} (hr : r ∉ [main_v83]) : StableHlo.after opsC V (tcr r) = V (tcr r) :=
  StableHlo.after_of_writes_sub opsC V (StableHlo.forall_writes_sub_of_map (W := [main_v83]) rfl) hr

/-- A buffer nothing writes ends as it started. -/
theorem WC_kept (d : Dev nD) {r : Ref sig .tc} (hA : r ∉ wA) (h0 : r ≠ main_v9_0) (h1 : r ≠ main_v9_1) (hB : r ∉ wB) (hW : ∀ w, r ≠ Pipeline.arrRef cfg1.spec w) (hC : r ∉ [main_v83]) :
    WC m d (tcr r) = m (d, tcr r) := by
  unfold WC
  rw [keepC _ hC]
  refine (Pipeline.afterRegion_of_not_arr (dat (WB m) d) (WB m d) hW).trans ?_
  unfold WB
  rw [keepB _ hB, Wsc_of_ne _ (fun e => h0 (Proc.devRef_injective _ e)) (fun e => h1 (Proc.devRef_injective _ e))]
  exact keepA _ hA

/-- The index of a position is an entry of the index argument, or 0. -/
theorem ix_eq (d : Dev nD) (n : ℕ) :
    (vals (WA m d)).ix n = 0#32 ∨ ∃ i, (vals (WA m d)).ix n = (m (d, tcr main_arg5) : S22x16384.Idx → BitVec 32) i := by
  have e : (WA m d (tcr main_v8) : S360448.Idx → BitVec 32) = shapeCast S360448 (m (d, tcr main_arg5) : S22x16384.Idx → BitVec 32) shapeCasts_S22x16384_S360448 := by
    unfold WA
    simp only [opsA, TRef.binary, TRef.nullary, TRef.unary, TRef.ternary, TRef.toBuf, TRef.ofBuf, cast_eq]
    after_results_simp <;> rfl
  show un1 0#32 (WA m d (tcr main_v8) : S360448.Idx → BitVec 32) n = 0#32 ∨ ∃ i, un1 0#32 (WA m d (tcr main_v8) : S360448.Idx → BitVec 32) n = _
  rw [e]
  unfold un1
  split
  · exact Or.inr ⟨_, rfl⟩
  · exact Or.inl rfl

/-- If the index argument's entries are in range, so is the index of every position. -/
theorem ix_lt (h : ∀ d i, ((m (d, tcr main_arg5) : S22x16384.Idx → BitVec 32) i).toNat < 100000) (d : Dev nD) (n : ℕ) :
    ((vals (WA m d)).ix n).toNat < 100000 := by
  rcases ix_eq m d n with e | ⟨i, e⟩
  · rw [e]; decide
  · rw [e]; exact h d i

/-- The arguments at the end, from the end of the run. -/
theorem args_of_QC {r : PUnit × MemSt nD τ sig (Elt F)} (h : QC m r) (c : Dev nD) :
    r.2.mem (c, tcr main_arg0) = m (c, tcr main_arg0) ∧ r.2.mem (c, tcr main_arg1) = m (c, tcr main_arg1) ∧ r.2.mem (c, tcr main_arg2) = m (c, tcr main_arg2)
      ∧ r.2.mem (c, tcr main_arg3) = m (c, tcr main_arg3) ∧ r.2.mem (c, tcr main_arg4) = m (c, tcr main_arg4) ∧ r.2.mem (c, tcr main_arg5) = m (c, tcr main_arg5)
      ∧ r.2.mem (c, tcr main_arg6) = m (c, tcr main_arg6) :=
  ⟨(h.1 c _ (by decide)).trans (WC_kept m c (by decide) (by decide) (by decide) (by decide) (by decide) (by decide)),
   (h.1 c _ (by decide)).trans (WC_kept m c (by decide) (by decide) (by decide) (by decide) (by decide) (by decide)),
   (h.1 c _ (by decide)).trans (WC_kept m c (by decide) (by decide) (by decide) (by decide) (by decide) (by decide)),
   (h.1 c _ (by decide)).trans (WC_kept m c (by decide) (by decide) (by decide) (by decide) (by decide) (by decide)),
   (h.1 c _ (by decide)).trans (WC_kept m c (by decide) (by decide) (by decide) (by decide) (by decide) (by decide)),
   (h.1 c _ (by decide)).trans (WC_kept m c (by decide) (by decide) (by decide) (by decide) (by decide) (by decide)),
   (h.1 c _ (by decide)).trans (WC_kept m c (by decide) (by decide) (by decide) (by decide) (by decide) (by decide))⟩

/-- The bodies the two printed modules' kernel labels run are the same. -/
theorem same_bodies : Cert.Kernel.defs₀ (F := F) = Cert.KernelIdeal.defs₀ (F := F) := by
  funext p ℓ a
  match p, ℓ, a with
  | .scVector c s, 0, _ => rfl
  | .tc, 1, (t, s) => rfl
  | .scScalar c, ℓ, a => rfl
  | .tc, 0, _ => rfl
  | .scVector c s, 1, _ => rfl

/-- So are their body tables. -/
theorem same_defs : Cert.Kernel.defs (F := F) = Cert.KernelIdeal.defs (F := F) := by
  show Cert.KernelIdeal.sc.defs (Pipeline.defs Cert.KernelIdeal.pcfgs Cert.Kernel.defs₀) = Cert.KernelIdeal.sc.defs (Pipeline.defs Cert.KernelIdeal.pcfgs Cert.KernelIdeal.defs₀)
  exact congrArg (fun D => Cert.KernelIdeal.sc.defs (Pipeline.defs Cert.KernelIdeal.pcfgs D)) same_bodies

/-- What a frame states: every argument as at the start, every counter at zero. -/
def Kept : PUnit × MemSt nD τ sig (Elt F) → Prop := fun r =>
  (∀ c : Dev nD, r.2.mem (c, tcr main_arg0) = m (c, tcr main_arg0) ∧ r.2.mem (c, tcr main_arg1) = m (c, tcr main_arg1) ∧ r.2.mem (c, tcr main_arg2) = m (c, tcr main_arg2)
      ∧ r.2.mem (c, tcr main_arg3) = m (c, tcr main_arg3) ∧ r.2.mem (c, tcr main_arg4) = m (c, tcr main_arg4) ∧ r.2.mem (c, tcr main_arg5) = m (c, tcr main_arg5)
      ∧ r.2.mem (c, tcr main_arg6) = m (c, tcr main_arg6)) ∧ r.2.sem = fun _ => 0

/-- The frame at any values. -/
theorem frame_at (ρ : Dev nD → PrngReg) (h : ∀ d i, ((m (d, tcr main_arg5) : S22x16384.Idx → BitVec 32) i).toNat < 100000) :
    θ_run (Cert.KernelIdeal.defs (F := F)) (Cert.KernelIdeal.threads (F := F)) ⟨m, fun _ => 0, ρ⟩ (Kept m) :=
  (θ_run Cert.KernelIdeal.defs _ _).mono (fun _ h => ⟨args_of_QC m h, h.2⟩) (run_main m ρ (ix_lt m h))

set_option maxHeartbeats 4000000 in
/-- The frame at any values, of the module printed for the machine's. -/
theorem frame_at_kernel (ρ : Dev nD → PrngReg) (h : ∀ d i, ((m (d, tcr main_arg5) : S22x16384.Idx → BitVec 32) i).toNat < 100000) :
    θ_run (Cert.Kernel.defs (F := F)) (Cert.Kernel.threads (F := F)) ⟨m, fun _ => 0, ρ⟩ (Kept m) := by
  rw [same_defs]
  exact frame_at m ρ h

set_option maxHeartbeats 4000000 in
/-- The kernel's frame at the machine's values. -/
theorem frame_kernel : Cert.quiescent_Kernel := fun m ρ hpre => frame_at_kernel (F := Bits) m ρ fun d i => Given.ix_of_in_range (hpre d) i

/-- The kernel's frame at the ideal values. -/
theorem frame_kernelIdeal : Cert.quiescent_KernelIdeal := fun m ρ hpre => frame_at (F := Ideal) m ρ fun d i => Given.ix_of_in_range (hpre d) i

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.TcVal.lean ====
/-
  What one grid point of the TensorCore call computes, at the ideal values, element by element.
-/
module

public import proofs.«01_k».proof.Proof.Gen.KernelIdeal.Skeleton
public import Idealize.ShloMosaic.Lib.Pointwise
public import Idealize.ShloMosaic.Lib.Pipeline.Value

@[expose] public section

noncomputable section

namespace Cert.Proof.TcVal

open Cert.KernelIdeal Cert.KernelIdeal.Gen
open Idealize.ShloMosaic

/-- The embedding from a mean, a deviation's exponent argument and a noise value. -/
def emb (mu sd v : EReal) : EReal := mu + Ideal.log (1 + Ideal.exp sd) * v * Ideal.ofBits .f32 0x3C23D70A#32

/-- The noise rows, repeated 22 times. -/
def repeated (v5 : FVec Ideal S16x4096 .f32) : FVec Ideal S352x4096 .f32 :=
  concatenate S352x4096 0 (List.replicate 22 ⟨S16x4096, v5⟩) concatenates_S16x4096_S16x4096_S16x4096_S16x4096_S16x4096_S16x4096_S16x4096_S16x4096_S16x4096_S16x4096_S16x4096_S16x4096_S16x4096_S16x4096_S16x4096_S16x4096_S16x4096_S16x4096_S16x4096_S16x4096_S16x4096_S16x4096_S352x4096_d0

/-- Plane `k` of the repeated rows is row `k` modulo 16. -/
theorem repeated_apply (v5 : FVec Ideal S16x4096 .f32) (k : Fin 352) (b : Fin 4096) : repeated v5 (ix2 k b) = v5 (ix2 ⟨k.val % 16, by omega⟩ b) := by
  unfold repeated
  refine concatenate_replicate_apply (s₁ := S16x4096) (t := S352x4096) 0 22 v5 _ rfl (ix2 k b) (ix2 ⟨k.val % 16, by omega⟩ b) rfl fun c hc => ?_
  fin_cases c
  · exact absurd rfl hc
  · rfl

/-- The embedding block: the noise rows repeat every 16 planes. -/
def eBlock (v0 v2 : FVec Ideal S352x4096 .f32) (v4 : FVec Ideal S16x4096 .f32) : FVec Ideal S352x4096 .f32 :=
  addf (shapeCast S352x4096 v0 shapeCasts_S352x4096_S352x4096)
    (mulf (mulf (log (addf (broadcast S352x4096 (Scalar.ofBits .f32 0x3F800000#32)) (exp (shapeCast S352x4096 v2 shapeCasts_S352x4096_S352x4096))))
        (repeated (shapeCast S16x4096 v4 shapeCasts_S16x4096_S16x4096)))
      (broadcast S352x4096 (Scalar.ofBits .f32 0x3C23D70A#32)))

/-- What the block contributes to the output. -/
def tail (E : FVec Ideal S352x4096 .f32) (v15 : FVec Ideal S352x704 .f32) (v18 : FVec Ideal S352x2 .f32) : FVec Ideal S2x4096 .f32 :=
  have v16 : FVec Ideal S352x704 .f32 := shapeCast S352x704 v15 shapeCasts_S352x704_S352x704
  have v17 : FVec Ideal S704x4096 .f32 := matmul dot_S352x704_S352x4096_S704x4096_0_0_1_1_n_n none v16 E (constant S704x4096 .f32 0x00000000#32)
  have v19 : FVec Ideal S352x2 .f32 := shapeCast S352x2 v18 shapeCasts_S352x2_S352x2
  have v20 : FVec Ideal S2x4096 .f32 := matmul dot_S352x2_S352x4096_S2x4096_0_0_1_1_n_n none v19 E (constant S2x4096 .f32 0x00000000#32)
  have v22 : FVec Ideal S352x4096 .f32 := mulf E (extractStridedSlice S352x4096 ![0, 0] v17 slices_S704x4096_o0_0_S352x4096)
  have v23 : FVec Ideal S4096 .f32 := multiReduction .add [0] S4096 v22 0x00000000#32 reduces_S352x4096_S4096 (.inl rfl) rfl
  have v26 : FVec Ideal S352x4096 .f32 := mulf E (extractStridedSlice S352x4096 ![352, 0] v17 slices_S704x4096_o352_0_S352x4096)
  have v27 : FVec Ideal S4096 .f32 := multiReduction .add [0] S4096 v26 0x00000000#32 reduces_S352x4096_S4096 (.inl rfl) rfl
  addf (concatenate S2x4096 0 [⟨S1x4096, shapeCast S1x4096 v23 shapeCasts_S4096_S1x4096⟩, ⟨S1x4096, shapeCast S1x4096 v27 shapeCasts_S4096_S1x4096⟩] concatenates_S1x4096_S1x4096_S2x4096_d0) v20

/-- The stored block is these two, one after the other. -/
theorem pay_eq (v0 v2 : FVec Ideal S352x4096 .f32) (v4 : FVec Ideal S16x4096 .f32) (v15 : FVec Ideal S352x704 .f32) (v18 : FVec Ideal S352x2 .f32) :
    k1_pay1 v0 v2 v4 v15 v18 = tail (eBlock v0 v2 v4) v15 v18 := rfl

set_option maxRecDepth 16384 in
/-- The embedding block at a plane and a column. -/
theorem eBlock_apply (v0 v2 : FVec Ideal S352x4096 .f32) (v4 : FVec Ideal S16x4096 .f32) (k : Fin 352) (b : Fin 4096) :
    eBlock v0 v2 v4 (ix2 k b) = emb (v0 (ix2 k b)) (v2 (ix2 k b)) (v4 (ix2 ⟨k.val % 16, by omega⟩ b)) := by
  pointwise [eBlock, emb, repeated_apply]

set_option maxRecDepth 16384 in
/-- The first row of the output. -/
theorem tail_apply0 (E : FVec Ideal S352x4096 .f32) (v15 : FVec Ideal S352x704 .f32) (v18 : FVec Ideal S352x2 .f32) (b : Fin 4096) :
    tail E v15 v18 (ix2 0 b)
      = (∑ k : Fin 352, E (ix2 k b) * ∑ k' : Fin 352, v15 (ix2 k' ⟨k.val, by omega⟩) * E (ix2 k' b)) + ∑ k : Fin 352, v18 (ix2 k 0) * E (ix2 k b) := by
  pointwise [tail]

set_option maxRecDepth 16384 in
/-- The second row of the output. -/
theorem tail_apply1 (E : FVec Ideal S352x4096 .f32) (v15 : FVec Ideal S352x704 .f32) (v18 : FVec Ideal S352x2 .f32) (b : Fin 4096) :
    tail E v15 v18 (ix2 1 b)
      = (∑ k : Fin 352, E (ix2 k b) * ∑ k' : Fin 352, v15 (ix2 k' ⟨352 + k.val, by omega⟩) * E (ix2 k' b)) + ∑ k : Fin 352, v18 (ix2 k 1) * E (ix2 k b) := by
  pointwise [tail]

/-- Either row of the output. -/
theorem tail_apply (E : FVec Ideal S352x4096 .f32) (v15 : FVec Ideal S352x704 .f32) (v18 : FVec Ideal S352x2 .f32) (o : Fin 2) (b : Fin 4096) :
    tail E v15 v18 (ix2 o b)
      = (∑ k : Fin 352, E (ix2 k b) * ∑ k' : Fin 352, v15 (ix2 k' ⟨352 * o.val + k.val, by omega⟩) * E (ix2 k' b)) + ∑ k : Fin 352, v18 (ix2 k o) * E (ix2 k b) := by
  match o with
  | 0 =>
    rw [tail_apply0]
    have h : ∀ k : Fin 352, (⟨k.val, by omega⟩ : Fin 704) = ⟨352 * (0 : Fin 2).val + k.val, by omega⟩ := fun k => Fin.ext (by show k.val = 352 * 0 + k.val; omega)
    simp only [h]
  | 1 => exact tail_apply1 E v15 v18 b

/-- The body's result at a row and a column, from what its blocks hold there. -/
theorem pay_of (v0 v2 : FVec Ideal S352x4096 .f32) (v4 : FVec Ideal S16x4096 .f32) (v15 : FVec Ideal S352x704 .f32) (v18 : FVec Ideal S352x2 .f32) (o : Fin 2) (b : Fin 4096)
    (mu sd : Fin 352 → EReal) (v : Fin 16 → EReal) (P : Fin 352 → Fin 704 → EReal) (L : Fin 352 → Fin 2 → EReal)
    (h0 : ∀ k, v0 (ix2 k b) = mu k) (h2 : ∀ k, v2 (ix2 k b) = sd k) (h4 : ∀ d, v4 (ix2 d b) = v d)
    (hP : ∀ k j, v15 (ix2 k j) = P k j) (hL : ∀ k j, v18 (ix2 k j) = L k j) :
    (k1_pay1 (F := Ideal) v0 v2 v4 v15 v18 : FVec Ideal S2x4096 .f32) (ix2 o b)
      = (∑ k : Fin 352, emb (mu k) (sd k) (v ⟨k.val % 16, by omega⟩) * ∑ k' : Fin 352, P k' ⟨352 * o.val + k.val, by omega⟩ * emb (mu k') (sd k') (v ⟨k'.val % 16, by omega⟩))
        + ∑ k : Fin 352, L k o * emb (mu k) (sd k) (v ⟨k.val % 16, by omega⟩) := by
  rw [pay_eq, tail_apply]
  simp only [eBlock_apply, h0, h2, h4, hP, hL]

end Cert.Proof.TcVal

end
-- ==== Proof.RegionVal.lean ====
/-
  The result the TensorCore's grid leaves, element by element, from the arrays it found.
-/
module

public import proofs.«01_k».proof.Proof.Region
public import proofs.«01_k».proof.Proof.TcVal
public import Idealize.ShloMosaic.Lib.Pipeline.ValueKit

@[expose] public section

noncomputable section

namespace Cert.Proof.RegionVal

open Cert.KernelIdeal Cert.KernelIdeal.Gen Cert.Proof
open Idealize.ShloMosaic
open Idealize.ShloMosaic.Pipeline (Dat arrRef)

/-- The grid point of a column of the result. -/
def point (b : ℕ) (h : b < 16384) : Fin cfg1.N := ⟨b / 4096, by show b / 4096 < 4; omega⟩

variable {F : FTy → Type} [FloatOps F] (W : Dev nD → Valuation τ sig (Elt F)) (c : Dev nD)

/-- The result, each column from the point that computes it. -/
def outG : S2x16384.Idx → Elt F .f32 := fun i =>
  outBlk W c (point (i 1).val (i 1).isLt) (ix2 ⟨(i 0).val, (i 0).isLt⟩ ⟨(i 1).val % 4096, Nat.mod_lt _ (by decide)⟩)

/-! Each window's block at a point: a strip of 4096 columns, or the whole array. -/

theorem index0 : ∀ t : Fin cfg1.N, win1_0.index t = ![0, t.val] := by decide +kernel
theorem index1 : ∀ t : Fin cfg1.N, win1_1.index t = ![0, t.val] := by decide +kernel
theorem index2 : ∀ t : Fin cfg1.N, win1_2.index t = ![0, t.val] := by decide +kernel
theorem index3 : ∀ t : Fin cfg1.N, win1_3.index t = ![0, 0] := by decide +kernel
theorem index4 : ∀ t : Fin cfg1.N, win1_4.index t = ![0, 0] := by decide +kernel
theorem index5 : ∀ t : Fin cfg1.N, win1_5.index t = ![0, t.val] := by decide +kernel

/-! The inputs' blocks, read from their arrays. -/

theorem blk0 (t : Fin cfg1.N) (k : Fin 352) (b : Fin 4096) :
    blk W c 0 t (ix2 k b) = W c (Proc.devRef .tc main_v9_0) (ix2 k ⟨4096 * t.val + b.val, by have := t.isLt; change t.val < 4 at this; omega⟩) := by
  blk_simp [blk]
  exact congrArg (W c (Proc.devRef .tc main_v9_0)) (by blk_ext [index0 t])

theorem blk1 (t : Fin cfg1.N) (k : Fin 352) (b : Fin 4096) :
    blk W c 1 t (ix2 k b) = W c (Proc.devRef .tc main_v9_1) (ix2 k ⟨4096 * t.val + b.val, by have := t.isLt; change t.val < 4 at this; omega⟩) := by
  blk_simp [blk]
  exact congrArg (W c (Proc.devRef .tc main_v9_1)) (by blk_ext [index1 t])

theorem blk2 (t : Fin cfg1.N) (k : Fin 16) (b : Fin 4096) :
    blk W c 2 t (ix2 k b) = W c (Proc.devRef .tc main_v81) (ix2 k ⟨4096 * t.val + b.val, by have := t.isLt; change t.val < 4 at this; omega⟩) := by
  blk_simp [blk]
  exact congrArg (W c (Proc.devRef .tc main_v81)) (by blk_ext [index2 t])

theorem blk3 (t : Fin cfg1.N) (k : Fin 352) (b : Fin 704) :
    blk W c 3 t (ix2 k b) = W c (Proc.devRef .tc main_v41) (ix2 k b) := by
  blk_simp [blk]
  exact congrArg (W c (Proc.devRef .tc main_v41)) (by blk_ext [index3 t])

theorem blk4 (t : Fin cfg1.N) (k : Fin 352) (b : Fin 2) :
    blk W c 4 t (ix2 k b) = W c (Proc.devRef .tc main_v78) (ix2 k b) := by
  blk_simp [blk]
  exact congrArg (W c (Proc.devRef .tc main_v78)) (by blk_ext [index4 t])

/-- The result's array after the grid. -/
theorem arr_out : (dat W c).arrAt 5 cfg1.N = outG W c := by
  refine (dat W c).arrAt_eq_of_covers 5 _ (by decide +kernel) fun t hf y => ?_
  blk_simp
  show outBlk W c t y = outBlk W c (point _ _) (ix2 _ _)
  have e : (point _ ((win1_5.blk t).view.emb y 1).isLt) = t := by
    apply Fin.ext
    show ((win1_5.blk t).view.emb y 1).val / 4096 = t.val
    blk_simp [index5 t]
    idx_bounds y
    omega
  rw [e]
  congr 1
  blk_ext [index5 t]

/-- The result's buffer after the grid. -/
theorem end_out : Wend W c (Proc.devRef .tc main_v82) = outG W c :=
  (Pipeline.afterRegion_arr (dat W c) (W c) arr_inj 5).trans (arr_out W c)

section Result

variable (W : Dev nD → Valuation τ sig (Elt Ideal)) (c : Dev nD)

/-! The arrays the grid found, as functions of row and column. -/

def means (k : Fin 352) (b : Fin 16384) : EReal := (W c (Proc.devRef .tc main_v9_0) : FVec Ideal S352x16384 .f32) (ix2 k b)
def stds (k : Fin 352) (b : Fin 16384) : EReal := (W c (Proc.devRef .tc main_v9_1) : FVec Ideal S352x16384 .f32) (ix2 k b)
def noise (d : Fin 16) (b : Fin 16384) : EReal := (W c (Proc.devRef .tc main_v81) : FVec Ideal S16x16384 .f32) (ix2 d b)
def pairs (k : Fin 352) (j : Fin 704) : EReal := (W c (Proc.devRef .tc main_v41) : FVec Ideal S352x704 .f32) (ix2 k j)
def lins (k : Fin 352) (o : Fin 2) : EReal := (W c (Proc.devRef .tc main_v78) : FVec Ideal S352x2 .f32) (ix2 k o)

/-- The result at a row and a column. -/
theorem result (o : Fin 2) (b : Fin 16384) :
    (Wend W c (Proc.devRef .tc main_v82) : FVec Ideal S2x16384 .f32) (ix2 o b)
      = (∑ k : Fin 352, TcVal.emb (means W c k b) (stds W c k b) (noise W c ⟨k.val % 16, by omega⟩ b)
          * ∑ k' : Fin 352, pairs W c k' ⟨352 * o.val + k.val, by omega⟩ * TcVal.emb (means W c k' b) (stds W c k' b) (noise W c ⟨k'.val % 16, by omega⟩ b))
        + ∑ k : Fin 352, lins W c k o * TcVal.emb (means W c k b) (stds W c k b) (noise W c ⟨k.val % 16, by omega⟩ b) := by
  have hb : (⟨4096 * (point b.val b.isLt).val + b.val % 4096, by show 4096 * (b.val / 4096) + b.val % 4096 < 16384; omega⟩ : Fin 16384) = b :=
    Fin.ext (by show 4096 * (b.val / 4096) + b.val % 4096 = b.val; omega)
  rw [end_out]
  refine TcVal.pay_of _ _ _ _ _ o ⟨b.val % 4096, Nat.mod_lt _ (by decide)⟩ (fun k => means W c k b) (fun k => stds W c k b) (fun d => noise W c d b)
    (pairs W c) (lins W c) (fun k => ?_) (fun k => ?_) (fun d => ?_) (fun k j => blk3 W c _ k j) (fun k j => blk4 W c _ k j)
  · exact (blk0 W c _ k _).trans (congrArg (fun x => means W c k x) hb)
  · exact (blk1 W c _ k _).trans (congrArg (fun x => stds W c k x) hb)
  · exact (blk2 W c _ d _).trans (congrArg (fun x => noise W c d x) hb)

end Result

end Cert.Proof.RegionVal

end
-- ==== Proof.HostVal.lean ====
/-
  What the host operations around the two calls compute, at the ideal values: regrouped under names, and read at an index.
-/
module

public import proofs.«01_k».proof.Proof.Deal
public import proofs.«01_k».proof.Proof.Host
public import Idealize.ShloMosaic.Lib.Pointwise

@[expose] public section

noncomputable section

namespace Cert.Proof.HostVal

open Cert.KernelIdeal Cert.KernelIdeal.Gen Cert.Proof
open Idealize.ShloMosaic Idealize.ShloMosaic.TcCoe Idealize.ShloMosaic.StableHlo

/-- One-hot rows of field numbers. -/
def oneHot (l : IVec S231 32) : FVec Ideal S231x22 .f32 :=
  uitofp .f32 (cmpi .eq (broadcastInDim S231x22 ![0, 1] bcast_S231x1_S231x22_0_1 (broadcastInDim S231x1 ![0] bcast_S231_S231x1_0 l))
    (broadcastInDim S231x22 ![0, 1] bcast_S1x22_S231x22_0_1 (iotaInDim S1x22 32 1)))

/-- The identity of size 16. -/
def eye : FVec Ideal S16x16 .f32 :=
  uitofp .f32 (cmpi .eq (addi (iotaInDim S16x16 32 0) (broadcastInDim S16x16 ![] bcast_S_S16x16 (constantI S_ 32 0#32))) (iotaInDim S16x16 32 1))

/-- One of the four pairwise functions' weights, times its mixing weight. -/
def scaled (a2 : FVec Ideal S231x4x2x16 .f32) (a4 : FVec Ideal S5 .f32) (k : Fin 4 → ℕ) (h : S231x4x2x16.Slices k S231x1x2x16) (k' : Fin 1 → ℕ) (h' : S5.Slices k' S1) :
    FVec Ideal S231x2x16 .f32 :=
  mulf (shapeCast S231x2x16 (extractStridedSlice S231x1x2x16 k a2 h) shapeCasts_S231x1x2x16_S231x2x16)
    (broadcastInDim S231x2x16 ![] bcast_S_S231x2x16 (shapeCast S_ (extractStridedSlice S1 k' a4 h') shapeCasts_S1_S_))

/-- The sum over the pairs that the pair matrix is built of. -/
def pairSum (s1 s2 : FVec Ideal S231x22 .f32) (w : FVec Ideal S231x2x16 .f32) : FVec Ideal S22x16x2x22 .f32 :=
  Host.reduceAdd
    (mulf
      (broadcastInDim S231x22x16x2x22 ![0, 1, 2, 3, 4] bcast_S231x22x1x1x22_S231x22x16x2x22_0_1_2_3_4
        (broadcastInDim S231x22x1x1x22 ![0, 1, 4] bcast_S231x22x22_S231x22x1x1x22_0_1_4
          (mulf (broadcastInDim S231x22x22 ![0, 1, 2] bcast_S231x22x1_S231x22x22_0_1_2 (broadcastInDim S231x22x1 ![0, 1] bcast_S231x22_S231x22x1_0_1 s1))
            (broadcastInDim S231x22x22 ![0, 1, 2] bcast_S231x1x22_S231x22x22_0_1_2 (broadcastInDim S231x1x22 ![0, 2] bcast_S231x22_S231x1x22_0_2 s2)))))
      (broadcastInDim S231x22x16x2x22 ![0, 1, 2, 3, 4] bcast_S231x1x16x2x1_S231x22x16x2x22_0_1_2_3_4
        (broadcastInDim S231x1x16x2x1 ![0, 2, 3] bcast_S231x16x2_S231x1x16x2x1_0_2_3 (transpose S231x16x2 [0, 2, 1] w transposes_S231x2x16_S231x16x2_0_2_1))))
    (constant S_ .f32 0x00000000#32) reducesTo_S231x22x16x2x22_S22x16x2x22_d0 h_S_

/-- The pair matrix. -/
def pairMat (a2 : FVec Ideal S231x4x2x16 .f32) (a4 : FVec Ideal S5 .f32) (c c' : IVec S231 32) : FVec Ideal S352x704 .f32 :=
  shapeCast S352x704
    (mulf
      (broadcastInDim S22x16x2x22x16 ![0, 1, 2, 3, 4] bcast_S22x16x2x22x1_S22x16x2x22x16_0_1_2_3_4
        (broadcastInDim S22x16x2x22x1 ![0, 1, 2, 3] bcast_S22x16x2x22_S22x16x2x22x1_0_1_2_3
          (pairSum (oneHot c) (oneHot c') (scaled a2 a4 ![0, 1, 0, 0] slices_S231x4x2x16_S231x1x2x16_0_1_0_0 ![1] slices_S5_S1_1))))
      (broadcastInDim S22x16x2x22x16 ![0, 1, 2, 3, 4] bcast_S1x16x1x1x16_S22x16x2x22x16_0_1_2_3_4 (broadcastInDim S1x16x1x1x16 ![1, 4] bcast_S16x16_S1x16x1x1x16_1_4 eye)))
    shapeCasts_S22x16x2x22x16_S352x704

/-- One term of the linear part: one-hot rows against weights, summed over the pairs. -/
def linSum (s : FVec Ideal S231x22 .f32) (w : FVec Ideal S231x2x16 .f32) : FVec Ideal S22x16x2 .f32 :=
  Host.reduceAdd
    (mulf
      (broadcastInDim S231x22x16x2 ![0, 1, 2, 3] bcast_S231x22x1x1_S231x22x16x2_0_1_2_3 (broadcastInDim S231x22x1x1 ![0, 1] bcast_S231x22_S231x22x1x1_0_1 s))
      (broadcastInDim S231x22x16x2 ![0, 1, 2, 3] bcast_S231x1x16x2_S231x22x16x2_0_1_2_3
        (broadcastInDim S231x1x16x2 ![0, 2, 3] bcast_S231x16x2_S231x1x16x2_0_2_3 (transpose S231x16x2 [0, 2, 1] w transposes_S231x2x16_S231x16x2_0_2_1))))
    (constant S_ .f32 0x00000000#32) reducesTo_S231x22x16x2_S22x16x2_d0 h_S_

/-- The joined pair's weights, times their mixing weight. -/
def scaledJoin (a3 : FVec Ideal S231x2x32 .f32) (a4 : FVec Ideal S5 .f32) : FVec Ideal S231x2x32 .f32 :=
  mulf a3 (broadcastInDim S231x2x32 ![] bcast_S_S231x2x32 (shapeCast S_ (extractStridedSlice S1 ![4] a4 slices_S5_S1_4) shapeCasts_S1_S_))

/-- The two rows of the linear part. -/
def linMat (a2 : FVec Ideal S231x4x2x16 .f32) (a3 : FVec Ideal S231x2x32 .f32) (a4 : FVec Ideal S5 .f32) (c c' : IVec S231 32) : FVec Ideal S352x2 .f32 :=
  shapeCast S352x2
    (addf
      (addf (linSum (addf (oneHot c) (oneHot c')) (scaled a2 a4 ![0, 0, 0, 0] slices_S231x4x2x16_S231x1x2x16_0_0_0_0 ![0] slices_S5_S1_0))
        (linSum (oneHot c) (extractStridedSlice S231x2x16 ![0, 0, 0] (scaledJoin a3 a4) slices_S231x2x32_S231x2x16_0_0_0)))
      (linSum (oneHot c') (extractStridedSlice S231x2x16 ![0, 0, 16] (scaledJoin a3 a4) slices_S231x2x32_S231x2x16_0_0_16)))
    shapeCasts_S22x16x2_S352x2

/-- The noise, transposed. -/
def noiseT (a6 : FVec Ideal S3000000 .f32) : FVec Ideal S16x16384 .f32 :=
  transpose S16x16384 [1, 0] (shapeCast S16384x16 (extractStridedSlice S262144 ![0] a6 slices_S3000000_S262144_0) shapeCasts_S262144_S16384x16)
    transposes_S16384x16_S16x16384_1_0

/-- A table as planes. -/
def planes (a : FVec Ideal S22x100000x16 .f32) : FVec Ideal S352x100000 .f32 :=
  shapeCast S352x100000 (transpose S22x16x100000 [0, 2, 1] a transposes_S22x100000x16_S22x16x100000_0_2_1) shapeCasts_S22x16x100000_S352x100000

/-- The planes' tails, padded. -/
def tails (a : FVec Ideal S22x100000x16 .f32) : FVec Ideal S352x256 .f32 :=
  pad S352x256 ![0, 0] ![0, 96] ![0, 0] (extractStridedSlice S352x160 ![0, 99840] (planes a) slices_S352x100000_S352x160_0_99840) (sitofp .f32 (constantI S_ 32 0#32))
    pads_S352x160_S352x256_000_0960 h_S_

section Runs

variable (V : Valuation τ sig (Elt Ideal))

set_option maxRecDepth 8192 in
set_option maxHeartbeats 4000000 in
theorem B_v41 : after opsB V (tcr main_v41) = pairMat (V (tcr main_arg2)) (V (tcr main_arg4)) (V (tcr main_c)) (V (tcr main_c_0)) := by
  simp only [opsB, TRef.binary, TRef.nullary, TRef.unary, TRef.ternary, TRef.toBuf, TRef.ofBuf, cast_eq]; after_results_simp <;> rfl

set_option maxRecDepth 8192 in
set_option maxHeartbeats 4000000 in
theorem B_v78 : after opsB V (tcr main_v78) = linMat (V (tcr main_arg2)) (V (tcr main_arg3)) (V (tcr main_arg4)) (V (tcr main_c)) (V (tcr main_c_0)) := by
  simp only [opsB, TRef.binary, TRef.nullary, TRef.unary, TRef.ternary, TRef.toBuf, TRef.ofBuf, cast_eq]; after_results_simp <;> rfl

set_option maxRecDepth 8192 in
set_option maxHeartbeats 4000000 in
theorem B_v81 : after opsB V (tcr main_v81) = noiseT (V (tcr main_arg6)) := by
  simp only [opsB, TRef.binary, TRef.nullary, TRef.unary, TRef.ternary, TRef.toBuf, TRef.ofBuf, cast_eq]; after_results_simp <;> rfl

set_option maxRecDepth 8192 in
set_option maxHeartbeats 4000000 in
theorem A_v1 : after opsA V (tcr main_v1) = planes (V (tcr main_arg0)) := by
  simp only [opsA, TRef.binary, TRef.nullary, TRef.unary, TRef.ternary, TRef.toBuf, TRef.ofBuf, cast_eq]; after_results_simp <;> rfl

set_option maxRecDepth 8192 in
set_option maxHeartbeats 4000000 in
theorem A_v3 : after opsA V (tcr main_v3) = planes (V (tcr main_arg1)) := by
  simp only [opsA, TRef.binary, TRef.nullary, TRef.unary, TRef.ternary, TRef.toBuf, TRef.ofBuf, cast_eq]; after_results_simp <;> rfl

set_option maxRecDepth 8192 in
set_option maxHeartbeats 4000000 in
theorem A_v5 : after opsA V (tcr main_v5) = tails (V (tcr main_arg0)) := by
  simp only [opsA, TRef.binary, TRef.nullary, TRef.unary, TRef.ternary, TRef.toBuf, TRef.ofBuf, cast_eq]; after_results_simp <;> rfl

set_option maxRecDepth 8192 in
set_option maxHeartbeats 4000000 in
theorem A_v7 : after opsA V (tcr main_v7) = tails (V (tcr main_arg1)) := by
  simp only [opsA, TRef.binary, TRef.nullary, TRef.unary, TRef.ternary, TRef.toBuf, TRef.ofBuf, cast_eq]; after_results_simp <;> rfl

set_option maxRecDepth 8192 in
set_option maxHeartbeats 4000000 in
theorem A_v8 : after opsA V (tcr main_v8) = shapeCast S360448 (V (tcr main_arg5) : IVec S22x16384 32) shapeCasts_S22x16384_S360448 := by
  simp only [opsA, TRef.binary, TRef.nullary, TRef.unary, TRef.ternary, TRef.toBuf, TRef.ofBuf, cast_eq]; after_results_simp <;> rfl

set_option maxRecDepth 8192 in
set_option maxHeartbeats 4000000 in
theorem A_c : after opsA V (tcr main_c) = fun i => lit0 (S231.rowMajor i) := by
  simp only [opsA, TRef.binary, TRef.nullary, TRef.unary, TRef.ternary, TRef.toBuf, TRef.ofBuf, cast_eq]; after_results_simp <;> rfl

set_option maxRecDepth 8192 in
set_option maxHeartbeats 4000000 in
theorem A_c_0 : after opsA V (tcr main_c_0) = fun i => lit1 (S231.rowMajor i) := by
  simp only [opsA, TRef.binary, TRef.nullary, TRef.unary, TRef.ternary, TRef.toBuf, TRef.ofBuf, cast_eq]; after_results_simp <;> rfl

set_option maxRecDepth 8192 in
theorem C_v83 : after opsC V (tcr main_v83) = transpose S16384x2 [1, 0] (V (tcr main_v82) : FVec Ideal S2x16384 .f32) transposes_S2x16384_S16384x2_1_0 := by
  simp only [opsC]; after_results_simp <;> rfl

end Runs

/-! ## Read at an index -/

set_option maxRecDepth 16384 in
theorem planes_apply (a : FVec Ideal S22x100000x16 .f32) (p : Fin 352) (v : Fin 100000) :
    planes a (ix2 p v) = a (ix3 ⟨p.val / 16, by omega⟩ v ⟨p.val % 16, by omega⟩) := by
  pointwise [planes]

set_option maxRecDepth 16384 in
theorem tails_apply (a : FVec Ideal S22x100000x16 .f32) (p : Fin 352) (v : Fin 160) :
    tails a (ix2 p ⟨v.val, by omega⟩) = a (ix3 ⟨p.val / 16, by omega⟩ ⟨99840 + v.val, by omega⟩ ⟨p.val % 16, by omega⟩) := by
  pointwise [tails, planes_apply]

set_option maxRecDepth 16384 in
theorem noiseT_apply (a6 : FVec Ideal S3000000 .f32) (d : Fin 16) (b : Fin 16384) : noiseT a6 (ix2 d b) = a6 (ix1 ⟨b.val * 16 + d.val, by omega⟩) := by
  pointwise [noiseT]

/-- A comparison for equality, as a number: 1 where equal, 0 elsewhere. -/
theorem uitofp_eq (x y : BitVec 32) : FloatOps.uitofp (F := Ideal) .f32 (IntOp.cmpi .eq x y) = ((if x = y then 1 else 0 : ℝ) : EReal) := by
  by_cases h : x = y
  · rw [if_pos h, IntOp.cmpi_eq.2 h]
    show (((1#1 : BitVec 1).toNat : ℝ) : EReal) = _
    simp
  · have e : IntOp.cmpi .eq x y = 0#1 := by
      show BitVec.ofBool (x == y) = 0#1
      rw [beq_eq_false_iff_ne.2 h]
      rfl
    rw [if_neg h, e]
    show (((0#1 : BitVec 1).toNat : ℝ) : EReal) = _
    simp

set_option maxRecDepth 16384 in
theorem oneHot_apply (l : IVec S231 32) (p : Fin 231) (c : Fin 22) :
    oneHot l (ix2 p c) = ((if l (ix1 p) = BitVec.ofNat 32 c.val then 1 else 0 : ℝ) : EReal) := by
  pointwise [oneHot]
  exact uitofp_eq _ _

set_option maxRecDepth 16384 in
theorem eye_apply (d f : Fin 16) : eye (ix2 d f) = ((if d = f then 1 else 0 : ℝ) : EReal) := by
  pointwise [eye]
  rw [uitofp_eq]
  revert d f
  have h : ∀ d f : Fin 16, IntOp.addi (BitVec.ofNat 32 d.val) 0#32 = BitVec.ofNat 32 f.val ↔ d = f := by decide
  intro d f
  simp only [h]

set_option maxRecDepth 16384 in
theorem pairMat_apply (a2 : FVec Ideal S231x4x2x16 .f32) (a4 : FVec Ideal S5 .f32) (c c' : IVec S231 32) (e : Fin 22) (d : Fin 16) (o : Fin 2) (e' : Fin 22) (f : Fin 16) :
    pairMat a2 a4 c c' (ix2 ⟨16 * e.val + d.val, by omega⟩ ⟨352 * o.val + 16 * e'.val + f.val, by omega⟩)
      = (∑ p : Fin 231, oneHot c (ix2 p e) * oneHot c' (ix2 p e') * (a2 (ix4 p 1 o d) * a4 (ix1 1))) * eye (ix2 d f) := by
  pointwise [pairMat, pairSum, scaled]

set_option maxRecDepth 16384 in
theorem linMat_apply (a2 : FVec Ideal S231x4x2x16 .f32) (a3 : FVec Ideal S231x2x32 .f32) (a4 : FVec Ideal S5 .f32) (c c' : IVec S231 32) (e : Fin 22) (d : Fin 16) (o : Fin 2) :
    linMat a2 a3 a4 c c' (ix2 ⟨16 * e.val + d.val, by omega⟩ o)
      = (∑ p : Fin 231, (oneHot c (ix2 p e) + oneHot c' (ix2 p e)) * (a2 (ix4 p 0 o d) * a4 (ix1 0)))
        + (∑ p : Fin 231, oneHot c (ix2 p e) * (a3 (ix3 p o ⟨d.val, by omega⟩) * a4 (ix1 4)))
        + ∑ p : Fin 231, oneHot c' (ix2 p e) * (a3 (ix3 p o ⟨16 + d.val, by omega⟩) * a4 (ix1 4)) := by
  pointwise [linMat, linSum, scaled, scaledJoin]

/-! ## The gathered tables -/

/-- A table read through its function of row and column. -/
theorem un2_apply {α : Type} {n k : ℕ} (z : α) (v : (⟨2, ![n, k]⟩ : Shape).Idx → α) (r : Fin n) (c : Fin k) : un2 z v r.val c.val = v (ix2 r c) := by
  unfold un2
  rw [dif_pos (show r.val < (![n, k] : Fin 2 → ℕ) 0 ∧ c.val < (![n, k] : Fin 2 → ℕ) 1 from ⟨r.isLt, c.isLt⟩)]
  congr 1
  funext a
  match a with
  | 0 => rfl
  | 1 => rfl

/-- A vector read through its function of the position. -/
theorem un1_apply {α : Type} {n : ℕ} (z : α) (v : (⟨1, ![n]⟩ : Shape).Idx → α) (r : Fin n) : un1 z v r.val = v (ix1 r) := by
  unfold un1
  rw [dif_pos (show r.val < (![n] : Fin 1 → ℕ) 0 from r.isLt)]
  congr 1
  funext a
  match a with
  | 0 => rfl

set_option maxRecDepth 16384 in
/-- The index row at plane `p` and column `b`. -/
theorem index_apply (a5 : IVec S22x16384 32) (p : Fin 352) (b : Fin 16384) :
    un1 0#32 (shapeCast S360448 a5 shapeCasts_S22x16384_S360448) (16384 * (p.val / 16) + b.val) = a5 (ix2 ⟨p.val / 16, by omega⟩ b) := by
  refine (un1_apply (n := 360448) 0#32 (shapeCast S360448 a5 shapeCasts_S22x16384_S360448) ⟨16384 * (p.val / 16) + b.val, by omega⟩).trans ?_
  pointwise []
  congr 2
  apply Fin.ext
  show (16384 * (p.val / 16) + b.val) / 16384 = p.val / 16
  omega

/-- A plane of a table in its two parts, read at a row. -/
theorem row_apply (a : FVec Ideal S22x100000x16 .f32) (z : EReal) (p : Fin 352) (v : Fin 100000) :
    rowv (F := Ideal) (un2 z (planes a)) (un2 z (tails a)) p.val v.val = a (ix3 ⟨p.val / 16, by omega⟩ v ⟨p.val % 16, by omega⟩) := by
  unfold rowv
  by_cases hv : v.val < 99840
  · rw [if_pos hv]
    exact (un2_apply z (planes a) p v).trans (planes_apply a p v)
  · rw [if_neg hv]
    refine (un2_apply z (tails a) p ⟨v.val - 99840, by omega⟩).trans ((tails_apply a p ⟨v.val - 99840, by omega⟩).trans ?_)
    exact congrArg (fun w => a (ix3 ⟨p.val / 16, by omega⟩ w ⟨p.val % 16, by omega⟩)) (Fin.ext (by show 99840 + (v.val - 99840) = v.val; omega))

/-- A gathered plane's element is its table's at the index, if the indices are in range. -/
theorem gathered_apply (a : FVec Ideal S22x100000x16 .f32) (a5 : IVec S22x16384 32) (h : ∀ i, (a5 i).toNat < 100000) (z : EReal) (p : Fin 352) (b : Fin 16384) :
    GX (F := Ideal) (un2 z (planes a)) (un2 z (tails a)) (un1 0#32 (shapeCast S360448 a5 shapeCasts_S22x16384_S360448)) p.val b.val
      = a (ix3 ⟨p.val / 16, by omega⟩ ⟨(a5 (ix2 ⟨p.val / 16, by omega⟩ b)).toNat, h _⟩ ⟨p.val % 16, by omega⟩) := by
  unfold GX
  rw [index_apply]
  exact row_apply a z p ⟨_, h (ix2 ⟨p.val / 16, by omega⟩ b)⟩

end Cert.Proof.HostVal

end
-- ==== Proof.RefVal.lean ====
/-
  The reference's value: its operations regrouped under names, and each group read at an index.
-/
module

public import proofs.«01_k».proof.Proof.Gen.ReferenceIdeal.Run
public import Idealize.ShloMosaic.Lib.Pointwise
public import Idealize.ShloMosaic.Lib.ReduceAll

@[expose] public section

noncomputable section

namespace Cert.Proof.RefVal

open Cert.ReferenceIdeal Cert.ReferenceIdeal.Gen
open Idealize.ShloMosaic Idealize.ShloMosaic.TcCoe

/-- The index tensor the take reads at: a negative index counts from the end. -/
def wrapped (a5 : IVec S22x16384 32) : IVec S22x16384x1 32 :=
  broadcastInDim S22x16384x1 ![0, 1] bcast_S22x16384_S22x16384x1_0_1
    (select (cmpi .slt a5 (broadcastInDim S22x16384 ![] bcast_S_S22x16384 (constantI S_ 32 0#32)))
      (addi a5 (broadcastInDim S22x16384 ![] bcast_S_S22x16384 (constantI S_ 32 100000#32))) a5)

/-- Where the index is inside the table. -/
def inside (a5 : IVec S22x16384 32) : IVec S22x16384 1 :=
  Host.reduce IntOp.andi
    (andi (cmpi .sge (wrapped a5) (broadcastInDim S22x16384x1 ![] bcast_S_S22x16384x1 (constantI S_ 32 0#32)))
      (cmpi .sle (wrapped a5) (broadcastInDim S22x16384x1 ![0, 1, 2] bcast_S1x1x1_S22x16384x1_0_1_2 (broadcastInDim S1x1x1 ![2] bcast_S1_S1x1x1_2 (constantI S1 32 99999#32)))))
    (constantI S_ 1 1#1) reducesTo_S22x16384x1_S22x16384_d2 h_S_

/-- The rows of a table at the indices. -/
def taken (a : FVec Ideal S22x100000x16 .f32) (a5 : IVec S22x16384 32) : FVec Ideal S22x16384x16 .f32 :=
  select (broadcastInDim S22x16384x16 ![0, 1] bcast_S22x16384_S22x16384x16_0_1 (inside a5))
    (Host.gather gather_S22x100000x16_S22x16384x1_S22x16384x16_2_1_0_0_1_2_1116 a (wrapped a5))
    (broadcastInDim S22x16384x16 ![] bcast_S_S22x16384x16 (constant S_ .f32 0x7FC00000#32))

/-- The embedding: mean, deviation and noise put together. -/
def embedded (mu sd : FVec Ideal S22x16384x16 .f32) (a6 : FVec Ideal S3000000 .f32) : FVec Ideal S22x16384x16 .f32 :=
  addf mu (mulf (mulf (Host.log (addf (broadcastInDim S22x16384x16 ![] bcast_S_S22x16384x16 (constant S_ .f32 0x3F800000#32)) (Host.exp sd)))
      (broadcastInDim S22x16384x16 ![0, 1, 2] bcast_S1x16384x16_S22x16384x16_0_1_2 (broadcastInDim S1x16384x16 ![1, 2] bcast_S16384x16_S1x16384x16_1_2
        (shapeCast S16384x16 (extractStridedSlice S262144 ![0] a6 slices_S3000000_S262144_0) shapeCasts_S262144_S16384x16))))
    (broadcastInDim S22x16384x16 ![] bcast_S_S22x16384x16 (constant S_ .f32 0x3C23D70A#32)))

/-- One side of every pair: the embedding's fields at a table of field numbers. -/
def picked (lit : Fin 231 → BitVec 32) (e : FVec Ideal S22x16384x16 .f32) : FVec Ideal S231x16384x16 .f32 :=
  Host.gather gather_S22x16384x16_S231x1_S231x16384x16_12_0_n_n_0_1_11638416 e
    (broadcastInDim S231x1 ![0] bcast_S231_S231x1_0
      (select (constantI S231 1 0#1) (addi (fun i => lit (S231.rowMajor i)) (broadcastInDim S231 ![] bcast_S_S231 (constantI S_ 32 22#32))) (fun i => lit (S231.rowMajor i))))

/-- One mixing weight, spread. -/
def weight (a4 : FVec Ideal S5 .f32) (k : Fin 1 → ℕ) (h : S5.Slices k S1) : FVec Ideal S231x16384x2 .f32 :=
  broadcastInDim S231x16384x2 ![] bcast_S_S231x16384x2 (shapeCast S_ (extractStridedSlice S1 k a4 h) shapeCasts_S1_S_)

/-- One of the four pairwise functions, contracted with its weights. -/
def small (x : FVec Ideal S231x16384x16 .f32) (a2 : FVec Ideal S231x4x2x16 .f32) (k : Fin 4 → ℕ) (h : S231x4x2x16.Slices k S231x1x2x16) : FVec Ideal S231x16384x2 .f32 :=
  Host.dotGeneral dot_S231x16384x16_S231x2x16_S231x16384x2_2_2_1_1_0_0 none x (shapeCast S231x2x16 (extractStridedSlice S231x1x2x16 k a2 h) shapeCasts_S231x1x2x16_S231x2x16)

/-- The joined pair, contracted with its weights. -/
def joined (p q : FVec Ideal S231x16384x16 .f32) (a3 : FVec Ideal S231x2x32 .f32) : FVec Ideal S231x16384x2 .f32 :=
  Host.dotGeneral dot_S231x16384x32_S231x2x32_S231x16384x2_2_2_1_1_0_0 none (concatenate S231x16384x32 2 [⟨S231x16384x16, p⟩, ⟨S231x16384x16, q⟩] concatenates_S231x16384x16_S231x16384x16_S231x16384x32_d2) a3

/-- The inference of every sample from the two sides of every pair. -/
def out (p q : FVec Ideal S231x16384x16 .f32) (a2 : FVec Ideal S231x4x2x16 .f32) (a3 : FVec Ideal S231x2x32 .f32) (a4 : FVec Ideal S5 .f32) : FVec Ideal S16384x2 .f32 :=
  Host.reduceAdd
    (addf (addf (addf (addf
      (mulf (weight a4 ![0] slices_S5_S1_0) (small (addf p q) a2 ![0, 0, 0, 0] slices_S231x4x2x16_S231x1x2x16_0_0_0_0))
      (mulf (weight a4 ![1] slices_S5_S1_1) (small (mulf p q) a2 ![0, 1, 0, 0] slices_S231x4x2x16_S231x1x2x16_0_1_0_0)))
      (mulf (weight a4 ![2] slices_S5_S1_2) (small (maximumf p q) a2 ![0, 2, 0, 0] slices_S231x4x2x16_S231x1x2x16_0_2_0_0)))
      (mulf (weight a4 ![3] slices_S5_S1_3) (small (minimumf p q) a2 ![0, 3, 0, 0] slices_S231x4x2x16_S231x1x2x16_0_3_0_0)))
      (mulf (weight a4 ![4] slices_S5_S1_4) (joined p q a3)))
    (constant S_ .f32 0x00000000#32) reducesTo_S231x16384x2_S16384x2_d0 h_S_

/-- The reference's value is these groups, put together. -/
def value (a0 a1 : FVec Ideal S22x100000x16 .f32) (a2 : FVec Ideal S231x4x2x16 .f32) (a3 : FVec Ideal S231x2x32 .f32) (a4 : FVec Ideal S5 .f32)
    (a5 : IVec S22x16384 32) (a6 : FVec Ideal S3000000 .f32) : FVec Ideal S16384x2 .f32 :=
  out (picked lit0 (embedded (taken a0 a5) (taken a1 a5) a6)) (picked lit1 (embedded (taken a0 a5) (taken a1 a5) a6)) a2 a3 a4

set_option maxRecDepth 16384 in
set_option maxHeartbeats 4000000 in
/-- The run's term is the regrouped one. -/
theorem value_eq (m : (ℓ : Loc nD τ sig) → Buf (Elt Ideal) ℓ) (c : Dev nD) :
    Cert.ReferenceIdeal.Value.res_main_v66 m c = value (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_main_v66
  rfl

/-- The take's gather at an index: the row number is read signed and held inside the table. -/
theorem gather_take_apply {α : Type} (x : S22x100000x16.Idx → α) (idx : IVec S22x16384x1 32) (f : Fin 22) (b : Fin 16384) (d : Fin 16) :
    Host.gather gather_S22x100000x16_S22x16384x1_S22x16384x16_2_1_0_0_1_2_1116 x idx (ix3 f b d)
      = x (ix3 f ⟨min (idx (ix3 f b 0)).toInt.toNat 99999, by omega⟩ d) := by
  unfold Host.gather
  congr 1
  funext a
  apply Fin.ext
  have hsi : GatherDims.siIdx gather_S22x100000x16_S22x16384x1_S22x16384x16_2_1_0_0_1_2_1116 (ix3 f b d) ⟨0, by decide⟩ = (ix3 f b 0 : S22x16384x1.Idx) := by
    funext c
    fin_cases c <;> rfl
  fin_cases a
  · exact Nat.zero_add f.val
  · exact congrArg (fun i => min (idx i).toInt.toNat 99999) hsi
  · exact Nat.zero_add d.val

/-- The pick's gather at an index. -/
theorem gather_pick_apply {α : Type} (x : S22x16384x16.Idx → α) (idx : IVec S231x1 32) (p : Fin 231) (b : Fin 16384) (d : Fin 16) :
    Host.gather gather_S22x16384x16_S231x1_S231x16384x16_12_0_n_n_0_1_11638416 x idx (ix3 p b d)
      = x (ix3 ⟨min (idx (ix2 p 0)).toInt.toNat 21, by omega⟩ b d) := by
  unfold Host.gather
  congr 1
  funext a
  apply Fin.ext
  have hsi : GatherDims.siIdx gather_S22x16384x16_S231x1_S231x16384x16_12_0_n_n_0_1_11638416 (ix3 p b d) ⟨0, by decide⟩ = (ix2 p 0 : S231x1.Idx) := by
    funext c
    fin_cases c <;> rfl
  fin_cases a
  · exact congrArg (fun i => min (idx i).toInt.toNat 21) hsi
  · exact Nat.zero_add b.val
  · exact Nat.zero_add d.val

set_option maxRecDepth 16384 in
/-- Field numbers read from a table of numbers below 22: the pick reads the embedding's field. -/
theorem picked_apply (lit : Fin 231 → BitVec 32) (i : Fin 231 → Fin 22) (hi : ∀ p, (lit p).toInt.toNat = (i p).val) (e : FVec Ideal S22x16384x16 .f32)
    (p : Fin 231) (b : Fin 16384) (d : Fin 16) : picked lit e (ix3 p b d) = e (ix3 (i p) b d) := by
  unfold picked
  rw [gather_pick_apply]
  pointwise []
  congr 2
  apply Fin.ext
  show min (lit (S231.rowMajor (ix1 p))).toInt.toNat 21 = (i p).val
  have hp : S231.rowMajor (ix1 p) = p := by
    apply Fin.ext
    revert p
    decide
  rw [hp, hi]
  omega

set_option maxRecDepth 16384 in
/-- An index in range is not wrapped. -/
theorem wrapped_apply (a5 : IVec S22x16384 32) (h : ∀ i, (a5 i).toNat < 100000) (f : Fin 22) (b : Fin 16384) (c : Fin 1) : wrapped a5 (ix3 f b c) = a5 (ix2 f b) := by
  pointwise [wrapped]
  have hx := h (ix2 f b)
  have hc : ¬ IntOp.cmpi .slt (a5 (ix2 f b)) 0#32 = 1#1 := by
    rw [IntOp.cmpi_slt]
    rw [BitVec.toInt_eq_toNat_of_lt (by omega)]
    simp
  exact if_neg hc

set_option maxRecDepth 16384 in
/-- An index in range is inside the table. -/
theorem inside_apply (a5 : IVec S22x16384 32) (h : ∀ i, (a5 i).toNat < 100000) (f : Fin 22) (b : Fin 16384) : inside a5 (ix2 f b) = 1#1 := by
  unfold inside
  refine Host.reduce_andi_one _ _ _ _ _ rfl fun i => ?_
  idx_vars i
  pointwise [wrapped_apply a5 h]
  have hx := h (ix2 i0 i1)
  rw [IntOp.andi_eq_one, IntOp.cmpi_sge, IntOp.cmpi_sle, BitVec.toInt_eq_toNat_of_lt (x := a5 (ix2 i0 i1)) (by omega)]
  refine ⟨?_, ?_⟩
  · simp
  · have : (99999#32).toInt = 99999 := by decide
    rw [this]
    omega

set_option maxRecDepth 16384 in
/-- The take of a table at indices in range. -/
theorem taken_apply (a : FVec Ideal S22x100000x16 .f32) (a5 : IVec S22x16384 32) (h : ∀ i, (a5 i).toNat < 100000) (f : Fin 22) (b : Fin 16384) (d : Fin 16) :
    taken a a5 (ix3 f b d) = a (ix3 f ⟨(a5 (ix2 f b)).toNat, h _⟩ d) := by
  pointwise [taken, inside_apply a5 h, gather_take_apply, wrapped_apply a5 h]
  congr 2
  apply Fin.ext
  have hx := h (ix2 f b)
  show min (a5 (ix2 f b)).toInt.toNat 99999 = _
  rw [BitVec.toInt_eq_toNat_of_lt (by omega)]
  show min (a5 (ix2 f b)).toNat 99999 = (a5 (ix2 f b)).toNat
  omega

set_option maxRecDepth 16384 in
/-- The embedding at an index. -/
theorem embedded_apply (mu sd : FVec Ideal S22x16384x16 .f32) (a6 : FVec Ideal S3000000 .f32) (f : Fin 22) (b : Fin 16384) (d : Fin 16) :
    embedded mu sd a6 (ix3 f b d)
      = mu (ix3 f b d) + Ideal.log (1 + Ideal.exp (sd (ix3 f b d))) * a6 (ix1 ⟨b.val * 16 + d.val, by omega⟩) * Ideal.ofBits .f32 0x3C23D70A#32 := by
  pointwise [embedded]

set_option maxRecDepth 16384 in
/-- The inference at an index. -/
theorem out_apply (p q : FVec Ideal S231x16384x16 .f32) (a2 : FVec Ideal S231x4x2x16 .f32) (a3 : FVec Ideal S231x2x32 .f32) (a4 : FVec Ideal S5 .f32)
    (h2 : a4 (ix1 2) = 0) (h3 : a4 (ix1 3) = 0) (b : Fin 16384) (o : Fin 2) :
    out p q a2 a3 a4 (ix2 b o)
      = ∑ r : Fin 231, (a4 (ix1 0) * (∑ d : Fin 16, (p (ix3 r b d) + q (ix3 r b d)) * a2 (ix4 r 0 o d))
          + a4 (ix1 1) * (∑ d : Fin 16, p (ix3 r b d) * q (ix3 r b d) * a2 (ix4 r 1 o d))
          + a4 (ix1 4) * ((∑ d : Fin 16, p (ix3 r b d) * a3 (ix3 r o ⟨d.val, by omega⟩)) + ∑ d : Fin 16, q (ix3 r b d) * a3 (ix3 r o ⟨16 + d.val, by omega⟩))) := by
  pointwise [out, small, joined, weight, h2, h3, zero_mul, add_zero]

end Cert.Proof.RefVal

end
-- ==== Proof.Sums.lean ====
/-
  The equation between the kernel's sums and the reference's, over the reals: a pair matrix built from one-hot rows,
  contracted twice with the embedding, is the sum over the pairs of the products.
-/
module

public import Mathlib.Data.EReal.Operations
public import Mathlib.Algebra.BigOperators.Fin
public import Mathlib.Tactic.Ring

@[expose] public section

noncomputable section

namespace Cert.Proof.Sums

open Finset

/-- A sum over 352 planes is a sum over 22 fields of a sum over 16 coordinates. -/
theorem sum_planes {M : Type} [AddCommMonoid M] (f : Fin 352 → M) :
    ∑ k, f k = ∑ c : Fin 22, ∑ d : Fin 16, f ⟨16 * c.val + d.val, by omega⟩ := by
  rw [← Fintype.sum_prod_type' (f := fun (c : Fin 22) (d : Fin 16) => f ⟨16 * c.val + d.val, by omega⟩)]
  refine (Fintype.sum_equiv (finProdFinEquiv (m := 22) (n := 16)) _ _ fun x => ?_).symm
  congr 1
  ext
  show 16 * x.1.val + x.2.val = x.2.val + 16 * x.1.val
  omega

/-- A sum over 32 coordinates is a sum over the first 16 and one over the last 16. -/
theorem sum_halves {M : Type} [AddCommMonoid M] (f : Fin 32 → M) :
    ∑ k, f k = (∑ d : Fin 16, f ⟨d.val, by omega⟩) + ∑ d : Fin 16, f ⟨16 + d.val, by omega⟩ :=
  Fin.sum_univ_add (a := 16) (b := 16) f

/-- A finite sum of reals, as extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [sum_insert ha, sum_insert ha, ih, EReal.coe_add]

variable (i1 i2 : Fin 231 → Fin 22)

/-- A one-hot row: 1 at the pair's field, 0 elsewhere. -/
def hot (i : Fin 231 → Fin 22) (p : Fin 231) (c : Fin 22) : ℝ := if i p = c then 1 else 0

/-- A sum against a one-hot row is its one entry. -/
theorem sum_hot (i : Fin 231 → Fin 22) (p : Fin 231) (g : Fin 22 → ℝ) : ∑ c, hot i p c * g c = g (i p) := by
  simp [hot]

variable (e : Fin 22 → Fin 16 → ℝ) (W W' : Fin 231 → Fin 16 → ℝ) (w : ℝ)

/-- An entry of the pair matrix: from field `c'`, coordinate `d` to field `c`, coordinate `f`. -/
def pairEntry (c' : Fin 22) (d : Fin 16) (c : Fin 22) (f : Fin 16) : ℝ :=
  (∑ p, hot i1 p c' * hot i2 p c * (W p d * w)) * (if d = f then 1 else 0)

/-- The quadratic part. -/
theorem quad : ∑ c, ∑ f, e c f * (∑ c', ∑ d, pairEntry i1 i2 W w c' d c f * e c' d) = ∑ p, w * ∑ d, e (i1 p) d * e (i2 p) d * W p d := by
  have h1 : ∀ c f, e c f * (∑ c', ∑ d, pairEntry i1 i2 W w c' d c f * e c' d)
      = ∑ p, hot i2 p c * (e c f * (W p f * w) * ∑ c', hot i1 p c' * e c' f) := by
    intro c f
    have h2 : ∀ c', ∑ d, pairEntry i1 i2 W w c' d c f * e c' d = ∑ p, hot i1 p c' * hot i2 p c * (W p f * w) * e c' f := by
      intro c'
      simp only [pairEntry, mul_ite, mul_one, mul_zero, ite_mul, zero_mul, sum_ite_eq', mem_univ, if_true, sum_mul]
    simp only [h2]
    rw [sum_comm, mul_sum]
    refine sum_congr rfl fun p _ => ?_
    rw [mul_sum, mul_sum, mul_sum]
    exact sum_congr rfl fun c' _ => by ring
  simp only [h1, sum_hot]
  have h3 : ∀ c, (∑ f, ∑ p, hot i2 p c * (e c f * (W p f * w) * e (i1 p) f)) = ∑ p, hot i2 p c * ∑ f, e c f * (W p f * w) * e (i1 p) f := by
    intro c
    rw [sum_comm]
    exact sum_congr rfl fun p _ => (mul_sum ..).symm
  simp only [h3]
  rw [sum_comm]
  refine sum_congr rfl fun p _ => ?_
  rw [sum_hot i2 p fun c => ∑ f, e c f * (W p f * w) * e (i1 p) f, mul_sum]
  exact sum_congr rfl fun f _ => by ring

/-- A linear part built from one one-hot row. -/
theorem lin (i : Fin 231 → Fin 22) : ∑ c, ∑ d, (∑ p, hot i p c * W p d) * e c d = ∑ p, ∑ d, e (i p) d * W p d := by
  have h : ∀ c, (∑ d, (∑ p, hot i p c * W p d) * e c d) = ∑ p, hot i p c * ∑ d, e c d * W p d := by
    intro c
    simp only [sum_mul]
    rw [sum_comm]
    refine sum_congr rfl fun p _ => ?_
    rw [mul_sum]
    exact sum_congr rfl fun d _ => by ring
  simp only [h]
  rw [sum_comm]
  exact sum_congr rfl fun p _ => sum_hot i p fun c => ∑ d, e c d * W p d

/-- The linear row's entry. -/
def linEntry (w0 w4 : ℝ) (Wp : Fin 231 → Fin 16 → ℝ) (Wc : Fin 231 → Fin 32 → ℝ) (c : Fin 22) (d : Fin 16) : ℝ :=
  (∑ p, (hot i1 p c + hot i2 p c) * (Wp p d * w0)) + (∑ p, hot i1 p c * (Wc p ⟨d.val, by omega⟩ * w4))
    + ∑ p, hot i2 p c * (Wc p ⟨16 + d.val, by omega⟩ * w4)

/-- The whole equation: the kernel's two contractions and its linear row are the sum over the pairs. -/
theorem whole (w0 w1 w4 : ℝ) (Wp Wm : Fin 231 → Fin 16 → ℝ) (Wc : Fin 231 → Fin 32 → ℝ) :
    (∑ c, ∑ f, e c f * (∑ c', ∑ d, pairEntry i1 i2 Wm w1 c' d c f * e c' d)) + ∑ c, ∑ d, linEntry i1 i2 w0 w4 Wp Wc c d * e c d
      = ∑ p, (w0 * (∑ d, (e (i1 p) d + e (i2 p) d) * Wp p d) + w1 * (∑ d, e (i1 p) d * e (i2 p) d * Wm p d)
          + w4 * ((∑ d : Fin 16, e (i1 p) d * Wc p ⟨d.val, by omega⟩) + ∑ d : Fin 16, e (i2 p) d * Wc p ⟨16 + d.val, by omega⟩)) := by
  have hl : ∑ c, ∑ d, linEntry i1 i2 w0 w4 Wp Wc c d * e c d
      = (∑ p, ∑ d, e (i1 p) d * (Wp p d * w0)) + (∑ p, ∑ d, e (i2 p) d * (Wp p d * w0))
        + (∑ p, ∑ d : Fin 16, e (i1 p) d * (Wc p ⟨d.val, by omega⟩ * w4)) + ∑ p, ∑ d : Fin 16, e (i2 p) d * (Wc p ⟨16 + d.val, by omega⟩ * w4) := by
    rw [← lin e (fun p d => Wp p d * w0) i1, ← lin e (fun p d => Wp p d * w0) i2, ← lin e (fun p (d : Fin 16) => Wc p ⟨d.val, by omega⟩ * w4) i1,
      ← lin e (fun p (d : Fin 16) => Wc p ⟨16 + d.val, by omega⟩ * w4) i2]
    simp only [← sum_add_distrib, linEntry]
    refine sum_congr rfl fun c _ => sum_congr rfl fun d _ => ?_
    simp only [add_mul, sum_add_distrib]
  rw [quad, hl]
  simp only [← sum_add_distrib]
  refine sum_congr rfl fun p _ => ?_
  simp only [add_mul, sum_add_distrib, mul_add, mul_sum]
  have a1 : ∀ (g V : Fin 16 → ℝ) (v : ℝ), ∑ d, g d * (V d * v) = ∑ d, v * (g d * V d) := fun g V v => sum_congr rfl fun d _ => by ring
  rw [a1 (e (i1 p)) (Wp p) w0, a1 (e (i2 p)) (Wp p) w0, a1 (e (i1 p)) (fun d => Wc p ⟨d.val, by omega⟩) w4, a1 (e (i2 p)) (fun d => Wc p ⟨16 + d.val, by omega⟩) w4]
  ring

end Cert.Proof.Sums

end
-- ==== Proof.Meet.lean ====
/-
  The kernel's value and the reference's, from the same arrays: equal where every element is a real number and the third and
  fourth mixing weights are zero.
-/
module

public import proofs.«01_k».proof.Proof.HostVal
public import proofs.«01_k».proof.Proof.TcVal
public import proofs.«01_k».proof.Proof.RefVal
public import proofs.«01_k».proof.Proof.Sums

@[expose] public section

noncomputable section

namespace Cert.Proof.Meet

open Cert.KernelIdeal Cert.KernelIdeal.Gen Cert.Proof
open Idealize.ShloMosaic
open Finset

/-! ## The pairs' two fields -/

theorem lit0_lt : ∀ p, (lit0 p).toNat < 22 := by decide +kernel
theorem lit1_lt : ∀ p, (lit1 p).toNat < 22 := by decide +kernel

/-- The first field of a pair, -/
def i1 (p : Fin 231) : Fin 22 := ⟨(lit0 p).toNat, lit0_lt p⟩
/-- and the second. -/
def i2 (p : Fin 231) : Fin 22 := ⟨(lit1 p).toNat, lit1_lt p⟩

/-- The reference's tables hold the same numbers. -/
theorem ref0 : ∀ p, (Cert.ReferenceIdeal.lit0 p).toInt.toNat = (i1 p).val := by decide +kernel
theorem ref1 : ∀ p, (Cert.ReferenceIdeal.lit1 p).toInt.toNat = (i2 p).val := by decide +kernel

theorem rowMajor_apply (p : Fin 231) : S231.rowMajor (ix1 p) = p := by
  apply Fin.ext
  revert p
  decide

/-- A small number's word is the word of that number. -/
theorem word_eq (v : BitVec 32) (h : v.toNat < 22) (c : Fin 22) : v = BitVec.ofNat 32 c.val ↔ (⟨v.toNat, h⟩ : Fin 22) = c := by
  have hc := c.isLt
  constructor
  · intro e
    apply Fin.ext
    show v.toNat = c.val
    rw [e, BitVec.toNat_ofNat]
    exact Nat.mod_eq_of_lt (by omega)
  · intro e
    have e : v.toNat = c.val := congrArg Fin.val e
    apply BitVec.eq_of_toNat_eq
    rw [BitVec.toNat_ofNat, e]
    exact (Nat.mod_eq_of_lt (by omega)).symm

theorem hot1 (p : Fin 231) (c : Fin 22) : HostVal.oneHot (fun i => lit0 (S231.rowMajor i)) (ix2 p c) = (Sums.hot i1 p c : EReal) := by
  rw [HostVal.oneHot_apply, rowMajor_apply]
  unfold Sums.hot i1
  simp only [word_eq _ (lit0_lt p)]

theorem hot2 (p : Fin 231) (c : Fin 22) : HostVal.oneHot (fun i => lit1 (S231.rowMajor i)) (ix2 p c) = (Sums.hot i2 p c : EReal) := by
  rw [HostVal.oneHot_apply, rowMajor_apply]
  unfold Sums.hot i2
  simp only [word_eq _ (lit1_lt p)]

/-! ## The embedding -/

/-- The noise's scale is a real number. -/
theorem scale_real : ∃ κ : ℝ, Ideal.ofBits .f32 0x3C23D70A#32 = κ := by
  refine ⟨?_, ?_⟩
  rotate_left
  · show Ideal.ieee 8 23 0x3C23D70A#32 = _
    unfold Ideal.ieee
    rw [if_neg (by decide), if_neg (by decide)]

/-- The embedding of real numbers is a real number. -/
theorem emb_coe {κ : ℝ} (hκ : Ideal.ofBits .f32 0x3C23D70A#32 = κ) (x y z : ℝ) :
    TcVal.emb x y z = ((x + Real.log (1 + Real.exp y) * z * κ : ℝ) : EReal) := by
  have hp : 0 < 1 + Real.exp y := by positivity
  unfold TcVal.emb
  rw [hκ, Ideal.exp_coe, ← EReal.coe_one, ← EReal.coe_add, Ideal.log_coe, if_neg (not_le.2 hp)]
  simp only [EReal.coe_mul, EReal.coe_add]

/-! ## The two values -/

section Values

variable (a0 a1 : FVec Ideal S22x100000x16 .f32) (a2 : FVec Ideal S231x4x2x16 .f32) (a3 : FVec Ideal S231x2x32 .f32) (a4 : FVec Ideal S5 .f32)
  (a5 : IVec S22x16384 32) (a6 : FVec Ideal S3000000 .f32) (h5 : ∀ i, (a5 i).toNat < 100000)

/-- A plane's element of the kernel's gathered table. -/
def at5 (a : FVec Ideal S22x100000x16 .f32) (b : Fin 16384) (k : Fin 352) : EReal :=
  a (ix3 ⟨k.val / 16, by omega⟩ ⟨(a5 (ix2 ⟨k.val / 16, by omega⟩ b)).toNat, h5 _⟩ ⟨k.val % 16, by omega⟩)

/-- A plane's embedding in the kernel. -/
def kE (b : Fin 16384) (k : Fin 352) : EReal :=
  TcVal.emb (at5 a5 h5 a0 b k) (at5 a5 h5 a1 b k) (a6 (ix1 ⟨b.val * 16 + k.val % 16, by omega⟩))

/-- The pair matrix of the kernel. -/
def kP : FVec Ideal S352x704 .f32 := HostVal.pairMat a2 a4 (fun i => lit0 (S231.rowMajor i)) (fun i => lit1 (S231.rowMajor i))

/-- The linear rows of the kernel. -/
def kL : FVec Ideal S352x2 .f32 := HostVal.linMat a2 a3 a4 (fun i => lit0 (S231.rowMajor i)) (fun i => lit1 (S231.rowMajor i))

/-- The kernel's value. -/
def kernel (b : Fin 16384) (o : Fin 2) : EReal :=
  (∑ k : Fin 352, kE a0 a1 a5 a6 h5 b k * ∑ k' : Fin 352, kP a2 a4 (ix2 k' ⟨352 * o.val + k.val, by omega⟩) * kE a0 a1 a5 a6 h5 b k')
    + ∑ k : Fin 352, kL a2 a3 a4 (ix2 k o) * kE a0 a1 a5 a6 h5 b k

end Values

section Reals

variable (r0 r1 : S22x100000x16.Idx → ℝ) (r2 : S231x4x2x16.Idx → ℝ) (r3 : S231x2x32.Idx → ℝ) (r4 : S5.Idx → ℝ)
  (a5 : IVec S22x16384 32) (r6 : S3000000.Idx → ℝ) (h5 : ∀ i, (a5 i).toNat < 100000) (κ : ℝ)

/-- The embedding as a real number. -/
def e (b : Fin 16384) (c : Fin 22) (d : Fin 16) : ℝ :=
  r0 (ix3 c ⟨(a5 (ix2 c b)).toNat, h5 _⟩ d) + Real.log (1 + Real.exp (r1 (ix3 c ⟨(a5 (ix2 c b)).toNat, h5 _⟩ d))) * r6 (ix1 ⟨b.val * 16 + d.val, by omega⟩) * κ

variable {κ} (hκ : Ideal.ofBits .f32 0x3C23D70A#32 = κ)
include hκ

/-- The kernel's embedding. -/
theorem kE_coe (b : Fin 16384) (c : Fin 22) (d : Fin 16) :
    kE (fun i => (r0 i : EReal)) (fun i => (r1 i : EReal)) a5 (fun i => (r6 i : EReal)) h5 b ⟨16 * c.val + d.val, by omega⟩ = (e r0 r1 a5 r6 h5 κ b c d : EReal) := by
  have hc : (⟨(16 * c.val + d.val) / 16, by omega⟩ : Fin 22) = c := Fin.ext (by show (16 * c.val + d.val) / 16 = c.val; omega)
  have hd : (⟨(16 * c.val + d.val) % 16, by omega⟩ : Fin 16) = d := Fin.ext (by show (16 * c.val + d.val) % 16 = d.val; omega)
  have hb : (⟨b.val * 16 + (16 * c.val + d.val) % 16, by omega⟩ : Fin 3000000) = ⟨b.val * 16 + d.val, by omega⟩ :=
    Fin.ext (by show b.val * 16 + (16 * c.val + d.val) % 16 = b.val * 16 + d.val; omega)
  unfold kE at5
  simp only [hc, hd, hb]
  rw [emb_coe hκ]
  rfl

/-- The reference's embedding. -/
theorem rE_coe (b : Fin 16384) (c : Fin 22) (d : Fin 16) :
    RefVal.embedded (RefVal.taken (fun i => (r0 i : EReal)) a5) (RefVal.taken (fun i => (r1 i : EReal)) a5) (fun i => (r6 i : EReal)) (ix3 c b d)
      = (e r0 r1 a5 r6 h5 κ b c d : EReal) := by
  rw [RefVal.embedded_apply, RefVal.taken_apply _ _ h5, RefVal.taken_apply _ _ h5]
  exact emb_coe hκ _ _ _

omit hκ in
/-- An entry of the kernel's pair matrix. -/
theorem kP_coe (o : Fin 2) (c' : Fin 22) (d : Fin 16) (c : Fin 22) (f : Fin 16) :
    kP (fun i => (r2 i : EReal)) (fun i => (r4 i : EReal)) (ix2 ⟨16 * c'.val + d.val, by omega⟩ ⟨352 * o.val + (16 * c.val + f.val), by omega⟩)
      = (Sums.pairEntry i1 i2 (fun p d => r2 (ix4 p 1 o d)) (r4 (ix1 1)) c' d c f : EReal) := by
  have hj : (⟨352 * o.val + (16 * c.val + f.val), by omega⟩ : Fin 704) = ⟨352 * o.val + 16 * c.val + f.val, by omega⟩ :=
    Fin.ext (by show 352 * o.val + (16 * c.val + f.val) = 352 * o.val + 16 * c.val + f.val; omega)
  unfold kP
  rw [hj, HostVal.pairMat_apply, HostVal.eye_apply]
  simp only [hot1, hot2, ← EReal.coe_mul, Sums.coe_sum]
  rfl

omit hκ in
/-- An entry of the kernel's linear rows. -/
theorem kL_coe (o : Fin 2) (c : Fin 22) (d : Fin 16) :
    kL (fun i => (r2 i : EReal)) (fun i => (r3 i : EReal)) (fun i => (r4 i : EReal)) (ix2 ⟨16 * c.val + d.val, by omega⟩ o)
      = (Sums.linEntry i1 i2 (r4 (ix1 0)) (r4 (ix1 4)) (fun p d => r2 (ix4 p 0 o d)) (fun p d => r3 (ix3 p o d)) c d : EReal) := by
  unfold kL
  rw [HostVal.linMat_apply]
  simp only [hot1, hot2, ← EReal.coe_mul, ← EReal.coe_add, Sums.coe_sum]
  rfl

set_option maxHeartbeats 1000000 in
/-- The two values are equal. -/
theorem meet_real (h2 : r4 (ix1 2) = 0) (h3 : r4 (ix1 3) = 0) (b : Fin 16384) (o : Fin 2) :
    kernel (fun i => (r0 i : EReal)) (fun i => (r1 i : EReal)) (fun i => (r2 i : EReal)) (fun i => (r3 i : EReal)) (fun i => (r4 i : EReal)) a5 (fun i => (r6 i : EReal)) h5 b o
      = RefVal.value (fun i => (r0 i : EReal)) (fun i => (r1 i : EReal)) (fun i => (r2 i : EReal)) (fun i => (r3 i : EReal)) (fun i => (r4 i : EReal)) a5 (fun i => (r6 i : EReal)) (ix2 b o) := by
  unfold RefVal.value
  rw [RefVal.out_apply _ _ _ _ _ (by rw [h2]; rfl) (by rw [h3]; rfl)]
  simp only [RefVal.picked_apply _ i1 ref0, RefVal.picked_apply _ i2 ref1, rE_coe r0 r1 a5 r6 h5 hκ]
  simp only [← EReal.coe_mul, ← EReal.coe_add, Sums.coe_sum]
  unfold kernel
  rw [Sums.sum_planes]
  simp only [Sums.sum_planes, kE_coe r0 r1 a5 r6 h5 hκ, kP_coe, kL_coe]
  simp only [← EReal.coe_mul, ← EReal.coe_add, Sums.coe_sum]
  exact congrArg _ (Sums.whole i1 i2 (e r0 r1 a5 r6 h5 κ b) (r4 (ix1 0)) (r4 (ix1 1)) (r4 (ix1 4)) (fun p d => r2 (ix4 p 0 o d)) (fun p d => r2 (ix4 p 1 o d)) (fun p d => r3 (ix3 p o d)))

end Reals

/-- The two values are equal, where every element is real. -/
theorem meet (a0 a1 : FVec Ideal S22x100000x16 .f32) (a2 : FVec Ideal S231x4x2x16 .f32) (a3 : FVec Ideal S231x2x32 .f32) (a4 : FVec Ideal S5 .f32)
    (a5 : IVec S22x16384 32) (a6 : FVec Ideal S3000000 .f32) (h5 : ∀ i, (a5 i).toNat < 100000)
    (h0 : ∀ i, ∃ r : ℝ, a0 i = r) (h1 : ∀ i, ∃ r : ℝ, a1 i = r) (h2 : ∀ i, ∃ r : ℝ, a2 i = r) (h3 : ∀ i, ∃ r : ℝ, a3 i = r) (h4 : ∀ i, ∃ r : ℝ, a4 i = r)
    (h6 : ∀ i, ∃ r : ℝ, a6 i = r) (z2 : a4 (ix1 2) = 0) (z3 : a4 (ix1 3) = 0) (b : Fin 16384) (o : Fin 2) :
    kernel a0 a1 a2 a3 a4 a5 a6 h5 b o = RefVal.value a0 a1 a2 a3 a4 a5 a6 (ix2 b o) := by
  choose r0 e0 using h0
  choose r1 e1 using h1
  choose r2 e2 using h2
  choose r3 e3 using h3
  choose r4 e4 using h4
  choose r6 e6 using h6
  obtain ⟨κ, hκ⟩ := scale_real
  have y2 : r4 (ix1 2) = 0 := EReal.coe_eq_zero.1 ((e4 _).symm.trans z2)
  have y3 : r4 (ix1 3) = 0 := EReal.coe_eq_zero.1 ((e4 _).symm.trans z3)
  obtain rfl : a0 = fun i => (r0 i : EReal) := funext e0
  obtain rfl : a1 = fun i => (r1 i : EReal) := funext e1
  obtain rfl : a2 = fun i => (r2 i : EReal) := funext e2
  obtain rfl : a3 = fun i => (r3 i : EReal) := funext e3
  obtain rfl : a4 = fun i => (r4 i : EReal) := funext e4
  obtain rfl : a6 = fun i => (r6 i : EReal) := funext e6
  exact meet_real r0 r1 r2 r3 r4 a5 r6 h5 hκ y2 y3 b o

end Cert.Proof.Meet

end
-- ==== Proof.KernelVal.lean ====
/-
  The kernel's result buffer, element by element, from the argument arrays.
-/
module

public import proofs.«01_k».proof.Proof.Frames
public import proofs.«01_k».proof.Proof.RegionVal
public import proofs.«01_k».proof.Proof.Meet

@[expose] public section

noncomputable section

namespace Cert.Proof.KernelVal

open Cert.KernelIdeal Cert.KernelIdeal.Gen Cert.Proof Cert.Proof.Pieces
open Idealize.ShloMosaic Idealize.ShloMosaic.TcCoe Idealize.ShloMosaic.StableHlo

variable (m : (ℓ : Loc nD τ sig) → Buf (Elt Ideal) ℓ) (d : Dev nD)

/-- What neither the first stretch nor the SparseCore call writes is as at the start. -/
theorem keep0 {r : Ref sig .tc} (hA : r ∉ wA) (h0 : r ≠ main_v9_0) (h1 : r ≠ main_v9_1) : Wsc (WA m d) (tcr r) = m (d, tcr r) := by
  rw [Wsc_of_ne _ (fun e => h0 (Proc.devRef_injective _ e)) (fun e => h1 (Proc.devRef_injective _ e))]
  exact keepA _ hA

/-- The first table of field numbers. -/
theorem c_eq : Wsc (WA m d) (tcr main_c) = fun i => lit0 (S231.rowMajor i) := by
  rw [Wsc_of_ne _ (by decide +kernel) (by decide +kernel)]
  exact HostVal.A_c _

/-- The second table of field numbers. -/
theorem c_0_eq : Wsc (WA m d) (tcr main_c_0) = fun i => lit1 (S231.rowMajor i) := by
  rw [Wsc_of_ne _ (by decide +kernel) (by decide +kernel)]
  exact HostVal.A_c_0 _

/-- The pair matrix. -/
theorem pairs_eq (k : Fin 352) (j : Fin 704) : RegionVal.pairs (WB m) d k j = Meet.kP (m (d, tcr main_arg2)) (m (d, tcr main_arg4)) (ix2 k j) := by
  refine congrFun (?_ : WB m d (tcr main_v41) = Meet.kP (m (d, tcr main_arg2)) (m (d, tcr main_arg4))) (ix2 k j)
  unfold WB Meet.kP
  rw [HostVal.B_v41, c_eq, c_0_eq, keep0 m d (r := main_arg2) (by decide) (by decide) (by decide), keep0 m d (r := main_arg4) (by decide) (by decide) (by decide)]

/-- The linear rows. -/
theorem lins_eq (k : Fin 352) (o : Fin 2) : RegionVal.lins (WB m) d k o = Meet.kL (m (d, tcr main_arg2)) (m (d, tcr main_arg3)) (m (d, tcr main_arg4)) (ix2 k o) := by
  refine congrFun (?_ : WB m d (tcr main_v78) = Meet.kL (m (d, tcr main_arg2)) (m (d, tcr main_arg3)) (m (d, tcr main_arg4))) (ix2 k o)
  unfold WB Meet.kL
  rw [HostVal.B_v78, c_eq, c_0_eq, keep0 m d (r := main_arg2) (by decide) (by decide) (by decide), keep0 m d (r := main_arg3) (by decide) (by decide) (by decide),
    keep0 m d (r := main_arg4) (by decide) (by decide) (by decide)]

/-- The noise. -/
theorem noise_eq (k : Fin 16) (b : Fin 16384) : RegionVal.noise (WB m) d k b = (m (d, tcr main_arg6) : FVec Ideal S3000000 .f32) (ix1 ⟨b.val * 16 + k.val, by omega⟩) := by
  refine (congrFun (?_ : WB m d (tcr main_v81) = HostVal.noiseT (m (d, tcr main_arg6))) (ix2 k b)).trans (HostVal.noiseT_apply _ k b)
  unfold WB
  rw [HostVal.B_v81, keep0 m d (r := main_arg6) (by decide) (by decide) (by decide)]

variable (h5 : ∀ i, ((m (d, tcr main_arg5) : IVec S22x16384 32) i).toNat < 100000)

/-- The gathered means. -/
theorem means_eq (k : Fin 352) (b : Fin 16384) :
    RegionVal.means (WB m) d k b = Meet.at5 (m (d, tcr main_arg5)) h5 (m (d, tcr main_arg0)) b k := by
  have e : WB m d (tcr main_v9_0) = (f2 (GX (vals (WA m d)).tM (vals (WA m d)).lM (vals (WA m d)).ix) : FVec Ideal S352x16384 .f32) := by
    unfold WB
    rw [keepB _ (by decide)]
    exact Wsc_0 _
  refine (congrFun e (ix2 k b)).trans ?_
  show GX (vals (WA m d)).tM (vals (WA m d)).lM (vals (WA m d)).ix k.val b.val = _
  unfold vals WA
  dsimp only
  rw [HostVal.A_v1, HostVal.A_v5, HostVal.A_v8]
  exact HostVal.gathered_apply _ _ h5 _ k b

/-- The gathered deviations. -/
theorem stds_eq (k : Fin 352) (b : Fin 16384) :
    RegionVal.stds (WB m) d k b = Meet.at5 (m (d, tcr main_arg5)) h5 (m (d, tcr main_arg1)) b k := by
  have e : WB m d (tcr main_v9_1) = (f2 (GX (vals (WA m d)).tS (vals (WA m d)).lS (vals (WA m d)).ix) : FVec Ideal S352x16384 .f32) := by
    unfold WB
    rw [keepB _ (by decide)]
    exact Wsc_1 _
  refine (congrFun e (ix2 k b)).trans ?_
  show GX (vals (WA m d)).tS (vals (WA m d)).lS (vals (WA m d)).ix k.val b.val = _
  unfold vals WA
  dsimp only
  rw [HostVal.A_v3, HostVal.A_v7, HostVal.A_v8]
  exact HostVal.gathered_apply _ _ h5 _ k b

set_option maxRecDepth 16384 in
/-- The result's element at a sample and an output. -/
theorem result_eq (b : Fin 16384) (o : Fin 2) :
    (WC m d (tcr main_v83) : FVec Ideal S16384x2 .f32) (ix2 b o)
      = Meet.kernel (m (d, tcr main_arg0)) (m (d, tcr main_arg1)) (m (d, tcr main_arg2)) (m (d, tcr main_arg3)) (m (d, tcr main_arg4)) (m (d, tcr main_arg5)) (m (d, tcr main_arg6)) h5 b o := by
  have e : WC m d (tcr main_v83) = transpose S16384x2 [1, 0] (Wend (WB m) d (tcr main_v82) : FVec Ideal S2x16384 .f32) transposes_S2x16384_S16384x2_1_0 := HostVal.C_v83 _
  have t : (transpose S16384x2 [1, 0] (Wend (WB m) d (tcr main_v82) : FVec Ideal S2x16384 .f32) transposes_S2x16384_S16384x2_1_0) (ix2 b o)
      = (Wend (WB m) d (tcr main_v82) : FVec Ideal S2x16384 .f32) (ix2 o b) := by
    pointwise []
  refine (congrFun e (ix2 b o)).trans (t.trans ((RegionVal.result (WB m) d o b).trans ?_))
  simp only [pairs_eq, lins_eq, noise_eq, means_eq m d h5, stds_eq m d h5]
  rfl

end Cert.Proof.KernelVal

end
-- ==== Proof.Algebraic.lean ====
/-
  The value claim: from memories that agree on the arguments, the kernel and the reference end with the same result.
-/
module

public import proofs.«01_k».proof.Proof.KernelVal

@[expose] public section

noncomputable section

namespace Cert.Proof

open Cert.KernelIdeal Cert.KernelIdeal.Gen
open Idealize.ShloMosaic Idealize.ShloMosaic.TcCoe Idealize.SL.Sem Idealize.ShloMosaic.StableHlo

/-- The kernel's frame under the value claim's precondition. -/
theorem frame_kernelIdeal_plain : Cert.quiescent_KernelIdeal_pre_finite_plain := fun m ρ hpre => frame_at (F := Ideal) m ρ fun d i => Given.ix_of_finite_plain (hpre d) i

/-- The reference's frame under it. -/
theorem frame_reference_plain : Cert.quiescent_ReferenceIdeal_pre_finite_plain := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's value of the kernel's arguments. -/
theorem result_value (m : (ℓ : Loc nD τ sig) → Buf (Elt Ideal) ℓ) (hpre : Cert.Pre_KernelIdeal_finite_plain m) (d : Dev nD) :
    (WC m d (tcr main_v83) : FVec Ideal S16384x2 .f32)
      = RefVal.value (m (d, tcr main_arg0)) (m (d, tcr main_arg1)) (m (d, tcr main_arg2)) (m (d, tcr main_arg3)) (m (d, tcr main_arg4)) (m (d, tcr main_arg5)) (m (d, tcr main_arg6)) := by
  have h := hpre d
  funext j
  idx_vars j
  exact (KernelVal.result_eq m d (fun i => Given.ix_of_finite_plain h i) j0 j1).trans
    (Meet.meet _ _ _ _ _ _ _ _ (Given.real0 h) (Given.real1 h) (Given.real2 h) (Given.real3 h) (Given.real4 h) (Given.real6 h) (Given.zero2 h) (Given.zero3 h) j0 j1)

/-- The value claim. -/
theorem algebraic : Cert.algebraic_KernelIdeal_ReferenceIdeal_pre_finite_plain := by
  intro m g m' g' hpre hargs
  refine ⟨fun c => WC m c (tcr main_v83), ?_, ?_⟩
  · exact (θ_run Cert.KernelIdeal.defs _ _).mono (fun _ h c => ⟨h.1 c (tcr main_v83) (by decide), args_of_QC m h c⟩)
      (run_main m g (ix_lt m fun d i => Given.ix_of_finite_plain (hpre d) i))
  · refine (θ_run Cert.ReferenceIdeal.defs _ _).mono (fun _ h c => ⟨(h c).1.trans ?_, (h c).2⟩) (Cert.ReferenceIdeal.Value.run (F := Ideal) m' g')
    obtain ⟨e0, e1, e2, e3, e4, e5, e6⟩ := hargs c
    refine (RefVal.value_eq m' c).trans ?_
    rw [e0, e1, e2, e3, e4, e5, e6]
    exact (result_value m hpre c).symm

end Cert.Proof

end
-- ==== Proof.lean ====
module

public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_in_range.Gen.facts, Cert.Pre_finite_plain.Gen.facts,
  frame_kernel, frame_kernelIdeal, frame_kernelIdeal_plain, frame_reference, frame_reference_plain, trivial, algebraic⟩

end Cert.Proof

end
